-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite8 [hPre_finite8 : Cert.Pre_finite8.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).1 = (fun _ => 1#1)
    ∧ (Cert.Pre_finite8.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2))).2 = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite8 [hPre_finite8 : Cert.Pre_finite8.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).1 = (fun _ => 1#1)
    ∧ (Cert.Pre_finite8.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6)
      ∧ r.2.mem ((c.tc : Thread Cert.Kernel4.nD Cert.Kernel4.τ).loc Cert.Kernel4.main_arg7) = m ((c.tc : Thread Cert.Kernel4.nD Cert.Kernel4.τ).loc Cert.Kernel4.main_arg7)
      ∧ r.2.mem ((c.tc : Thread Cert.Kernel4.nD Cert.Kernel4.τ).loc Cert.Kernel4.main_arg8) = m ((c.tc : Thread Cert.Kernel4.nD Cert.Kernel4.τ).loc Cert.Kernel4.main_arg8)
      ∧ r.2.mem ((c.tc : Thread Cert.Kernel4.nD Cert.Kernel4.τ).loc Cert.Kernel4.main_arg9) = m ((c.tc : Thread Cert.Kernel4.nD Cert.Kernel4.τ).loc Cert.Kernel4.main_arg9)
      ∧ r.2.mem ((c.tc : Thread Cert.Kernel4.nD Cert.Kernel4.τ).loc Cert.Kernel4.main_arg10) = m ((c.tc : Thread Cert.Kernel4.nD Cert.Kernel4.τ).loc Cert.Kernel4.main_arg10))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
      ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
      ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
      ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
      ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6)
      ∧ r.2.mem ((c.tc : Thread Cert.Reference4Ideal.nD Cert.Reference4Ideal.τ).loc Cert.Reference4Ideal.main_arg7) = m ((c.tc : Thread Cert.Reference4Ideal.nD Cert.Reference4Ideal.τ).loc Cert.Reference4Ideal.main_arg7)
      ∧ r.2.mem ((c.tc : Thread Cert.Reference4Ideal.nD Cert.Reference4Ideal.τ).loc Cert.Reference4Ideal.main_arg8) = m ((c.tc : Thread Cert.Reference4Ideal.nD Cert.Reference4Ideal.τ).loc Cert.Reference4Ideal.main_arg8)
      ∧ r.2.mem ((c.tc : Thread Cert.Reference4Ideal.nD Cert.Reference4Ideal.τ).loc Cert.Reference4Ideal.main_arg9) = m ((c.tc : Thread Cert.Reference4Ideal.nD Cert.Reference4Ideal.τ).loc Cert.Reference4Ideal.main_arg9)
      ∧ r.2.mem ((c.tc : Thread Cert.Reference4Ideal.nD Cert.Reference4Ideal.τ).loc Cert.Reference4Ideal.main_arg10) = m ((c.tc : Thread Cert.Reference4Ideal.nD Cert.Reference4Ideal.τ).loc Cert.Reference4Ideal.main_arg10))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Kernel8Ideal_pre_finite8 [hKernel8Ideal : Cert.Kernel8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite8 m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def quiescent_Reference8Ideal_pre_finite8 [hReference8Ideal : Cert.Reference8Ideal.Facts] [hPre_finite8 : Cert.Pre_finite8.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite8 m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2))
      ∧ r.2.sem = fun _ => 0)

def preserves_Kernel_KernelIdeal : Prop :=
  IdealRules.named_const.Statement Cert.KernelIdeal.κ "mask" .f32 0xF149F2CA#32 ⊥
  ∧ IdealRules.named_const.Statement Cert.KernelIdeal.κ "ln2" .f32 0x3F317218#32 ((Real.log 2 : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v50_0)) (v1 : (c : Dev Cert.KernelIdeal.nD) → Buf (Elt Ideal) ((c.tc : Thread Cert.KernelIdeal.nD Cert.KernelIdeal.τ).loc Cert.KernelIdeal.main_v50_1)) (v2 : (c : Dev Cert.KernelIdeal.nD) → Buf (Elt Ideal) ((c.tc : Thread Cert.KernelIdeal.nD Cert.KernelIdeal.τ).loc Cert.KernelIdeal.main_v50_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50_0) = v0 c
          ∧ r.2.mem ((c.tc : Thread Cert.KernelIdeal.nD Cert.KernelIdeal.τ).loc Cert.KernelIdeal.main_v50_1) = v1 c
          ∧ r.2.mem ((c.tc : Thread Cert.KernelIdeal.nD Cert.KernelIdeal.τ).loc Cert.KernelIdeal.main_v50_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v78) = v0 c
          ∧ r.2.mem ((c.tc : Thread Cert.ReferenceIdeal.nD Cert.ReferenceIdeal.τ).loc Cert.ReferenceIdeal.main_v77) = v1 c
          ∧ r.2.mem ((c.tc : Thread Cert.ReferenceIdeal.nD Cert.ReferenceIdeal.τ).loc Cert.ReferenceIdeal.main_v79) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v8)) (v1 : (c : Dev Cert.Kernel2Ideal.nD) → Buf (Elt Ideal) ((c.tc : Thread Cert.Kernel2Ideal.nD Cert.Kernel2Ideal.τ).loc Cert.Kernel2Ideal.main_v12)) (v2 : (c : Dev Cert.Kernel2Ideal.nD) → Buf (Elt Ideal) ((c.tc : Thread Cert.Kernel2Ideal.nD Cert.Kernel2Ideal.τ).loc Cert.Kernel2Ideal.main_v11)) (v3 : (c : Dev Cert.Kernel2Ideal.nD) → Buf (Elt Ideal) ((c.tc : Thread Cert.Kernel2Ideal.nD Cert.Kernel2Ideal.τ).loc Cert.Kernel2Ideal.main_v9)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8) = v0 c
          ∧ r.2.mem ((c.tc : Thread Cert.Kernel2Ideal.nD Cert.Kernel2Ideal.τ).loc Cert.Kernel2Ideal.main_v12) = v1 c
          ∧ r.2.mem ((c.tc : Thread Cert.Kernel2Ideal.nD Cert.Kernel2Ideal.τ).loc Cert.Kernel2Ideal.main_v11) = v2 c
          ∧ r.2.mem ((c.tc : Thread Cert.Kernel2Ideal.nD Cert.Kernel2Ideal.τ).loc Cert.Kernel2Ideal.main_v9) = v3 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v8) = v0 c
          ∧ r.2.mem ((c.tc : Thread Cert.Reference2Ideal.nD Cert.Reference2Ideal.τ).loc Cert.Reference2Ideal.main_v17) = v1 c
          ∧ r.2.mem ((c.tc : Thread Cert.Reference2Ideal.nD Cert.Reference2Ideal.τ).loc Cert.Reference2Ideal.main_v20) = v2 c
          ∧ r.2.mem ((c.tc : Thread Cert.Reference2Ideal.nD Cert.Reference2Ideal.τ).loc Cert.Reference2Ideal.main_v21) = v3 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)) →
    ∃ (v0 : (c : Dev Cert.Kernel3Ideal.nD) → Buf (Elt Ideal) ((c.tc : Thread Cert.Kernel3Ideal.nD Cert.Kernel3Ideal.τ).loc Cert.Kernel3Ideal.main_v8)) (v1 : (c : Dev Cert.Kernel3Ideal.nD) → Buf (Elt Ideal) ((c.tc : Thread Cert.Kernel3Ideal.nD Cert.Kernel3Ideal.τ).loc Cert.Kernel3Ideal.main_v9)) (v2 : (c : Dev Cert.Kernel3Ideal.nD) → Buf (Elt Ideal) ((c.tc : Thread Cert.Kernel3Ideal.nD Cert.Kernel3Ideal.τ).loc Cert.Kernel3Ideal.main_v10)) (v3 : (c : Dev Cert.Kernel3Ideal.nD) → Buf (Elt Ideal) ((c.tc : Thread Cert.Kernel3Ideal.nD Cert.Kernel3Ideal.τ).loc Cert.Kernel3Ideal.main_v11)) (v4 : (c : Dev Cert.Kernel3Ideal.nD) → Buf (Elt Ideal) ((c.tc : Thread Cert.Kernel3Ideal.nD Cert.Kernel3Ideal.τ).loc Cert.Kernel3Ideal.main_v12)) (v5 : (c : Dev Cert.Kernel3Ideal.nD) → Buf (Elt Ideal) ((c.tc : Thread Cert.Kernel3Ideal.nD Cert.Kernel3Ideal.τ).loc Cert.Kernel3Ideal.main_v13)) (v6 : (c : Dev Cert.Kernel3Ideal.nD) → Buf (Elt Ideal) ((c.tc : Thread Cert.Kernel3Ideal.nD Cert.Kernel3Ideal.τ).loc Cert.Kernel3Ideal.main_v14)) (v7 : (c : Dev Cert.Kernel3Ideal.nD) → Buf (Elt Ideal) ((c.tc : Thread Cert.Kernel3Ideal.nD Cert.Kernel3Ideal.τ).loc Cert.Kernel3Ideal.main_v15)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v8) = v0 c
          ∧ r.2.mem ((c.tc : Thread Cert.Kernel3Ideal.nD Cert.Kernel3Ideal.τ).loc Cert.Kernel3Ideal.main_v9) = v1 c
          ∧ r.2.mem ((c.tc : Thread Cert.Kernel3Ideal.nD Cert.Kernel3Ideal.τ).loc Cert.Kernel3Ideal.main_v10) = v2 c
          ∧ r.2.mem ((c.tc : Thread Cert.Kernel3Ideal.nD Cert.Kernel3Ideal.τ).loc Cert.Kernel3Ideal.main_v11) = v3 c
          ∧ r.2.mem ((c.tc : Thread Cert.Kernel3Ideal.nD Cert.Kernel3Ideal.τ).loc Cert.Kernel3Ideal.main_v12) = v4 c
          ∧ r.2.mem ((c.tc : Thread Cert.Kernel3Ideal.nD Cert.Kernel3Ideal.τ).loc Cert.Kernel3Ideal.main_v13) = v5 c
          ∧ r.2.mem ((c.tc : Thread Cert.Kernel3Ideal.nD Cert.Kernel3Ideal.τ).loc Cert.Kernel3Ideal.main_v14) = v6 c
          ∧ r.2.mem ((c.tc : Thread Cert.Kernel3Ideal.nD Cert.Kernel3Ideal.τ).loc Cert.Kernel3Ideal.main_v15) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v0) = v0 c
          ∧ r.2.mem ((c.tc : Thread Cert.Reference3Ideal.nD Cert.Reference3Ideal.τ).loc Cert.Reference3Ideal.main_v1) = v1 c
          ∧ r.2.mem ((c.tc : Thread Cert.Reference3Ideal.nD Cert.Reference3Ideal.τ).loc Cert.Reference3Ideal.main_v2) = v2 c
          ∧ r.2.mem ((c.tc : Thread Cert.Reference3Ideal.nD Cert.Reference3Ideal.τ).loc Cert.Reference3Ideal.main_v4) = v3 c
          ∧ r.2.mem ((c.tc : Thread Cert.Reference3Ideal.nD Cert.Reference3Ideal.τ).loc Cert.Reference3Ideal.main_v5) = v4 c
          ∧ r.2.mem ((c.tc : Thread Cert.Reference3Ideal.nD Cert.Reference3Ideal.τ).loc Cert.Reference3Ideal.main_v10) = v5 c
          ∧ r.2.mem ((c.tc : Thread Cert.Reference3Ideal.nD Cert.Reference3Ideal.τ).loc Cert.Reference3Ideal.main_v7) = v6 c
          ∧ r.2.mem ((c.tc : Thread Cert.Reference3Ideal.nD Cert.Reference3Ideal.τ).loc Cert.Reference3Ideal.main_v12) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)
      ∧ m' ((c.tc : Thread Cert.Reference4Ideal.nD Cert.Reference4Ideal.τ).loc Cert.Reference4Ideal.main_arg7) = m ((c.tc : Thread Cert.Kernel4Ideal.nD Cert.Kernel4Ideal.τ).loc Cert.Kernel4Ideal.main_arg7)
      ∧ m' ((c.tc : Thread Cert.Reference4Ideal.nD Cert.Reference4Ideal.τ).loc Cert.Reference4Ideal.main_arg8) = m ((c.tc : Thread Cert.Kernel4Ideal.nD Cert.Kernel4Ideal.τ).loc Cert.Kernel4Ideal.main_arg8)
      ∧ m' ((c.tc : Thread Cert.Reference4Ideal.nD Cert.Reference4Ideal.τ).loc Cert.Reference4Ideal.main_arg9) = m ((c.tc : Thread Cert.Kernel4Ideal.nD Cert.Kernel4Ideal.τ).loc Cert.Kernel4Ideal.main_arg9)
      ∧ m' ((c.tc : Thread Cert.Reference4Ideal.nD Cert.Reference4Ideal.τ).loc Cert.Reference4Ideal.main_arg10) = m ((c.tc : Thread Cert.Kernel4Ideal.nD Cert.Kernel4Ideal.τ).loc Cert.Kernel4Ideal.main_arg10)) →
    ∃ (v0 : (c : Dev Cert.Kernel4Ideal.nD) → Buf (Elt Ideal) ((c.tc : Thread Cert.Kernel4Ideal.nD Cert.Kernel4Ideal.τ).loc Cert.Kernel4Ideal.main_v10)) (v1 : (c : Dev Cert.Kernel4Ideal.nD) → Buf (Elt Ideal) ((c.tc : Thread Cert.Kernel4Ideal.nD Cert.Kernel4Ideal.τ).loc Cert.Kernel4Ideal.main_v11)) (v2 : (c : Dev Cert.Kernel4Ideal.nD) → Buf (Elt Ideal) ((c.tc : Thread Cert.Kernel4Ideal.nD Cert.Kernel4Ideal.τ).loc Cert.Kernel4Ideal.main_v12)) (v3 : (c : Dev Cert.Kernel4Ideal.nD) → Buf (Elt Ideal) ((c.tc : Thread Cert.Kernel4Ideal.nD Cert.Kernel4Ideal.τ).loc Cert.Kernel4Ideal.main_v13)) (v4 : (c : Dev Cert.Kernel4Ideal.nD) → Buf (Elt Ideal) ((c.tc : Thread Cert.Kernel4Ideal.nD Cert.Kernel4Ideal.τ).loc Cert.Kernel4Ideal.main_v14)) (v5 : (c : Dev Cert.Kernel4Ideal.nD) → Buf (Elt Ideal) ((c.tc : Thread Cert.Kernel4Ideal.nD Cert.Kernel4Ideal.τ).loc Cert.Kernel4Ideal.main_v15)) (v6 : (c : Dev Cert.Kernel4Ideal.nD) → Buf (Elt Ideal) ((c.tc : Thread Cert.Kernel4Ideal.nD Cert.Kernel4Ideal.τ).loc Cert.Kernel4Ideal.main_v16)) (v7 : (c : Dev Cert.Kernel4Ideal.nD) → Buf (Elt Ideal) ((c.tc : Thread Cert.Kernel4Ideal.nD Cert.Kernel4Ideal.τ).loc Cert.Kernel4Ideal.main_v17)) (v8 : (c : Dev Cert.Kernel4Ideal.nD) → Buf (Elt Ideal) ((c.tc : Thread Cert.Kernel4Ideal.nD Cert.Kernel4Ideal.τ).loc Cert.Kernel4Ideal.main_v18)) (v9 : (c : Dev Cert.Kernel4Ideal.nD) → Buf (Elt Ideal) ((c.tc : Thread Cert.Kernel4Ideal.nD Cert.Kernel4Ideal.τ).loc Cert.Kernel4Ideal.main_v19)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_v11) = v1 c
          ∧ r.2.mem ((c.tc : Thread Cert.Kernel4Ideal.nD Cert.Kernel4Ideal.τ).loc Cert.Kernel4Ideal.main_v12) = v2 c
          ∧ r.2.mem ((c.tc : Thread Cert.Kernel4Ideal.nD Cert.Kernel4Ideal.τ).loc Cert.Kernel4Ideal.main_v13) = v3 c
          ∧ r.2.mem ((c.tc : Thread Cert.Kernel4Ideal.nD Cert.Kernel4Ideal.τ).loc Cert.Kernel4Ideal.main_v14) = v4 c
          ∧ r.2.mem ((c.tc : Thread Cert.Kernel4Ideal.nD Cert.Kernel4Ideal.τ).loc Cert.Kernel4Ideal.main_v15) = v5 c
          ∧ r.2.mem ((c.tc : Thread Cert.Kernel4Ideal.nD Cert.Kernel4Ideal.τ).loc Cert.Kernel4Ideal.main_v16) = v6 c
          ∧ r.2.mem ((c.tc : Thread Cert.Kernel4Ideal.nD Cert.Kernel4Ideal.τ).loc Cert.Kernel4Ideal.main_v17) = v7 c
          ∧ r.2.mem ((c.tc : Thread Cert.Kernel4Ideal.nD Cert.Kernel4Ideal.τ).loc Cert.Kernel4Ideal.main_v18) = v8 c
          ∧ r.2.mem ((c.tc : Thread Cert.Kernel4Ideal.nD Cert.Kernel4Ideal.τ).loc Cert.Kernel4Ideal.main_v19) = v9 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6)
          ∧ r.2.mem ((c.tc : Thread Cert.Kernel4Ideal.nD Cert.Kernel4Ideal.τ).loc Cert.Kernel4Ideal.main_arg7) = m ((c.tc : Thread Cert.Kernel4Ideal.nD Cert.Kernel4Ideal.τ).loc Cert.Kernel4Ideal.main_arg7)
          ∧ r.2.mem ((c.tc : Thread Cert.Kernel4Ideal.nD Cert.Kernel4Ideal.τ).loc Cert.Kernel4Ideal.main_arg8) = m ((c.tc : Thread Cert.Kernel4Ideal.nD Cert.Kernel4Ideal.τ).loc Cert.Kernel4Ideal.main_arg8)
          ∧ r.2.mem ((c.tc : Thread Cert.Kernel4Ideal.nD Cert.Kernel4Ideal.τ).loc Cert.Kernel4Ideal.main_arg9) = m ((c.tc : Thread Cert.Kernel4Ideal.nD Cert.Kernel4Ideal.τ).loc Cert.Kernel4Ideal.main_arg9)
          ∧ r.2.mem ((c.tc : Thread Cert.Kernel4Ideal.nD Cert.Kernel4Ideal.τ).loc Cert.Kernel4Ideal.main_arg10) = m ((c.tc : Thread Cert.Kernel4Ideal.nD Cert.Kernel4Ideal.τ).loc Cert.Kernel4Ideal.main_arg10))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v0) = v0 c
          ∧ r.2.mem ((c.tc : Thread Cert.Reference4Ideal.nD Cert.Reference4Ideal.τ).loc Cert.Reference4Ideal.main_v1) = v1 c
          ∧ r.2.mem ((c.tc : Thread Cert.Reference4Ideal.nD Cert.Reference4Ideal.τ).loc Cert.Reference4Ideal.main_v3) = v2 c
          ∧ r.2.mem ((c.tc : Thread Cert.Reference4Ideal.nD Cert.Reference4Ideal.τ).loc Cert.Reference4Ideal.main_v15) = v3 c
          ∧ r.2.mem ((c.tc : Thread Cert.Reference4Ideal.nD Cert.Reference4Ideal.τ).loc Cert.Reference4Ideal.main_v16) = v4 c
          ∧ r.2.mem ((c.tc : Thread Cert.Reference4Ideal.nD Cert.Reference4Ideal.τ).loc Cert.Reference4Ideal.main_v17) = v5 c
          ∧ r.2.mem ((c.tc : Thread Cert.Reference4Ideal.nD Cert.Reference4Ideal.τ).loc Cert.Reference4Ideal.main_v18) = v6 c
          ∧ r.2.mem ((c.tc : Thread Cert.Reference4Ideal.nD Cert.Reference4Ideal.τ).loc Cert.Reference4Ideal.main_v19) = v7 c
          ∧ r.2.mem ((c.tc : Thread Cert.Reference4Ideal.nD Cert.Reference4Ideal.τ).loc Cert.Reference4Ideal.main_v13) = v8 c
          ∧ r.2.mem ((c.tc : Thread Cert.Reference4Ideal.nD Cert.Reference4Ideal.τ).loc Cert.Reference4Ideal.main_v14) = v9 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6)
          ∧ r.2.mem ((c.tc : Thread Cert.Reference4Ideal.nD Cert.Reference4Ideal.τ).loc Cert.Reference4Ideal.main_arg7) = m' ((c.tc : Thread Cert.Reference4Ideal.nD Cert.Reference4Ideal.τ).loc Cert.Reference4Ideal.main_arg7)
          ∧ r.2.mem ((c.tc : Thread Cert.Reference4Ideal.nD Cert.Reference4Ideal.τ).loc Cert.Reference4Ideal.main_arg8) = m' ((c.tc : Thread Cert.Reference4Ideal.nD Cert.Reference4Ideal.τ).loc Cert.Reference4Ideal.main_arg8)
          ∧ r.2.mem ((c.tc : Thread Cert.Reference4Ideal.nD Cert.Reference4Ideal.τ).loc Cert.Reference4Ideal.main_arg9) = m' ((c.tc : Thread Cert.Reference4Ideal.nD Cert.Reference4Ideal.τ).loc Cert.Reference4Ideal.main_arg9)
          ∧ r.2.mem ((c.tc : Thread Cert.Reference4Ideal.nD Cert.Reference4Ideal.τ).loc Cert.Reference4Ideal.main_arg10) = m' ((c.tc : Thread Cert.Reference4Ideal.nD Cert.Reference4Ideal.τ).loc Cert.Reference4Ideal.main_arg10))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v6)) (v1 : (c : Dev Cert.Kernel5Ideal.nD) → Buf (Elt Ideal) ((c.tc : Thread Cert.Kernel5Ideal.nD Cert.Kernel5Ideal.τ).loc Cert.Kernel5Ideal.main_v7)) (v2 : (c : Dev Cert.Kernel5Ideal.nD) → Buf (Elt Ideal) ((c.tc : Thread Cert.Kernel5Ideal.nD Cert.Kernel5Ideal.τ).loc Cert.Kernel5Ideal.main_v8)) (v3 : (c : Dev Cert.Kernel5Ideal.nD) → Buf (Elt Ideal) ((c.tc : Thread Cert.Kernel5Ideal.nD Cert.Kernel5Ideal.τ).loc Cert.Kernel5Ideal.main_v9)) (v4 : (c : Dev Cert.Kernel5Ideal.nD) → Buf (Elt Ideal) ((c.tc : Thread Cert.Kernel5Ideal.nD Cert.Kernel5Ideal.τ).loc Cert.Kernel5Ideal.main_v10)) (v5 : (c : Dev Cert.Kernel5Ideal.nD) → Buf (Elt Ideal) ((c.tc : Thread Cert.Kernel5Ideal.nD Cert.Kernel5Ideal.τ).loc Cert.Kernel5Ideal.main_v11)) (v6 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v6) = v0 c
          ∧ r.2.mem ((c.tc : Thread Cert.Kernel5Ideal.nD Cert.Kernel5Ideal.τ).loc Cert.Kernel5Ideal.main_v7) = v1 c
          ∧ r.2.mem ((c.tc : Thread Cert.Kernel5Ideal.nD Cert.Kernel5Ideal.τ).loc Cert.Kernel5Ideal.main_v8) = v2 c
          ∧ r.2.mem ((c.tc : Thread Cert.Kernel5Ideal.nD Cert.Kernel5Ideal.τ).loc Cert.Kernel5Ideal.main_v9) = v3 c
          ∧ r.2.mem ((c.tc : Thread Cert.Kernel5Ideal.nD Cert.Kernel5Ideal.τ).loc Cert.Kernel5Ideal.main_v10) = v4 c
          ∧ r.2.mem ((c.tc : Thread Cert.Kernel5Ideal.nD Cert.Kernel5Ideal.τ).loc Cert.Kernel5Ideal.main_v11) = v5 c
          ∧ r.2.mem ((c.tc : Thread Cert.Kernel5Ideal.nD Cert.Kernel5Ideal.τ).loc Cert.Kernel5Ideal.main_v12) = v6 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v0) = v0 c
          ∧ r.2.mem ((c.tc : Thread Cert.Reference5Ideal.nD Cert.Reference5Ideal.τ).loc Cert.Reference5Ideal.main_v10) = v1 c
          ∧ r.2.mem ((c.tc : Thread Cert.Reference5Ideal.nD Cert.Reference5Ideal.τ).loc Cert.Reference5Ideal.main_v11) = v2 c
          ∧ r.2.mem ((c.tc : Thread Cert.Reference5Ideal.nD Cert.Reference5Ideal.τ).loc Cert.Reference5Ideal.main_v12) = v3 c
          ∧ r.2.mem ((c.tc : Thread Cert.Reference5Ideal.nD Cert.Reference5Ideal.τ).loc Cert.Reference5Ideal.main_v13) = v4 c
          ∧ r.2.mem ((c.tc : Thread Cert.Reference5Ideal.nD Cert.Reference5Ideal.τ).loc Cert.Reference5Ideal.main_v14) = v5 c
          ∧ r.2.mem ((c.tc : Thread Cert.Reference5Ideal.nD Cert.Reference5Ideal.τ).loc Cert.Reference5Ideal.main_v15) = v6 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)) →
    ∃ (v0 : (c : Dev Cert.Kernel6Ideal.nD) → Buf (Elt Ideal) ((c.tc : Thread Cert.Kernel6Ideal.nD Cert.Kernel6Ideal.τ).loc Cert.Kernel6Ideal.main_v5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v5) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v1) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  IdealRules.named_const.Statement Cert.Kernel8Ideal.κ "mask" .f32 0xF149F2CA#32 ⊥
  ∧ IdealRules.named_const.Statement Cert.Kernel8Ideal.κ "log2e" .f32 0x3FB8AA3B#32 (((Real.log 2)⁻¹ : ℝ) : EReal)

def algebraic_Kernel8Ideal_Reference8Ideal_pre_finite8 [hKernel8Ideal : Cert.Kernel8Ideal.Facts] [hReference8Ideal : Cert.Reference8Ideal.Facts] [hPre_finite8 : Cert.Pre_finite8.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite8 m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)) →
    ∃ (v0 : (c : Dev Cert.Kernel8Ideal.nD) → Buf (Elt Ideal) ((c.tc : Thread Cert.Kernel8Ideal.nD Cert.Kernel8Ideal.τ).loc Cert.Kernel8Ideal.main_v7)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v36) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hPre_finite : Cert.Pre_finite.Facts) (hPre_finite8 : Cert.Pre_finite8.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite8 (hKernel8Ideal := hKernel8Ideal) (hPre_finite8 := hPre_finite8)
    ∧ quiescent_Reference8Ideal (hReference8Ideal := hReference8Ideal)
    ∧ quiescent_Reference8Ideal_pre_finite8 (hReference8Ideal := hReference8Ideal) (hPre_finite8 := hPre_finite8)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite8 (hKernel8Ideal := hKernel8Ideal) (hReference8Ideal := hReference8Ideal) (hPre_finite8 := hPre_finite8)
-- ==== Pre_finite.lean ====
abbrev S4224x2048 : Shape := ⟨2, ![4224, 2048]⟩
abbrev S4224x1024 : Shape := ⟨2, ![4224, 1024]⟩
abbrev S4112x1024 : Shape := ⟨2, ![4112, 1024]⟩
abbrev S_ : Shape := ⟨0, ![]⟩

class Facts : Prop where
  bcast_S_S4224x2048 : S_.BroadcastsInDim S4224x2048 (![] : Fin 0 → Fin S4224x2048.rank)
  bcast_S_S4224x1024 : S_.BroadcastsInDim S4224x1024 (![] : Fin 0 → Fin S4224x1024.rank)
  bcast_S_S4112x1024 : S_.BroadcastsInDim S4112x1024 (![] : Fin 0 → Fin S4112x1024.rank)

variable [Facts]

def fn {F : FTy → Type} [FloatOps F] (main_arg0 : FVec F S4224x2048 .f32) (main_arg1 : FVec F S4224x2048 .f32) (main_arg2 : FVec F S4224x1024 .f32) (main_arg3 : FVec F S4112x1024 .f32) : IVec S4224x2048 1 × IVec S4224x2048 1 × IVec S4224x1024 1 × IVec S4112x1024 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S4224x2048 .f32 := Host.absf main_arg1
  let main_cst_0 : FVec F S_ .f32 := constant S_ .f32 0x7F800000#32
  let main_v4 : FVec F S4224x2048 .f32 := broadcastInDim S4224x2048 ![] bcast_S_S4224x2048 main_cst_0
  let main_v5 : IVec S4224x2048 1 := cmpf .olt main_v3 main_v4
  let main_v6 : FVec F S4224x1024 .f32 := Host.absf main_arg2
  let main_cst_1 : FVec F S_ .f32 := constant S_ .f32 0x7F800000#32
  let main_v7 : FVec F S4224x1024 .f32 := broadcastInDim S4224x1024 ![] bcast_S_S4224x1024 main_cst_1
  let main_v8 : IVec S4224x1024 1 := cmpf .olt main_v6 main_v7
  let main_v9 : FVec F S4112x1024 .f32 := Host.absf main_arg3
  let main_cst_2 : FVec F S_ .f32 := constant S_ .f32 0x7F800000#32
  let main_v10 : FVec F S4112x1024 .f32 := broadcastInDim S4112x1024 ![] bcast_S_S4112x1024 main_cst_2
  let main_v11 : IVec S4112x1024 1 := cmpf .olt main_v9 main_v10
  (main_v2, main_v5, main_v8, main_v11)
-- ==== Pre_finite8.lean ====
abbrev S4224x2048 : Shape := ⟨2, ![4224, 2048]⟩
abbrev S4224x1024 : Shape := ⟨2, ![4224, 1024]⟩
abbrev S_ : Shape := ⟨0, ![]⟩

class Facts : Prop where
  bcast_S_S4224x2048 : S_.BroadcastsInDim S4224x2048 (![] : Fin 0 → Fin S4224x2048.rank)

variable [Facts]

def fn {F : FTy → Type} [FloatOps F] (main_arg0 : FVec F S4224x2048 .f32) (main_arg1 : FVec F S4224x2048 .f32) (main_arg2 : FVec F S4224x1024 .f32) : IVec S4224x2048 1 × IVec S4224x2048 1 :=
  let main_v0 : FVec F S4224x2048 .f32 := Host.absf main_arg0
  let main_cst : FVec F S_ .f32 := constant S_ .f32 0x7F800000#32
  let main_v1 : FVec F S4224x2048 .f32 := broadcastInDim S4224x2048 ![] bcast_S_S4224x2048 main_cst
  let main_v2 : IVec S4224x2048 1 := cmpf .olt main_v0 main_v1
  let main_v3 : FVec F S4224x2048 .f32 := Host.absf main_arg1
  let main_cst_0 : FVec F S_ .f32 := constant S_ .f32 0x7F800000#32
  let main_v4 : FVec F S4224x2048 .f32 := broadcastInDim S4224x2048 ![] bcast_S_S4224x2048 main_cst_0
  let main_v5 : IVec S4224x2048 1 := cmpf .olt main_v3 main_v4
  (main_v2, main_v5)
-- ==== Kernel.lean ====
abbrev S4224x2048 : Shape := ⟨2, ![4224, 2048]⟩
abbrev S4224x1024 : Shape := ⟨2, ![4224, 1024]⟩
abbrev S4112x1024 : Shape := ⟨2, ![4112, 1024]⟩
abbrev S4224x16x128 : Shape := ⟨3, ![4224, 16, 128]⟩
abbrev S4224x16x64 : Shape := ⟨3, ![4224, 16, 64]⟩
abbrev S16x4224x4224 : Shape := ⟨3, ![16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S16x4224 : Shape := ⟨2, ![16, 4224]⟩
abbrev S16x4224x1 : Shape := ⟨3, ![16, 4224, 1]⟩
abbrev S16x64x4224 : Shape := ⟨3, ![16, 64, 4224]⟩
abbrev S4224x16 : Shape := ⟨2, ![4224, 16]⟩
abbrev S4224x16x1 : Shape := ⟨3, ![4224, 16, 1]⟩
abbrev S4224x256 : Shape := ⟨2, ![4224, 256]⟩
abbrev S384x256 : Shape := ⟨2, ![384, 256]⟩
abbrev S384x128 : Shape := ⟨2, ![384, 128]⟩
abbrev S4224x128 : Shape := ⟨2, ![4224, 128]⟩
abbrev S384x384 : Shape := ⟨2, ![384, 384]⟩
abbrev S384x1 : Shape := ⟨2, ![384, 1]⟩
abbrev S384 : Shape := ⟨1, ![384]⟩

abbrev nBuf : Space → Nat
  | .hbm => 68
  | .vmem => 18
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x1024, .f32⟩
  | .hbm, ⟨3, _⟩ => ⟨S4112x1024, .f32⟩
  | .hbm, ⟨4, _⟩ => ⟨S4224x16x128, .f32⟩
  | .hbm, ⟨5, _⟩ => ⟨S4224x16x128, .f32⟩
  | .hbm, ⟨6, _⟩ => ⟨S4224x16x64, .f32⟩
  | .hbm, ⟨7, _⟩ => ⟨S16x4224x4224, .f32⟩
  | .hbm, ⟨8, _⟩ => ⟨S4224, .i32⟩
  | .hbm, ⟨9, _⟩ => ⟨S1x4224, .i32⟩
  | .hbm, ⟨10, _⟩ => ⟨S4224x1, .i32⟩
  | .hbm, ⟨11, _⟩ => ⟨S4224x4224, .i32⟩
  | .hbm, ⟨12, _⟩ => ⟨S4224x4224, .i32⟩
  | .hbm, ⟨13, _⟩ => ⟨S4224x4224, .i1⟩
  | .hbm, ⟨14, _⟩ => ⟨S1x4224, .i32⟩
  | .hbm, ⟨15, _⟩ => ⟨S_, .i32⟩
  | .hbm, ⟨16, _⟩ => ⟨S1x4224, .i32⟩
  | .hbm, ⟨17, _⟩ => ⟨S1x4224, .i1⟩
  | .hbm, ⟨18, _⟩ => ⟨S4224x1, .i32⟩
  | .hbm, ⟨19, _⟩ => ⟨S_, .i32⟩
  | .hbm, ⟨20, _⟩ => ⟨S4224x1, .i32⟩
  | .hbm, ⟨21, _⟩ => ⟨S4224x1, .i1⟩
  | .hbm, ⟨22, _⟩ => ⟨S4224x4224, .i1⟩
  | .hbm, ⟨23, _⟩ => ⟨S4224x4224, .i1⟩
  | .hbm, ⟨24, _⟩ => ⟨S4224x4224, .i1⟩
  | .hbm, ⟨25, _⟩ => ⟨S4224x4224, .i1⟩
  | .hbm, ⟨26, _⟩ => ⟨S_, .f32⟩
  | .hbm, ⟨27, _⟩ => ⟨S_, .f32⟩
  | .hbm, ⟨28, _⟩ => ⟨S16x4224x4224, .i1⟩
  | .hbm, ⟨29, _⟩ => ⟨S16x4224x4224, .f32⟩
  | .hbm, ⟨30, _⟩ => ⟨S16x4224x4224, .f32⟩
  | .hbm, ⟨31, _⟩ => ⟨S_, .f32⟩
  | .hbm, ⟨32, _⟩ => ⟨S16x4224, .f32⟩
  | .hbm, ⟨33, _⟩ => ⟨S16x4224x1, .f32⟩
  | .hbm, ⟨34, _⟩ => ⟨S16x4224x4224, .f32⟩
  | .hbm, ⟨35, _⟩ => ⟨S16x4224x4224, .f32⟩
  | .hbm, ⟨36, _⟩ => ⟨S16x4224x4224, .f32⟩
  | .hbm, ⟨37, _⟩ => ⟨S_, .f32⟩
  | .hbm, ⟨38, _⟩ => ⟨S16x4224, .f32⟩
  | .hbm, ⟨39, _⟩ => ⟨S16x4224x1, .f32⟩
  | .hbm, ⟨40, _⟩ => ⟨S16x4224x4224, .f32⟩
  | .hbm, ⟨41, _⟩ => ⟨S16x4224x4224, .f32⟩
  | .hbm, ⟨42, _⟩ => ⟨S16x64x4224, .f32⟩
  | .hbm, ⟨43, _⟩ => ⟨S4224x16x64, .f32⟩
  | .hbm, ⟨44, _⟩ => ⟨S4224x1024, .f32⟩
  | .hbm, ⟨45, _⟩ => ⟨S16x4224x1, .f32⟩
  | .hbm, ⟨46, _⟩ => ⟨S16x4224x1, .f32⟩
  | .hbm, ⟨47, _⟩ => ⟨S16x4224, .f32⟩
  | .hbm, ⟨48, _⟩ => ⟨S_, .f32⟩
  | .hbm, ⟨49, _⟩ => ⟨S_, .f32⟩
  | .hbm, ⟨50, _⟩ => ⟨S16x4224, .f32⟩
  | .hbm, ⟨51, _⟩ => ⟨S16x4224, .f32⟩
  | .hbm, ⟨52, _⟩ => ⟨S4224x16, .f32⟩
  | .hbm, ⟨53, _⟩ => ⟨S4224x16x1, .f32⟩
  | .hbm, ⟨54, _⟩ => ⟨S4224x16x64, .f32⟩
  | .hbm, ⟨55, _⟩ => ⟨S4224x1024, .f32⟩
  | .hbm, ⟨56, _⟩ => ⟨S4224x2048, .f32⟩
  | .hbm, ⟨57, _⟩ => ⟨S4224x2048, .f32⟩
  | .hbm, ⟨58, _⟩ => ⟨S4224x2048, .bf16⟩
  | .hbm, ⟨59, _⟩ => ⟨S_, .i32⟩
  | .hbm, ⟨60, _⟩ => ⟨S_, .f32⟩
  | .hbm, ⟨61, _⟩ => ⟨S4224x2048, .f32⟩
  | .hbm, ⟨62, _⟩ => ⟨S4224x2048, .bf16⟩
  | .hbm, ⟨63, _⟩ => ⟨S4224x1024, .bf16⟩
  | .hbm, ⟨64, _⟩ => ⟨S4224x1024, .bf16⟩
  | .hbm, ⟨65, _⟩ => ⟨S4224x2048, .f32⟩
  | .hbm, ⟨66, _⟩ => ⟨S4224x2048, .f32⟩
  | .hbm, ⟨67, _⟩ => ⟨S4224x1024, .bf16⟩
  | .local _ .vmem, ⟨0, _⟩ => ⟨S4224x256, .bf16⟩
  | .local _ .vmem, ⟨1, _⟩ => ⟨S4224x256, .bf16⟩
  | .local _ .vmem, ⟨2, _⟩ => ⟨S384x256, .bf16⟩
  | .local _ .vmem, ⟨3, _⟩ => ⟨S384x256, .bf16⟩
  | .local _ .vmem, ⟨4, _⟩ => ⟨S384x128, .bf16⟩
  | .local _ .vmem, ⟨5, _⟩ => ⟨S384x128, .bf16⟩
  | .local _ .vmem, ⟨6, _⟩ => ⟨S4224x128, .bf16⟩
  | .local _ .vmem, ⟨7, _⟩ => ⟨S4224x128, .bf16⟩
  | .local _ .vmem, ⟨8, _⟩ => ⟨S4224x128, .f32⟩
  | .local _ .vmem, ⟨9, _⟩ => ⟨S4224x128, .f32⟩
  | .local _ .vmem, ⟨10, _⟩ => ⟨S4224x128, .f32⟩
  | .local _ .vmem, ⟨11, _⟩ => ⟨S4224x128, .f32⟩
  | .local _ .vmem, ⟨12, _⟩ => ⟨S4224x256, .f32⟩
  | .local _ .vmem, ⟨13, _⟩ => ⟨S4224x256, .f32⟩
  | .local _ .vmem, ⟨14, _⟩ => ⟨S384x256, .f32⟩
  | .local _ .vmem, ⟨15, _⟩ => ⟨S384x256, .f32⟩
  | .local _ .vmem, ⟨16, _⟩ => ⟨S384x128, .bf16⟩
  | .local _ .vmem, ⟨17, _⟩ => ⟨S384x128, .bf16⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v20 : Ref sig .tc := ⟨.hbm, 30, rfl⟩
abbrev main_cst_1 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_2 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_3 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_c_4 : Ref sig .tc := ⟨.hbm, 59, rfl⟩
abbrev main_call1_v0 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50_0 : Ref sig .tc := ⟨.hbm, 65, rfl⟩
abbrev main_v50_1 : Ref sig .tc := ⟨.hbm, 66, rfl⟩
abbrev main_v50_2 : Ref sig .tc := ⟨.hbm, 67, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 11], ![false, false]⟩

def k0_mult1 (i : grid0.Coords) : BitVec 32 :=
  let arg1 : BitVec 32 := BitVec.ofNat 32 (i 1).val
  let c384_i32 : BitVec 32 := 384#32
  let v15 : BitVec 32 := Scalar.muli arg1 c384_i32
  v15
def k0_off1 (i : grid0.Coords) : Fin 2 → Nat :=
  let arg1 : BitVec 32 := BitVec.ofNat 32 (i 1).val
  let c384_i32 : BitVec 32 := 384#32
  let v15 : BitVec 32 := Scalar.muli arg1 c384_i32
  let v16 : BitVec 32 := v15
  let v17 : Index := Scalar.indexCast v16
  let c0_6 : Index := 0#32
  ![v17.toNat, 0]
def k0_off2 (i : grid0.Coords) : Fin 2 → Nat :=
  let arg1 : BitVec 32 := BitVec.ofNat 32 (i 1).val
  let c384_i32 : BitVec 32 := 384#32
  let v15 : BitVec 32 := Scalar.muli arg1 c384_i32
  let v16 : BitVec 32 := v15
  let v27 : Index := Scalar.indexCast v16
  let c0_9 : Index := 0#32
  ![v27.toNat, 0]
def k0_off3 (i : grid0.Coords) : Fin 2 → Nat :=
  let arg1 : BitVec 32 := BitVec.ofNat 32 (i 1).val
  let c384_i32 : BitVec 32 := 384#32
  let v15 : BitVec 32 := Scalar.muli arg1 c384_i32
  let v16 : BitVec 32 := v15
  let v30 : Index := Scalar.indexCast v16
  let c128_10 : Index := 128#32
  ![v30.toNat, 128]
@[reducible] def k0_t1_loop (i : grid0.Coords) : Scf.Loop 32 :=
  let arg1 : BitVec 32 := BitVec.ofNat 32 (i 1).val
  let c1_i32 : BitVec 32 := 1#32
  let v105 : BitVec 32 := Scalar.addi arg1 c1_i32
  let c0_i32_33 : BitVec 32 := 0#32
  let v106 : BitVec 1 := Scalar.cmpi .eq arg1 c0_i32_33
  let c11_i32 : BitVec 32 := 11#32
  let c1_i32_34 : BitVec 32 := 1#32
  let v107 : BitVec 32 := Scalar.addi arg1 c1_i32_34
  let v108 : BitVec 32 := Scalar.select v106 c11_i32 v107
  let v109 : BitVec 32 := Scalar.subi v108 v105
  let c1_i32_35 : BitVec 32 := 1#32
  let v111 : BitVec 32 := Scalar.divsi v109 c1_i32_35
  let v112 : BitVec 32 := Scalar.muli v111 c1_i32_35
  let v113 : BitVec 32 := Scalar.addi v105 v112
  let c1_i32_36 : BitVec 32 := 1#32
  ⟨v105, v113, c1_i32_36⟩
def k0_mult2 (i : grid0.Coords) (k0_t1 : Fin (k0_t1_loop i).trips) : BitVec 32 :=
  let arg1 : BitVec 32 := BitVec.ofNat 32 (i 1).val
  let c1_i32 : BitVec 32 := 1#32
  let v105 : BitVec 32 := Scalar.addi arg1 c1_i32
  let c1_i32_36 : BitVec 32 := 1#32
  let arg11 : BitVec 32 := Scf.iv v105 c1_i32_36 k0_t1
  let c384_i32_53 : BitVec 32 := 384#32
  let v135 : BitVec 32 := Scalar.muli arg11 c384_i32_53
  v135
def k0_off4 (i : grid0.Coords) (k0_t1 : Fin (k0_t1_loop i).trips) : Fin 2 → Nat :=
  let arg1 : BitVec 32 := BitVec.ofNat 32 (i 1).val
  let c1_i32 : BitVec 32 := 1#32
  let v105 : BitVec 32 := Scalar.addi arg1 c1_i32
  let c1_i32_36 : BitVec 32 := 1#32
  let arg11 : BitVec 32 := Scf.iv v105 c1_i32_36 k0_t1
  let c384_i32_53 : BitVec 32 := 384#32
  let v135 : BitVec 32 := Scalar.muli arg11 c384_i32_53
  let v136 : BitVec 32 := v135
  let v137 : Index := Scalar.indexCast v136
  let c0_54 : Index := 0#32
  ![v137.toNat, 0]
def k0_off5 (i : grid0.Coords) (k0_t1 : Fin (k0_t1_loop i).trips) : Fin 2 → Nat :=
  let arg1 : BitVec 32 := BitVec.ofNat 32 (i 1).val
  let c1_i32 : BitVec 32 := 1#32
  let v105 : BitVec 32 := Scalar.addi arg1 c1_i32
  let c1_i32_36 : BitVec 32 := 1#32
  let arg11 : BitVec 32 := Scf.iv v105 c1_i32_36 k0_t1
  let c384_i32_53 : BitVec 32 := 384#32
  let v135 : BitVec 32 := Scalar.muli arg11 c384_i32_53
  let v136 : BitVec 32 := v135
  let v147 : Index := Scalar.indexCast v136
  let c0_57 : Index := 0#32
  ![v147.toNat, 0]
def k0_off6 (i : grid0.Coords) (k0_t1 : Fin (k0_t1_loop i).trips) : Fin 2 → Nat :=
  let arg1 : BitVec 32 := BitVec.ofNat 32 (i 1).val
  let c1_i32 : BitVec 32 := 1#32
  let v105 : BitVec 32 := Scalar.addi arg1 c1_i32
  let c1_i32_36 : BitVec 32 := 1#32
  let arg11 : BitVec 32 := Scf.iv v105 c1_i32_36 k0_t1
  let c384_i32_53 : BitVec 32 := 384#32
  let v135 : BitVec 32 := Scalar.muli arg11 c384_i32_53
  let v136 : BitVec 32 := v135
  let v150 : Index := Scalar.indexCast v136
  let c128_58 : Index := 128#32
  ![v150.toNat, 128]
@[reducible] def k0_t2_loop (i : grid0.Coords) : Scf.Loop 32 :=
  let arg1 : BitVec 32 := BitVec.ofNat 32 (i 1).val
  let c1_i32 : BitVec 32 := 1#32
  let v105 : BitVec 32 := Scalar.addi arg1 c1_i32
  let c0_i32_33 : BitVec 32 := 0#32
  let v106 : BitVec 1 := Scalar.cmpi .eq arg1 c0_i32_33
  let c11_i32 : BitVec 32 := 11#32
  let c1_i32_34 : BitVec 32 := 1#32
  let v107 : BitVec 32 := Scalar.addi arg1 c1_i32_34
  let v108 : BitVec 32 := Scalar.select v106 c11_i32 v107
  let v109 : BitVec 32 := Scalar.subi v108 v105
  let c1_i32_35 : BitVec 32 := 1#32
  let v111 : BitVec 32 := Scalar.divsi v109 c1_i32_35
  let v112 : BitVec 32 := Scalar.muli v111 c1_i32_35
  let v113 : BitVec 32 := Scalar.addi v105 v112
  let v110 : BitVec 32 := Scalar.addi v105 v109
  let c1_i32_37 : BitVec 32 := 1#32
  ⟨v113, v110, c1_i32_37⟩
def k0_mult3 (i : grid0.Coords) (k0_t2 : Fin (k0_t2_loop i).trips) : BitVec 32 :=
  let arg1 : BitVec 32 := BitVec.ofNat 32 (i 1).val
  let c1_i32 : BitVec 32 := 1#32
  let v105 : BitVec 32 := Scalar.addi arg1 c1_i32
  let c0_i32_33 : BitVec 32 := 0#32
  let v106 : BitVec 1 := Scalar.cmpi .eq arg1 c0_i32_33
  let c11_i32 : BitVec 32 := 11#32
  let c1_i32_34 : BitVec 32 := 1#32
  let v107 : BitVec 32 := Scalar.addi arg1 c1_i32_34
  let v108 : BitVec 32 := Scalar.select v106 c11_i32 v107
  let v109 : BitVec 32 := Scalar.subi v108 v105
  let c1_i32_35 : BitVec 32 := 1#32
  let v111 : BitVec 32 := Scalar.divsi v109 c1_i32_35
  let v112 : BitVec 32 := Scalar.muli v111 c1_i32_35
  let v113 : BitVec 32 := Scalar.addi v105 v112
  let c1_i32_37 : BitVec 32 := 1#32
  let arg11 : BitVec 32 := Scf.iv v113 c1_i32_37 k0_t2
  let c384_i32_53 : BitVec 32 := 384#32
  let v135 : BitVec 32 := Scalar.muli arg11 c384_i32_53
  v135
def k0_off7 (i : grid0.Coords) (k0_t2 : Fin (k0_t2_loop i).trips) : Fin 2 → Nat :=
  let arg1 : BitVec 32 := BitVec.ofNat 32 (i 1).val
  let c1_i32 : BitVec 32 := 1#32
  let v105 : BitVec 32 := Scalar.addi arg1 c1_i32
  let c0_i32_33 : BitVec 32 := 0#32
  let v106 : BitVec 1 := Scalar.cmpi .eq arg1 c0_i32_33
  let c11_i32 : BitVec 32 := 11#32
  let c1_i32_34 : BitVec 32 := 1#32
  let v107 : BitVec 32 := Scalar.addi arg1 c1_i32_34
  let v108 : BitVec 32 := Scalar.select v106 c11_i32 v107
  let v109 : BitVec 32 := Scalar.subi v108 v105
  let c1_i32_35 : BitVec 32 := 1#32
  let v111 : BitVec 32 := Scalar.divsi v109 c1_i32_35
  let v112 : BitVec 32 := Scalar.muli v111 c1_i32_35
  let v113 : BitVec 32 := Scalar.addi v105 v112
  let c1_i32_37 : BitVec 32 := 1#32
  let arg11 : BitVec 32 := Scf.iv v113 c1_i32_37 k0_t2
  let c384_i32_53 : BitVec 32 := 384#32
  let v135 : BitVec 32 := Scalar.muli arg11 c384_i32_53
  let v136 : BitVec 32 := v135
  let v137 : Index := Scalar.indexCast v136
  let c0_54 : Index := 0#32
  ![v137.toNat, 0]
def k0_off8 (i : grid0.Coords) (k0_t2 : Fin (k0_t2_loop i).trips) : Fin 2 → Nat :=
  let arg1 : BitVec 32 := BitVec.ofNat 32 (i 1).val
  let c1_i32 : BitVec 32 := 1#32
  let v105 : BitVec 32 := Scalar.addi arg1 c1_i32
  let c0_i32_33 : BitVec 32 := 0#32
  let v106 : BitVec 1 := Scalar.cmpi .eq arg1 c0_i32_33
  let c11_i32 : BitVec 32 := 11#32
  let c1_i32_34 : BitVec 32 := 1#32
  let v107 : BitVec 32 := Scalar.addi arg1 c1_i32_34
  let v108 : BitVec 32 := Scalar.select v106 c11_i32 v107
  let v109 : BitVec 32 := Scalar.subi v108 v105
  let c1_i32_35 : BitVec 32 := 1#32
  let v111 : BitVec 32 := Scalar.divsi v109 c1_i32_35
  let v112 : BitVec 32 := Scalar.muli v111 c1_i32_35
  let v113 : BitVec 32 := Scalar.addi v105 v112
  let c1_i32_37 : BitVec 32 := 1#32
  let arg11 : BitVec 32 := Scf.iv v113 c1_i32_37 k0_t2
  let c384_i32_53 : BitVec 32 := 384#32
  let v135 : BitVec 32 := Scalar.muli arg11 c384_i32_53
  let v136 : BitVec 32 := v135
  let v147 : Index := Scalar.indexCast v136
  let c0_57 : Index := 0#32
  ![v147.toNat, 0]
def k0_off9 (i : grid0.Coords) (k0_t2 : Fin (k0_t2_loop i).trips) : Fin 2 → Nat :=
  let arg1 : BitVec 32 := BitVec.ofNat 32 (i 1).val
  let c1_i32 : BitVec 32 := 1#32
  let v105 : BitVec 32 := Scalar.addi arg1 c1_i32
  let c0_i32_33 : BitVec 32 := 0#32
  let v106 : BitVec 1 := Scalar.cmpi .eq arg1 c0_i32_33
  let c11_i32 : BitVec 32 := 11#32
  let c1_i32_34 : BitVec 32 := 1#32
  let v107 : BitVec 32 := Scalar.addi arg1 c1_i32_34
  let v108 : BitVec 32 := Scalar.select v106 c11_i32 v107
  let v109 : BitVec 32 := Scalar.subi v108 v105
  let c1_i32_35 : BitVec 32 := 1#32
  let v111 : BitVec 32 := Scalar.divsi v109 c1_i32_35
  let v112 : BitVec 32 := Scalar.muli v111 c1_i32_35
  let v113 : BitVec 32 := Scalar.addi v105 v112
  let c1_i32_37 : BitVec 32 := 1#32
  let arg11 : BitVec 32 := Scf.iv v113 c1_i32_37 k0_t2
  let c384_i32_53 : BitVec 32 := 384#32
  let v135 : BitVec 32 := Scalar.muli arg11 c384_i32_53
  let v136 : BitVec 32 := v135
  let v150 : Index := Scalar.indexCast v136
  let c128_58 : Index := 128#32
  ![v150.toNat, 128]
@[reducible] def k0_t3_loop (i : grid0.Coords) : Scf.Loop 32 :=
  let arg1 : BitVec 32 := BitVec.ofNat 32 (i 1).val
  let c1_i32_38 : BitVec 32 := 1#32
  let v116 : BitVec 32 := Scalar.addi arg1 c1_i32_38
  let c0_i32_39 : BitVec 32 := 0#32
  let v117 : BitVec 1 := Scalar.cmpi .eq arg1 c0_i32_39
  let c1_i32_40 : BitVec 32 := 1#32
  let v118 : BitVec 32 := Scalar.addi arg1 c1_i32_40
  let c11_i32_41 : BitVec 32 := 11#32
  let v119 : BitVec 32 := Scalar.select v117 v118 c11_i32_41
  let v120 : BitVec 32 := Scalar.subi v119 v116
  let c1_i32_42 : BitVec 32 := 1#32
  let v122 : BitVec 32 := Scalar.divsi v120 c1_i32_42
  let v123 : BitVec 32 := Scalar.muli v122 c1_i32_42
  let v124 : BitVec 32 := Scalar.addi v116 v123
  let c1_i32_43 : BitVec 32 := 1#32
  ⟨v116, v124, c1_i32_43⟩
def k0_mult4 (i : grid0.Coords) (k0_t3 : Fin (k0_t3_loop i).trips) : BitVec 32 :=
  let arg1 : BitVec 32 := BitVec.ofNat 32 (i 1).val
  let c1_i32_38 : BitVec 32 := 1#32
  let v116 : BitVec 32 := Scalar.addi arg1 c1_i32_38
  let c1_i32_43 : BitVec 32 := 1#32
  let arg11 : BitVec 32 := Scf.iv v116 c1_i32_43 k0_t3
  let c384_i32_53 : BitVec 32 := 384#32
  let v135 : BitVec 32 := Scalar.muli arg11 c384_i32_53
  v135
def k0_off10 (i : grid0.Coords) (k0_t3 : Fin (k0_t3_loop i).trips) : Fin 2 → Nat :=
  let arg1 : BitVec 32 := BitVec.ofNat 32 (i 1).val
  let c1_i32_38 : BitVec 32 := 1#32
  let v116 : BitVec 32 := Scalar.addi arg1 c1_i32_38
  let c1_i32_43 : BitVec 32 := 1#32
  let arg11 : BitVec 32 := Scf.iv v116 c1_i32_43 k0_t3
  let c384_i32_53 : BitVec 32 := 384#32
  let v135 : BitVec 32 := Scalar.muli arg11 c384_i32_53
  let v136 : BitVec 32 := v135
  let v137 : Index := Scalar.indexCast v136
  let c0_54 : Index := 0#32
  ![v137.toNat, 0]
def k0_off11 (i : grid0.Coords) (k0_t3 : Fin (k0_t3_loop i).trips) : Fin 2 → Nat :=
  let arg1 : BitVec 32 := BitVec.ofNat 32 (i 1).val
  let c1_i32_38 : BitVec 32 := 1#32
  let v116 : BitVec 32 := Scalar.addi arg1 c1_i32_38
  let c1_i32_43 : BitVec 32 := 1#32
  let arg11 : BitVec 32 := Scf.iv v116 c1_i32_43 k0_t3
  let c384_i32_53 : BitVec 32 := 384#32
  let v135 : BitVec 32 := Scalar.muli arg11 c384_i32_53
  let v136 : BitVec 32 := v135
  let v147 : Index := Scalar.indexCast v136
  let c0_57 : Index := 0#32
  ![v147.toNat, 0]
def k0_off12 (i : grid0.Coords) (k0_t3 : Fin (k0_t3_loop i).trips) : Fin 2 → Nat :=
  let arg1 : BitVec 32 := BitVec.ofNat 32 (i 1).val
  let c1_i32_38 : BitVec 32 := 1#32
  let v116 : BitVec 32 := Scalar.addi arg1 c1_i32_38
  let c1_i32_43 : BitVec 32 := 1#32
  let arg11 : BitVec 32 := Scf.iv v116 c1_i32_43 k0_t3
  let c384_i32_53 : BitVec 32 := 384#32
  let v135 : BitVec 32 := Scalar.muli arg11 c384_i32_53
  let v136 : BitVec 32 := v135
  let v150 : Index := Scalar.indexCast v136
  let c128_58 : Index := 128#32
  ![v150.toNat, 128]
@[reducible] def k0_t4_loop (i : grid0.Coords) : Scf.Loop 32 :=
  let arg1 : BitVec 32 := BitVec.ofNat 32 (i 1).val
  let c1_i32_38 : BitVec 32 := 1#32
  let v116 : BitVec 32 := Scalar.addi arg1 c1_i32_38
  let c0_i32_39 : BitVec 32 := 0#32
  let v117 : BitVec 1 := Scalar.cmpi .eq arg1 c0_i32_39
  let c1_i32_40 : BitVec 32 := 1#32
  let v118 : BitVec 32 := Scalar.addi arg1 c1_i32_40
  let c11_i32_41 : BitVec 32 := 11#32
  let v119 : BitVec 32 := Scalar.select v117 v118 c11_i32_41
  let v120 : BitVec 32 := Scalar.subi v119 v116
  let c1_i32_42 : BitVec 32 := 1#32
  let v122 : BitVec 32 := Scalar.divsi v120 c1_i32_42
  let v123 : BitVec 32 := Scalar.muli v122 c1_i32_42
  let v124 : BitVec 32 := Scalar.addi v116 v123
  let v121 : BitVec 32 := Scalar.addi v116 v120
  let c1_i32_44 : BitVec 32 := 1#32
  ⟨v124, v121, c1_i32_44⟩
def k0_mult5 (i : grid0.Coords) (k0_t4 : Fin (k0_t4_loop i).trips) : BitVec 32 :=
  let arg1 : BitVec 32 := BitVec.ofNat 32 (i 1).val
  let c1_i32_38 : BitVec 32 := 1#32
  let v116 : BitVec 32 := Scalar.addi arg1 c1_i32_38
  let c0_i32_39 : BitVec 32 := 0#32
  let v117 : BitVec 1 := Scalar.cmpi .eq arg1 c0_i32_39
  let c1_i32_40 : BitVec 32 := 1#32
  let v118 : BitVec 32 := Scalar.addi arg1 c1_i32_40
  let c11_i32_41 : BitVec 32 := 11#32
  let v119 : BitVec 32 := Scalar.select v117 v118 c11_i32_41
  let v120 : BitVec 32 := Scalar.subi v119 v116
  let c1_i32_42 : BitVec 32 := 1#32
  let v122 : BitVec 32 := Scalar.divsi v120 c1_i32_42
  let v123 : BitVec 32 := Scalar.muli v122 c1_i32_42
  let v124 : BitVec 32 := Scalar.addi v116 v123
  let c1_i32_44 : BitVec 32 := 1#32
  let arg11 : BitVec 32 := Scf.iv v124 c1_i32_44 k0_t4
  let c384_i32_53 : BitVec 32 := 384#32
  let v135 : BitVec 32 := Scalar.muli arg11 c384_i32_53
  v135
def k0_off13 (i : grid0.Coords) (k0_t4 : Fin (k0_t4_loop i).trips) : Fin 2 → Nat :=
  let arg1 : BitVec 32 := BitVec.ofNat 32 (i 1).val
  let c1_i32_38 : BitVec 32 := 1#32
  let v116 : BitVec 32 := Scalar.addi arg1 c1_i32_38
  let c0_i32_39 : BitVec 32 := 0#32
  let v117 : BitVec 1 := Scalar.cmpi .eq arg1 c0_i32_39
  let c1_i32_40 : BitVec 32 := 1#32
  let v118 : BitVec 32 := Scalar.addi arg1 c1_i32_40
  let c11_i32_41 : BitVec 32 := 11#32
  let v119 : BitVec 32 := Scalar.select v117 v118 c11_i32_41
  let v120 : BitVec 32 := Scalar.subi v119 v116
  let c1_i32_42 : BitVec 32 := 1#32
  let v122 : BitVec 32 := Scalar.divsi v120 c1_i32_42
  let v123 : BitVec 32 := Scalar.muli v122 c1_i32_42
  let v124 : BitVec 32 := Scalar.addi v116 v123
  let c1_i32_44 : BitVec 32 := 1#32
  let arg11 : BitVec 32 := Scf.iv v124 c1_i32_44 k0_t4
  let c384_i32_53 : BitVec 32 := 384#32
  let v135 : BitVec 32 := Scalar.muli arg11 c384_i32_53
  let v136 : BitVec 32 := v135
  let v137 : Index := Scalar.indexCast v136
  let c0_54 : Index := 0#32
  ![v137.toNat, 0]
def k0_off14 (i : grid0.Coords) (k0_t4 : Fin (k0_t4_loop i).trips) : Fin 2 → Nat :=
  let arg1 : BitVec 32 := BitVec.ofNat 32 (i 1).val
  let c1_i32_38 : BitVec 32 := 1#32
  let v116 : BitVec 32 := Scalar.addi arg1 c1_i32_38
  let c0_i32_39 : BitVec 32 := 0#32
  let v117 : BitVec 1 := Scalar.cmpi .eq arg1 c0_i32_39
  let c1_i32_40 : BitVec 32 := 1#32
  let v118 : BitVec 32 := Scalar.addi arg1 c1_i32_40
  let c11_i32_41 : BitVec 32 := 11#32
  let v119 : BitVec 32 := Scalar.select v117 v118 c11_i32_41
  let v120 : BitVec 32 := Scalar.subi v119 v116
  let c1_i32_42 : BitVec 32 := 1#32
  let v122 : BitVec 32 := Scalar.divsi v120 c1_i32_42
  let v123 : BitVec 32 := Scalar.muli v122 c1_i32_42
  let v124 : BitVec 32 := Scalar.addi v116 v123
  let c1_i32_44 : BitVec 32 := 1#32
  let arg11 : BitVec 32 := Scf.iv v124 c1_i32_44 k0_t4
  let c384_i32_53 : BitVec 32 := 384#32
  let v135 : BitVec 32 := Scalar.muli arg11 c384_i32_53
  let v136 : BitVec 32 := v135
  let v147 : Index := Scalar.indexCast v136
  let c0_57 : Index := 0#32
  ![v147.toNat, 0]
def k0_off15 (i : grid0.Coords) (k0_t4 : Fin (k0_t4_loop i).trips) : Fin 2 → Nat :=
  let arg1 : BitVec 32 := BitVec.ofNat 32 (i 1).val
  let c1_i32_38 : BitVec 32 := 1#32
  let v116 : BitVec 32 := Scalar.addi arg1 c1_i32_38
  let c0_i32_39 : BitVec 32 := 0#32
  let v117 : BitVec 1 := Scalar.cmpi .eq arg1 c0_i32_39
  let c1_i32_40 : BitVec 32 := 1#32
  let v118 : BitVec 32 := Scalar.addi arg1 c1_i32_40
  let c11_i32_41 : BitVec 32 := 11#32
  let v119 : BitVec 32 := Scalar.select v117 v118 c11_i32_41
  let v120 : BitVec 32 := Scalar.subi v119 v116
  let c1_i32_42 : BitVec 32 := 1#32
  let v122 : BitVec 32 := Scalar.divsi v120 c1_i32_42
  let v123 : BitVec 32 := Scalar.muli v122 c1_i32_42
  let v124 : BitVec 32 := Scalar.addi v116 v123
  let c1_i32_44 : BitVec 32 := 1#32
  let arg11 : BitVec 32 := Scf.iv v124 c1_i32_44 k0_t4
  let c384_i32_53 : BitVec 32 := 384#32
  let v135 : BitVec 32 := Scalar.muli arg11 c384_i32_53
  let v136 : BitVec 32 := v135
  let v150 : Index := Scalar.indexCast v136
  let c128_58 : Index := 128#32
  ![v150.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_5 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  ![c0_i32_0.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S4224x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S384x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S4224x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S4224x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S4224x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S384x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S384x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== KernelIdeal.lean ====
variable {F : FTy → Type} [FloatOps F] [Named F]
def κ : String → Option EReal := fun
  | "ln2" => some ((Real.log 2 : ℝ) : EReal)
  | "mask" => some ⊥
  | _ => none
-- ==== ReferenceIdeal.lean ====
abbrev S4224x2048 : Shape := ⟨2, ![4224, 2048]⟩
abbrev S4224x1024 : Shape := ⟨2, ![4224, 1024]⟩
abbrev S4112x1024 : Shape := ⟨2, ![4112, 1024]⟩
abbrev S4224x16x128 : Shape := ⟨3, ![4224, 16, 128]⟩
abbrev S4224x16x64 : Shape := ⟨3, ![4224, 16, 64]⟩
abbrev S16x4224x4224 : Shape := ⟨3, ![16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S16x4224 : Shape := ⟨2, ![16, 4224]⟩
abbrev S16x4224x1 : Shape := ⟨3, ![16, 4224, 1]⟩
abbrev S16x64x4224 : Shape := ⟨3, ![16, 64, 4224]⟩
abbrev S16x4224x128 : Shape := ⟨3, ![16, 4224, 128]⟩

abbrev nBuf : Space → Nat
  | .hbm => 107
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x1024, .f32⟩
  | .hbm, ⟨3, _⟩ => ⟨S4112x1024, .f32⟩
  | .hbm, ⟨4, _⟩ => ⟨S4224x16x128, .f32⟩
  | .hbm, ⟨5, _⟩ => ⟨S4224x16x128, .f32⟩
  | .hbm, ⟨6, _⟩ => ⟨S4224x16x64, .f32⟩
  | .hbm, ⟨7, _⟩ => ⟨S16x4224x4224, .f32⟩
  | .hbm, ⟨8, _⟩ => ⟨S4224, .i32⟩
  | .hbm, ⟨9, _⟩ => ⟨S1x4224, .i32⟩
  | .hbm, ⟨10, _⟩ => ⟨S4224x1, .i32⟩
  | .hbm, ⟨11, _⟩ => ⟨S4224x4224, .i32⟩
  | .hbm, ⟨12, _⟩ => ⟨S4224x4224, .i32⟩
  | .hbm, ⟨13, _⟩ => ⟨S4224x4224, .i1⟩
  | .hbm, ⟨14, _⟩ => ⟨S1x4224, .i32⟩
  | .hbm, ⟨15, _⟩ => ⟨S_, .i32⟩
  | .hbm, ⟨16, _⟩ => ⟨S1x4224, .i32⟩
  | .hbm, ⟨17, _⟩ => ⟨S1x4224, .i1⟩
  | .hbm, ⟨18, _⟩ => ⟨S4224x1, .i32⟩
  | .hbm, ⟨19, _⟩ => ⟨S_, .i32⟩
  | .hbm, ⟨20, _⟩ => ⟨S4224x1, .i32⟩
  | .hbm, ⟨21, _⟩ => ⟨S4224x1, .i1⟩
  | .hbm, ⟨22, _⟩ => ⟨S4224x4224, .i1⟩
  | .hbm, ⟨23, _⟩ => ⟨S4224x4224, .i1⟩
  | .hbm, ⟨24, _⟩ => ⟨S4224x4224, .i1⟩
  | .hbm, ⟨25, _⟩ => ⟨S4224x4224, .i1⟩
  | .hbm, ⟨26, _⟩ => ⟨S_, .f32⟩
  | .hbm, ⟨27, _⟩ => ⟨S_, .f32⟩
  | .hbm, ⟨28, _⟩ => ⟨S16x4224x4224, .i1⟩
  | .hbm, ⟨29, _⟩ => ⟨S16x4224x4224, .f32⟩
  | .hbm, ⟨30, _⟩ => ⟨S16x4224x4224, .f32⟩
  | .hbm, ⟨31, _⟩ => ⟨S_, .f32⟩
  | .hbm, ⟨32, _⟩ => ⟨S16x4224x4224, .f32⟩
  | .hbm, ⟨33, _⟩ => ⟨S_, .f32⟩
  | .hbm, ⟨34, _⟩ => ⟨S16x4224, .f32⟩
  | .hbm, ⟨35, _⟩ => ⟨S16x4224x1, .f32⟩
  | .hbm, ⟨36, _⟩ => ⟨S16x4224x4224, .f32⟩
  | .hbm, ⟨37, _⟩ => ⟨S16x4224x4224, .i1⟩
  | .hbm, ⟨38, _⟩ => ⟨S16x4224x4224, .f32⟩
  | .hbm, ⟨39, _⟩ => ⟨S_, .f32⟩
  | .hbm, ⟨40, _⟩ => ⟨S16x4224, .f32⟩
  | .hbm, ⟨41, _⟩ => ⟨S_, .f32⟩
  | .hbm, ⟨42, _⟩ => ⟨S16x4224, .f32⟩
  | .hbm, ⟨43, _⟩ => ⟨S16x4224, .f32⟩
  | .hbm, ⟨44, _⟩ => ⟨S_, .f32⟩
  | .hbm, ⟨45, _⟩ => ⟨S16x4224, .f32⟩
  | .hbm, ⟨46, _⟩ => ⟨S16x4224, .i1⟩
  | .hbm, ⟨47, _⟩ => ⟨S_, .f32⟩
  | .hbm, ⟨48, _⟩ => ⟨S16x4224, .f32⟩
  | .hbm, ⟨49, _⟩ => ⟨S16x4224, .i1⟩
  | .hbm, ⟨50, _⟩ => ⟨S_, .f32⟩
  | .hbm, ⟨51, _⟩ => ⟨S16x4224, .f32⟩
  | .hbm, ⟨52, _⟩ => ⟨S_, .f32⟩
  | .hbm, ⟨53, _⟩ => ⟨S16x4224, .f32⟩
  | .hbm, ⟨54, _⟩ => ⟨S_, .f32⟩
  | .hbm, ⟨55, _⟩ => ⟨S16x4224, .f32⟩
  | .hbm, ⟨56, _⟩ => ⟨S16x4224, .f32⟩
  | .hbm, ⟨57, _⟩ => ⟨S16x4224, .f32⟩
  | .hbm, ⟨58, _⟩ => ⟨S16x4224x1, .f32⟩
  | .hbm, ⟨59, _⟩ => ⟨S16x4224x4224, .f32⟩
  | .hbm, ⟨60, _⟩ => ⟨S16x4224x4224, .f32⟩
  | .hbm, ⟨61, _⟩ => ⟨S16x4224x4224, .f32⟩
  | .hbm, ⟨62, _⟩ => ⟨S_, .f32⟩
  | .hbm, ⟨63, _⟩ => ⟨S16x4224, .f32⟩
  | .hbm, ⟨64, _⟩ => ⟨S16x4224x1, .f32⟩
  | .hbm, ⟨65, _⟩ => ⟨S16x4224x4224, .f32⟩
  | .hbm, ⟨66, _⟩ => ⟨S16x4224x4224, .f32⟩
  | .hbm, ⟨67, _⟩ => ⟨S16x4224x1, .f32⟩
  | .hbm, ⟨68, _⟩ => ⟨S_, .f32⟩
  | .hbm, ⟨69, _⟩ => ⟨S16x4224x1, .f32⟩
  | .hbm, ⟨70, _⟩ => ⟨S16x4224x1, .f32⟩
  | .hbm, ⟨71, _⟩ => ⟨S16x64x4224, .f32⟩
  | .hbm, ⟨72, _⟩ => ⟨S4224x16x64, .f32⟩
  | .hbm, ⟨73, _⟩ => ⟨S4224x1024, .f32⟩
  | .hbm, ⟨74, _⟩ => ⟨S4112x1024, .f32⟩
  | .hbm, ⟨75, _⟩ => ⟨S_, .f32⟩
  | .hbm, ⟨76, _⟩ => ⟨S4224x1024, .f32⟩
  | .hbm, ⟨77, _⟩ => ⟨S4224x16x64, .f32⟩
  | .hbm, ⟨78, _⟩ => ⟨S16x64x4224, .f32⟩
  | .hbm, ⟨79, _⟩ => ⟨S16x4224x4224, .f32⟩
  | .hbm, ⟨80, _⟩ => ⟨S16x64x4224, .f32⟩
  | .hbm, ⟨81, _⟩ => ⟨S4224x16x64, .f32⟩
  | .hbm, ⟨82, _⟩ => ⟨S16x4224x4224, .f32⟩
  | .hbm, ⟨83, _⟩ => ⟨S16x4224x4224, .f32⟩
  | .hbm, ⟨84, _⟩ => ⟨S16x4224x4224, .f32⟩
  | .hbm, ⟨85, _⟩ => ⟨S_, .f32⟩
  | .hbm, ⟨86, _⟩ => ⟨S16x4224, .f32⟩
  | .hbm, ⟨87, _⟩ => ⟨S16x4224x1, .f32⟩
  | .hbm, ⟨88, _⟩ => ⟨S16x4224x1, .f32⟩
  | .hbm, ⟨89, _⟩ => ⟨S16x4224x4224, .f32⟩
  | .hbm, ⟨90, _⟩ => ⟨S16x4224x4224, .f32⟩
  | .hbm, ⟨91, _⟩ => ⟨S_, .f32⟩
  | .hbm, ⟨92, _⟩ => ⟨S16x4224, .f32⟩
  | .hbm, ⟨93, _⟩ => ⟨S16x4224x4224, .f32⟩
  | .hbm, ⟨94, _⟩ => ⟨S16x4224x4224, .f32⟩
  | .hbm, ⟨95, _⟩ => ⟨S16x4224x4224, .f32⟩
  | .hbm, ⟨96, _⟩ => ⟨S_, .f32⟩
  | .hbm, ⟨97, _⟩ => ⟨S16x4224x4224, .f32⟩
  | .hbm, ⟨98, _⟩ => ⟨S16x4224x4224, .f32⟩
  | .hbm, ⟨99, _⟩ => ⟨S16x4224x128, .f32⟩
  | .hbm, ⟨100, _⟩ => ⟨S4224x16x128, .f32⟩
  | .hbm, ⟨101, _⟩ => ⟨S16x4224x128, .f32⟩
  | .hbm, ⟨102, _⟩ => ⟨S4224x16x128, .f32⟩
  | .hbm, ⟨103, _⟩ => ⟨S4224x1024, .f32⟩
  | .hbm, ⟨104, _⟩ => ⟨S4224x2048, .f32⟩
  | .hbm, ⟨105, _⟩ => ⟨S4224x2048, .f32⟩
  | .hbm, ⟨106, _⟩ => ⟨S4224x1024, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_c : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c_0 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_cst : Ref sig .tc := ⟨.hbm, 26, rfl⟩
abbrev main_call0_v0 : Ref sig .tc := ⟨.hbm, 27, rfl⟩
abbrev main_v20_1 : Ref sig .tc := ⟨.hbm, 28, rfl⟩
abbrev main_call0_v2 : Ref sig .tc := ⟨.hbm, 29, rfl⟩
abbrev main_v20_0 : Ref sig .tc := ⟨.hbm, 30, rfl⟩
abbrev main_call0_cst : Ref sig .tc := ⟨.hbm, 31, rfl⟩
abbrev main_v20_2 : Ref sig .tc := ⟨.hbm, 32, rfl⟩
abbrev main_cst_1 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_cst_2 : Ref sig .tc := ⟨.hbm, 39, rfl⟩
abbrev main_v26 : Ref sig .tc := ⟨.hbm, 40, rfl⟩
abbrev main_cst_3 : Ref sig .tc := ⟨.hbm, 41, rfl⟩
abbrev main_v27 : Ref sig .tc := ⟨.hbm, 42, rfl⟩
abbrev main_v28 : Ref sig .tc := ⟨.hbm, 43, rfl⟩
abbrev main_cst_4 : Ref sig .tc := ⟨.hbm, 44, rfl⟩
abbrev main_v29 : Ref sig .tc := ⟨.hbm, 45, rfl⟩
abbrev main_v30 : Ref sig .tc := ⟨.hbm, 46, rfl⟩
abbrev main_cst_5 : Ref sig .tc := ⟨.hbm, 47, rfl⟩
abbrev main_v31 : Ref sig .tc := ⟨.hbm, 48, rfl⟩
abbrev main_v32 : Ref sig .tc := ⟨.hbm, 49, rfl⟩
abbrev main_cst_6 : Ref sig .tc := ⟨.hbm, 50, rfl⟩
abbrev main_v33 : Ref sig .tc := ⟨.hbm, 51, rfl⟩
abbrev main_cst_7 : Ref sig .tc := ⟨.hbm, 52, rfl⟩
abbrev main_v34 : Ref sig .tc := ⟨.hbm, 53, rfl⟩
abbrev main_cst_8 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_9 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_10 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_cst_11 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_cst_12 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_cst_13 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_call1_cst : Ref sig .tc := ⟨.hbm, 96, rfl⟩
abbrev main_call1_v0 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩

abbrev nD : Nat := 1
abbrev τ : Topo := Topo.v7x

variable {F : FTy → Type} [FloatOps F]
-- ==== Kernel2.lean ====
abbrev S4224x1024 : Shape := ⟨2, ![4224, 1024]⟩
abbrev S1024x4096 : Shape := ⟨2, ![1024, 4096]⟩
abbrev S4096x1024 : Shape := ⟨2, ![4096, 1024]⟩
abbrev S1024x8x512 : Shape := ⟨3, ![1024, 8, 512]⟩
abbrev S8x1024x512 : Shape := ⟨3, ![8, 1024, 512]⟩
abbrev S8x512x1024 : Shape := ⟨3, ![8, 512, 1024]⟩
abbrev S4224x4096 : Shape := ⟨2, ![4224, 4096]⟩
abbrev S1x1024x256 : Shape := ⟨3, ![1, 1024, 256]⟩
abbrev S4224x256 : Shape := ⟨2, ![4224, 256]⟩
abbrev S1024x256 : Shape := ⟨2, ![1024, 256]⟩
abbrev S1056x4096 : Shape := ⟨2, ![1056, 4096]⟩
abbrev S8x512x512 : Shape := ⟨3, ![8, 512, 512]⟩
abbrev S1056x512 : Shape := ⟨2, ![1056, 512]⟩
abbrev S1x512x512 : Shape := ⟨3, ![1, 512, 512]⟩
abbrev S512x512 : Shape := ⟨2, ![512, 512]⟩
abbrev S4224x512 : Shape := ⟨2, ![4224, 512]⟩
abbrev S1024x512 : Shape := ⟨2, ![1024, 512]⟩
abbrev S1x256x1024 : Shape := ⟨3, ![1, 256, 1024]⟩
abbrev S256x1024 : Shape := ⟨2, ![256, 1024]⟩
abbrev S1x1024x512 : Shape := ⟨3, ![1, 1024, 512]⟩

abbrev nBuf : Space → Nat
  | .hbm => 18
  | .vmem => 37
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x1024, .bf16⟩
  | .hbm, ⟨5, _⟩ => ⟨S4224x1024, .bf16⟩
  | .hbm, ⟨6, _⟩ => ⟨S1024x4096, .bf16⟩
  | .hbm, ⟨7, _⟩ => ⟨S1024x8x512, .bf16⟩
  | .hbm, ⟨8, _⟩ => ⟨S8x1024x512, .bf16⟩
  | .hbm, ⟨9, _⟩ => ⟨S4096x1024, .bf16⟩
  | .hbm, ⟨10, _⟩ => ⟨S8x512x1024, .bf16⟩
  | .hbm, ⟨11, _⟩ => ⟨S4224x4096, .bf16⟩
  | .hbm, ⟨12, _⟩ => ⟨S4224x4096, .bf16⟩
  | .hbm, ⟨13, _⟩ => ⟨S4224x1024, .f32⟩
  | .hbm, ⟨14, _⟩ => ⟨S4096x1024, .bf16⟩
  | .hbm, ⟨15, _⟩ => ⟨S4224x4096, .bf16⟩
  | .hbm, ⟨16, _⟩ => ⟨S8x1024x512, .bf16⟩
  | .hbm, ⟨17, _⟩ => ⟨S4224x1024, .f32⟩
  | .local _ .vmem, ⟨0, _⟩ => ⟨S4224x1024, .bf16⟩
  | .local _ .vmem, ⟨1, _⟩ => ⟨S1x1024x256, .bf16⟩
  | .local _ .vmem, ⟨2, _⟩ => ⟨S1x1024x256, .bf16⟩
  | .local _ .vmem, ⟨3, _⟩ => ⟨S4224x256, .bf16⟩
  | .local _ .vmem, ⟨4, _⟩ => ⟨S4224x256, .bf16⟩
  | .local _ .vmem, ⟨5, _⟩ => ⟨S4224x256, .bf16⟩
  | .local _ .vmem, ⟨6, _⟩ => ⟨S4224x256, .bf16⟩
  | .local _ .vmem, ⟨7, _⟩ => ⟨S1056x4096, .bf16⟩
  | .local _ .vmem, ⟨8, _⟩ => ⟨S1056x4096, .bf16⟩
  | .local _ .vmem, ⟨9, _⟩ => ⟨S8x512x512, .bf16⟩
  | .local _ .vmem, ⟨10, _⟩ => ⟨S8x512x512, .bf16⟩
  | .local _ .vmem, ⟨11, _⟩ => ⟨S1056x512, .f32⟩
  | .local _ .vmem, ⟨12, _⟩ => ⟨S1056x512, .f32⟩
  | .local _ .vmem, ⟨13, _⟩ => ⟨S4224x1024, .bf16⟩
  | .local _ .vmem, ⟨14, _⟩ => ⟨S4224x1024, .bf16⟩
  | .local _ .vmem, ⟨15, _⟩ => ⟨S4224x512, .bf16⟩
  | .local _ .vmem, ⟨16, _⟩ => ⟨S4224x512, .bf16⟩
  | .local _ .vmem, ⟨17, _⟩ => ⟨S1024x512, .bf16⟩
  | .local _ .vmem, ⟨18, _⟩ => ⟨S1024x512, .bf16⟩
  | .local _ .vmem, ⟨19, _⟩ => ⟨S4224x1024, .bf16⟩
  | .local _ .vmem, ⟨20, _⟩ => ⟨S1x256x1024, .bf16⟩
  | .local _ .vmem, ⟨21, _⟩ => ⟨S1x256x1024, .bf16⟩
  | .local _ .vmem, ⟨22, _⟩ => ⟨S4224x256, .bf16⟩
  | .local _ .vmem, ⟨23, _⟩ => ⟨S4224x256, .bf16⟩
  | .local _ .vmem, ⟨24, _⟩ => ⟨S4224x256, .bf16⟩
  | .local _ .vmem, ⟨25, _⟩ => ⟨S4224x256, .bf16⟩
  | .local _ .vmem, ⟨26, _⟩ => ⟨S4224x1024, .bf16⟩
  | .local _ .vmem, ⟨27, _⟩ => ⟨S4224x512, .bf16⟩
  | .local _ .vmem, ⟨28, _⟩ => ⟨S4224x512, .bf16⟩
  | .local _ .vmem, ⟨29, _⟩ => ⟨S1x1024x512, .bf16⟩
  | .local _ .vmem, ⟨30, _⟩ => ⟨S1x1024x512, .bf16⟩
  | .local _ .vmem, ⟨31, _⟩ => ⟨S1056x4096, .bf16⟩
  | .local _ .vmem, ⟨32, _⟩ => ⟨S1056x4096, .bf16⟩
  | .local _ .vmem, ⟨33, _⟩ => ⟨S8x512x512, .bf16⟩
  | .local _ .vmem, ⟨34, _⟩ => ⟨S8x512x512, .bf16⟩
  | .local _ .vmem, ⟨35, _⟩ => ⟨S1056x512, .f32⟩
  | .local _ .vmem, ⟨36, _⟩ => ⟨S1056x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | _, _ => false

abbrev semScoped : Fin 0 → Bool
  | ⟨_, h⟩ => absurd h (Nat.not_lt_zero _)

abbrev dmaSemScoped : Fin 37 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | _ => false

abbrev sig : RefSig :=
  ofTc nBuf bufTy 0 37 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg1_1 : Ref sig .tc := ⟨.vmem, 16, rfl⟩
abbrev cc2_stg2_0 : Ref sig .tc := ⟨.vmem, 17, rfl⟩
abbrev cc2_stg2_1 : Ref sig .tc := ⟨.vmem, 18, rfl⟩
abbrev cc3_stg0_0 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc3_stg3_0 : Ref sig .tc := ⟨.vmem, 24, rfl⟩
abbrev cc3_stg3_1 : Ref sig .tc := ⟨.vmem, 25, rfl⟩
abbrev cc4_stg0_0 : Ref sig .tc := ⟨.vmem, 26, rfl⟩
abbrev cc4_stg1_0 : Ref sig .tc := ⟨.vmem, 27, rfl⟩
abbrev cc4_stg1_1 : Ref sig .tc := ⟨.vmem, 28, rfl⟩
abbrev cc4_stg2_0 : Ref sig .tc := ⟨.vmem, 29, rfl⟩
abbrev cc4_stg2_1 : Ref sig .tc := ⟨.vmem, 30, rfl⟩
abbrev cc5_stg0_0 : Ref sig .tc := ⟨.vmem, 31, rfl⟩
abbrev cc5_stg0_1 : Ref sig .tc := ⟨.vmem, 32, rfl⟩
abbrev cc5_stg1_0 : Ref sig .tc := ⟨.vmem, 33, rfl⟩
abbrev cc5_stg1_1 : Ref sig .tc := ⟨.vmem, 34, rfl⟩
abbrev cc5_stg2_0 : Ref sig .tc := ⟨.vmem, 35, rfl⟩
abbrev cc5_stg2_1 : Ref sig .tc := ⟨.vmem, 36, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc2_sem0_0 : DmaSem sig := 13
abbrev cc2_sem0_1 : DmaSem sig := 14
abbrev cc2_sem1_0 : DmaSem sig := 15
abbrev cc2_sem1_1 : DmaSem sig := 16
abbrev cc2_sem2_0 : DmaSem sig := 17
abbrev cc2_sem2_1 : DmaSem sig := 18
abbrev cc3_sem0_0 : DmaSem sig := 19
abbrev cc3_sem1_0 : DmaSem sig := 20
abbrev cc3_sem1_1 : DmaSem sig := 21
abbrev cc3_sem2_0 : DmaSem sig := 22
abbrev cc3_sem2_1 : DmaSem sig := 23
abbrev cc3_sem3_0 : DmaSem sig := 24
abbrev cc3_sem3_1 : DmaSem sig := 25
abbrev cc4_sem0_0 : DmaSem sig := 26
abbrev cc4_sem1_0 : DmaSem sig := 27
abbrev cc4_sem1_1 : DmaSem sig := 28
abbrev cc4_sem2_0 : DmaSem sig := 29
abbrev cc4_sem2_1 : DmaSem sig := 30
abbrev cc5_sem0_0 : DmaSem sig := 31
abbrev cc5_sem0_1 : DmaSem sig := 32
abbrev cc5_sem1_0 : DmaSem sig := 33
abbrev cc5_sem1_1 : DmaSem sig := 34
abbrev cc5_sem2_0 : DmaSem sig := 35
abbrev cc5_sem2_1 : DmaSem sig := 36

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4224x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1056x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x512x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1056x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S4224x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4224x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 16], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4224x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S1x256x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S4224x256 .bf16 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S4224x256 .bf16 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 3 → Nat :=
  let arg0 : BitVec 32 := BitVec.ofNat 32 (i 0).val
  let arg1 : BitVec 32 := BitVec.ofNat 32 (i 1).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage4_0 : Fin 1 → Memref sig .tc .vmem S4224x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4224x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1x1024x512 .bf16 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![4, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 2 → Memref sig .tc .vmem S1056x4096 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true, false]

abbrev stage5_1 : Fin 2 → Memref sig .tc .vmem S8x512x512 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1056x512 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]
-- ==== Reference2Ideal.lean ====
abbrev S4224x1024 : Shape := ⟨2, ![4224, 1024]⟩
abbrev S1024x4096 : Shape := ⟨2, ![1024, 4096]⟩
abbrev S4096x1024 : Shape := ⟨2, ![4096, 1024]⟩
abbrev S4224x4096 : Shape := ⟨2, ![4224, 4096]⟩
abbrev S_ : Shape := ⟨0, ![]⟩
abbrev S1024x8x512 : Shape := ⟨3, ![1024, 8, 512]⟩
abbrev S8x1024x512 : Shape := ⟨3, ![8, 1024, 512]⟩

abbrev nBuf : Space → Nat
  | .hbm => 32
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x4096, .f32⟩
  | .hbm, ⟨2, _⟩ => ⟨S4096x1024, .f32⟩
  | .hbm, ⟨3, _⟩ => ⟨S4224x1024, .f32⟩
  | .hbm, ⟨4, _⟩ => ⟨S4224x4096, .f32⟩
  | .hbm, ⟨5, _⟩ => ⟨S_, .f32⟩
  | .hbm, ⟨6, _⟩ => ⟨S4224x4096, .f32⟩
  | .hbm, ⟨7, _⟩ => ⟨S4224x4096, .f32⟩
  | .hbm, ⟨8, _⟩ => ⟨S_, .f32⟩
  | .hbm, ⟨9, _⟩ => ⟨S4224x4096, .f32⟩
  | .hbm, ⟨10, _⟩ => ⟨S4224x4096, .i1⟩
  | .hbm, ⟨11, _⟩ => ⟨S_, .f32⟩
  | .hbm, ⟨12, _⟩ => ⟨S4224x4096, .f32⟩
  | .hbm, ⟨13, _⟩ => ⟨S4224x4096, .f32⟩
  | .hbm, ⟨14, _⟩ => ⟨S_, .f32⟩
  | .hbm, ⟨15, _⟩ => ⟨S4224x4096, .f32⟩
  | .hbm, ⟨16, _⟩ => ⟨S4224x4096, .f32⟩
  | .hbm, ⟨17, _⟩ => ⟨S4224x1024, .f32⟩
  | .hbm, ⟨18, _⟩ => ⟨S1024x4096, .f32⟩
  | .hbm, ⟨19, _⟩ => ⟨S4096x1024, .f32⟩
  | .hbm, ⟨20, _⟩ => ⟨S4224x4096, .f32⟩
  | .hbm, ⟨21, _⟩ => ⟨S4224x4096, .f32⟩
  | .hbm, ⟨22, _⟩ => ⟨S_, .f32⟩
  | .hbm, ⟨23, _⟩ => ⟨S4224x4096, .f32⟩
  | .hbm, ⟨24, _⟩ => ⟨S4224x4096, .f32⟩
  | .hbm, ⟨25, _⟩ => ⟨S4096x1024, .f32⟩
  | .hbm, ⟨26, _⟩ => ⟨S1024x4096, .f32⟩
  | .hbm, ⟨27, _⟩ => ⟨S4224x1024, .f32⟩
  | .hbm, ⟨28, _⟩ => ⟨S1024x8x512, .f32⟩
  | .hbm, ⟨29, _⟩ => ⟨S8x1024x512, .f32⟩
  | .hbm, ⟨30, _⟩ => ⟨S8x1024x512, .bf16⟩
  | .hbm, ⟨31, _⟩ => ⟨S4096x1024, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_cst : Ref sig .tc := ⟨.hbm, 5, rfl⟩
abbrev main_call0_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩

abbrev nD : Nat := 1
abbrev τ : Topo := Topo.v7x

variable {F : FTy → Type} [FloatOps F]
-- ==== Kernel3.lean ====
abbrev S4224x1024 : Shape := ⟨2, ![4224, 1024]⟩
abbrev S1024x1280 : Shape := ⟨2, ![1024, 1280]⟩
abbrev S4224x1280 : Shape := ⟨2, ![4224, 1280]⟩
abbrev S1280x1024 : Shape := ⟨2, ![1280, 1024]⟩
abbrev S1024x256 : Shape := ⟨2, ![1024, 256]⟩
abbrev S4224x256 : Shape := ⟨2, ![4224, 256]⟩
abbrev S2112x1280 : Shape := ⟨2, ![2112, 1280]⟩
abbrev S1280x512 : Shape := ⟨2, ![1280, 512]⟩
abbrev S2112x512 : Shape := ⟨2, ![2112, 512]⟩
abbrev S4224x512 : Shape := ⟨2, ![4224, 512]⟩
abbrev S256x512 : Shape := ⟨2, ![256, 512]⟩
abbrev S256x1024 : Shape := ⟨2, ![256, 1024]⟩
abbrev S4224x640 : Shape := ⟨2, ![4224, 640]⟩
abbrev S1024x640 : Shape := ⟨2, ![1024, 640]⟩
abbrev S1056x1280 : Shape := ⟨2, ![1056, 1280]⟩
abbrev S512x1280 : Shape := ⟨2, ![512, 1280]⟩
abbrev S1056x512 : Shape := ⟨2, ![1056, 512]⟩

abbrev nBuf : Space → Nat
  | .hbm => 24
  | .vmem => 47
  | .smem => 0
  | _ => 0

abbrev bufTy : (tb : Table) → Fin (tcTables nBuf tb) → BufTy
  | .hbm, ⟨0, _⟩ => ⟨S4224x1024, .f32⟩
  | .hbm, ⟨1, _⟩ => ⟨S1024x1280, .f32⟩
  | .hbm, ⟨2, _⟩ => ⟨S1024x1280, .f32⟩
  | .hbm, ⟨3, _⟩ => ⟨S4224x1280, .f32⟩
  | .hbm, ⟨4, _⟩ => ⟨S1280x1024, .f32⟩
  | .hbm, ⟨5, _⟩ => ⟨S4224x1280, .f32⟩
  | .hbm, ⟨6, _⟩ => ⟨S4224x1280, .f32⟩
  | .hbm, ⟨7, _⟩ => ⟨S4224x1024, .f32⟩
  | .hbm, ⟨8, _⟩ => ⟨S4224x1024, .bf16⟩
  | .hbm, ⟨9, _⟩ => ⟨S1024x1280, .bf16⟩
  | .hbm, ⟨10, _⟩ => ⟨S1024x1280, .bf16⟩
  | .hbm, ⟨11, _⟩ => ⟨S4224x1280, .bf16⟩
  | .hbm, ⟨12, _⟩ => ⟨S1280x1024, .bf16⟩
  | .hbm, ⟨13, _⟩ => ⟨S4224x1280, .bf16⟩
  | .hbm, ⟨14, _⟩ => ⟨S4224x1280, .bf16⟩
  | .hbm, ⟨15, _⟩ => ⟨S4224x1024, .bf16⟩
  | .hbm, ⟨16, _⟩ => ⟨S4224x1280, .f32⟩
  | .hbm, ⟨17, _⟩ => ⟨S4224x1280, .f32⟩
  | .hbm, ⟨18, _⟩ => ⟨S4224x1024, .f32⟩
  | .hbm, ⟨19, _⟩ => ⟨S1280x1024, .f32⟩
  | .hbm, ⟨20, _⟩ => ⟨S4224x1280, .f32⟩
  | .hbm, ⟨21, _⟩ => ⟨S1024x1280, .f32⟩
  | .hbm, ⟨22, _⟩ => ⟨S1024x1280, .f32⟩
  | .hbm, ⟨23, _⟩ => ⟨S4224x1024, .f32⟩
  | .local _ .vmem, ⟨0, _⟩ => ⟨S4224x1024, .bf16⟩
  | .local _ .vmem, ⟨1, _⟩ => ⟨S1024x256, .bf16⟩
  | .local _ .vmem, ⟨2, _⟩ => ⟨S1024x256, .bf16⟩
  | .local _ .vmem, ⟨3, _⟩ => ⟨S4224x256, .f32⟩
  | .local _ .vmem, ⟨4, _⟩ => ⟨S4224x256, .f32⟩
  | .local _ .vmem, ⟨5, _⟩ => ⟨S4224x1024, .bf16⟩
  | .local _ .vmem, ⟨6, _⟩ => ⟨S1024x256, .bf16⟩
  | .local _ .vmem, ⟨7, _⟩ => ⟨S1024x256, .bf16⟩
  | .local _ .vmem, ⟨8, _⟩ => ⟨S4224x256, .f32⟩
  | .local _ .vmem, ⟨9, _⟩ => ⟨S4224x256, .f32⟩
  | .local _ .vmem, ⟨10, _⟩ => ⟨S2112x1280, .bf16⟩
  | .local _ .vmem, ⟨11, _⟩ => ⟨S2112x1280, .bf16⟩
  | .local _ .vmem, ⟨12, _⟩ => ⟨S1280x512, .bf16⟩
  | .local _ .vmem, ⟨13, _⟩ => ⟨S1280x512, .bf16⟩
  | .local _ .vmem, ⟨14, _⟩ => ⟨S2112x512, .f32⟩
  | .local _ .vmem, ⟨15, _⟩ => ⟨S2112x512, .f32⟩
  | .local _ .vmem, ⟨16, _⟩ => ⟨S4224x256, .bf16⟩
  | .local _ .vmem, ⟨17, _⟩ => ⟨S4224x256, .bf16⟩
  | .local _ .vmem, ⟨18, _⟩ => ⟨S4224x512, .bf16⟩
  | .local _ .vmem, ⟨19, _⟩ => ⟨S4224x512, .bf16⟩
  | .local _ .vmem, ⟨20, _⟩ => ⟨S256x512, .f32⟩
  | .local _ .vmem, ⟨21, _⟩ => ⟨S256x512, .f32⟩
  | .local _ .vmem, ⟨22, _⟩ => ⟨S4224x1024, .bf16⟩
  | .local _ .vmem, ⟨23, _⟩ => ⟨S256x1024, .bf16⟩
  | .local _ .vmem, ⟨24, _⟩ => ⟨S256x1024, .bf16⟩
  | .local _ .vmem, ⟨25, _⟩ => ⟨S4224x256, .f32⟩
  | .local _ .vmem, ⟨26, _⟩ => ⟨S4224x256, .f32⟩
  | .local _ .vmem, ⟨27, _⟩ => ⟨S4224x1024, .bf16⟩
  | .local _ .vmem, ⟨28, _⟩ => ⟨S4224x640, .bf16⟩
  | .local _ .vmem, ⟨29, _⟩ => ⟨S4224x640, .bf16⟩
  | .local _ .vmem, ⟨30, _⟩ => ⟨S1024x640, .f32⟩
  | .local _ .vmem, ⟨31, _⟩ => ⟨S1024x640, .f32⟩
  | .local _ .vmem, ⟨32, _⟩ => ⟨S4224x1024, .bf16⟩
  | .local _ .vmem, ⟨33, _⟩ => ⟨S4224x640, .bf16⟩
  | .local _ .vmem, ⟨34, _⟩ => ⟨S4224x640, .bf16⟩
  | .local _ .vmem, ⟨35, _⟩ => ⟨S1024x640, .f32⟩
  | .local _ .vmem, ⟨36, _⟩ => ⟨S1024x640, .f32⟩
  | .local _ .vmem, ⟨37, _⟩ => ⟨S1056x1280, .bf16⟩
  | .local _ .vmem, ⟨38, _⟩ => ⟨S1056x1280, .bf16⟩
  | .local _ .vmem, ⟨39, _⟩ => ⟨S512x1280, .bf16⟩
  | .local _ .vmem, ⟨40, _⟩ => ⟨S512x1280, .bf16⟩
  | .local _ .vmem, ⟨41, _⟩ => ⟨S1056x1280, .bf16⟩
  | .local _ .vmem, ⟨42, _⟩ => ⟨S1056x1280, .bf16⟩
  | .local _ .vmem, ⟨43, _⟩ => ⟨S512x1280, .bf16⟩
  | .local _ .vmem, ⟨44, _⟩ => ⟨S512x1280, .bf16⟩
  | .local _ .vmem, ⟨45, _⟩ => ⟨S1056x512, .f32⟩
  | .local _ .vmem, ⟨46, _⟩ => ⟨S1056x512, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg1_1 : Ref sig .tc := ⟨.vmem, 19, rfl⟩
abbrev cc3_stg2_0 : Ref sig .tc := ⟨.vmem, 20, rfl⟩
abbrev cc3_stg2_1 : Ref sig .tc := ⟨.vmem, 21, rfl⟩
abbrev cc4_stg0_0 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg1_0 : Ref sig .tc := ⟨.vmem, 28, rfl⟩
abbrev cc5_stg1_1 : Ref sig .tc := ⟨.vmem, 29, rfl⟩
abbrev cc5_stg2_0 : Ref sig .tc := ⟨.vmem, 30, rfl⟩
abbrev cc5_stg2_1 : Ref sig .tc := ⟨.vmem, 31, rfl⟩
abbrev cc6_stg0_0 : Ref sig .tc := ⟨.vmem, 32, rfl⟩
abbrev cc6_stg1_0 : Ref sig .tc := ⟨.vmem, 33, rfl⟩
abbrev cc6_stg1_1 : Ref sig .tc := ⟨.vmem, 34, rfl⟩
abbrev cc6_stg2_0 : Ref sig .tc := ⟨.vmem, 35, rfl⟩
abbrev cc6_stg2_1 : Ref sig .tc := ⟨.vmem, 36, rfl⟩
abbrev cc7_stg0_0 : Ref sig .tc := ⟨.vmem, 37, rfl⟩
abbrev cc7_stg0_1 : Ref sig .tc := ⟨.vmem, 38, rfl⟩
abbrev cc7_stg1_0 : Ref sig .tc := ⟨.vmem, 39, rfl⟩
abbrev cc7_stg1_1 : Ref sig .tc := ⟨.vmem, 40, rfl⟩
abbrev cc7_stg2_0 : Ref sig .tc := ⟨.vmem, 41, rfl⟩
abbrev cc7_stg2_1 : Ref sig .tc := ⟨.vmem, 42, rfl⟩
abbrev cc7_stg3_0 : Ref sig .tc := ⟨.vmem, 43, rfl⟩
abbrev cc7_stg3_1 : Ref sig .tc := ⟨.vmem, 44, rfl⟩
abbrev cc7_stg4_0 : Ref sig .tc := ⟨.vmem, 45, rfl⟩
abbrev cc7_stg4_1 : Ref sig .tc := ⟨.vmem, 46, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem1_1 : DmaSem sig := 19
abbrev cc3_sem2_0 : DmaSem sig := 20
abbrev cc3_sem2_1 : DmaSem sig := 21
abbrev cc4_sem0_0 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem1_0 : DmaSem sig := 28
abbrev cc5_sem1_1 : DmaSem sig := 29
abbrev cc5_sem2_0 : DmaSem sig := 30
abbrev cc5_sem2_1 : DmaSem sig := 31
abbrev cc6_sem0_0 : DmaSem sig := 32
abbrev cc6_sem1_0 : DmaSem sig := 33
abbrev cc6_sem1_1 : DmaSem sig := 34
abbrev cc6_sem2_0 : DmaSem sig := 35
abbrev cc6_sem2_1 : DmaSem sig := 36
abbrev cc7_sem0_0 : DmaSem sig := 37
abbrev cc7_sem0_1 : DmaSem sig := 38
abbrev cc7_sem1_0 : DmaSem sig := 39
abbrev cc7_sem1_1 : DmaSem sig := 40
abbrev cc7_sem2_0 : DmaSem sig := 41
abbrev cc7_sem2_1 : DmaSem sig := 42
abbrev cc7_sem3_0 : DmaSem sig := 43
abbrev cc7_sem3_1 : DmaSem sig := 44
abbrev cc7_sem4_0 : DmaSem sig := 45
abbrev cc7_sem4_1 : DmaSem sig := 46

abbrev nD : Nat := 1
abbrev τ : Topo := Topo.v7x

variable {F : FTy → Type} [FloatOps F]

abbrev grid0 : Pipeline.Grid := ⟨2, ![1, 5], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4224x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4224x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 5], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4224x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S1024x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4224x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![2, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S2112x1280 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1280x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S2112x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![5, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S4224x256 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4224x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S256x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 5], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4224x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S256x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S4224x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 2], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4224x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S4224x640 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S1024x640 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 2], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4224x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4224x640 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S1024x640 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![4, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc7_transform_4 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 2 → Memref sig .tc .vmem S1056x1280 .bf16 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true, false]

abbrev stage7_1 : Fin 2 → Memref sig .tc .vmem S512x1280 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S1056x1280 .bf16 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, false]

abbrev stage7_3 : Fin 2 → Memref sig .tc .vmem S512x1280 .bf16 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![false, true]

abbrev stage7_4 : Fin 2 → Memref sig .tc .vmem S1056x512 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true, true]
-- ==== Reference3Ideal.lean ====
abbrev S4224x1024 : Shape := ⟨2, ![4224, 1024]⟩
abbrev S1024x1280 : Shape := ⟨2, ![1024, 1280]⟩
abbrev S4224x1280 : Shape := ⟨2, ![4224, 1280]⟩
abbrev S1280x1024 : Shape := ⟨2, ![1280, 1024]⟩

abbrev nBuf : Space → Nat
  | .hbm => 21
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x1280, .f32⟩
  | .hbm, ⟨2, _⟩ => ⟨S1024x1280, .f32⟩
  | .hbm, ⟨3, _⟩ => ⟨S4224x1280, .f32⟩
  | .hbm, ⟨4, _⟩ => ⟨S1280x1024, .f32⟩
  | .hbm, ⟨5, _⟩ => ⟨S4224x1280, .f32⟩
  | .hbm, ⟨6, _⟩ => ⟨S4224x1280, .f32⟩
  | .hbm, ⟨7, _⟩ => ⟨S4224x1024, .f32⟩
  | .hbm, ⟨8, _⟩ => ⟨S4224x1280, .f32⟩
  | .hbm, ⟨9, _⟩ => ⟨S4224x1280, .f32⟩
  | .hbm, ⟨10, _⟩ => ⟨S4224x1024, .f32⟩
  | .hbm, ⟨11, _⟩ => ⟨S1024x1280, .f32⟩
  | .hbm, ⟨12, _⟩ => ⟨S1280x1024, .f32⟩
  | .hbm, ⟨13, _⟩ => ⟨S4224x1280, .f32⟩
  | .hbm, ⟨14, _⟩ => ⟨S1280x1024, .f32⟩
  | .hbm, ⟨15, _⟩ => ⟨S1024x1280, .f32⟩
  | .hbm, ⟨16, _⟩ => ⟨S4224x1024, .f32⟩
  | .hbm, ⟨17, _⟩ => ⟨S1280x1024, .f32⟩
  | .hbm, ⟨18, _⟩ => ⟨S1024x1280, .f32⟩
  | .hbm, ⟨19, _⟩ => ⟨S4224x1024, .f32⟩
  | .hbm, ⟨20, _⟩ => ⟨S4224x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩

abbrev nD : Nat := 1
abbrev τ : Topo := Topo.v7x

variable {F : FTy → Type} [FloatOps F]
-- ==== Kernel4.lean ====
abbrev S4224x1024 : Shape := ⟨2, ![4224, 1024]⟩
abbrev S2048x1024 : Shape := ⟨2, ![2048, 1024]⟩
abbrev S4224x384 : Shape := ⟨2, ![4224, 384]⟩
abbrev S384x2048 : Shape := ⟨2, ![384, 2048]⟩
abbrev S4224x2048 : Shape := ⟨2, ![4224, 2048]⟩
abbrev S4224x256 : Shape := ⟨2, ![4224, 256]⟩
abbrev S256x3072 : Shape := ⟨2, ![256, 3072]⟩
abbrev S384x256 : Shape := ⟨2, ![384, 256]⟩
abbrev S4224x3072 : Shape := ⟨2, ![4224, 3072]⟩
abbrev S256x256 : Shape := ⟨2, ![256, 256]⟩
abbrev S1056x1024 : Shape := ⟨2, ![1056, 1024]⟩
abbrev S1024x512 : Shape := ⟨2, ![1024, 512]⟩
abbrev S1056x512 : Shape := ⟨2, ![1056, 512]⟩
abbrev S1024x1024 : Shape := ⟨2, ![1024, 1024]⟩
abbrev S4224x512 : Shape := ⟨2, ![4224, 512]⟩
abbrev S256x1024 : Shape := ⟨2, ![256, 1024]⟩
abbrev S256x2048 : Shape := ⟨2, ![256, 2048]⟩
abbrev S256x512 : Shape := ⟨2, ![256, 512]⟩
abbrev S384x512 : Shape := ⟨2, ![384, 512]⟩
abbrev S1056x2048 : Shape := ⟨2, ![1056, 2048]⟩
abbrev S1056x384 : Shape := ⟨2, ![1056, 384]⟩

abbrev nBuf : Space → Nat
  | .hbm => 31
  | .vmem => 55
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S2048x1024, .f32⟩
  | .hbm, ⟨3, _⟩ => ⟨S4224x1024, .f32⟩
  | .hbm, ⟨4, _⟩ => ⟨S4224x384, .f32⟩
  | .hbm, ⟨5, _⟩ => ⟨S384x2048, .f32⟩
  | .hbm, ⟨6, _⟩ => ⟨S4224x2048, .f32⟩
  | .hbm, ⟨7, _⟩ => ⟨S4224x256, .f32⟩
  | .hbm, ⟨8, _⟩ => ⟨S256x3072, .f32⟩
  | .hbm, ⟨9, _⟩ => ⟨S4224x2048, .f32⟩
  | .hbm, ⟨10, _⟩ => ⟨S4224x1024, .f32⟩
  | .hbm, ⟨11, _⟩ => ⟨S4224x1024, .bf16⟩
  | .hbm, ⟨12, _⟩ => ⟨S4224x1024, .bf16⟩
  | .hbm, ⟨13, _⟩ => ⟨S2048x1024, .bf16⟩
  | .hbm, ⟨14, _⟩ => ⟨S4224x1024, .bf16⟩
  | .hbm, ⟨15, _⟩ => ⟨S4224x384, .bf16⟩
  | .hbm, ⟨16, _⟩ => ⟨S384x2048, .bf16⟩
  | .hbm, ⟨17, _⟩ => ⟨S4224x2048, .bf16⟩
  | .hbm, ⟨18, _⟩ => ⟨S4224x256, .bf16⟩
  | .hbm, ⟨19, _⟩ => ⟨S256x3072, .bf16⟩
  | .hbm, ⟨20, _⟩ => ⟨S4224x1024, .bf16⟩
  | .hbm, ⟨21, _⟩ => ⟨S4224x2048, .f32⟩
  | .hbm, ⟨22, _⟩ => ⟨S4224x3072, .f32⟩
  | .hbm, ⟨23, _⟩ => ⟨S4224x1024, .f32⟩
  | .hbm, ⟨24, _⟩ => ⟨S1024x1024, .f32⟩
  | .hbm, ⟨25, _⟩ => ⟨S1024x1024, .f32⟩
  | .hbm, ⟨26, _⟩ => ⟨S4224x2048, .f32⟩
  | .hbm, ⟨27, _⟩ => ⟨S256x2048, .f32⟩
  | .hbm, ⟨28, _⟩ => ⟨S256x1024, .f32⟩
  | .hbm, ⟨29, _⟩ => ⟨S384x2048, .f32⟩
  | .hbm, ⟨30, _⟩ => ⟨S4224x384, .f32⟩
  | .local _ .vmem, ⟨0, _⟩ => ⟨S4224x384, .bf16⟩
  | .local _ .vmem, ⟨1, _⟩ => ⟨S384x256, .bf16⟩
  | .local _ .vmem, ⟨2, _⟩ => ⟨S384x256, .bf16⟩
  | .local _ .vmem, ⟨3, _⟩ => ⟨S4224x256, .f32⟩
  | .local _ .vmem, ⟨4, _⟩ => ⟨S4224x256, .f32⟩
  | .local _ .vmem, ⟨5, _⟩ => ⟨S4224x256, .bf16⟩
  | .local _ .vmem, ⟨6, _⟩ => ⟨S256x256, .bf16⟩
  | .local _ .vmem, ⟨7, _⟩ => ⟨S256x256, .bf16⟩
  | .local _ .vmem, ⟨8, _⟩ => ⟨S4224x256, .f32⟩
  | .local _ .vmem, ⟨9, _⟩ => ⟨S4224x256, .f32⟩
  | .local _ .vmem, ⟨10, _⟩ => ⟨S1056x1024, .bf16⟩
  | .local _ .vmem, ⟨11, _⟩ => ⟨S1056x1024, .bf16⟩
  | .local _ .vmem, ⟨12, _⟩ => ⟨S1024x512, .bf16⟩
  | .local _ .vmem, ⟨13, _⟩ => ⟨S1024x512, .bf16⟩
  | .local _ .vmem, ⟨14, _⟩ => ⟨S1056x1024, .bf16⟩
  | .local _ .vmem, ⟨15, _⟩ => ⟨S1056x1024, .bf16⟩
  | .local _ .vmem, ⟨16, _⟩ => ⟨S1024x512, .bf16⟩
  | .local _ .vmem, ⟨17, _⟩ => ⟨S1024x512, .bf16⟩
  | .local _ .vmem, ⟨18, _⟩ => ⟨S1056x512, .f32⟩
  | .local _ .vmem, ⟨19, _⟩ => ⟨S1056x512, .f32⟩
  | .local _ .vmem, ⟨20, _⟩ => ⟨S4224x1024, .bf16⟩
  | .local _ .vmem, ⟨21, _⟩ => ⟨S4224x512, .bf16⟩
  | .local _ .vmem, ⟨22, _⟩ => ⟨S4224x512, .bf16⟩
  | .local _ .vmem, ⟨23, _⟩ => ⟨S1024x512, .f32⟩
  | .local _ .vmem, ⟨24, _⟩ => ⟨S1024x512, .f32⟩
  | .local _ .vmem, ⟨25, _⟩ => ⟨S4224x1024, .bf16⟩
  | .local _ .vmem, ⟨26, _⟩ => ⟨S4224x512, .bf16⟩
  | .local _ .vmem, ⟨27, _⟩ => ⟨S4224x512, .bf16⟩
  | .local _ .vmem, ⟨28, _⟩ => ⟨S1024x512, .f32⟩
  | .local _ .vmem, ⟨29, _⟩ => ⟨S1024x512, .f32⟩
  | .local _ .vmem, ⟨30, _⟩ => ⟨S4224x1024, .bf16⟩
  | .local _ .vmem, ⟨31, _⟩ => ⟨S256x1024, .bf16⟩
  | .local _ .vmem, ⟨32, _⟩ => ⟨S256x1024, .bf16⟩
  | .local _ .vmem, ⟨33, _⟩ => ⟨S4224x256, .f32⟩
  | .local _ .vmem, ⟨34, _⟩ => ⟨S4224x256, .f32⟩
  | .local _ .vmem, ⟨35, _⟩ => ⟨S4224x256, .bf16⟩
  | .local _ .vmem, ⟨36, _⟩ => ⟨S4224x512, .f32⟩
  | .local _ .vmem, ⟨37, _⟩ => ⟨S4224x512, .f32⟩
  | .local _ .vmem, ⟨38, _⟩ => ⟨S256x512, .f32⟩
  | .local _ .vmem, ⟨39, _⟩ => ⟨S256x512, .f32⟩
  | .local _ .vmem, ⟨40, _⟩ => ⟨S4224x256, .bf16⟩
  | .local _ .vmem, ⟨41, _⟩ => ⟨S4224x512, .bf16⟩
  | .local _ .vmem, ⟨42, _⟩ => ⟨S4224x512, .bf16⟩
  | .local _ .vmem, ⟨43, _⟩ => ⟨S256x512, .f32⟩
  | .local _ .vmem, ⟨44, _⟩ => ⟨S256x512, .f32⟩
  | .local _ .vmem, ⟨45, _⟩ => ⟨S4224x384, .bf16⟩
  | .local _ .vmem, ⟨46, _⟩ => ⟨S4224x512, .bf16⟩
  | .local _ .vmem, ⟨47, _⟩ => ⟨S4224x512, .bf16⟩
  | .local _ .vmem, ⟨48, _⟩ => ⟨S384x512, .f32⟩
  | .local _ .vmem, ⟨49, _⟩ => ⟨S384x512, .f32⟩
  | .local _ .vmem, ⟨50, _⟩ => ⟨S1056x2048, .bf16⟩
  | .local _ .vmem, ⟨51, _⟩ => ⟨S1056x2048, .bf16⟩
  | .local _ .vmem, ⟨52, _⟩ => ⟨S384x2048, .bf16⟩
  | .local _ .vmem, ⟨53, _⟩ => ⟨S1056x384, .f32⟩
  | .local _ .vmem, ⟨54, _⟩ => ⟨S1056x384, .f32⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | _, _ => false

abbrev semScoped : Fin 0 → Bool
  | ⟨_, h⟩ => absurd h (Nat.not_lt_zero _)

abbrev dmaSemScoped : Fin 55 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | _ => false

abbrev sig : RefSig :=
  ofTc nBuf bufTy 0 55 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc2_stg3_0 : Ref sig .tc := ⟨.vmem, 16, rfl⟩
abbrev cc2_stg3_1 : Ref sig .tc := ⟨.vmem, 17, rfl⟩
abbrev cc2_stg4_0 : Ref sig .tc := ⟨.vmem, 18, rfl⟩
abbrev cc2_stg4_1 : Ref sig .tc := ⟨.vmem, 19, rfl⟩
abbrev cc3_stg0_0 : Ref sig .tc := ⟨.vmem, 20, rfl⟩
abbrev cc3_stg1_0 : Ref sig .tc := ⟨.vmem, 21, rfl⟩
abbrev cc3_stg1_1 : Ref sig .tc := ⟨.vmem, 22, rfl⟩
abbrev cc3_stg2_0 : Ref sig .tc := ⟨.vmem, 23, rfl⟩
abbrev cc3_stg2_1 : Ref sig .tc := ⟨.vmem, 24, rfl⟩
abbrev cc4_stg0_0 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc5_stg0_0 : Ref sig .tc := ⟨.vmem, 30, rfl⟩
abbrev cc5_stg1_0 : Ref sig .tc := ⟨.vmem, 31, rfl⟩
abbrev cc5_stg1_1 : Ref sig .tc := ⟨.vmem, 32, rfl⟩
abbrev cc5_stg2_0 : Ref sig .tc := ⟨.vmem, 33, rfl⟩
abbrev cc5_stg2_1 : Ref sig .tc := ⟨.vmem, 34, rfl⟩
abbrev cc6_stg0_0 : Ref sig .tc := ⟨.vmem, 35, rfl⟩
abbrev cc6_stg1_0 : Ref sig .tc := ⟨.vmem, 36, rfl⟩
abbrev cc6_stg1_1 : Ref sig .tc := ⟨.vmem, 37, rfl⟩
abbrev cc6_stg2_0 : Ref sig .tc := ⟨.vmem, 38, rfl⟩
abbrev cc6_stg2_1 : Ref sig .tc := ⟨.vmem, 39, rfl⟩
abbrev cc7_stg0_0 : Ref sig .tc := ⟨.vmem, 40, rfl⟩
abbrev cc7_stg1_0 : Ref sig .tc := ⟨.vmem, 41, rfl⟩
abbrev cc7_stg1_1 : Ref sig .tc := ⟨.vmem, 42, rfl⟩
abbrev cc7_stg2_0 : Ref sig .tc := ⟨.vmem, 43, rfl⟩
abbrev cc7_stg2_1 : Ref sig .tc := ⟨.vmem, 44, rfl⟩
abbrev cc8_stg0_0 : Ref sig .tc := ⟨.vmem, 45, rfl⟩
abbrev cc8_stg1_0 : Ref sig .tc := ⟨.vmem, 46, rfl⟩
abbrev cc8_stg1_1 : Ref sig .tc := ⟨.vmem, 47, rfl⟩
abbrev cc8_stg2_0 : Ref sig .tc := ⟨.vmem, 48, rfl⟩
abbrev cc8_stg2_1 : Ref sig .tc := ⟨.vmem, 49, rfl⟩
abbrev cc9_stg0_0 : Ref sig .tc := ⟨.vmem, 50, rfl⟩
abbrev cc9_stg0_1 : Ref sig .tc := ⟨.vmem, 51, rfl⟩
abbrev cc9_stg1_0 : Ref sig .tc := ⟨.vmem, 52, rfl⟩
abbrev cc9_stg2_0 : Ref sig .tc := ⟨.vmem, 53, rfl⟩
abbrev cc9_stg2_1 : Ref sig .tc := ⟨.vmem, 54, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc1_sem0_0 : DmaSem sig := 5
abbrev cc1_sem1_0 : DmaSem sig := 6
abbrev cc1_sem1_1 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14
abbrev cc2_sem2_1 : DmaSem sig := 15
abbrev cc2_sem3_0 : DmaSem sig := 16
abbrev cc2_sem3_1 : DmaSem sig := 17
abbrev cc2_sem4_0 : DmaSem sig := 18
abbrev cc2_sem4_1 : DmaSem sig := 19
abbrev cc3_sem0_0 : DmaSem sig := 20
abbrev cc3_sem1_0 : DmaSem sig := 21
abbrev cc3_sem1_1 : DmaSem sig := 22
abbrev cc3_sem2_0 : DmaSem sig := 23
abbrev cc3_sem2_1 : DmaSem sig := 24
abbrev cc4_sem0_0 : DmaSem sig := 25
abbrev cc4_sem1_0 : DmaSem sig := 26
abbrev cc4_sem1_1 : DmaSem sig := 27
abbrev cc4_sem2_0 : DmaSem sig := 28
abbrev cc4_sem2_1 : DmaSem sig := 29
abbrev cc5_sem0_0 : DmaSem sig := 30
abbrev cc5_sem1_0 : DmaSem sig := 31
abbrev cc5_sem1_1 : DmaSem sig := 32
abbrev cc5_sem2_0 : DmaSem sig := 33
abbrev cc5_sem2_1 : DmaSem sig := 34
abbrev cc6_sem0_0 : DmaSem sig := 35
abbrev cc6_sem1_0 : DmaSem sig := 36
abbrev cc6_sem1_1 : DmaSem sig := 37
abbrev cc6_sem2_0 : DmaSem sig := 38
abbrev cc6_sem2_1 : DmaSem sig := 39
abbrev cc7_sem0_0 : DmaSem sig := 40
abbrev cc7_sem1_0 : DmaSem sig := 41
abbrev cc7_sem1_1 : DmaSem sig := 42
abbrev cc7_sem2_0 : DmaSem sig := 43
abbrev cc7_sem2_1 : DmaSem sig := 44
abbrev cc8_sem0_0 : DmaSem sig := 45
abbrev cc8_sem1_0 : DmaSem sig := 46
abbrev cc8_sem1_1 : DmaSem sig := 47
abbrev cc8_sem2_0 : DmaSem sig := 48
abbrev cc8_sem2_1 : DmaSem sig := 49
abbrev cc9_sem0_0 : DmaSem sig := 50
abbrev cc9_sem0_1 : DmaSem sig := 51
abbrev cc9_sem1_0 : DmaSem sig := 52
abbrev cc9_sem2_0 : DmaSem sig := 53
abbrev cc9_sem2_1 : DmaSem sig := 54

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S4224x384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4224x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 12], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4224x256 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S256x256 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S4224x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![4, 2], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1056x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1056x1024 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S1024x512 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1056x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev grid3 : Pipeline.Grid := ⟨2, ![1, 2], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4224x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 2 → Memref sig .tc .vmem S4224x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S1024x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev grid4 : Pipeline.Grid := ⟨2, ![1, 2], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4224x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 2 → Memref sig .tc .vmem S4224x512 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![false, true]

abbrev stage4_2 : Fin 2 → Memref sig .tc .vmem S1024x512 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true, true]

abbrev grid5 : Pipeline.Grid := ⟨2, ![1, 8], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4224x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 2 → Memref sig .tc .vmem S256x1024 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![false, true]

abbrev stage5_2 : Fin 2 → Memref sig .tc .vmem S4224x256 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true, true]

abbrev grid6 : Pipeline.Grid := ⟨2, ![1, 4], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4224x256 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 2 → Memref sig .tc .vmem S4224x512 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![false, true]

abbrev stage6_2 : Fin 2 → Memref sig .tc .vmem S256x512 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true, true]

abbrev grid7 : Pipeline.Grid := ⟨2, ![1, 2], ![false, false]⟩

def cc7_transform_0 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc7_transform_1 (i : grid7.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc7_transform_2 (i : grid7.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage7_0 : Fin 1 → Memref sig .tc .vmem S4224x256 .bf16 := fun | 0 => Memref.whole cc7_stg0_0 | ⟨_ + 1, h⟩ => absurd h (Nat.not_lt.2 (Nat.le_add_left _ _))
abbrev sem7_0 : Fin 1 → DmaSem sig := fun | 0 => cc7_sem0_0 | ⟨_ + 1, h⟩ => absurd h (Nat.not_lt.2 (Nat.le_add_left _ _))
abbrev reads7_0 : Fin grid7.rank → Bool := ![true, false]

abbrev stage7_1 : Fin 2 → Memref sig .tc .vmem S4224x512 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![false, true]

abbrev stage7_2 : Fin 2 → Memref sig .tc .vmem S256x512 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true, true]

abbrev grid8 : Pipeline.Grid := ⟨2, ![1, 4], ![false, false]⟩

def cc8_transform_0 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc8_transform_1 (i : grid8.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc8_transform_2 (i : grid8.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage8_0 : Fin 1 → Memref sig .tc .vmem S4224x384 .bf16 := fun | 0 => Memref.whole cc8_stg0_0 | ⟨_ + 1, h⟩ => absurd h (Nat.not_lt.2 (Nat.le_add_left _ _))
abbrev sem8_0 : Fin 1 → DmaSem sig := fun | 0 => cc8_sem0_0 | ⟨_ + 1, h⟩ => absurd h (Nat.not_lt.2 (Nat.le_add_left _ _))
abbrev reads8_0 : Fin grid8.rank → Bool := ![true, false]

abbrev stage8_1 : Fin 2 → Memref sig .tc .vmem S4224x512 .bf16 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![false, true]

abbrev stage8_2 : Fin 2 → Memref sig .tc .vmem S384x512 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true, true]

abbrev grid9 : Pipeline.Grid := ⟨2, ![4, 1], ![false, false]⟩

def cc9_transform_0 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc9_transform_2 (i : grid9.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage9_0 : Fin 2 → Memref sig .tc .vmem S1056x2048 .bf16 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true, false]

abbrev stage9_1 : Fin 1 → Memref sig .tc .vmem S384x2048 .bf16 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false, true]

abbrev stage9_2 : Fin 2 → Memref sig .tc .vmem S1056x384 .f32 := fun | 0 => Memref.whole cc9_stg2_0 | 1 => Memref.whole cc9_stg2_1 | ⟨_ + 2, h⟩ => absurd h (Nat.not_lt.2 (Nat.le_add_left _ _))
abbrev sem9_2 : Fin 2 → DmaSem sig := fun | 0 => cc9_sem2_0 | 1 => cc9_sem2_1 | ⟨_ + 2, h⟩ => absurd h (Nat.not_lt.2 (Nat.le_add_left _ _))
abbrev reads9_2 : Fin grid9.rank → Bool := ![true, true]
-- ==== Reference4Ideal.lean ====
abbrev S4224x1024 : Shape := ⟨2, ![4224, 1024]⟩
abbrev S2048x1024 : Shape := ⟨2, ![2048, 1024]⟩
abbrev S4224x384 : Shape := ⟨2, ![4224, 384]⟩
abbrev S384x2048 : Shape := ⟨2, ![384, 2048]⟩
abbrev S4224x2048 : Shape := ⟨2, ![4224, 2048]⟩
abbrev S4224x256 : Shape := ⟨2, ![4224, 256]⟩
abbrev S256x3072 : Shape := ⟨2, ![256, 3072]⟩
abbrev S4224x3072 : Shape := ⟨2, ![4224, 3072]⟩
abbrev S1024x2048 : Shape := ⟨2, ![1024, 2048]⟩
abbrev S3072x256 : Shape := ⟨2, ![3072, 256]⟩
abbrev S2048x384 : Shape := ⟨2, ![2048, 384]⟩
abbrev S1024x1024 : Shape := ⟨2, ![1024, 1024]⟩
abbrev S256x2048 : Shape := ⟨2, ![256, 2048]⟩
abbrev S256x1024 : Shape := ⟨2, ![256, 1024]⟩

abbrev nBuf : Space → Nat
  | .hbm => 31
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S4224x1024, .f32⟩
  | .hbm, ⟨2, _⟩ => ⟨S2048x1024, .f32⟩
  | .hbm, ⟨3, _⟩ => ⟨S4224x1024, .f32⟩
  | .hbm, ⟨4, _⟩ => ⟨S4224x384, .f32⟩
  | .hbm, ⟨5, _⟩ => ⟨S384x2048, .f32⟩
  | .hbm, ⟨6, _⟩ => ⟨S4224x2048, .f32⟩
  | .hbm, ⟨7, _⟩ => ⟨S4224x256, .f32⟩
  | .hbm, ⟨8, _⟩ => ⟨S256x3072, .f32⟩
  | .hbm, ⟨9, _⟩ => ⟨S4224x2048, .f32⟩
  | .hbm, ⟨10, _⟩ => ⟨S4224x1024, .f32⟩
  | .hbm, ⟨11, _⟩ => ⟨S4224x2048, .f32⟩
  | .hbm, ⟨12, _⟩ => ⟨S4224x3072, .f32⟩
  | .hbm, ⟨13, _⟩ => ⟨S4224x2048, .f32⟩
  | .hbm, ⟨14, _⟩ => ⟨S4224x1024, .f32⟩
  | .hbm, ⟨15, _⟩ => ⟨S4224x3072, .f32⟩
  | .hbm, ⟨16, _⟩ => ⟨S1024x2048, .f32⟩
  | .hbm, ⟨17, _⟩ => ⟨S2048x1024, .f32⟩
  | .hbm, ⟨18, _⟩ => ⟨S4224x2048, .f32⟩
  | .hbm, ⟨19, _⟩ => ⟨S4224x1024, .f32⟩
  | .hbm, ⟨20, _⟩ => ⟨S4224x1024, .f32⟩
  | .hbm, ⟨21, _⟩ => ⟨S3072x256, .f32⟩
  | .hbm, ⟨22, _⟩ => ⟨S256x3072, .f32⟩
  | .hbm, ⟨23, _⟩ => ⟨S2048x384, .f32⟩
  | .hbm, ⟨24, _⟩ => ⟨S384x2048, .f32⟩
  | .hbm, ⟨25, _⟩ => ⟨S4224x384, .f32⟩
  | .hbm, ⟨26, _⟩ => ⟨S1024x1024, .f32⟩
  | .hbm, ⟨27, _⟩ => ⟨S1024x1024, .f32⟩
  | .hbm, ⟨28, _⟩ => ⟨S4224x2048, .f32⟩
  | .hbm, ⟨29, _⟩ => ⟨S256x2048, .f32⟩
  | .hbm, ⟨30, _⟩ => ⟨S256x1024, .f32⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩

abbrev nD : Nat := 1
abbrev τ : Topo := Topo.v7x

variable {F : FTy → Type} [FloatOps F]
-- ==== Kernel5.lean ====
abbrev S4224x1024 : Shape := ⟨2, ![4224, 1024]⟩
abbrev S1024x3456 : Shape := ⟨2, ![1024, 3456]⟩
abbrev S4224x1536 : Shape := ⟨2, ![4224, 1536]⟩
abbrev S4224x256 : Shape := ⟨2, ![4224, 256]⟩
abbrev S4224x128 : Shape := ⟨2, ![4224, 128]⟩
abbrev S4224x384 : Shape := ⟨2, ![4224, 384]⟩
abbrev S4224x3456 : Shape := ⟨2, ![4224, 3456]⟩
abbrev S2112x1024 : Shape := ⟨2, ![2112, 1024]⟩
abbrev S1024x384 : Shape := ⟨2, ![1024, 384]⟩
abbrev S2112x384 : Shape := ⟨2, ![2112, 384]⟩
abbrev S1024x1024 : Shape := ⟨2, ![1024, 1024]⟩
abbrev S4224x512 : Shape := ⟨2, ![4224, 512]⟩
abbrev S1024x512 : Shape := ⟨2, ![1024, 512]⟩
abbrev S1024x1536 : Shape := ⟨2, ![1024, 1536]⟩
abbrev S1024x256 : Shape := ⟨2, ![1024, 256]⟩
abbrev S1024x128 : Shape := ⟨2, ![1024, 128]⟩

abbrev nBuf : Space → Nat
  | .hbm => 21
  | .vmem => 28
  | .smem => 0
  | _ => 0

abbrev bufTy : (tb : Table) → Fin (tcTables nBuf tb) → BufTy
  | .hbm, ⟨0, _⟩ => ⟨S4224x1024, .f32⟩
  | .hbm, ⟨1, _⟩ => ⟨S1024x3456, .f32⟩
  | .hbm, ⟨2, _⟩ => ⟨S4224x1024, .f32⟩
  | .hbm, ⟨3, _⟩ => ⟨S4224x1536, .f32⟩
  | .hbm, ⟨4, _⟩ => ⟨S4224x256, .f32⟩
  | .hbm, ⟨5, _⟩ => ⟨S4224x128, .f32⟩
  | .hbm, ⟨6, _⟩ => ⟨S4224x128, .f32⟩
  | .hbm, ⟨7, _⟩ => ⟨S4224x384, .f32⟩
  | .hbm, ⟨8, _⟩ => ⟨S4224x1024, .bf16⟩
  | .hbm, ⟨9, _⟩ => ⟨S1024x3456, .bf16⟩
  | .hbm, ⟨10, _⟩ => ⟨S4224x1024, .bf16⟩
  | .hbm, ⟨11, _⟩ => ⟨S4224x1536, .bf16⟩
  | .hbm, ⟨12, _⟩ => ⟨S4224x256, .bf16⟩
  | .hbm, ⟨13, _⟩ => ⟨S4224x384, .bf16⟩
  | .hbm, ⟨14, _⟩ => ⟨S4224x3456, .f32⟩
  | .hbm, ⟨15, _⟩ => ⟨S1024x1024, .bf16⟩
  | .hbm, ⟨16, _⟩ => ⟨S1024x1536, .bf16⟩
  | .hbm, ⟨17, _⟩ => ⟨S1024x256, .bf16⟩
  | .hbm, ⟨18, _⟩ => ⟨S1024x128, .bf16⟩
  | .hbm, ⟨19, _⟩ => ⟨S1024x128, .bf16⟩
  | .hbm, ⟨20, _⟩ => ⟨S1024x384, .bf16⟩
  | .local _ .vmem, ⟨0, _⟩ => ⟨S2112x1024, .bf16⟩
  | .local _ .vmem, ⟨1, _⟩ => ⟨S2112x1024, .bf16⟩
  | .local _ .vmem, ⟨2, _⟩ => ⟨S1024x384, .bf16⟩
  | .local _ .vmem, ⟨3, _⟩ => ⟨S1024x384, .bf16⟩
  | .local _ .vmem, ⟨4, _⟩ => ⟨S2112x384, .f32⟩
  | .local _ .vmem, ⟨5, _⟩ => ⟨S2112x384, .f32⟩
  | .local _ .vmem, ⟨6, _⟩ => ⟨S4224x1024, .bf16⟩
  | .local _ .vmem, ⟨7, _⟩ => ⟨S4224x512, .bf16⟩
  | .local _ .vmem, ⟨8, _⟩ => ⟨S4224x512, .bf16⟩
  | .local _ .vmem, ⟨9, _⟩ => ⟨S1024x512, .bf16⟩
  | .local _ .vmem, ⟨10, _⟩ => ⟨S1024x512, .bf16⟩
  | .local _ .vmem, ⟨11, _⟩ => ⟨S4224x1024, .bf16⟩
  | .local _ .vmem, ⟨12, _⟩ => ⟨S4224x512, .bf16⟩
  | .local _ .vmem, ⟨13, _⟩ => ⟨S4224x512, .bf16⟩
  | .local _ .vmem, ⟨14, _⟩ => ⟨S1024x512, .bf16⟩
  | .local _ .vmem, ⟨15, _⟩ => ⟨S1024x512, .bf16⟩
  | .local _ .vmem, ⟨16, _⟩ => ⟨S4224x1024, .bf16⟩
  | .local _ .vmem, ⟨17, _⟩ => ⟨S4224x256, .bf16⟩
  | .local _ .vmem, ⟨18, _⟩ => ⟨S1024x256, .bf16⟩
  | .local _ .vmem, ⟨19, _⟩ => ⟨S4224x1024, .bf16⟩
  | .local _ .vmem, ⟨20, _⟩ => ⟨S4224x128, .f32⟩
  | .local _ .vmem, ⟨21, _⟩ => ⟨S1024x128, .bf16⟩
  | .local _ .vmem, ⟨22, _⟩ => ⟨S4224x1024, .bf16⟩
  | .local _ .vmem, ⟨23, _⟩ => ⟨S4224x128, .f32⟩
  | .local _ .vmem, ⟨24, _⟩ => ⟨S1024x128, .bf16⟩
  | .local _ .vmem, ⟨25, _⟩ => ⟨S4224x1024, .bf16⟩
  | .local _ .vmem, ⟨26, _⟩ => ⟨S4224x384, .bf16⟩
  | .local _ .vmem, ⟨27, _⟩ => ⟨S1024x384, .bf16⟩
  | _, _ => ⟨S4224x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg1_0 : Ref sig .tc := ⟨.vmem, 12, rfl⟩
abbrev cc2_stg1_1 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg1_0 : Ref sig .tc := ⟨.vmem, 17, rfl⟩
abbrev cc3_stg2_0 : Ref sig .tc := ⟨.vmem, 18, rfl⟩
abbrev cc4_stg0_0 : Ref sig .tc := ⟨.vmem, 19, rfl⟩
abbrev cc4_stg1_0 : Ref sig .tc := ⟨.vmem, 20, rfl⟩
abbrev cc4_stg2_0 : Ref sig .tc := ⟨.vmem, 21, rfl⟩
abbrev cc5_stg0_0 : Ref sig .tc := ⟨.vmem, 22, rfl⟩
abbrev cc5_stg1_0 : Ref sig .tc := ⟨.vmem, 23, rfl⟩
abbrev cc5_stg2_0 : Ref sig .tc := ⟨.vmem, 24, rfl⟩
abbrev cc6_stg0_0 : Ref sig .tc := ⟨.vmem, 25, rfl⟩
abbrev cc6_stg1_0 : Ref sig .tc := ⟨.vmem, 26, rfl⟩
abbrev cc6_stg2_0 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem1_0 : DmaSem sig := 12
abbrev cc2_sem1_1 : DmaSem sig := 13
abbrev cc2_sem2_0 : DmaSem sig := 14
abbrev cc2_sem2_1 : DmaSem sig := 15
abbrev cc3_sem0_0 : DmaSem sig := 16
abbrev cc3_sem1_0 : DmaSem sig := 17
abbrev cc3_sem2_0 : DmaSem sig := 18
abbrev cc4_sem0_0 : DmaSem sig := 19
abbrev cc4_sem1_0 : DmaSem sig := 20
abbrev cc4_sem2_0 : DmaSem sig := 21
abbrev cc5_sem0_0 : DmaSem sig := 22
abbrev cc5_sem1_0 : DmaSem sig := 23
abbrev cc5_sem2_0 : DmaSem sig := 24
abbrev cc6_sem0_0 : DmaSem sig := 25
abbrev cc6_sem1_0 : DmaSem sig := 26
abbrev cc6_sem2_0 : DmaSem sig := 27

abbrev nD : Nat := 1
abbrev τ : Topo := Topo.v7x

variable {F : FTy → Type} [FloatOps F]

abbrev grid0 : Pipeline.Grid := ⟨2, ![2, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2112x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x384 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2112x384 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![1, 2], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 1 → Memref sig .tc .vmem S4224x1024 .bf16 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![true, false]

abbrev stage1_1 : Fin 2 → Memref sig .tc .vmem S4224x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x512 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![1, 3], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 1 → Memref sig .tc .vmem S4224x1024 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![true, false]

abbrev stage2_1 : Fin 2 → Memref sig .tc .vmem S4224x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S1024x512 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![1, 1], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 1 → Memref sig .tc .vmem S4224x1024 .bf16 := fun | 0 => Memref.whole cc3_stg0_0 | ⟨_ + 1, h⟩ => absurd h (Nat.not_lt.2 (Nat.le_add_left _ _))
abbrev sem3_0 : Fin 1 → DmaSem sig := fun | 0 => cc3_sem0_0 | ⟨_ + 1, h⟩ => absurd h (Nat.not_lt.2 (Nat.le_add_left _ _))
abbrev reads3_0 : Fin grid3.rank → Bool := ![true, false]

abbrev stage3_1 : Fin 1 → Memref sig .tc .vmem S4224x256 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false, true]

abbrev stage3_2 : Fin 1 → Memref sig .tc .vmem S1024x256 .bf16 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, true]

abbrev grid4 : Pipeline.Grid := ⟨2, ![1, 1], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage4_0 : Fin 1 → Memref sig .tc .vmem S4224x1024 .bf16 := fun | 0 => Memref.whole cc4_stg0_0 | ⟨_ + 1, h⟩ => absurd h (Nat.not_lt.2 (Nat.le_add_left _ _))
abbrev sem4_0 : Fin 1 → DmaSem sig := fun | 0 => cc4_sem0_0 | ⟨_ + 1, h⟩ => absurd h (Nat.not_lt.2 (Nat.le_add_left _ _))
abbrev reads4_0 : Fin grid4.rank → Bool := ![true, false]

abbrev stage4_1 : Fin 1 → Memref sig .tc .vmem S4224x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false, true]

abbrev stage4_2 : Fin 1 → Memref sig .tc .vmem S1024x128 .bf16 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, true]

abbrev grid5 : Pipeline.Grid := ⟨2, ![1, 1], ![false, false]⟩

def cc5_transform_0 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc5_transform_1 (i : grid5.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc5_transform_2 (i : grid5.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage5_0 : Fin 1 → Memref sig .tc .vmem S4224x1024 .bf16 := fun | 0 => Memref.whole cc5_stg0_0 | ⟨_ + 1, h⟩ => absurd h (Nat.not_lt.2 (Nat.le_add_left _ _))
abbrev sem5_0 : Fin 1 → DmaSem sig := fun | 0 => cc5_sem0_0 | ⟨_ + 1, h⟩ => absurd h (Nat.not_lt.2 (Nat.le_add_left _ _))
abbrev reads5_0 : Fin grid5.rank → Bool := ![true, false]

abbrev stage5_1 : Fin 1 → Memref sig .tc .vmem S4224x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false, true]

abbrev stage5_2 : Fin 1 → Memref sig .tc .vmem S1024x128 .bf16 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![true, true]

abbrev grid6 : Pipeline.Grid := ⟨2, ![1, 1], ![false, false]⟩

def cc6_transform_0 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc6_transform_1 (i : grid6.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc6_transform_2 (i : grid6.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage6_0 : Fin 1 → Memref sig .tc .vmem S4224x1024 .bf16 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![true, false]

abbrev stage6_1 : Fin 1 → Memref sig .tc .vmem S4224x384 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false, true]

abbrev stage6_2 : Fin 1 → Memref sig .tc .vmem S1024x384 .bf16 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![true, true]
-- ==== Reference5Ideal.lean ====
abbrev S4224x1024 : Shape := ⟨2, ![4224, 1024]⟩
abbrev S1024x3456 : Shape := ⟨2, ![1024, 3456]⟩
abbrev S4224x1536 : Shape := ⟨2, ![4224, 1536]⟩
abbrev S4224x256 : Shape := ⟨2, ![4224, 256]⟩
abbrev S4224x128 : Shape := ⟨2, ![4224, 128]⟩
abbrev S4224x384 : Shape := ⟨2, ![4224, 384]⟩
abbrev S4224x3456 : Shape := ⟨2, ![4224, 3456]⟩
abbrev S3456x1024 : Shape := ⟨2, ![3456, 1024]⟩
abbrev S1024x1024 : Shape := ⟨2, ![1024, 1024]⟩
abbrev S1024x1536 : Shape := ⟨2, ![1024, 1536]⟩
abbrev S1024x256 : Shape := ⟨2, ![1024, 256]⟩
abbrev S1024x128 : Shape := ⟨2, ![1024, 128]⟩
abbrev S1024x384 : Shape := ⟨2, ![1024, 384]⟩

abbrev nBuf : Space → Nat
  | .hbm => 24
  | .vmem => 0
  | .smem => 0
  | _ => 0

abbrev bufTy : (tb : Table) → Fin (tcTables nBuf tb) → BufTy
  | .hbm, ⟨0, _⟩ => ⟨S4224x1024, .f32⟩
  | .hbm, ⟨1, _⟩ => ⟨S1024x3456, .f32⟩
  | .hbm, ⟨2, _⟩ => ⟨S4224x1024, .f32⟩
  | .hbm, ⟨3, _⟩ => ⟨S4224x1536, .f32⟩
  | .hbm, ⟨4, _⟩ => ⟨S4224x256, .f32⟩
  | .hbm, ⟨5, _⟩ => ⟨S4224x128, .f32⟩
  | .hbm, ⟨6, _⟩ => ⟨S4224x128, .f32⟩
  | .hbm, ⟨7, _⟩ => ⟨S4224x384, .f32⟩
  | .hbm, ⟨8, _⟩ => ⟨S4224x3456, .f32⟩
  | .hbm, ⟨9, _⟩ => ⟨S4224x3456, .f32⟩
  | .hbm, ⟨10, _⟩ => ⟨S3456x1024, .f32⟩
  | .hbm, ⟨11, _⟩ => ⟨S1024x3456, .f32⟩
  | .hbm, ⟨12, _⟩ => ⟨S1024x1024, .f32⟩
  | .hbm, ⟨13, _⟩ => ⟨S1024x1536, .f32⟩
  | .hbm, ⟨14, _⟩ => ⟨S1024x256, .f32⟩
  | .hbm, ⟨15, _⟩ => ⟨S1024x128, .f32⟩
  | .hbm, ⟨16, _⟩ => ⟨S1024x128, .f32⟩
  | .hbm, ⟨17, _⟩ => ⟨S1024x384, .f32⟩
  | .hbm, ⟨18, _⟩ => ⟨S1024x1024, .bf16⟩
  | .hbm, ⟨19, _⟩ => ⟨S1024x1536, .bf16⟩
  | .hbm, ⟨20, _⟩ => ⟨S1024x256, .bf16⟩
  | .hbm, ⟨21, _⟩ => ⟨S1024x128, .bf16⟩
  | .hbm, ⟨22, _⟩ => ⟨S1024x128, .bf16⟩
  | .hbm, ⟨23, _⟩ => ⟨S1024x384, .bf16⟩
  | _, _ => ⟨S4224x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩

abbrev nD : Nat := 1
abbrev τ : Topo := Topo.v7x

variable {F : FTy → Type} [FloatOps F]
-- ==== Kernel6.lean ====
abbrev S1024x3456 : Shape := ⟨2, ![1024, 3456]⟩
abbrev S4224x1024 : Shape := ⟨2, ![4224, 1024]⟩
abbrev S4224x1536 : Shape := ⟨2, ![4224, 1536]⟩
abbrev S4224x256 : Shape := ⟨2, ![4224, 256]⟩
abbrev S4224x128 : Shape := ⟨2, ![4224, 128]⟩
abbrev S4224x384 : Shape := ⟨2, ![4224, 384]⟩
abbrev S1056x1024 : Shape := ⟨2, ![1056, 1024]⟩
abbrev S512x1024 : Shape := ⟨2, ![512, 1024]⟩
abbrev S1056x512 : Shape := ⟨2, ![1056, 512]⟩
abbrev S512x512 : Shape := ⟨2, ![512, 512]⟩
abbrev S1056x256 : Shape := ⟨2, ![1056, 256]⟩
abbrev S512x256 : Shape := ⟨2, ![512, 256]⟩
abbrev S1056x128 : Shape := ⟨2, ![1056, 128]⟩
abbrev S512x128 : Shape := ⟨2, ![512, 128]⟩
abbrev S1056x384 : Shape := ⟨2, ![1056, 384]⟩
abbrev S512x384 : Shape := ⟨2, ![512, 384]⟩

abbrev nBuf : Space → Nat
  | .hbm => 13
  | .vmem => 34
  | .smem => 0
  | _ => 0

abbrev bufTy : (tb : Table) → Fin (tcTables nBuf tb) → BufTy
  | .hbm, ⟨0, _⟩ => ⟨S1024x3456, .f32⟩
  | .hbm, ⟨1, _⟩ => ⟨S4224x1024, .f32⟩
  | .hbm, ⟨2, _⟩ => ⟨S4224x1536, .f32⟩
  | .hbm, ⟨3, _⟩ => ⟨S4224x256, .f32⟩
  | .hbm, ⟨4, _⟩ => ⟨S4224x128, .f32⟩
  | .hbm, ⟨5, _⟩ => ⟨S4224x128, .f32⟩
  | .hbm, ⟨6, _⟩ => ⟨S4224x384, .f32⟩
  | .hbm, ⟨7, _⟩ => ⟨S1024x3456, .bf16⟩
  | .hbm, ⟨8, _⟩ => ⟨S4224x1024, .bf16⟩
  | .hbm, ⟨9, _⟩ => ⟨S4224x1536, .bf16⟩
  | .hbm, ⟨10, _⟩ => ⟨S4224x256, .bf16⟩
  | .hbm, ⟨11, _⟩ => ⟨S4224x384, .bf16⟩
  | .hbm, ⟨12, _⟩ => ⟨S4224x1024, .f32⟩
  | .local _ .vmem, ⟨0, _⟩ => ⟨S1056x1024, .bf16⟩
  | .local _ .vmem, ⟨1, _⟩ => ⟨S1056x1024, .bf16⟩
  | .local _ .vmem, ⟨2, _⟩ => ⟨S512x1024, .bf16⟩
  | .local _ .vmem, ⟨3, _⟩ => ⟨S512x1024, .bf16⟩
  | .local _ .vmem, ⟨4, _⟩ => ⟨S1056x512, .bf16⟩
  | .local _ .vmem, ⟨5, _⟩ => ⟨S1056x512, .bf16⟩
  | .local _ .vmem, ⟨6, _⟩ => ⟨S512x512, .bf16⟩
  | .local _ .vmem, ⟨7, _⟩ => ⟨S512x512, .bf16⟩
  | .local _ .vmem, ⟨8, _⟩ => ⟨S1056x512, .bf16⟩
  | .local _ .vmem, ⟨9, _⟩ => ⟨S1056x512, .bf16⟩
  | .local _ .vmem, ⟨10, _⟩ => ⟨S512x512, .bf16⟩
  | .local _ .vmem, ⟨11, _⟩ => ⟨S512x512, .bf16⟩
  | .local _ .vmem, ⟨12, _⟩ => ⟨S1056x512, .bf16⟩
  | .local _ .vmem, ⟨13, _⟩ => ⟨S1056x512, .bf16⟩
  | .local _ .vmem, ⟨14, _⟩ => ⟨S512x512, .bf16⟩
  | .local _ .vmem, ⟨15, _⟩ => ⟨S512x512, .bf16⟩
  | .local _ .vmem, ⟨16, _⟩ => ⟨S1056x256, .bf16⟩
  | .local _ .vmem, ⟨17, _⟩ => ⟨S1056x256, .bf16⟩
  | .local _ .vmem, ⟨18, _⟩ => ⟨S512x256, .bf16⟩
  | .local _ .vmem, ⟨19, _⟩ => ⟨S512x256, .bf16⟩
  | .local _ .vmem, ⟨20, _⟩ => ⟨S1056x128, .f32⟩
  | .local _ .vmem, ⟨21, _⟩ => ⟨S1056x128, .f32⟩
  | .local _ .vmem, ⟨22, _⟩ => ⟨S512x128, .bf16⟩
  | .local _ .vmem, ⟨23, _⟩ => ⟨S512x128, .bf16⟩
  | .local _ .vmem, ⟨24, _⟩ => ⟨S1056x128, .f32⟩
  | .local _ .vmem, ⟨25, _⟩ => ⟨S1056x128, .f32⟩
  | .local _ .vmem, ⟨26, _⟩ => ⟨S512x128, .bf16⟩
  | .local _ .vmem, ⟨27, _⟩ => ⟨S512x128, .bf16⟩
  | .local _ .vmem, ⟨28, _⟩ => ⟨S1056x384, .bf16⟩
  | .local _ .vmem, ⟨29, _⟩ => ⟨S1056x384, .bf16⟩
  | .local _ .vmem, ⟨30, _⟩ => ⟨S512x384, .bf16⟩
  | .local _ .vmem, ⟨31, _⟩ => ⟨S512x384, .bf16⟩
  | .local _ .vmem, ⟨32, _⟩ => ⟨S1056x512, .f32⟩
  | .local _ .vmem, ⟨33, _⟩ => ⟨S1056x512, .f32⟩
  | _, _ => ⟨S1024x3456, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_stg15_1 : Ref sig .tc := ⟨.vmem, 31, rfl⟩
abbrev cc0_stg16_0 : Ref sig .tc := ⟨.vmem, 32, rfl⟩
abbrev cc0_stg16_1 : Ref sig .tc := ⟨.vmem, 33, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30
abbrev cc0_sem15_1 : DmaSem sig := 31
abbrev cc0_sem16_0 : DmaSem sig := 32
abbrev cc0_sem16_1 : DmaSem sig := 33

abbrev nD : Nat := 1
abbrev τ : Topo := Topo.v7x

variable {F : FTy → Type} [FloatOps F]

abbrev grid0 : Pipeline.Grid := ⟨2, ![4, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![arg0.toNat, c1_i32.toNat]

def cc0_transform_5 (i : grid0.Coords) : Fin 2 → Nat :=
  let arg0 : BitVec 32 := BitVec.ofNat 32 (i 0).val
  let arg1 : BitVec 32 := BitVec.ofNat 32 (i 1).val
  let c3_i32 : BitVec 32 := 3#32
  let c0_i32 : BitVec 32 := 0#32
  ![arg1.toNat, c3_i32.toNat]

def cc0_transform_6 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg0.toNat, c2_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let c0_i32 : BitVec 32 := 0#32
  ![arg1.toNat, c4_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let arg1 : BitVec 32 := BitVec.ofNat 32 (i 1).val
  let c10_i32 : BitVec 32 := 10#32
  let c0_i32 : BitVec 32 := 0#32
  ![arg1.toNat, c10_i32.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let arg1 : BitVec 32 := BitVec.ofNat 32 (i 1).val
  let c22_i32 : BitVec 32 := 22#32
  let c0_i32 : BitVec 32 := 0#32
  ![arg1.toNat, c22_i32.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let arg1 : BitVec 32 := BitVec.ofNat 32 (i 1).val
  let c23_i32 : BitVec 32 := 23#32
  let c0_i32 : BitVec 32 := 0#32
  ![arg1.toNat, c23_i32.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let arg1 : BitVec 32 := BitVec.ofNat 32 (i 1).val
  let c8_i32 : BitVec 32 := 8#32
  let c0_i32 : BitVec 32 := 0#32
  ![arg1.toNat, c8_i32.toNat]

def cc0_transform_16 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1056x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1056x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1056x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S512x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1056x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S512x256 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![false, true]

abbrev stage0_10 : Fin 2 → Memref sig .tc .vmem S1056x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S512x128 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![false, true]

abbrev stage0_12 : Fin 2 → Memref sig .tc .vmem S1056x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]

abbrev stage0_13 : Fin 2 → Memref sig .tc .vmem S512x128 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![false, true]

abbrev stage0_14 : Fin 2 → Memref sig .tc .vmem S1056x384 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, false]

abbrev stage0_15 : Fin 2 → Memref sig .tc .vmem S512x384 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![false, true]

abbrev stage0_16 : Fin 2 → Memref sig .tc .vmem S1056x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]
-- ==== Reference6Ideal.lean ====
abbrev S1024x3456 : Shape := ⟨2, ![1024, 3456]⟩
abbrev S4224x1024 : Shape := ⟨2, ![4224, 1024]⟩
abbrev S4224x1536 : Shape := ⟨2, ![4224, 1536]⟩
abbrev S4224x256 : Shape := ⟨2, ![4224, 256]⟩
abbrev S4224x128 : Shape := ⟨2, ![4224, 128]⟩
abbrev S4224x384 : Shape := ⟨2, ![4224, 384]⟩
abbrev S4224x3456 : Shape := ⟨2, ![4224, 3456]⟩

abbrev nBuf : Space → Nat
  | .hbm => 9
  | .vmem => 0
  | .smem => 0
  | _ => 0

abbrev bufTy : (tb : Table) → Fin (tcTables nBuf tb) → BufTy
  | .hbm, ⟨0, _⟩ => ⟨S1024x3456, .f32⟩
  | .hbm, ⟨1, _⟩ => ⟨S4224x1024, .f32⟩
  | .hbm, ⟨2, _⟩ => ⟨S4224x1536, .f32⟩
  | .hbm, ⟨3, _⟩ => ⟨S4224x256, .f32⟩
  | .hbm, ⟨4, _⟩ => ⟨S4224x128, .f32⟩
  | .hbm, ⟨5, _⟩ => ⟨S4224x128, .f32⟩
  | .hbm, ⟨6, _⟩ => ⟨S4224x384, .f32⟩
  | .hbm, ⟨7, _⟩ => ⟨S4224x3456, .f32⟩
  | .hbm, ⟨8, _⟩ => ⟨S4224x1024, .f32⟩
  | _, _ => ⟨S1024x3456, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩

abbrev nD : Nat := 1
abbrev τ : Topo := Topo.v7x

variable {F : FTy → Type} [FloatOps F]
-- ==== Kernel7.lean ====
abbrev S256x3072 : Shape := ⟨2, ![256, 3072]⟩
abbrev S4224x2048 : Shape := ⟨2, ![4224, 2048]⟩
abbrev S4224x1024 : Shape := ⟨2, ![4224, 1024]⟩
abbrev S4224x256 : Shape := ⟨2, ![4224, 256]⟩
abbrev S1056x2048 : Shape := ⟨2, ![1056, 2048]⟩
abbrev S256x2048 : Shape := ⟨2, ![256, 2048]⟩
abbrev S1056x1024 : Shape := ⟨2, ![1056, 1024]⟩
abbrev S256x1024 : Shape := ⟨2, ![256, 1024]⟩
abbrev S1056x256 : Shape := ⟨2, ![1056, 256]⟩

abbrev nBuf : Space → Nat
  | .hbm => 6
  | .vmem => 8
  | .smem => 0
  | _ => 0

abbrev bufTy : (tb : Table) → Fin (tcTables nBuf tb) → BufTy
  | .hbm, ⟨0, _⟩ => ⟨S256x3072, .f32⟩
  | .hbm, ⟨1, _⟩ => ⟨S4224x2048, .f32⟩
  | .hbm, ⟨2, _⟩ => ⟨S4224x1024, .f32⟩
  | .hbm, ⟨3, _⟩ => ⟨S256x3072, .bf16⟩
  | .hbm, ⟨4, _⟩ => ⟨S4224x1024, .bf16⟩
  | .hbm, ⟨5, _⟩ => ⟨S4224x256, .f32⟩
  | .local _ .vmem, ⟨0, _⟩ => ⟨S1056x2048, .f32⟩
  | .local _ .vmem, ⟨1, _⟩ => ⟨S1056x2048, .f32⟩
  | .local _ .vmem, ⟨2, _⟩ => ⟨S256x2048, .bf16⟩
  | .local _ .vmem, ⟨3, _⟩ => ⟨S1056x1024, .bf16⟩
  | .local _ .vmem, ⟨4, _⟩ => ⟨S1056x1024, .bf16⟩
  | .local _ .vmem, ⟨5, _⟩ => ⟨S256x1024, .bf16⟩
  | .local _ .vmem, ⟨6, _⟩ => ⟨S1056x256, .f32⟩
  | .local _ .vmem, ⟨7, _⟩ => ⟨S1056x256, .f32⟩
  | _, _ => ⟨S256x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c2_i32 : BitVec 32 := 2#32
  let c0_i32 : BitVec 32 := 0#32
  ![arg1.toNat, c2_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1056x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S256x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true]

abbrev stage0_2 : Fin 2 → Memref sig .tc .vmem S1056x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S256x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, true]

abbrev stage0_4 : Fin 2 → Memref sig .tc .vmem S1056x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference7Ideal.lean ====
abbrev S256x3072 : Shape := ⟨2, ![256, 3072]⟩
abbrev S4224x2048 : Shape := ⟨2, ![4224, 2048]⟩
abbrev S4224x1024 : Shape := ⟨2, ![4224, 1024]⟩
abbrev S4224x3072 : Shape := ⟨2, ![4224, 3072]⟩
abbrev S4224x256 : Shape := ⟨2, ![4224, 256]⟩

abbrev nBuf : Space → Nat
  | .hbm => 5
  | .vmem => 0
  | .smem => 0
  | _ => 0

abbrev bufTy : (tb : Table) → Fin (tcTables nBuf tb) → BufTy
  | .hbm, ⟨0, _⟩ => ⟨S256x3072, .f32⟩
  | .hbm, ⟨1, _⟩ => ⟨S4224x2048, .f32⟩
  | .hbm, ⟨2, _⟩ => ⟨S4224x1024, .f32⟩
  | .hbm, ⟨3, _⟩ => ⟨S4224x3072, .f32⟩
  | .hbm, ⟨4, _⟩ => ⟨S4224x256, .f32⟩
  | _, _ => ⟨S256x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩

abbrev nD : Nat := 1
abbrev τ : Topo := Topo.v7x

variable {F : FTy → Type} [FloatOps F]
-- ==== Kernel8.lean ====
abbrev S4224x2048 : Shape := ⟨2, ![4224, 2048]⟩
abbrev S4224x1024 : Shape := ⟨2, ![4224, 1024]⟩
abbrev S_ : Shape := ⟨0, ![]⟩
abbrev S384x512 : Shape := ⟨2, ![384, 512]⟩
abbrev S4224x512 : Shape := ⟨2, ![4224, 512]⟩
abbrev S4224x256 : Shape := ⟨2, ![4224, 256]⟩
abbrev S384x256 : Shape := ⟨2, ![384, 256]⟩
abbrev S384x128 : Shape := ⟨2, ![384, 128]⟩
abbrev S384x1 : Shape := ⟨2, ![384, 1]⟩
abbrev S384x384 : Shape := ⟨2, ![384, 384]⟩
abbrev S384 : Shape := ⟨1, ![384]⟩
abbrev S4112x1024 : Shape := ⟨2, ![4112, 1024]⟩

abbrev nBuf : Space → Nat
  | .hbm => 13
  | .vmem => 10
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x1024, .f32⟩
  | .hbm, ⟨3, _⟩ => ⟨S_, .f32⟩
  | .hbm, ⟨4, _⟩ => ⟨S_, .f32⟩
  | .hbm, ⟨5, _⟩ => ⟨S4224x2048, .f32⟩
  | .hbm, ⟨6, _⟩ => ⟨S4224x2048, .f32⟩
  | .hbm, ⟨7, _⟩ => ⟨S4224x2048, .bf16⟩
  | .hbm, ⟨8, _⟩ => ⟨S4224x2048, .bf16⟩
  | .hbm, ⟨9, _⟩ => ⟨S4224x1024, .bf16⟩
  | .hbm, ⟨10, _⟩ => ⟨S4224x1024, .bf16⟩
  | .hbm, ⟨11, _⟩ => ⟨S4224x1024, .f32⟩
  | .hbm, ⟨12, _⟩ => ⟨S4112x1024, .bf16⟩
  | .local _ .vmem, ⟨0, _⟩ => ⟨S384x512, .bf16⟩
  | .local _ .vmem, ⟨1, _⟩ => ⟨S384x512, .bf16⟩
  | .local _ .vmem, ⟨2, _⟩ => ⟨S4224x512, .bf16⟩
  | .local _ .vmem, ⟨3, _⟩ => ⟨S4224x512, .bf16⟩
  | .local _ .vmem, ⟨4, _⟩ => ⟨S4224x256, .bf16⟩
  | .local _ .vmem, ⟨5, _⟩ => ⟨S4224x256, .bf16⟩
  | .local _ .vmem, ⟨6, _⟩ => ⟨S384x256, .bf16⟩
  | .local _ .vmem, ⟨7, _⟩ => ⟨S384x256, .bf16⟩
  | .local _ .vmem, ⟨8, _⟩ => ⟨S384x256, .f32⟩
  | .local _ .vmem, ⟨9, _⟩ => ⟨S384x256, .f32⟩
  | _, _ => ⟨S4224x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6_0 : Ref sig .tc := ⟨.hbm, 10, rfl⟩
abbrev main_v6_1 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 11], ![false, false]⟩

@[reducible] def k0_t1_loop (i : grid0.Coords) : Scf.Loop 32 :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_45 : BitVec 32 := 1#32
  ⟨c1_i32, v138, c1_i32_45⟩
def k0_mult1 (i : grid0.Coords) (k0_t1 : Fin (k0_t1_loop i).trips) : BitVec 32 :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  v181
def k0_off1 (i : grid0.Coords) (k0_t1 : Fin (k0_t1_loop i).trips) : Fin 2 → Nat :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  let v182 : BitVec 32 := v181
  let v185 : Index := Scalar.indexCast v182
  let c0_62 : Index := 0#32
  ![v185.toNat, 0]
def k0_off2 (i : grid0.Coords) (k0_t1 : Fin (k0_t1_loop i).trips) : Fin 2 → Nat :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  let v182 : BitVec 32 := v181
  let v191 : Index := Scalar.indexCast v182
  let c128_66 : Index := 128#32
  ![v191.toNat, 128]
def k0_off3 (i : grid0.Coords) (k0_t1 : Fin (k0_t1_loop i).trips) : Fin 2 → Nat :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  let v182 : BitVec 32 := v181
  let v197 : Index := Scalar.indexCast v182
  let c256_70 : Index := 256#32
  ![v197.toNat, 256]
def k0_off4 (i : grid0.Coords) (k0_t1 : Fin (k0_t1_loop i).trips) : Fin 2 → Nat :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  let v182 : BitVec 32 := v181
  let v203 : Index := Scalar.indexCast v182
  let c384_74 : Index := 384#32
  ![v203.toNat, 384]
def k0_off5 (i : grid0.Coords) (k0_t1 : Fin (k0_t1_loop i).trips) : Fin 2 → Nat :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  let v182 : BitVec 32 := v181
  let v255 : Index := Scalar.indexCast v182
  let c0_84 : Index := 0#32
  ![v255.toNat, 0]
def k0_off6 (i : grid0.Coords) (k0_t1 : Fin (k0_t1_loop i).trips) : Fin 2 → Nat :=
  let c1_i32 : BitVec 32 := 1#32
  let c1_i32_45 : BitVec 32 := 1#32
  let arg7 : BitVec 32 := Scf.iv c1_i32 c1_i32_45 k0_t1
  let c384_i32_59 : BitVec 32 := 384#32
  let v181 : BitVec 32 := Scalar.muli arg7 c384_i32_59
  let v182 : BitVec 32 := v181
  let v274 : Index := Scalar.indexCast v182
  let c128_89 : Index := 128#32
  ![v274.toNat, 128]
@[reducible] def k0_t2_loop (i : grid0.Coords) : Scf.Loop 32 :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let v135 : BitVec 32 := Scalar.addi c1_i32 v134
  let c1_i32_46 : BitVec 32 := 1#32
  ⟨v138, v135, c1_i32_46⟩
def k0_mult2 (i : grid0.Coords) (k0_t2 : Fin (k0_t2_loop i).trips) : BitVec 32 :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  v181
def k0_off7 (i : grid0.Coords) (k0_t2 : Fin (k0_t2_loop i).trips) : Fin 2 → Nat :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  let v182 : BitVec 32 := v181
  let v185 : Index := Scalar.indexCast v182
  let c0_62 : Index := 0#32
  ![v185.toNat, 0]
def k0_off8 (i : grid0.Coords) (k0_t2 : Fin (k0_t2_loop i).trips) : Fin 2 → Nat :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  let v182 : BitVec 32 := v181
  let v191 : Index := Scalar.indexCast v182
  let c128_66 : Index := 128#32
  ![v191.toNat, 128]
def k0_off9 (i : grid0.Coords) (k0_t2 : Fin (k0_t2_loop i).trips) : Fin 2 → Nat :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  let v182 : BitVec 32 := v181
  let v197 : Index := Scalar.indexCast v182
  let c256_70 : Index := 256#32
  ![v197.toNat, 256]
def k0_off10 (i : grid0.Coords) (k0_t2 : Fin (k0_t2_loop i).trips) : Fin 2 → Nat :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  let v182 : BitVec 32 := v181
  let v203 : Index := Scalar.indexCast v182
  let c384_74 : Index := 384#32
  ![v203.toNat, 384]
def k0_off11 (i : grid0.Coords) (k0_t2 : Fin (k0_t2_loop i).trips) : Fin 2 → Nat :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  let v182 : BitVec 32 := v181
  let v255 : Index := Scalar.indexCast v182
  let c0_84 : Index := 0#32
  ![v255.toNat, 0]
def k0_off12 (i : grid0.Coords) (k0_t2 : Fin (k0_t2_loop i).trips) : Fin 2 → Nat :=
  let c1_i32 : BitVec 32 := 1#32
  let arg1 : BitVec 32 := BitVec.ofNat 32 (i 1).val
  let v134 : BitVec 32 := Scalar.subi arg1 c1_i32
  let c1_i32_44 : BitVec 32 := 1#32
  let v136 : BitVec 32 := Scalar.divsi v134 c1_i32_44
  let v137 : BitVec 32 := Scalar.muli v136 c1_i32_44
  let v138 : BitVec 32 := Scalar.addi c1_i32 v137
  let c1_i32_46 : BitVec 32 := 1#32
  let arg7 : BitVec 32 := Scf.iv v138 c1_i32_46 k0_t2
  let c384_i32_59 : BitVec 32 := 384#32
  let v181 : BitVec 32 := Scalar.muli arg7 c384_i32_59
  let v182 : BitVec 32 := v181
  let v274 : Index := Scalar.indexCast v182
  let c128_89 : Index := 128#32
  ![v274.toNat, 128]
def k0_cond1 (i : grid0.Coords) : BitVec 1 :=
  let arg1 : BitVec 32 := BitVec.ofNat 32 (i 1).val
  let c0_i32_47 : BitVec 32 := 0#32
  let v141 : BitVec 1 := Scalar.cmpi .sgt arg1 c0_i32_47
  let v142 : BitVec 32 := Scalar.extui v141
  let c0_i32_48 : BitVec 32 := 0#32
  let v143 : BitVec 1 := Scalar.cmpi .ne v142 c0_i32_48
  v143

def k0_mult3 (i : grid0.Coords) : BitVec 32 :=
  let arg1 : BitVec 32 := BitVec.ofNat 32 (i 1).val
  let c384_i32_59 : BitVec 32 := 384#32
  let v181 : BitVec 32 := Scalar.muli arg1 c384_i32_59
  v181
def k0_off13 (i : grid0.Coords) : Fin 2 → Nat :=
  let arg1 : BitVec 32 := BitVec.ofNat 32 (i 1).val
  let c384_i32_59 : BitVec 32 := 384#32
  let v181 : BitVec 32 := Scalar.muli arg1 c384_i32_59
  let v182 : BitVec 32 := v181
  let v185 : Index := Scalar.indexCast v182
  let c0_62 : Index := 0#32
  ![v185.toNat, 0]
def k0_off14 (i : grid0.Coords) : Fin 2 → Nat :=
  let arg1 : BitVec 32 := BitVec.ofNat 32 (i 1).val
  let c384_i32_59 : BitVec 32 := 384#32
  let v181 : BitVec 32 := Scalar.muli arg1 c384_i32_59
  let v182 : BitVec 32 := v181
  let v191 : Index := Scalar.indexCast v182
  let c128_66 : Index := 128#32
  ![v191.toNat, 128]
def k0_off15 (i : grid0.Coords) : Fin 2 → Nat :=
  let arg1 : BitVec 32 := BitVec.ofNat 32 (i 1).val
  let c384_i32_59 : BitVec 32 := 384#32
  let v181 : BitVec 32 := Scalar.muli arg1 c384_i32_59
  let v182 : BitVec 32 := v181
  let v197 : Index := Scalar.indexCast v182
  let c256_70 : Index := 256#32
  ![v197.toNat, 256]
def k0_off16 (i : grid0.Coords) : Fin 2 → Nat :=
  let arg1 : BitVec 32 := BitVec.ofNat 32 (i 1).val
  let c384_i32_59 : BitVec 32 := 384#32
  let v181 : BitVec 32 := Scalar.muli arg1 c384_i32_59
  let v182 : BitVec 32 := v181
  let v203 : Index := Scalar.indexCast v182
  let c384_74 : Index := 384#32
  ![v203.toNat, 384]
def k0_off17 (i : grid0.Coords) : Fin 2 → Nat :=
  let arg1 : BitVec 32 := BitVec.ofNat 32 (i 1).val
  let c384_i32_59 : BitVec 32 := 384#32
  let v181 : BitVec 32 := Scalar.muli arg1 c384_i32_59
  let v182 : BitVec 32 := v181
  let v275 : Index := Scalar.indexCast v182
  let c0_91 : Index := 0#32
  ![v275.toNat, 0]
def k0_off18 (i : grid0.Coords) : Fin 2 → Nat :=
  let arg1 : BitVec 32 := BitVec.ofNat 32 (i 1).val
  let c384_i32_59 : BitVec 32 := 384#32
  let v181 : BitVec 32 := Scalar.muli arg1 c384_i32_59
  let v182 : BitVec 32 := v181
  let v294 : Index := Scalar.indexCast v182
  let c128_96 : Index := 128#32
  ![v294.toNat, 128]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S384x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4224x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S4224x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S384x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S384x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel8Ideal.lean ====
variable {F : FTy → Type} [FloatOps F] [Named F]
def κ : String → Option EReal := fun
  | "log2e" => some (((Real.log 2)⁻¹ : ℝ) : EReal)
  | "mask" => some ⊥
  | _ => none
-- ==== Reference8Ideal.lean ====
abbrev S4224x2048 : Shape := ⟨2, ![4224, 2048]⟩
abbrev S4224x1024 : Shape := ⟨2, ![4224, 1024]⟩
abbrev S4224x16x128 : Shape := ⟨3, ![4224, 16, 128]⟩
abbrev S4224x16x64 : Shape := ⟨3, ![4224, 16, 64]⟩
abbrev S16x4224x4224 : Shape := ⟨3, ![16, 4224, 4224]⟩
abbrev S4224 : Shape := ⟨1, ![4224]⟩
abbrev S1x4224 : Shape := ⟨2, ![1, 4224]⟩
abbrev S4224x1 : Shape := ⟨2, ![4224, 1]⟩
abbrev S4224x4224 : Shape := ⟨2, ![4224, 4224]⟩
abbrev S_ : Shape := ⟨0, ![]⟩
abbrev S16x4224 : Shape := ⟨2, ![16, 4224]⟩
abbrev S16x4224x1 : Shape := ⟨3, ![16, 4224, 1]⟩
abbrev S16x64x4224 : Shape := ⟨3, ![16, 64, 4224]⟩
abbrev S4112x1024 : Shape := ⟨2, ![4112, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4224x2048, .f32⟩
  | .hbm, ⟨1, _⟩ => ⟨S4224x2048, .f32⟩
  | .hbm, ⟨2, _⟩ => ⟨S4224x1024, .f32⟩
  | .hbm, ⟨3, _⟩ => ⟨S4224x16x128, .f32⟩
  | .hbm, ⟨4, _⟩ => ⟨S4224x16x128, .f32⟩
  | .hbm, ⟨5, _⟩ => ⟨S4224x16x64, .f32⟩
  | .hbm, ⟨6, _⟩ => ⟨S16x4224x4224, .f32⟩
  | .hbm, ⟨7, _⟩ => ⟨S4224, .i32⟩
  | .hbm, ⟨8, _⟩ => ⟨S1x4224, .i32⟩
  | .hbm, ⟨9, _⟩ => ⟨S4224x1, .i32⟩
  | .hbm, ⟨10, _⟩ => ⟨S4224x4224, .i32⟩
  | .hbm, ⟨11, _⟩ => ⟨S4224x4224, .i32⟩
  | .hbm, ⟨12, _⟩ => ⟨S4224x4224, .i1⟩
  | .hbm, ⟨13, _⟩ => ⟨S1x4224, .i32⟩
  | .hbm, ⟨14, _⟩ => ⟨S_, .i32⟩
  | .hbm, ⟨15, _⟩ => ⟨S1x4224, .i32⟩
  | .hbm, ⟨16, _⟩ => ⟨S1x4224, .i1⟩
  | .hbm, ⟨17, _⟩ => ⟨S4224x1, .i32⟩
  | .hbm, ⟨18, _⟩ => ⟨S_, .i32⟩
  | .hbm, ⟨19, _⟩ => ⟨S4224x1, .i32⟩
  | .hbm, ⟨20, _⟩ => ⟨S4224x1, .i1⟩
  | .hbm, ⟨21, _⟩ => ⟨S4224x4224, .i1⟩
  | .hbm, ⟨22, _⟩ => ⟨S4224x4224, .i1⟩
  | .hbm, ⟨23, _⟩ => ⟨S4224x4224, .i1⟩
  | .hbm, ⟨24, _⟩ => ⟨S4224x4224, .i1⟩
  | .hbm, ⟨25, _⟩ => ⟨S_, .f32⟩
  | .hbm, ⟨26, _⟩ => ⟨S_, .f32⟩
  | .hbm, ⟨27, _⟩ => ⟨S16x4224x4224, .i1⟩
  | .hbm, ⟨28, _⟩ => ⟨S16x4224x4224, .f32⟩
  | .hbm, ⟨29, _⟩ => ⟨S16x4224x4224, .f32⟩
  | .hbm, ⟨30, _⟩ => ⟨S_, .f32⟩
  | .hbm, ⟨31, _⟩ => ⟨S16x4224, .f32⟩
  | .hbm, ⟨32, _⟩ => ⟨S_, .f32⟩
  | .hbm, ⟨33, _⟩ => ⟨S16x4224, .f32⟩
  | .hbm, ⟨34, _⟩ => ⟨S16x4224, .f32⟩
  | .hbm, ⟨35, _⟩ => ⟨S16x4224x1, .f32⟩
  | .hbm, ⟨36, _⟩ => ⟨S16x4224x4224, .f32⟩
  | .hbm, ⟨37, _⟩ => ⟨S16x4224x4224, .f32⟩
  | .hbm, ⟨38, _⟩ => ⟨S16x4224x4224, .f32⟩
  | .hbm, ⟨39, _⟩ => ⟨S_, .f32⟩
  | .hbm, ⟨40, _⟩ => ⟨S16x4224, .f32⟩
  | .hbm, ⟨41, _⟩ => ⟨S16x4224x1, .f32⟩
  | .hbm, ⟨42, _⟩ => ⟨S16x4224x4224, .f32⟩
  | .hbm, ⟨43, _⟩ => ⟨S16x4224x4224, .f32⟩
  | .hbm, ⟨44, _⟩ => ⟨S16x64x4224, .f32⟩
  | .hbm, ⟨45, _⟩ => ⟨S4224x16x64, .f32⟩
  | .hbm, ⟨46, _⟩ => ⟨S4224x1024, .f32⟩
  | .hbm, ⟨47, _⟩ => ⟨S4112x1024, .f32⟩
  | .hbm, ⟨48, _⟩ => ⟨S4112x1024, .bf16⟩
  | _, _ => ⟨S4224x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_c : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_c_0 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v20 : Ref sig .tc := ⟨.hbm, 29, rfl⟩
abbrev main_cst_1 : Ref sig .tc := ⟨.hbm, 30, rfl⟩
abbrev main_v21 : Ref sig .tc := ⟨.hbm, 31, rfl⟩
abbrev main_cst_2 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_3 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Proof.KernelIdeal.Offsets.lean ====
/- The offsets of the loops' loads and stores in closed form: trip `k` of either loop works on row block
   `i 1 + 1 + k` of 384 rows, in lanes 0–127 for the first head of the pair and 128–255 for the second. -/
module

public import proofs.«01_k».proof.Proof.Gen.KernelIdeal
public import Idealize.ShloMosaic.Lib.Exec

@[expose] public section

set_option maxRecDepth 16384

namespace Cert.KernelIdeal

open Idealize.ShloMosaic

/-- The first loop (masked) makes ten trips at key block 0 and none at any other. -/
theorem trips1_eq : ∀ i : grid0.Coords, (k0_t1_loop i).trips = if (i 1).val = 0 then 10 else 0 := by decide +kernel
/-- The third loop (unmasked) makes none at key block 0, and at key block `j` one for each row block below it. -/
theorem trips3_eq : ∀ i : grid0.Coords, (k0_t3_loop i).trips = if (i 1).val = 0 then 0 else 10 - (i 1).val := by decide +kernel
/-- The second loop makes no trip. -/
theorem trips2_eq : ∀ i : grid0.Coords, (k0_t2_loop i).trips = 0 := by decide +kernel
/-- The fourth loop makes no trip. -/
theorem trips4_eq : ∀ i : grid0.Coords, (k0_t4_loop i).trips = 0 := by decide +kernel

theorem off4_eq : ∀ (i : grid0.Coords) (k : Fin (k0_t1_loop i).trips), k0_off4 i k = ![384 * ((i 1).val + 1 + k.val), 0] := by decide +kernel
theorem off5_eq : ∀ (i : grid0.Coords) (k : Fin (k0_t1_loop i).trips), k0_off5 i k = ![384 * ((i 1).val + 1 + k.val), 0] := by decide +kernel
theorem off6_eq : ∀ (i : grid0.Coords) (k : Fin (k0_t1_loop i).trips), k0_off6 i k = ![384 * ((i 1).val + 1 + k.val), 128] := by decide +kernel
theorem off10_eq : ∀ (i : grid0.Coords) (k : Fin (k0_t3_loop i).trips), k0_off10 i k = ![384 * ((i 1).val + 1 + k.val), 0] := by decide +kernel
theorem off11_eq : ∀ (i : grid0.Coords) (k : Fin (k0_t3_loop i).trips), k0_off11 i k = ![384 * ((i 1).val + 1 + k.val), 0] := by decide +kernel
theorem off12_eq : ∀ (i : grid0.Coords) (k : Fin (k0_t3_loop i).trips), k0_off12 i k = ![384 * ((i 1).val + 1 + k.val), 128] := by decide +kernel

instance (i : grid0.Coords) (k : Fin (k0_t1_loop i).trips) : ClosedOff (k0_off5 i k) := ⟨_, off5_eq i k⟩
instance (i : grid0.Coords) (k : Fin (k0_t1_loop i).trips) : ClosedOff (k0_off6 i k) := ⟨_, off6_eq i k⟩
instance (i : grid0.Coords) (k : Fin (k0_t3_loop i).trips) : ClosedOff (k0_off11 i k) := ⟨_, off11_eq i k⟩
instance (i : grid0.Coords) (k : Fin (k0_t3_loop i).trips) : ClosedOff (k0_off12 i k) := ⟨_, off12_eq i k⟩

end Cert.KernelIdeal
-- ==== Proof.KernelIdeal.Trips.lean ====
/- The loops of the kernel body: what one trip computes and stores, as a function of the contents it reads, and the
   invariants of the four loops. -/
module

public import proofs.«01_k».proof.Proof.KernelIdeal.Offsets
public import proofs.«01_k».proof.Proof.Gen.KernelIdeal.Skeleton
public import proofs.«01_k».proof.Proof.Gen.KernelIdeal.Loops
public import proofs.«01_k».proof.Proof.Gen.KernelIdeal.Frame
public import Idealize.ShloMosaic.Lib.VecWindow
public import Idealize.ShloMosaic.Lib.Tactic

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The three running sums of a key block: of the first head's dk, of the second head's, of dv. -/
abbrev Acc (F : FTy → Type) : Type := FVec F S384x128 .f32 × FVec F S384x128 .f32 × FVec F S384x128 .f32
/-- What the loops carry: the running sums, and what dq's block holds. -/
abbrev St (F : FTy → Type) [FloatOps F] : Type := Acc F × Vec F S4224x256 .f32

/-! ## One trip as a function -/

section Trip

variable (i : grid0.Coords) (v5 v7 : IVec S384x128 1) (v9 v11 v13 : FVec F S384x128 .bf16)

section Blocks
variable (k : Fin (k0_t1_loop i).trips) (ki v105 : BitVec 32)
  (g : Vec F S384x128 .f32) (o : Vec F S384x128 .bf16) (l : Vec F S384x128 .f32) (q0 q1 : Vec F S384x128 .bf16)

/-- The running sums after a masked trip, from the trip's blocks of the cotangent `g`, the output `o`, the row sums `l` and the two heads' queries. -/
def mAcc (a : Acc F) : Acc F :=
  (k0_pay34 v5 v9 a.1 (k0_pay18 g) (k0_pay19 o) (k0_pay21 q0) (k0_pay24 i ki v11 v105 1#32 k l q0) k0_pay26,
   k0_pay35 v7 v9 a.2.1 (k0_pay18 g) (k0_pay19 o) (k0_pay22 q1) (k0_pay25 i ki v13 v105 1#32 k l q1),
   k0_pay33 v5 v7 a.2.2 (k0_pay18 g) (k0_pay24 i ki v11 v105 1#32 k l q0) (k0_pay25 i ki v13 v105 1#32 k l q1) k0_pay26)
/-- The first head's block of dq after a masked trip, from what it was. -/
def mDq0 (d : Vec F S384x128 .f32) : FVec F S384x128 .f32 :=
  k0_pay36 v5 v9 v11 (k0_pay18 g) (k0_pay19 o) (k0_pay24 i ki v11 v105 1#32 k l q0) k0_pay26 d
/-- The second head's. -/
def mDq1 (d : Vec F S384x128 .f32) : FVec F S384x128 .f32 :=
  k0_pay37 v7 v9 v13 (k0_pay18 g) (k0_pay19 o) (k0_pay25 i ki v13 v105 1#32 k l q1) d

/-- The running sums after an unmasked trip. -/
def uAcc (a : Acc F) : Acc F :=
  (k0_pay4 a.1 (k0_pay61 q0) (k0_pay71 v5 v9 v11 g o l q0),
   k0_pay5 a.2.1 (k0_pay62 q1) (k0_pay64 v13 l q1) (k0_pay67 v7 g o) (k0_pay70 v7 v9 g),
   k0_pay3 a.2.2 (k0_pay63 v11 l q0) (k0_pay64 v13 l q1) (k0_pay68 v5 g) (k0_pay69 v7 g))
/-- The first head's block of dq after an unmasked trip. -/
def uDq0 (d : Vec F S384x128 .f32) : FVec F S384x128 .f32 := k0_pay6 v11 (k0_pay71 v5 v9 v11 g o l q0) d
/-- The second head's. -/
def uDq1 (d : Vec F S384x128 .f32) : FVec F S384x128 .f32 := k0_pay7 v13 (k0_pay64 v13 l q1) (k0_pay67 v7 g o) (k0_pay70 v7 v9 g) d
end Blocks

variable (x2 : Vec F S4224x256 .bf16) (x5 : Vec F S4224x128 .bf16) (x6 x7 : Vec F S4224x128 .f32)

abbrev at4 {e : EltTy} (x : Vec F S4224x128 e) (k : Fin (k0_t1_loop i).trips) : Vec F S384x128 e := VecWindow.window x (k0_off4 i k) S384x128.size (k0_off4_inb i k)
abbrev at5 {e : EltTy} (x : Vec F S4224x256 e) (k : Fin (k0_t1_loop i).trips) : Vec F S384x128 e := VecWindow.window x (k0_off5 i k) S384x128.size (k0_off5_inb i k)
abbrev at6 {e : EltTy} (x : Vec F S4224x256 e) (k : Fin (k0_t1_loop i).trips) : Vec F S384x128 e := VecWindow.window x (k0_off6 i k) S384x128.size (k0_off6_inb i k)
abbrev at10 {e : EltTy} (x : Vec F S4224x128 e) (k : Fin (k0_t3_loop i).trips) : Vec F S384x128 e := VecWindow.window x (k0_off10 i k) S384x128.size (k0_off10_inb i k)
abbrev at11 {e : EltTy} (x : Vec F S4224x256 e) (k : Fin (k0_t3_loop i).trips) : Vec F S384x128 e := VecWindow.window x (k0_off11 i k) S384x128.size (k0_off11_inb i k)
abbrev at12 {e : EltTy} (x : Vec F S4224x256 e) (k : Fin (k0_t3_loop i).trips) : Vec F S384x128 e := VecWindow.window x (k0_off12 i k) S384x128.size (k0_off12_inb i k)

/-- A masked trip: the running sums and dq's block after it. -/
def step1 (ki v105 : BitVec 32) (k : Fin (k0_t1_loop i).trips) (s : St F) : St F :=
  (mAcc i v5 v7 v9 v11 v13 k ki v105 (at4 i x7 k) (at4 i x5 k) (at4 i x6 k) (at5 i x2 k) (at6 i x2 k) s.1,
   VecWindow.put (VecWindow.put s.2 (k0_off5 i k) S384x128.size (mDq0 i v5 v9 v11 k ki v105 (at4 i x7 k) (at4 i x5 k) (at4 i x6 k) (at5 i x2 k) (at5 i s.2 k)))
    (k0_off6 i k) S384x128.size (mDq1 i v7 v9 v13 k ki v105 (at4 i x7 k) (at4 i x5 k) (at4 i x6 k) (at6 i x2 k) (at6 i s.2 k)))

/-- An unmasked trip. -/
def step3 (k : Fin (k0_t3_loop i).trips) (s : St F) : St F :=
  (uAcc v5 v7 v9 v11 v13 (at10 i x7 k) (at10 i x5 k) (at10 i x6 k) (at11 i x2 k) (at12 i x2 k) s.1,
   VecWindow.put (VecWindow.put s.2 (k0_off11 i k) S384x128.size (uDq0 v5 v9 v11 (at10 i x7 k) (at10 i x5 k) (at10 i x6 k) (at11 i x2 k) (at11 i s.2 k)))
    (k0_off12 i k) S384x128.size (uDq1 v7 v9 v13 (at10 i x7 k) (at10 i x5 k) (at10 i x6 k) (at12 i x2 k) (at12 i s.2 k)))

/-- The state before trip `k` of the masked loop, from the state at its entry. -/
def st1 (ki v105 : BitVec 32) (s : St F) : ℕ → St F
  | 0 => s
  | k + 1 => if h : k < (k0_t1_loop i).trips then step1 i v5 v7 v9 v11 v13 x2 x5 x6 x7 ki v105 ⟨k, h⟩ (st1 ki v105 s k) else st1 ki v105 s k
/-- The state before trip `k` of the unmasked loop. -/
def st3 (s : St F) : ℕ → St F
  | 0 => s
  | k + 1 => if h : k < (k0_t3_loop i).trips then step3 i v5 v7 v9 v11 v13 x2 x5 x6 x7 ⟨k, h⟩ (st3 s k) else st3 s k

end Trip

/-! ## The trips run -/

section Loops

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x128 .bf16) (harg4 : arg4.IsWhole) (arg5 : Memref sig .tc .vmem S4224x128 .bf16) (harg5 : arg5.IsWhole) (arg6 : Memref sig .tc .vmem S4224x128 .f32) (harg6 : arg6.IsWhole) (arg7 : Memref sig .tc .vmem S4224x128 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x128 .bf16) (harg10 : arg10.IsWhole)
  (arg1 : BitVec 32) (v5 : IVec S384x128 1) (v7 : IVec S384x128 1) (v9 : FVec F S384x128 .bf16) (v11 : FVec F S384x128 .bf16) (v13 : FVec F S384x128 .bf16) (v14 : FVec F S384x128 .f32) (v16 : BitVec 32) (v29 : FVec F S384x128 .bf16) (v32 : FVec F S384x128 .bf16) (v70 : FVec F S384x128 .bf16) (v76 : FVec F S384x384 .bf16) (v80 : FVec F S384x384 .bf16) (v82 : FVec F S384x384 .bf16) (v84 : FVec F S384x128 .f32) (cst_24 : FVec F S384x128 .f32)
  (f2 : Buf (Elt F) (arg2.view.loc (c : Thread nD τ))) (f5 : Buf (Elt F) (arg5.view.loc (c : Thread nD τ))) (f6 : Buf (Elt F) (arg6.view.loc (c : Thread nD τ))) (f7 : Buf (Elt F) (arg7.view.loc (c : Thread nD τ)))

/-- The four operands a trip reads, at their contents. -/
abbrev insP : sProp 𝕄 :=
  iprop((arg2.view.loc (c : Thread nD τ) ↦[arg2.view.set]{fullShare} f2) ∗ (arg5.view.loc (c : Thread nD τ) ↦[arg5.view.set]{fullShare} f5)
    ∗ (arg6.view.loc (c : Thread nD τ) ↦[arg6.view.set]{fullShare} f6) ∗ (arg7.view.loc (c : Thread nD τ) ↦[arg7.view.set]{fullShare} f7))

/-- dq's buffer at contents `f`. -/
abbrev dqP (f : Buf (Elt F) (arg8.view.loc (c : Thread nD τ))) : sProp 𝕄 :=
  arg8.view.loc (c : Thread nD τ) ↦[arg8.view.set]{fullShare} f

/-- The state of the masked loop at the operands' contents, from running sums `a` and dq's contents `f8`. -/
abbrev sm1 (ki v105 : BitVec 32) (a : Acc F) (f8 : Buf (Elt F) (arg8.view.loc (c : Thread nD τ))) (k : ℕ) : St F :=
  st1 i v5 v7 v9 v11 v13 (arg2.view.read (Elt F) f2) (arg5.view.read (Elt F) f5) (arg6.view.read (Elt F) f6) (arg7.view.read (Elt F) f7) ki v105 (a, arg8.view.read (Elt F) f8) k
/-- The state of the unmasked loop. -/
abbrev sm3 (a : Acc F) (f8 : Buf (Elt F) (arg8.view.loc (c : Thread nD τ))) (k : ℕ) : St F :=
  st3 i v5 v7 v9 v11 v13 (arg2.view.read (Elt F) f2) (arg5.view.read (Elt F) f5) (arg6.view.read (Elt F) f6) (arg7.view.read (Elt F) f7) (a, arg8.view.read (Elt F) f8) k

set_option maxHeartbeats 4000000 in
/-- One masked trip. -/
theorem trip1 (v105 : BitVec 32) (k : Fin (k0_t1_loop i).trips) (a : Acc F) (f8 : Buf (Elt F) (arg8.view.loc (c : Thread nD τ))) :
    iprop(insP c arg2 arg5 arg6 arg7 f2 f5 f6 f7 ∗ dqP c arg8 f8)
      ⊢ wp Idealize.ShloMosaic.frame (wpE defs₀ Variants.none (c : Thread nD τ) none) Set.univ
        (k0_t1_body i arg2 harg2 arg3 harg3 arg4 harg4 arg5 harg5 arg6 harg6 arg7 harg7 arg8 harg8 arg9 harg9 arg10 harg10 arg1 v5 v7 v9 v11 v13 v14 v16 v29 v32 v70 v76 v80 v82 v84 cst_24 v105 k a)
        fun a' => iprop(insP c arg2 arg5 arg6 arg7 f2 f5 f6 f7
          ∗ (∃ f, dqP c arg8 f ∗ ⌜arg8.view.read (Elt F) f = (step1 i v5 v7 v9 v11 v13 (arg2.view.read (Elt F) f2) (arg5.view.read (Elt F) f5) (arg6.view.read (Elt F) f6) (arg7.view.read (Elt F) f7) arg1 v105 k (a, arg8.view.read (Elt F) f8)).2⌝)
          ∗ ⌜a' = (step1 i v5 v7 v9 v11 v13 (arg2.view.read (Elt F) f2) (arg5.view.read (Elt F) f5) (arg6.view.read (Elt F) f6) (arg7.view.read (Elt F) f7) arg1 v105 k (a, arg8.view.read (Elt F) f8)).1⌝) := by
  obtain ⟨a12, a13, a14⟩ := a
  unfold k0_t1_body
  iintro ⟨⟨H2, H5, H6, H7⟩, H8⟩
  sl_exec_parts
  sl_step
  isplitl [H2 H5 H6 H7]
  · isplitl [H2]; · iexact H2
    isplitl [H5]; · iexact H5
    isplitl [H6]; · iexact H6
    iexact H7
  isplitl [H8]
  · iexists _
    isplitl [H8]; · iexact H8
    ipureintro
    rw [View.read_writes_cons_put _ _ _ _ _ rfl, View.read_writes_cons_put _ _ _ _ _ rfl, View.writes_nil]
    rfl
  · ipureintro; rfl

set_option maxHeartbeats 4000000 in
/-- One unmasked trip. -/
theorem trip3 (v116 : BitVec 32) (k : Fin (k0_t3_loop i).trips) (a : Acc F) (f8 : Buf (Elt F) (arg8.view.loc (c : Thread nD τ))) :
    iprop(insP c arg2 arg5 arg6 arg7 f2 f5 f6 f7 ∗ dqP c arg8 f8)
      ⊢ wp Idealize.ShloMosaic.frame (wpE defs₀ Variants.none (c : Thread nD τ) none) Set.univ
        (k0_t3_body i arg2 harg2 arg3 harg3 arg4 harg4 arg5 harg5 arg6 harg6 arg7 harg7 arg8 harg8 arg9 harg9 arg10 harg10 v5 v7 v9 v11 v13 v116 k a)
        fun a' => iprop(insP c arg2 arg5 arg6 arg7 f2 f5 f6 f7
          ∗ (∃ f, dqP c arg8 f ∗ ⌜arg8.view.read (Elt F) f = (step3 i v5 v7 v9 v11 v13 (arg2.view.read (Elt F) f2) (arg5.view.read (Elt F) f5) (arg6.view.read (Elt F) f6) (arg7.view.read (Elt F) f7) k (a, arg8.view.read (Elt F) f8)).2⌝)
          ∗ ⌜a' = (step3 i v5 v7 v9 v11 v13 (arg2.view.read (Elt F) f2) (arg5.view.read (Elt F) f5) (arg6.view.read (Elt F) f6) (arg7.view.read (Elt F) f7) k (a, arg8.view.read (Elt F) f8)).1⌝) := by
  obtain ⟨a12, a13, a14⟩ := a
  unfold k0_t3_body
  iintro ⟨⟨H2, H5, H6, H7⟩, H8⟩
  sl_exec_parts
  sl_step
  isplitl [H2 H5 H6 H7]
  · isplitl [H2]; · iexact H2
    isplitl [H5]; · iexact H5
    isplitl [H6]; · iexact H6
    iexact H7
  isplitl [H8]
  · iexists _
    isplitl [H8]; · iexact H8
    ipureintro
    rw [View.read_writes_cons_put _ _ _ _ _ rfl, View.read_writes_cons_put _ _ _ _ _ rfl, View.writes_nil]
    rfl
  · ipureintro; rfl

/-! ## The loops' invariants -/

set_option warn.classDefReducibility false in
/-- The masked loop before trip `k`: dq's buffer and the running sums at the state `sm1` names. -/
@[sl_loop] def inv1 (v105 : BitVec 32) (init : Acc F) (G : Buf (Elt F) (arg8.view.loc (c : Thread nD τ))) :
    LoopInvTy_k0_t1 (F := F) Unit ℕ (UR sig nD τ) ℕ Variants.none c none Set.univ i arg2 harg2 arg3 harg3 arg4 harg4 arg5 harg5 arg6 harg6 arg7 harg7 arg8 harg8 arg9 harg9 arg10 harg10 arg1 v5 v7 v9 v11 v13 v14 v16 v29 v32 v70 v76 v80 v82 v84 cst_24 v105 init where
  inv k acc := iprop(insP c arg2 arg5 arg6 arg7 f2 f5 f6 f7
    ∗ (∃ f, dqP c arg8 f ∗ ⌜arg8.view.read (Elt F) f = (sm1 c i arg2 arg5 arg6 arg7 arg8 v5 v7 v9 v11 v13 f2 f5 f6 f7 arg1 v105 init G k).2⌝)
    ∗ ⌜acc = (sm1 c i arg2 arg5 arg6 arg7 arg8 v5 v7 v9 v11 v13 f2 f5 f6 f7 arg1 v105 init G k).1⌝)
  step k acc := by
    have e : sm1 c i arg2 arg5 arg6 arg7 arg8 v5 v7 v9 v11 v13 f2 f5 f6 f7 arg1 v105 init G (k.val + 1)
        = step1 i v5 v7 v9 v11 v13 (arg2.view.read (Elt F) f2) (arg5.view.read (Elt F) f5) (arg6.view.read (Elt F) f6) (arg7.view.read (Elt F) f7) arg1 v105 k
          (sm1 c i arg2 arg5 arg6 arg7 arg8 v5 v7 v9 v11 v13 f2 f5 f6 f7 arg1 v105 init G k.val) := dif_pos k.isLt
    iintro ⟨Hi, ⟨%f, H8, %hf⟩, %ha⟩
    subst ha
    rw [e, show sm1 c i arg2 arg5 arg6 arg7 arg8 v5 v7 v9 v11 v13 f2 f5 f6 f7 arg1 v105 init G k.val
      = ((sm1 c i arg2 arg5 arg6 arg7 arg8 v5 v7 v9 v11 v13 f2 f5 f6 f7 arg1 v105 init G k.val).1, arg8.view.read (Elt F) f) from Prod.ext rfl hf.symm]
    iapply (trip1 c i arg2 harg2 arg3 harg3 arg4 harg4 arg5 harg5 arg6 harg6 arg7 harg7 arg8 harg8 arg9 harg9 arg10 harg10 arg1 v5 v7 v9 v11 v13 v14 v16 v29 v32 v70 v76 v80 v82 v84 cst_24 f2 f5 f6 f7 v105 k _ f)
    isplitl [Hi] <;> iassumption

set_option warn.classDefReducibility false in
/-- The unmasked loop before trip `k`. -/
@[sl_loop] def inv3 (v116 : BitVec 32) (init : Acc F) (G : Buf (Elt F) (arg8.view.loc (c : Thread nD τ))) :
    LoopInvTy_k0_t3 (F := F) Unit ℕ (UR sig nD τ) ℕ Variants.none c none Set.univ i arg2 harg2 arg3 harg3 arg4 harg4 arg5 harg5 arg6 harg6 arg7 harg7 arg8 harg8 arg9 harg9 arg10 harg10 v5 v7 v9 v11 v13 v116 init where
  inv k acc := iprop(insP c arg2 arg5 arg6 arg7 f2 f5 f6 f7
    ∗ (∃ f, dqP c arg8 f ∗ ⌜arg8.view.read (Elt F) f = (sm3 c i arg2 arg5 arg6 arg7 arg8 v5 v7 v9 v11 v13 f2 f5 f6 f7 init G k).2⌝)
    ∗ ⌜acc = (sm3 c i arg2 arg5 arg6 arg7 arg8 v5 v7 v9 v11 v13 f2 f5 f6 f7 init G k).1⌝)
  step k acc := by
    have e : sm3 c i arg2 arg5 arg6 arg7 arg8 v5 v7 v9 v11 v13 f2 f5 f6 f7 init G (k.val + 1)
        = step3 i v5 v7 v9 v11 v13 (arg2.view.read (Elt F) f2) (arg5.view.read (Elt F) f5) (arg6.view.read (Elt F) f6) (arg7.view.read (Elt F) f7) k
          (sm3 c i arg2 arg5 arg6 arg7 arg8 v5 v7 v9 v11 v13 f2 f5 f6 f7 init G k.val) := dif_pos k.isLt
    iintro ⟨Hi, ⟨%f, H8, %hf⟩, %ha⟩
    subst ha
    rw [e, show sm3 c i arg2 arg5 arg6 arg7 arg8 v5 v7 v9 v11 v13 f2 f5 f6 f7 init G k.val
      = ((sm3 c i arg2 arg5 arg6 arg7 arg8 v5 v7 v9 v11 v13 f2 f5 f6 f7 init G k.val).1, arg8.view.read (Elt F) f) from Prod.ext rfl hf.symm]
    iapply (trip3 c i arg2 harg2 arg3 harg3 arg4 harg4 arg5 harg5 arg6 harg6 arg7 harg7 arg8 harg8 arg9 harg9 arg10 harg10 v5 v7 v9 v11 v13 f2 f5 f6 f7 v116 k _ f)
    isplitl [Hi] <;> iassumption

set_option warn.classDefReducibility false in
/-- The second loop makes no trip: it hands on the running sums. -/
@[sl_loop] def inv2 (v113 : BitVec 32) (init : Acc F) :
    LoopInvTy_k0_t2 (F := F) Unit ℕ (UR sig nD τ) ℕ Variants.none c none Set.univ i arg2 harg2 arg3 harg3 arg4 harg4 arg5 harg5 arg6 harg6 arg7 harg7 arg8 harg8 arg9 harg9 arg10 harg10 arg1 v5 v7 v9 v11 v13 v14 v16 v29 v32 v70 v76 v80 v82 v84 cst_24 v113 init where
  inv _ acc := iprop(⌜acc = init⌝)
  step k _ := (Nat.not_lt_zero _ (Nat.lt_of_lt_of_eq k.isLt (trips2_eq i))).elim

set_option warn.classDefReducibility false in
/-- Nor does the fourth. -/
@[sl_loop] def inv4 (v124 : BitVec 32) (init : Acc F) :
    LoopInvTy_k0_t4 (F := F) Unit ℕ (UR sig nD τ) ℕ Variants.none c none Set.univ i arg2 harg2 arg3 harg3 arg4 harg4 arg5 harg5 arg6 harg6 arg7 harg7 arg8 harg8 arg9 harg9 arg10 harg10 v5 v7 v9 v11 v13 v124 init where
  inv _ acc := iprop(⌜acc = init⌝)
  step k _ := (Nat.not_lt_zero _ (Nat.lt_of_lt_of_eq k.isLt (trips4_eq i))).elim

/-- The first loop's invariant, written out. -/
theorem inv1_eq (v105 : BitVec 32) (init : Acc F) (G : Buf (Elt F) (arg8.view.loc (c : Thread nD τ))) (k : ℕ) (acc : Acc F) :
    (inv1 c i arg2 harg2 arg3 harg3 arg4 harg4 arg5 harg5 arg6 harg6 arg7 harg7 arg8 harg8 arg9 harg9 arg10 harg10 arg1 v5 v7 v9 v11 v13 v14 v16 v29 v32 v70 v76 v80 v82 v84 cst_24 f2 f5 f6 f7 v105 init G).inv k acc
      = iprop(insP c arg2 arg5 arg6 arg7 f2 f5 f6 f7
    ∗ (∃ f, dqP c arg8 f ∗ ⌜arg8.view.read (Elt F) f = (sm1 c i arg2 arg5 arg6 arg7 arg8 v5 v7 v9 v11 v13 f2 f5 f6 f7 arg1 v105 init G k).2⌝)
    ∗ ⌜acc = (sm1 c i arg2 arg5 arg6 arg7 arg8 v5 v7 v9 v11 v13 f2 f5 f6 f7 arg1 v105 init G k).1⌝) := rfl
/-- The third loop's invariant, written out. -/
theorem inv3_eq (v116 : BitVec 32) (init : Acc F) (G : Buf (Elt F) (arg8.view.loc (c : Thread nD τ))) (k : ℕ) (acc : Acc F) :
    (inv3 c i arg2 harg2 arg3 harg3 arg4 harg4 arg5 harg5 arg6 harg6 arg7 harg7 arg8 harg8 arg9 harg9 arg10 harg10 v5 v7 v9 v11 v13 f2 f5 f6 f7 v116 init G).inv k acc
      = iprop(insP c arg2 arg5 arg6 arg7 f2 f5 f6 f7
    ∗ (∃ f, dqP c arg8 f ∗ ⌜arg8.view.read (Elt F) f = (sm3 c i arg2 arg5 arg6 arg7 arg8 v5 v7 v9 v11 v13 f2 f5 f6 f7 init G k).2⌝)
    ∗ ⌜acc = (sm3 c i arg2 arg5 arg6 arg7 arg8 v5 v7 v9 v11 v13 f2 f5 f6 f7 init G k).1⌝) := rfl
/-- The empty loops keep the sums. -/
theorem inv2_eq (v113 : BitVec 32) (init : Acc F) (k : ℕ) (acc : Acc F) :
    (inv2 c i arg2 harg2 arg3 harg3 arg4 harg4 arg5 harg5 arg6 harg6 arg7 harg7 arg8 harg8 arg9 harg9 arg10 harg10 arg1 v5 v7 v9 v11 v13 v14 v16 v29 v32 v70 v76 v80 v82 v84 cst_24 v113 init).inv k acc = iprop(⌜acc = init⌝) := rfl
theorem inv4_eq (v124 : BitVec 32) (init : Acc F) (k : ℕ) (acc : Acc F) :
    (inv4 c i arg2 harg2 arg3 harg3 arg4 harg4 arg5 harg5 arg6 harg6 arg7 harg7 arg8 harg8 arg9 harg9 arg10 harg10 v5 v7 v9 v11 v13 v124 init).inv k acc = iprop(⌜acc = init⌝) := rfl

end Loops
end Cert.KernelIdeal.Attn
-- ==== Proof.KernelIdeal.Body.lean ====
/- The kernel body at one point: what it leaves in the three results' blocks, as functions of the operands' blocks and
   of what dq's block held. -/
module

public import proofs.«01_k».proof.Proof.KernelIdeal.Trips

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Pure

variable (i : grid0.Coords) (x2 : Vec F S4224x256 .bf16) (x3 : Vec F S384x256 .bf16) (x4 : Vec F S384x128 .bf16) (x5 : Vec F S4224x128 .bf16) (x6 x7 : Vec F S4224x128 .f32)

/-- The key block's number as the kernel computes it. -/
abbrev kiw : BitVec 32 := BitVec.ofNat 32 (i 1).val
/-- The values block, and the two heads' key blocks. -/
abbrev vB : FVec F S384x128 .bf16 := k0_pay89 (VecWindow.window x4 ![0, 0] S384x128.size inb_S384x128_S384x128_0_0)
abbrev k0B : Vec F S384x128 .bf16 := VecWindow.window x3 ![0, 0] S384x128.size inb_S384x256_S384x128_0_0
abbrev k1B : Vec F S384x128 .bf16 := VecWindow.window x3 ![0, 128] S384x128.size inb_S384x256_S384x128_0_128
abbrev at1 {e : EltTy} (x : Vec F S4224x128 e) : Vec F S384x128 e := VecWindow.window x (k0_off1 i) S384x128.size (k0_off1_inb i)
abbrev at2 {e : EltTy} (x : Vec F S4224x256 e) : Vec F S384x128 e := VecWindow.window x (k0_off2 i) S384x128.size (k0_off2_inb i)
abbrev at3 {e : EltTy} (x : Vec F S4224x256 e) : Vec F S384x128 e := VecWindow.window x (k0_off3 i) S384x128.size (k0_off3_inb i)

/-- The diagonal step's two products with the keys' blocks: dS of the two heads, at 16 bits. -/
abbrev ds0 : FVec F S384x384 .bf16 :=
  k0_pay107 (kiw i) k0_pay87 (vB x4) (k0_pay93 (at1 i x7)) (k0_pay94 (at1 i x5)) (k0_pay95 (at1 i x6)) (k0_pay98 (k0B x3) (at2 i x2)) (Scalar.muli (kiw i) 384#32) (iota .tc S384x384 32 [0] iota_S384x384_d0_w32)
abbrev ds1 : FVec F S384x384 .bf16 :=
  k0_pay108 (kiw i) k0_pay88 (vB x4) (k0_pay93 (at1 i x7)) (k0_pay94 (at1 i x5)) (k0_pay95 (at1 i x6)) (k0_pay99 (k1B x3) (at3 i x2)) (Scalar.muli (kiw i) 384#32) (iota .tc S384x384 32 [0] iota_S384x384_d0_w32)

/-- The diagonal step, the masked one on row block `i 1` itself, from dq's block `d`. -/
def stepD (d : Vec F S4224x256 .f32) : St F :=
  ((k0_pay112 k0_pay92 (k0_pay96 (at2 i x2)) (ds0 i x2 x3 x4 x5 x6 x7),
    k0_pay113 k0_pay92 (k0_pay97 (at3 i x2)) (ds1 i x2 x3 x4 x5 x6 x7),
    k0_pay111 (k0_pay106 k0_pay88 (k0_pay93 (at1 i x7)))
      (k0_pay109 (kiw i) (k0_pay95 (at1 i x6)) (k0_pay99 (k1B x3) (at3 i x2)) (Scalar.muli (kiw i) 384#32) (iota .tc S384x384 32 [0] iota_S384x384_d0_w32))
      (k0_pay110 (kiw i) k0_pay87 k0_pay92 (k0_pay93 (at1 i x7)) (k0_pay95 (at1 i x6)) (k0_pay98 (k0B x3) (at2 i x2)) (Scalar.muli (kiw i) 384#32) (iota .tc S384x384 32 [0] iota_S384x384_d0_w32))
      (constant S384x128 .f32 0x00000000#32)),
   VecWindow.put (VecWindow.put d (k0_off2 i) S384x128.size (k0_pay114 (k0_pay90 (k0B x3)) (ds0 i x2 x3 x4 x5 x6 x7) (at2 i d)))
    (k0_off3 i) S384x128.size (k0_pay115 (k0_pay91 (k1B x3)) (ds1 i x2 x3 x4 x5 x6 x7) (at3 i d)))

/-- The state at the end of the body at point `i`, from dq's block `d`: at key block 0 dq's block starts at zero. -/
def bodySt (d : Vec F S4224x256 .f32) : St F :=
  st3 i k0_pay87 k0_pay88 (vB x4) (k0_pay90 (k0B x3)) (k0_pay91 (k1B x3)) x2 x5 x6 x7
    (st1 i k0_pay87 k0_pay88 (vB x4) (k0_pay90 (k0B x3)) (k0_pay91 (k1B x3)) x2 x5 x6 x7 (kiw i) (Scalar.addi (kiw i) 1#32)
      (stepD i x2 x3 x4 x5 x6 x7 (if (i 1).val = 0 then k0_pay86 else d)) (k0_t1_loop i).trips)
    (k0_t3_loop i).trips

/-- dk's block from the running sums. -/
def outDk (a : Acc F) : Vec F S384x256 .f32 :=
  VecWindow.put (VecWindow.put (constant S384x256 .f32 0x00000000#32) ![0, 0] S384x128.size (k0_pay15 a.1)) ![0, 128] S384x128.size (k0_pay16 a.2.1)
/-- dv's block from the running sums. -/
def outDv (a : Acc F) : Vec F S384x128 .bf16 := k0_pay17 a.2.2

end Pure

/-- The kernel's test for key block 0. -/
theorem isFirst : ∀ i : grid0.Coords, (Scalar.cmpi .ne (Scalar.extui (Scalar.cmpi .eq (BitVec.ofNat 32 (i 1).val) 0#32) : BitVec 32) 0#32 = 1#1) ↔ (i 1).val = 0 := by decide +kernel

/-- The two heads' halves of a row block lie apart. -/
theorem off23 (i : grid0.Coords) : k0_off3 i 1 + S384x128.size 1 ≤ k0_off2 i 1 ∨ k0_off2 i 1 + S384x128.size 1 ≤ k0_off3 i 1 := by
  refine .inr ?_
  rw [k0_off2_eq, k0_off3_eq]
  show 0 + 128 ≤ 128
  omega

/-- Two halves put over a block leave nothing of what was there. -/
theorem put_halves {α : Type} (x y : S384x256.Idx → α) (u w : S384x128.Idx → α) :
    VecWindow.put (VecWindow.put x ![0, 0] S384x128.size u) ![0, 128] S384x128.size w
      = VecWindow.put (VecWindow.put y ![0, 0] S384x128.size u) ![0, 128] S384x128.size w := by
  funext p
  unfold VecWindow.put
  by_cases h : ∀ a, (![0, 128] : Fin 2 → ℕ) a ≤ (p a).val ∧ (p a).val < (![0, 128] : Fin 2 → ℕ) a + S384x128.size a
  · rw [dif_pos h, dif_pos h]
  · rw [dif_neg h, dif_neg h]
    have h0 : ∀ a, (![0, 0] : Fin 2 → ℕ) a ≤ (p a).val ∧ (p a).val < (![0, 0] : Fin 2 → ℕ) a + S384x128.size a := by
      intro a
      have hp : (p 1).val < 256 := (p 1).isLt
      have hp0 : (p 0).val < 384 := (p 0).isLt
      match a with
      | ⟨0, _⟩ => exact ⟨Nat.zero_le _, by show (p 0).val < 0 + 384; omega⟩
      | ⟨1, _⟩ =>
        refine ⟨Nat.zero_le _, ?_⟩
        show (p 1).val < 0 + 128
        by_contra hn
        refine h fun a => ?_
        match a with
        | ⟨0, _⟩ => exact ⟨Nat.zero_le _, by show (p 0).val < 0 + 384; omega⟩
        | ⟨1, _⟩ => exact ⟨by show 128 ≤ (p 1).val; omega, by show (p 1).val < 128 + 128; omega⟩
    rw [dif_pos h0, dif_pos h0]

section Run

variable (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x128 .bf16) (harg4 : arg4.IsWhole) (arg5 : Memref sig .tc .vmem S4224x128 .bf16) (harg5 : arg5.IsWhole) (arg6 : Memref sig .tc .vmem S4224x128 .f32) (harg6 : arg6.IsWhole) (arg7 : Memref sig .tc .vmem S4224x128 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x128 .bf16) (harg10 : arg10.IsWhole)
  (f2 : Buf (Elt F) (arg2.view.loc (c : Thread nD τ))) (f3 : Buf (Elt F) (arg3.view.loc (c : Thread nD τ))) (f4 : Buf (Elt F) (arg4.view.loc (c : Thread nD τ))) (f5 : Buf (Elt F) (arg5.view.loc (c : Thread nD τ))) (f6 : Buf (Elt F) (arg6.view.loc (c : Thread nD τ))) (f7 : Buf (Elt F) (arg7.view.loc (c : Thread nD τ)))
  (f8 : Buf (Elt F) (arg8.view.loc (c : Thread nD τ))) (f9 : Buf (Elt F) (arg9.view.loc (c : Thread nD τ))) (f10 : Buf (Elt F) (arg10.view.loc (c : Thread nD τ)))

/-- The state at the end of the body, at the operands' contents. -/
abbrev endSt : St F :=
  bodySt i (arg2.view.read (Elt F) f2) (arg3.view.read (Elt F) f3) (arg4.view.read (Elt F) f4) (arg5.view.read (Elt F) f5) (arg6.view.read (Elt F) f6) (arg7.view.read (Elt F) f7) (arg8.view.read (Elt F) f8)

/-- The operands the body only reads, at their contents. -/
abbrev opsP : sProp 𝕄 :=
  iprop(insP c arg2 arg5 arg6 arg7 f2 f5 f6 f7 ∗ (arg3.view.loc (c : Thread nD τ) ↦[arg3.view.set]{fullShare} f3) ∗ (arg4.view.loc (c : Thread nD τ) ↦[arg4.view.set]{fullShare} f4))

/-- The body's end: the operands as they were, each result's buffer at what the end state says. -/
abbrev endP : sProp 𝕄 :=
  iprop(opsP c arg2 arg3 arg4 arg5 arg6 arg7 f2 f3 f4 f5 f6 f7
    ∗ (∃ f, dqP c arg8 f ∗ ⌜arg8.view.read (Elt F) f = (endSt c i arg2 arg3 arg4 arg5 arg6 arg7 arg8 f2 f3 f4 f5 f6 f7 f8).2⌝)
    ∗ (∃ f, (arg9.view.loc (c : Thread nD τ) ↦[arg9.view.set]{fullShare} f) ∗ ⌜arg9.view.read (Elt F) f = outDk (endSt c i arg2 arg3 arg4 arg5 arg6 arg7 arg8 f2 f3 f4 f5 f6 f7 f8).1⌝)
    ∗ (∃ f, (arg10.view.loc (c : Thread nD τ) ↦[arg10.view.set]{fullShare} f) ∗ ⌜arg10.view.read (Elt F) f = outDv (endSt c i arg2 arg3 arg4 arg5 arg6 arg7 arg8 f2 f3 f4 f5 f6 f7 f8).1⌝))

abbrev startP : sProp 𝕄 :=
  iprop(opsP c arg2 arg3 arg4 arg5 arg6 arg7 f2 f3 f4 f5 f6 f7 ∗ dqP c arg8 f8
    ∗ (arg9.view.loc (c : Thread nD τ) ↦[arg9.view.set]{fullShare} f9) ∗ (arg10.view.loc (c : Thread nD τ) ↦[arg10.view.set]{fullShare} f10))

set_option maxHeartbeats 8000000 in
/-- The body at a point of key block 0. -/
theorem body_first (h0 : (i 1).val = 0) :
    startP c arg2 arg3 arg4 arg5 arg6 arg7 arg8 arg9 arg10 f2 f3 f4 f5 f6 f7 f8 f9 f10
      ⊢ wp Idealize.ShloMosaic.frame (wpE defs₀ Variants.none (c : Thread nD τ) none) Set.univ (cc0_attn_bwd i arg2 harg2 arg3 harg3 arg4 harg4 arg5 harg5 arg6 harg6 arg7 harg7 arg8 harg8 arg9 harg9 arg10 harg10)
        fun _ => endP c i arg2 arg3 arg4 arg5 arg6 arg7 arg8 arg9 arg10 f2 f3 f4 f5 f6 f7 f8 := by
  have hc := (isFirst i).mpr h0
  rw [cc0_attn_bwd_eq_skeleton]
  iintro ⟨⟨⟨H2, H5, H6, H7⟩, H3, H4⟩, H8, H9, H10⟩
  sl_exec_parts
  let I1 := (inv1 c i arg2 harg2 arg3 harg3 arg4 harg4 arg5 harg5 arg6 harg6 arg7 harg7 arg8 harg8 arg9 harg9 arg10 harg10 (kiw i) k0_pay87 k0_pay88 (vB (arg4.view.read (Elt F) f4)) (k0_pay90 (k0B (arg3.view.read (Elt F) f3))) (k0_pay91 (k1B (arg3.view.read (Elt F) f3))) k0_pay92 (Scalar.muli (kiw i) 384#32)
      (k0_pay96 (at2 i (arg2.view.read (Elt F) f2))) (k0_pay97 (at3 i (arg2.view.read (Elt F) f2))) (k0_pay106 k0_pay88 (k0_pay93 (at1 i (arg7.view.read (Elt F) f7))))
      (ds0 i (arg2.view.read (Elt F) f2) (arg3.view.read (Elt F) f3) (arg4.view.read (Elt F) f4) (arg5.view.read (Elt F) f5) (arg6.view.read (Elt F) f6) (arg7.view.read (Elt F) f7))
      (ds1 i (arg2.view.read (Elt F) f2) (arg3.view.read (Elt F) f3) (arg4.view.read (Elt F) f4) (arg5.view.read (Elt F) f5) (arg6.view.read (Elt F) f6) (arg7.view.read (Elt F) f7))
      (k0_pay109 (kiw i) (k0_pay95 (at1 i (arg6.view.read (Elt F) f6))) (k0_pay99 (k1B (arg3.view.read (Elt F) f3)) (at3 i (arg2.view.read (Elt F) f2))) (Scalar.muli (kiw i) 384#32) (iota .tc S384x384 32 [0] iota_S384x384_d0_w32))
      (k0_pay110 (kiw i) k0_pay87 k0_pay92 (k0_pay93 (at1 i (arg7.view.read (Elt F) f7))) (k0_pay95 (at1 i (arg6.view.read (Elt F) f6))) (k0_pay98 (k0B (arg3.view.read (Elt F) f3)) (at2 i (arg2.view.read (Elt F) f2))) (Scalar.muli (kiw i) 384#32) (iota .tc S384x384 32 [0] iota_S384x384_d0_w32)) (constant S384x128 .f32 0x00000000#32) f2 f5 f6 f7 (Scalar.addi (kiw i) 1#32)
      (k0_pay112 k0_pay92 (k0_pay96 (at2 i (arg2.view.read (Elt F) f2))) (ds0 i (arg2.view.read (Elt F) f2) (arg3.view.read (Elt F) f3) (arg4.view.read (Elt F) f4) (arg5.view.read (Elt F) f5) (arg6.view.read (Elt F) f6) (arg7.view.read (Elt F) f7)), k0_pay113 k0_pay92 (k0_pay97 (at3 i (arg2.view.read (Elt F) f2))) (ds1 i (arg2.view.read (Elt F) f2) (arg3.view.read (Elt F) f3) (arg4.view.read (Elt F) f4) (arg5.view.read (Elt F) f5) (arg6.view.read (Elt F) f6) (arg7.view.read (Elt F) f7)), k0_pay111 (k0_pay106 k0_pay88 (k0_pay93 (at1 i (arg7.view.read (Elt F) f7)))) (k0_pay109 (kiw i) (k0_pay95 (at1 i (arg6.view.read (Elt F) f6))) (k0_pay99 (k1B (arg3.view.read (Elt F) f3)) (at3 i (arg2.view.read (Elt F) f2))) (Scalar.muli (kiw i) 384#32) (iota .tc S384x384 32 [0] iota_S384x384_d0_w32)) (k0_pay110 (kiw i) k0_pay87 k0_pay92 (k0_pay93 (at1 i (arg7.view.read (Elt F) f7))) (k0_pay95 (at1 i (arg6.view.read (Elt F) f6))) (k0_pay98 (k0B (arg3.view.read (Elt F) f3)) (at2 i (arg2.view.read (Elt F) f2))) (Scalar.muli (kiw i) 384#32) (iota .tc S384x384 32 [0] iota_S384x384_d0_w32)) (constant S384x128 .f32 0x00000000#32))
      (arg8.view.writes (Elt F) (arg8.view.writes (Elt F) arg8.view.junk [⟨Rect.unit ![0, 0] S4224x256.size inb_S4224x256_S4224x256_0_0, k0_pay86⟩])
      [⟨Rect.unit (k0_off3 i) S384x128.size (k0_off3_inb i), k0_pay115 (k0_pay91 (k1B (arg3.view.read (Elt F) f3))) (ds1 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off3 i) S384x128.size (k0_off3_inb i)).toLoadRect (arg8.view.writes (Elt F) (arg8.view.writes (Elt F) arg8.view.junk [⟨Rect.unit ![0, 0] S4224x256.size inb_S4224x256_S4224x256_0_0, k0_pay86⟩]) [⟨Rect.unit (k0_off2 i) S384x128.size (k0_off2_inb i), k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off2 i) S384x128.size (k0_off2_inb i)).toLoadRect (arg8.view.writes (Elt F) arg8.view.junk [⟨Rect.unit ![0, 0] S4224x256.size inb_S4224x256_S4224x256_0_0, k0_pay86⟩]))⟩]))⟩,
        ⟨Rect.unit (k0_off2 i) S384x128.size (k0_off2_inb i), k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off2 i) S384x128.size (k0_off2_inb i)).toLoadRect (arg8.view.writes (Elt F) arg8.view.junk [⟨Rect.unit ![0, 0] S4224x256.size inb_S4224x256_S4224x256_0_0, k0_pay86⟩]))⟩]))
  sl_for I1.inv $$ [H2 H5 H6 H7 H8]
  case region => exact I1.step
  · iapply (Entails.of_eq (inv1_eq ..).symm)
    isplitl [H2 H5 H6 H7]
    · isplitl [H2]; · iexact H2
      isplitl [H5]; · iexact H5
      isplitl [H6]; · iexact H6
      iexact H7
    isplitl [H8]
    · iexists _
      isplitl [H8]; · iexact H8
      ipureintro; rfl
    · ipureintro; rfl
  iintro %acc1 HI
  icases (Entails.of_eq (inv1_eq ..)) $$ HI with ⟨⟨H2, H5, H6, H7⟩, ⟨%g1, H8, %hg1⟩, %ha1⟩
  obtain ⟨a0, a1, a2⟩ := acc1
  sl_exec_parts
  let I3 := (inv3 c i arg2 harg2 arg3 harg3 arg4 harg4 arg5 harg5 arg6 harg6 arg7 harg7 arg8 harg8 arg9 harg9 arg10 harg10 k0_pay87 k0_pay88 (vB (arg4.view.read (Elt F) f4)) (k0_pay90 (k0B (arg3.view.read (Elt F) f3))) (k0_pay91 (k1B (arg3.view.read (Elt F) f3))) f2 f5 f6 f7 (Scalar.addi (kiw i) 1#32) (a0, a1, a2) g1)
  sl_for I3.inv $$ [H2 H5 H6 H7 H8]
  case region => exact I3.step
  · iapply (Entails.of_eq (inv3_eq ..).symm)
    isplitl [H2 H5 H6 H7]
    · isplitl [H2]; · iexact H2
      isplitl [H5]; · iexact H5
      isplitl [H6]; · iexact H6
      iexact H7
    isplitl [H8]
    · iexists _
      isplitl [H8]; · iexact H8
      ipureintro; rfl
    · ipureintro; rfl
  iintro %acc3 HI
  icases (Entails.of_eq (inv3_eq ..)) $$ HI with ⟨⟨H2, H5, H6, H7⟩, ⟨%g3, H8, %hg3⟩, %ha3⟩
  obtain ⟨b0, b1, b2⟩ := acc3
  sl_exec_parts
  sl_step
  have e7 : arg8.view.read (Elt F) (arg8.view.writes (Elt F) arg8.view.junk [⟨Rect.unit ![0, 0] S4224x256.size inb_S4224x256_S4224x256_0_0, k0_pay86⟩]) = k0_pay86 := View.read_writes_full _ _ _ _ _
  have e8 : arg8.view.read (Elt F) (arg8.view.writes (Elt F) (arg8.view.writes (Elt F) arg8.view.junk [⟨Rect.unit ![0, 0] S4224x256.size inb_S4224x256_S4224x256_0_0, k0_pay86⟩]) [⟨Rect.unit (k0_off2 i) S384x128.size (k0_off2_inb i), k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off2 i) S384x128.size (k0_off2_inb i)).toLoadRect (arg8.view.writes (Elt F) arg8.view.junk [⟨Rect.unit ![0, 0] S4224x256.size inb_S4224x256_S4224x256_0_0, k0_pay86⟩]))⟩])
      = VecWindow.put k0_pay86 (k0_off2 i) S384x128.size (k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (at2 i k0_pay86)) := by
    rw [View.read_writes_cons_put _ _ _ _ _ rfl, View.readAt_unit arg8.view _ (k0_off2_inb i) rfl (k0_off2_inb i), View.writes_nil, e7]
  have e9 : VecWindow.put (arg8.view.read (Elt F) (arg8.view.writes (Elt F) (arg8.view.writes (Elt F) arg8.view.junk [⟨Rect.unit ![0, 0] S4224x256.size inb_S4224x256_S4224x256_0_0, k0_pay86⟩]) [⟨Rect.unit (k0_off2 i) S384x128.size (k0_off2_inb i), k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off2 i) S384x128.size (k0_off2_inb i)).toLoadRect (arg8.view.writes (Elt F) arg8.view.junk [⟨Rect.unit ![0, 0] S4224x256.size inb_S4224x256_S4224x256_0_0, k0_pay86⟩]))⟩])) (k0_off3 i) S384x128.size
          (k0_pay115 (k0_pay91 (k1B (arg3.view.read (Elt F) f3))) (ds1 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off3 i) S384x128.size (k0_off3_inb i)).toLoadRect (arg8.view.writes (Elt F) (arg8.view.writes (Elt F) arg8.view.junk [⟨Rect.unit ![0, 0] S4224x256.size inb_S4224x256_S4224x256_0_0, k0_pay86⟩]) [⟨Rect.unit (k0_off2 i) S384x128.size (k0_off2_inb i), k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off2 i) S384x128.size (k0_off2_inb i)).toLoadRect (arg8.view.writes (Elt F) arg8.view.junk [⟨Rect.unit ![0, 0] S4224x256.size inb_S4224x256_S4224x256_0_0, k0_pay86⟩]))⟩])))
      = (stepD i (arg2.view.read (Elt F) f2) (arg3.view.read (Elt F) f3) (arg4.view.read (Elt F) f4) (arg5.view.read (Elt F) f5) (arg6.view.read (Elt F) f6) (arg7.view.read (Elt F) f7) k0_pay86).2 := by
    rw [View.readAt_unit arg8.view _ (k0_off3_inb i) rfl (k0_off3_inb i), e8, VecWindow.window_put_of_disjoint _ _ _ _ _ _ _ 1 (off23 i)]
    rfl
  have e1 : ((a0, a1, a2), arg8.view.read (Elt F) g1)
      = st1 i k0_pay87 k0_pay88 (vB (arg4.view.read (Elt F) f4)) (k0_pay90 (k0B (arg3.view.read (Elt F) f3))) (k0_pay91 (k1B (arg3.view.read (Elt F) f3))) (arg2.view.read (Elt F) f2) (arg5.view.read (Elt F) f5) (arg6.view.read (Elt F) f6) (arg7.view.read (Elt F) f7) (kiw i) (Scalar.addi (kiw i) 1#32)
      (stepD i (arg2.view.read (Elt F) f2) (arg3.view.read (Elt F) f3) (arg4.view.read (Elt F) f4) (arg5.view.read (Elt F) f5) (arg6.view.read (Elt F) f6) (arg7.view.read (Elt F) f7) k0_pay86) (k0_t1_loop i).trips := by
    refine (Prod.ext ha1 hg1).trans ?_
    unfold sm1
    rw [View.read_writes_cons_put _ _ _ _ _ rfl, e9]
    rfl
  have e3 : ((b0, b1, b2), arg8.view.read (Elt F) g3) = endSt c i arg2 arg3 arg4 arg5 arg6 arg7 arg8 f2 f3 f4 f5 f6 f7 f8 := by
    unfold endSt bodySt
    rw [if_pos h0, ← e1]
    exact Prod.ext ha3 hg3
  unfold endP
  rw [← e3]
  isplitl [H2 H3 H4 H5 H6 H7]
  · isplitl [H2 H5 H6 H7]
    · isplitl [H2]; · iexact H2
      isplitl [H5]; · iexact H5
      isplitl [H6]; · iexact H6
      iexact H7
    isplitl [H3]; · iexact H3
    iexact H4
  isplitl [H8]
  · iexists g3
    isplitl [H8]; · iexact H8
    ipureintro; rfl
  isplitl [H9]
  · iexists _
    isplitl [H9]; · iexact H9
    ipureintro
    rw [View.read_writes_cons_put _ _ _ _ _ rfl, View.read_writes_cons_put _ _ _ _ _ rfl]
    exact put_halves _ _ _ _
  · iexists _
    isplitl [H10]; · iexact H10
    ipureintro
    exact View.read_writes_full _ _ _ _ _

set_option maxHeartbeats 8000000 in
/-- The body at a point of a later key block. -/
theorem body_rest (h0 : (i 1).val ≠ 0) :
    startP c arg2 arg3 arg4 arg5 arg6 arg7 arg8 arg9 arg10 f2 f3 f4 f5 f6 f7 f8 f9 f10
      ⊢ wp Idealize.ShloMosaic.frame (wpE defs₀ Variants.none (c : Thread nD τ) none) Set.univ (cc0_attn_bwd i arg2 harg2 arg3 harg3 arg4 harg4 arg5 harg5 arg6 harg6 arg7 harg7 arg8 harg8 arg9 harg9 arg10 harg10)
        fun _ => endP c i arg2 arg3 arg4 arg5 arg6 arg7 arg8 arg9 arg10 f2 f3 f4 f5 f6 f7 f8 := by
  have hc : ¬ (Scalar.cmpi .ne (Scalar.extui (Scalar.cmpi .eq (BitVec.ofNat 32 (i 1).val) 0#32) : BitVec 32) 0#32 = 1#1) := fun h => h0 ((isFirst i).mp h)
  rw [cc0_attn_bwd_eq_skeleton]
  iintro ⟨⟨⟨H2, H5, H6, H7⟩, H3, H4⟩, H8, H9, H10⟩
  sl_exec_parts
  let I1 := (inv1 c i arg2 harg2 arg3 harg3 arg4 harg4 arg5 harg5 arg6 harg6 arg7 harg7 arg8 harg8 arg9 harg9 arg10 harg10 (kiw i) k0_pay87 k0_pay88 (vB (arg4.view.read (Elt F) f4)) (k0_pay90 (k0B (arg3.view.read (Elt F) f3))) (k0_pay91 (k1B (arg3.view.read (Elt F) f3))) k0_pay92 (Scalar.muli (kiw i) 384#32)
      (k0_pay96 (at2 i (arg2.view.read (Elt F) f2))) (k0_pay97 (at3 i (arg2.view.read (Elt F) f2))) (k0_pay106 k0_pay88 (k0_pay93 (at1 i (arg7.view.read (Elt F) f7))))
      (ds0 i (arg2.view.read (Elt F) f2) (arg3.view.read (Elt F) f3) (arg4.view.read (Elt F) f4) (arg5.view.read (Elt F) f5) (arg6.view.read (Elt F) f6) (arg7.view.read (Elt F) f7))
      (ds1 i (arg2.view.read (Elt F) f2) (arg3.view.read (Elt F) f3) (arg4.view.read (Elt F) f4) (arg5.view.read (Elt F) f5) (arg6.view.read (Elt F) f6) (arg7.view.read (Elt F) f7))
      (k0_pay109 (kiw i) (k0_pay95 (at1 i (arg6.view.read (Elt F) f6))) (k0_pay99 (k1B (arg3.view.read (Elt F) f3)) (at3 i (arg2.view.read (Elt F) f2))) (Scalar.muli (kiw i) 384#32) (iota .tc S384x384 32 [0] iota_S384x384_d0_w32))
      (k0_pay110 (kiw i) k0_pay87 k0_pay92 (k0_pay93 (at1 i (arg7.view.read (Elt F) f7))) (k0_pay95 (at1 i (arg6.view.read (Elt F) f6))) (k0_pay98 (k0B (arg3.view.read (Elt F) f3)) (at2 i (arg2.view.read (Elt F) f2))) (Scalar.muli (kiw i) 384#32) (iota .tc S384x384 32 [0] iota_S384x384_d0_w32)) (constant S384x128 .f32 0x00000000#32) f2 f5 f6 f7 (Scalar.addi (kiw i) 1#32)
      (k0_pay112 k0_pay92 (k0_pay96 (at2 i (arg2.view.read (Elt F) f2))) (ds0 i (arg2.view.read (Elt F) f2) (arg3.view.read (Elt F) f3) (arg4.view.read (Elt F) f4) (arg5.view.read (Elt F) f5) (arg6.view.read (Elt F) f6) (arg7.view.read (Elt F) f7)), k0_pay113 k0_pay92 (k0_pay97 (at3 i (arg2.view.read (Elt F) f2))) (ds1 i (arg2.view.read (Elt F) f2) (arg3.view.read (Elt F) f3) (arg4.view.read (Elt F) f4) (arg5.view.read (Elt F) f5) (arg6.view.read (Elt F) f6) (arg7.view.read (Elt F) f7)), k0_pay111 (k0_pay106 k0_pay88 (k0_pay93 (at1 i (arg7.view.read (Elt F) f7)))) (k0_pay109 (kiw i) (k0_pay95 (at1 i (arg6.view.read (Elt F) f6))) (k0_pay99 (k1B (arg3.view.read (Elt F) f3)) (at3 i (arg2.view.read (Elt F) f2))) (Scalar.muli (kiw i) 384#32) (iota .tc S384x384 32 [0] iota_S384x384_d0_w32)) (k0_pay110 (kiw i) k0_pay87 k0_pay92 (k0_pay93 (at1 i (arg7.view.read (Elt F) f7))) (k0_pay95 (at1 i (arg6.view.read (Elt F) f6))) (k0_pay98 (k0B (arg3.view.read (Elt F) f3)) (at2 i (arg2.view.read (Elt F) f2))) (Scalar.muli (kiw i) 384#32) (iota .tc S384x384 32 [0] iota_S384x384_d0_w32)) (constant S384x128 .f32 0x00000000#32))
      (arg8.view.writes (Elt F) f8
      [⟨Rect.unit (k0_off3 i) S384x128.size (k0_off3_inb i), k0_pay115 (k0_pay91 (k1B (arg3.view.read (Elt F) f3))) (ds1 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off3 i) S384x128.size (k0_off3_inb i)).toLoadRect f8)⟩,
        ⟨Rect.unit (k0_off2 i) S384x128.size (k0_off2_inb i), k0_pay114 (k0_pay90 (k0B (arg3.view.read (Elt F) f3))) (ds0 i (arg2.view.read (Elt F) f2) (arg3.view.read (Elt F) f3) (arg4.view.read (Elt F) f4) (arg5.view.read (Elt F) f5) (arg6.view.read (Elt F) f6) (arg7.view.read (Elt F) f7)) (View.readAt (Elt F) arg8.view (Rect.unit (s := S4224x256) (k0_off2 i) S384x128.size (k0_off2_inb i)).toLoadRect f8)⟩]))
  sl_for I1.inv $$ [H2 H5 H6 H7 H8]
  case region => exact I1.step
  · iapply (Entails.of_eq (inv1_eq ..).symm)
    isplitl [H2 H5 H6 H7]
    · isplitl [H2]; · iexact H2
      isplitl [H5]; · iexact H5
      isplitl [H6]; · iexact H6
      iexact H7
    isplitl [H8]
    · iexists _
      isplitl [H8]; · iexact H8
      ipureintro; rfl
    · ipureintro; rfl
  iintro %acc1 HI
  icases (Entails.of_eq (inv1_eq ..)) $$ HI with ⟨⟨H2, H5, H6, H7⟩, ⟨%g1, H8, %hg1⟩, %ha1⟩
  obtain ⟨a0, a1, a2⟩ := acc1
  sl_exec_parts
  let I3 := (inv3 c i arg2 harg2 arg3 harg3 arg4 harg4 arg5 harg5 arg6 harg6 arg7 harg7 arg8 harg8 arg9 harg9 arg10 harg10 k0_pay87 k0_pay88 (vB (arg4.view.read (Elt F) f4)) (k0_pay90 (k0B (arg3.view.read (Elt F) f3))) (k0_pay91 (k1B (arg3.view.read (Elt F) f3))) f2 f5 f6 f7 (Scalar.addi (kiw i) 1#32) (a0, a1, a2) g1)
  sl_for I3.inv $$ [H2 H5 H6 H7 H8]
  case region => exact I3.step
  · iapply (Entails.of_eq (inv3_eq ..).symm)
    isplitl [H2 H5 H6 H7]
    · isplitl [H2]; · iexact H2
      isplitl [H5]; · iexact H5
      isplitl [H6]; · iexact H6
      iexact H7
    isplitl [H8]
    · iexists _
      isplitl [H8]; · iexact H8
      ipureintro; rfl
    · ipureintro; rfl
  iintro %acc3 HI
  icases (Entails.of_eq (inv3_eq ..)) $$ HI with ⟨⟨H2, H5, H6, H7⟩, ⟨%g3, H8, %hg3⟩, %ha3⟩
  obtain ⟨b0, b1, b2⟩ := acc3
  sl_exec_parts
  sl_step
  have e1 : ((a0, a1, a2), arg8.view.read (Elt F) g1)
      = st1 i k0_pay87 k0_pay88 (vB (arg4.view.read (Elt F) f4)) (k0_pay90 (k0B (arg3.view.read (Elt F) f3))) (k0_pay91 (k1B (arg3.view.read (Elt F) f3))) (arg2.view.read (Elt F) f2) (arg5.view.read (Elt F) f5) (arg6.view.read (Elt F) f6) (arg7.view.read (Elt F) f7) (kiw i) (Scalar.addi (kiw i) 1#32)
      (stepD i (arg2.view.read (Elt F) f2) (arg3.view.read (Elt F) f3) (arg4.view.read (Elt F) f4) (arg5.view.read (Elt F) f5) (arg6.view.read (Elt F) f6) (arg7.view.read (Elt F) f7) (arg8.view.read (Elt F) f8)) (k0_t1_loop i).trips := by
    refine (Prod.ext ha1 hg1).trans ?_
    unfold sm1
    rw [View.read_writes_cons_put _ _ _ _ _ rfl, View.read_writes_cons_put _ _ _ _ _ rfl, View.writes_nil]
    rfl
  have e3 : ((b0, b1, b2), arg8.view.read (Elt F) g3) = endSt c i arg2 arg3 arg4 arg5 arg6 arg7 arg8 f2 f3 f4 f5 f6 f7 f8 := by
    unfold endSt bodySt
    rw [if_neg h0, ← e1]
    exact Prod.ext ha3 hg3
  unfold endP
  rw [← e3]
  isplitl [H2 H3 H4 H5 H6 H7]
  · isplitl [H2 H5 H6 H7]
    · isplitl [H2]; · iexact H2
      isplitl [H5]; · iexact H5
      isplitl [H6]; · iexact H6
      iexact H7
    isplitl [H3]; · iexact H3
    iexact H4
  isplitl [H8]
  · iexists g3
    isplitl [H8]; · iexact H8
    ipureintro; rfl
  isplitl [H9]
  · iexists _
    isplitl [H9]; · iexact H9
    ipureintro
    rw [View.read_writes_cons_put _ _ _ _ _ rfl, View.read_writes_cons_put _ _ _ _ _ rfl]
    exact put_halves _ _ _ _
  · iexists _
    isplitl [H10]; · iexact H10
    ipureintro
    exact View.read_writes_full _ _ _ _ _

end Run
end Cert.KernelIdeal.Attn
-- ==== Proof.KernelIdeal.Frame.lean ====
/- The run of the kernel's program: what each window's buffer holds after each grid point, the body's obligation there,
   the launch, and the frame claim. -/
module

public import proofs.«01_k».proof.Proof.KernelIdeal.Body
public import Idealize.ShloMosaic.Lib.Claim

@[expose] public section

set_option maxRecDepth 16384

noncomputable section

namespace Cert.KernelIdeal.Attn

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The body on whole buffers: the operands' kept, each result's at what the end state says. -/
theorem body_owns (c : Dev nD) (i : grid0.Coords) (arg2 : Memref sig .tc .vmem S4224x256 .bf16) (harg2 : arg2.IsWhole) (arg3 : Memref sig .tc .vmem S384x256 .bf16) (harg3 : arg3.IsWhole) (arg4 : Memref sig .tc .vmem S384x128 .bf16) (harg4 : arg4.IsWhole) (arg5 : Memref sig .tc .vmem S4224x128 .bf16) (harg5 : arg5.IsWhole) (arg6 : Memref sig .tc .vmem S4224x128 .f32) (harg6 : arg6.IsWhole) (arg7 : Memref sig .tc .vmem S4224x128 .f32) (harg7 : arg7.IsWhole) (arg8 : Memref sig .tc .vmem S4224x256 .f32) (harg8 : arg8.IsWhole) (arg9 : Memref sig .tc .vmem S384x256 .f32) (harg9 : arg9.IsWhole) (arg10 : Memref sig .tc .vmem S384x128 .bf16) (harg10 : arg10.IsWhole)
    (x2 : Vec F S4224x256 .bf16) (x3 : Vec F S384x256 .bf16) (x4 : Vec F S384x128 .bf16) (x5 : Vec F S4224x128 .bf16) (x6 x7 : Vec F S4224x128 .f32) (x8 : Vec F S4224x256 .f32) (K : PUnit → sProp 𝕄) :
    iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
        ∗ owns (c : Thread nD τ) arg8 fullShare x8 ∗ (∃ d, owns (c : Thread nD τ) arg9 fullShare d) ∗ (∃ d, owns (c : Thread nD τ) arg10 fullShare d)
        ∗ (iprop(owns (c : Thread nD τ) arg2 fullShare x2
        ∗ owns (c : Thread nD τ) arg3 fullShare x3
        ∗ owns (c : Thread nD τ) arg4 fullShare x4
        ∗ owns (c : Thread nD τ) arg5 fullShare x5
        ∗ owns (c : Thread nD τ) arg6 fullShare x6
        ∗ owns (c : Thread nD τ) arg7 fullShare x7
            ∗ owns (c : Thread nD τ) arg8 fullShare (bodySt i x2 x3 x4 x5 x6 x7 x8).2
            ∗ owns (c : Thread nD τ) arg9 fullShare (outDk (bodySt i x2 x3 x4 x5 x6 x7 x8).1)
            ∗ owns (c : Thread nD τ) arg10 fullShare (outDv (bodySt i x2 x3 x4 x5 x6 x7 x8).1)) -∗ K ⟨⟩))
      ⊢ wp Idealize.ShloMosaic.frame (wpE (defs₀ (F := F)) Variants.none (c : Thread nD τ) none) Set.univ (cc0_attn_bwd i arg2 harg2 arg3 harg3 arg4 harg4 arg5 harg5 arg6 harg6 arg7 harg7 arg8 harg8 arg9 harg9 arg10 harg10) K := by
  unfold owns
  iintro ⟨⟨%f2, %h2, H2⟩, ⟨%f3, %h3, H3⟩, ⟨%f4, %h4, H4⟩, ⟨%f5, %h5, H5⟩, ⟨%f6, %h6, H6⟩, ⟨%f7, %h7, H7⟩, ⟨%f8, %h8, H8⟩, ⟨%d9, %f9, -, H9⟩, ⟨%d10, %f10, -, H10⟩, Hk⟩
  subst h2 h3 h4 h5 h6 h7 h8
  have hrun : startP c arg2 arg3 arg4 arg5 arg6 arg7 arg8 arg9 arg10 f2 f3 f4 f5 f6 f7 f8 f9 f10
      ⊢ wp Idealize.ShloMosaic.frame (wpE (defs₀ (F := F)) Variants.none (c : Thread nD τ) none) Set.univ (cc0_attn_bwd i arg2 harg2 arg3 harg3 arg4 harg4 arg5 harg5 arg6 harg6 arg7 harg7 arg8 harg8 arg9 harg9 arg10 harg10)
        fun _ => endP c i arg2 arg3 arg4 arg5 arg6 arg7 arg8 arg9 arg10 f2 f3 f4 f5 f6 f7 f8 := by
    by_cases h0 : (i 1).val = 0
    · exact body_first c i arg2 harg2 arg3 harg3 arg4 harg4 arg5 harg5 arg6 harg6 arg7 harg7 arg8 harg8 arg9 harg9 arg10 harg10 f2 f3 f4 f5 f6 f7 f8 f9 f10 h0
    · exact body_rest c i arg2 harg2 arg3 harg3 arg4 harg4 arg5 harg5 arg6 harg6 arg7 harg7 arg8 harg8 arg9 harg9 arg10 harg10 f2 f3 f4 f5 f6 f7 f8 f9 f10 h0
  iapply (wp_wand_r Idealize.ShloMosaic.frame (wpE (defs₀ (F := F)) Variants.none (c : Thread nD τ) none) Set.univ)
  isplitl [H2 H3 H4 H5 H6 H7 H8 H9 H10]
  · iapply hrun
    isplitl [H2 H3 H4 H5 H6 H7]
    · isplitl [H2 H5 H6 H7]
      · isplitl [H2]; · iexact H2
        isplitl [H5]; · iexact H5
        isplitl [H6]; · iexact H6
        iexact H7
      isplitl [H3]; · iexact H3
      iexact H4
    isplitl [H8]; · iexact H8
    isplitl [H9]; · iexact H9
    iexact H10
  iintro %u ⟨⟨⟨H2, H5, H6, H7⟩, H3, H4⟩, ⟨%g8, H8, %hg8⟩, ⟨%g9, H9, %hg9⟩, ⟨%g10, H10, %hg10⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists g8; isplitr; · ipureintro; exact hg8
    iexact H8
  isplitl [H9]
  · iexists g9; isplitr; · ipureintro; exact hg9
    iexact H9
  iexists g10; isplitr; · ipureintro; exact hg10
  iexact H10

/-! ## The pipeline's data -/

variable (m : (ℓ : Loc nD τ sig) → Buf (Elt F) ℓ) (ρ : Dev nD → PrngReg)

/-- The state after the body at point `n` (nothing past the last), from dq's block `d`. -/
def ptSt (c : Dev nD) (n : ℕ) (d : Vec F S4224x256 .f32) : St F :=
  if h : n < cfg0.N then bodySt (grid0.coords ⟨n, h⟩) (iblk m c 0 ⟨n, h⟩) (iblk m c 1 ⟨n, h⟩) (iblk m c 2 ⟨n, h⟩) (iblk m c 3 ⟨n, h⟩) (iblk m c 4 ⟨n, h⟩) (iblk m c 5 ⟨n, h⟩) d
  else ((constant S384x128 .f32 0x00000000#32, constant S384x128 .f32 0x00000000#32, constant S384x128 .f32 0x00000000#32), constant S4224x256 .f32 0x00000000#32)

/-- The states in sequence: dq's block goes from one point to the next. -/
def stAt (c : Dev nD) : ℕ → St F
  | 0 => ptSt m c 0 (constant S4224x256 .f32 0x00000000#32)
  | n + 1 => ptSt m c (n + 1) (stAt c n).2

/-- At a point of key block 0 the body makes nothing of what dq's block held. -/
theorem bodySt_first (i : grid0.Coords) (h : (i 1).val = 0) (x2 : Vec F S4224x256 .bf16) (x3 : Vec F S384x256 .bf16) (x4 : Vec F S384x128 .bf16) (x5 : Vec F S4224x128 .bf16) (x6 x7 : Vec F S4224x128 .f32) (d d' : Vec F S4224x256 .f32) :
    bodySt i x2 x3 x4 x5 x6 x7 d = bodySt i x2 x3 x4 x5 x6 x7 d' := by
  unfold bodySt; rw [if_pos h, if_pos h]

/-- The key block of point `t`. -/
theorem coords_1 (t : Fin cfg0.N) : ((grid0.coords t) 1).val = t.val % 11 :=
  (by decide +kernel : ∀ t : Fin grid0.N, ((grid0.coords t) 1).val = t.val % 11) t
/-- The head pair of point `t`. -/
theorem coords_0 (t : Fin cfg0.N) : ((grid0.coords t) 0).val = t.val / 11 :=
  (by decide +kernel : ∀ t : Fin grid0.N, ((grid0.coords t) 0).val = t.val / 11) t

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (stAt m c t.val).2
    | ⟨7, _⟩ => outDk (stAt m c t.val).1
    | ⟨8, _⟩ => outDv (stAt m c t.val).1
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = (stAt m c t.val).2 := by dsimp only [dats]
theorem after7 (c : Dev nD) (t : Fin cfg0.N) : (dats m 0 c).after 7 t = outDk (stAt m c t.val).1 := by dsimp only [dats]
theorem after8 (c : Dev nD) (t : Fin cfg0.N) : (dats m 0 c).after 8 t = outDv (stAt m c t.val).1 := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d
/-- dq's block before a later point of the pair is what the point before left. -/
theorem before6 (c : Dev nD) (t : Fin cfg0.N) (h : t.val % 11 ≠ 0) (d) : (dats m 0 c).before 6 t d = (stAt m c (t.val - 1)).2 := by
  have hN : cfg0.N = 88 := N_0
  have ht := t.isLt
  have hne : t.val ≠ 0 := fun h0 => h (by rw [h0])
  refine ((dats m 0 c).before_out_kept 6 rfl t hne ?_ (fun _ => rfl) (fun _ _ => rfl) d).trans (after6 m c _)
  refine Bool.eq_false_iff.mpr fun hf => ?_
  have := (flush0_6 _).mp hf
  have h10 : (t.val - 1) % 11 = 10 := this
  omega

/-- The body at point `t`, from what it finds, ends in the sequence's state. -/
theorem st_at (c : Dev nD) (t : Fin cfg0.N) (d) :
    bodySt (grid0.coords t) (iblk m c 0 t) (iblk m c 1 t) (iblk m c 2 t) (iblk m c 3 t) (iblk m c 4 t) (iblk m c 5 t) ((dats m 0 c).before 6 t d) = stAt m c t.val := by
  have hp : ∀ e, ptSt m c t.val e = bodySt (grid0.coords t) (iblk m c 0 t) (iblk m c 1 t) (iblk m c 2 t) (iblk m c 3 t) (iblk m c 4 t) (iblk m c 5 t) e := fun e => by
    unfold ptSt; rw [dif_pos t.isLt]
  by_cases h : t.val % 11 = 0
  · have hs : ∃ e, stAt m c t.val = ptSt m c t.val e := by
      rcases hn : t.val with _ | n
      · exact ⟨_, rfl⟩
      · exact ⟨_, rfl⟩
    obtain ⟨e, he⟩ := hs
    rw [he, hp]
    exact bodySt_first _ ((coords_1 t).trans h) _ _ _ _ _ _ _ _
  · rw [before6 m c t h d, ← hp]
    obtain ⟨n, hn⟩ : ∃ n, t.val = n + 1 := ⟨t.val - 1, by omega⟩
    rw [hn]; rfl

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t))

/-- The body's obligation at a point. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  rw [← st_at m c t d6]
  iapply (body_owns c _ _ _ _ _ _ _ _ _ _ _ _ _ _ _ _ _ _ _ (iblk m c 0 t) (iblk m c 1 t) (iblk m c 2 t) (iblk m c 3 t) (iblk m c 4 t) (iblk m c 5 t) ((dats m 0 c).before 6 t d6) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  iintro ⟨H0, H1, H2, H3, H4, H5, H6, H7, H8⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- Every fair run ends with the arrays at what the pipeline's data says and every counter at zero. -/
theorem run_zero : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_arrays : θ_run defs (onTc (τ := τ) (main (F := F))) (s₀ m ρ) (Pipeline.FramePost cfgs (dats m) 0 (V m)) :=
  (θ_run defs _ _).mono (fun _ h => h.1) (run_zero m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) (run_arrays m ρ)) ((θ_run defs _ _).mono (fun _ h => h.2) (run_zero m ρ))

end Cert.KernelIdeal.Attn
-- ==== Proof.KernelIdeal.Block.lean ====
/- One step of the attention gradient at real blocks: what each of the body's expressions is, written over the reals. -/
module

public import proofs.«01_k».proof.Proof.KernelIdeal.Body
public import Idealize.ShloMosaic.Lib.Pointwise

@[expose] public section

set_option maxRecDepth 16384

noncomputable section

namespace Cert.KernelIdeal.Attn

open Cert.KernelIdeal Cert.KernelIdeal.Gen
open Idealize.ShloMosaic

/-- A matrix of reals, as a vector of extended reals. -/
def cM {a b : ℕ} (f : Fin a → Fin b → ℝ) : (⟨2, ![a, b]⟩ : Shape).Idx → EReal := fun j => ((f (j 0) (j 1) : ℝ) : EReal)
/-- A matrix of truth values, as a vector of bits. -/
def bM {a b : ℕ} (f : Fin a → Fin b → Bool) : IVec (⟨2, ![a, b]⟩ : Shape) 1 := fun j => BitVec.ofBool (f (j 0) (j 1))

theorem coe_sum {n : ℕ} (f : Fin n → ℝ) : ((∑ i, f i : ℝ) : EReal) = ∑ i, (f i : EReal) := by
  induction n with
  | zero => simp
  | succ n ih => rw [Fin.sum_univ_castSucc, Fin.sum_univ_castSucc, EReal.coe_add, ih]

/-- A block of reals, and a matrix between two blocks of rows. -/
abbrev Blk : Type := Fin 384 → Fin 128 → ℝ
abbrev Sq : Type := Fin 384 → Fin 384 → ℝ

/-- `A Bᵀ`. -/
def ntV (A B : Blk) : Sq := fun r c => ∑ d, A r d * B c d
/-- `Pᵀ D`. -/
def tnV (P : Sq) (D : Blk) : Blk := fun c j => ∑ r, P r c * D r j
/-- `P K`. -/
def nnV (P : Sq) (K : Blk) : Blk := fun r d => ∑ c, P r c * K c d
/-- The weights, from the scores and the row sums' column `n`. -/
def pV (va : Fin 384 → Fin 384 → Bool) (n : Fin 128) (S : Sq) (L : Blk) : Sq := fun r c => if va r c then Real.rpow 2 (S r c - L r n) else 0
/-- A head's half of the cotangent. -/
def domV (h : Fin 128 → Bool) (G : Blk) : Blk := fun r j => if h j then G r j else 0
/-- A row's product of the cotangent and the output. -/
def delV (D O : Blk) : Fin 384 → ℝ := fun r => ∑ j, D r j * O r j
/-- The gradient of the scores. -/
def dsV (P DP : Sq) (d : Fin 384 → ℝ) : Sq := fun r c => P r c * (DP r c - d r)
def addV (A B : Blk) : Blk := fun c d => A c d + B c d
/-- A column. -/
def colV (d : Fin 384 → ℝ) : Fin 384 → Fin 1 → ℝ := fun r _ => d r

def lo : Fin 128 → Bool := fun j => decide (j.val < 64)
def hi : Fin 128 → Bool := fun j => decide (64 ≤ j.val)
def hB (h : Fin 128 → Bool) : IVec S384x128 1 := bM fun _ j => h j
def tt : Fin 384 → Fin 384 → Bool := fun _ _ => true
def zV : Blk := fun _ _ => 0

theorem ofBool_one (b : Bool) : (BitVec.ofBool b = 1#1) ↔ b = true := by cases b <;> decide
theorem sel {α : Type} (b : Bool) (x y : α) : Scalar.select (BitVec.ofBool b) x y = if b then x else y := by cases b <;> rfl
theorem dom_eq (b : Bool) (x : ℝ) : (if b = true then (x : EReal) else 0) = ((if b then x else 0 : ℝ) : EReal) := by cases b <;> rfl
theorem mask_bot : (Named.named (F := Ideal) (φ := .f32) κ "mask" 0xF149F2CA#32 : EReal) = ⊥ := IdealRules.named_const.ideal_named_scalar _ _ _ _ rfl
theorem ln2_real : (Named.named (F := Ideal) (φ := .f32) κ "ln2" 0x3F317218#32 : EReal) = ((Real.log 2 : ℝ) : EReal) := IdealRules.named_const.ideal_named_scalar _ _ _ _ rfl
theorem exp2_eq (x : EReal) : (FloatOps.exp2 (F := Ideal) (φ := .f32) x : EReal) = Ideal.exp2 x := rfl
theorem p_eq (b : Bool) (x l : ℝ) : Ideal.exp2 ((if b then (x : EReal) else ⊥) - (l : EReal)) = ((if b then Real.rpow 2 (x - l) else 0 : ℝ) : EReal) := by
  cases b
  · rw [if_neg (by decide), if_neg (by decide), EReal.bot_sub, Ideal.exp2_bot, EReal.coe_zero]
  · rw [if_pos rfl, if_pos rfl, ← EReal.coe_sub, Ideal.exp2_coe]

theorem k18 (X : Blk) : k0_pay18 (F := Ideal) (cM X) = cM X := by
  funext j
  pointwise [k0_pay18, cM]
theorem k19 (X : Blk) : k0_pay19 (F := Ideal) (cM X) = cM X := by
  funext j
  pointwise [k0_pay19, cM]
theorem k20 (X : Blk) : k0_pay20 (F := Ideal) (cM X) = cM X := by
  funext j
  pointwise [k0_pay20, cM]
theorem k21 (X : Blk) : k0_pay21 (F := Ideal) (cM X) = cM X := by
  funext j
  pointwise [k0_pay21, cM]
theorem k22 (X : Blk) : k0_pay22 (F := Ideal) (cM X) = cM X := by
  funext j
  pointwise [k0_pay22, cM]
theorem k61 (X : Blk) : k0_pay61 (F := Ideal) (cM X) = cM X := by
  funext j
  pointwise [k0_pay61, cM]
theorem k62 (X : Blk) : k0_pay62 (F := Ideal) (cM X) = cM X := by
  funext j
  pointwise [k0_pay62, cM]
theorem k89 (X : Blk) : k0_pay89 (F := Ideal) (cM X) = cM X := by
  funext j
  pointwise [k0_pay89, cM]
theorem k90 (X : Blk) : k0_pay90 (F := Ideal) (cM X) = cM X := by
  funext j
  pointwise [k0_pay90, cM]
theorem k91 (X : Blk) : k0_pay91 (F := Ideal) (cM X) = cM X := by
  funext j
  pointwise [k0_pay91, cM]
theorem k93 (X : Blk) : k0_pay93 (F := Ideal) (cM X) = cM X := by
  funext j
  pointwise [k0_pay93, cM]
theorem k94 (X : Blk) : k0_pay94 (F := Ideal) (cM X) = cM X := by
  funext j
  pointwise [k0_pay94, cM]
theorem k95 (X : Blk) : k0_pay95 (F := Ideal) (cM X) = cM X := by
  funext j
  pointwise [k0_pay95, cM]
theorem k96 (X : Blk) : k0_pay96 (F := Ideal) (cM X) = cM X := by
  funext j
  pointwise [k0_pay96, cM]
theorem k97 (X : Blk) : k0_pay97 (F := Ideal) (cM X) = cM X := by
  funext j
  pointwise [k0_pay97, cM]
theorem k26 : k0_pay26 (F := Ideal) = cM zV := by
  funext j
  pointwise [k0_pay26, cM, zV]
  rfl
theorem k92 : k0_pay92 (F := Ideal) = cM zV := by
  funext j
  pointwise [k0_pay92, cM, zV]
  rfl
theorem k86 : k0_pay86 (F := Ideal) = cM (fun _ _ => 0) := by
  funext j
  pointwise [k0_pay86, cM]
  rfl
theorem lo_bit (j : Fin 128) : IntOp.cmpi .slt (BitVec.ofNat 32 j.val) 64#32 = BitVec.ofBool (lo j) := by
  revert j; decide +kernel
theorem hi_bit (j : Fin 128) : IntOp.cmpi .sge (BitVec.ofNat 32 j.val) 64#32 = BitVec.ofBool (hi j) := by
  revert j; decide +kernel
theorem k87 : k0_pay87 = hB lo := by
  funext j
  pointwise [k0_pay87, hB, bM]
  exact lo_bit (j 1)
theorem k88 : k0_pay88 = hB hi := by
  funext j
  pointwise [k0_pay88, hB, bM]
  exact hi_bit (j 1)

theorem k63 (Q K L : Blk) : k0_pay63 (F := Ideal) (cM K) (cM L) (cM Q) = cM (pV tt 0 (ntV Q K) L) := by
  funext j
  pointwise [k0_pay63, k0_pay60, k0_pay61, k0_pay62, cM]
  simp only [exp2_eq, ← coe_sum, ← EReal.coe_mul, ← EReal.coe_sub, Ideal.exp2_coe]
  rfl
theorem k64 (Q K L : Blk) : k0_pay64 (F := Ideal) (cM K) (cM L) (cM Q) = cM (pV tt 64 (ntV Q K) L) := by
  funext j
  pointwise [k0_pay64, k0_pay60, k0_pay61, k0_pay62, cM]
  simp only [exp2_eq, ← coe_sum, ← EReal.coe_mul, ← EReal.coe_sub, Ideal.exp2_coe]
  rfl
theorem k24 (i : grid0.Coords) (a v : BitVec 32) (k : Fin (k0_t1_loop i).trips) (va : Fin 384 → Fin 384 → Bool) (hva : k0_pay23 i a v 1#32 k = bM va) (Q K L : Blk) :
    k0_pay24 (F := Ideal) i a (cM K) v 1#32 k (cM L) (cM Q) = cM (pV va 0 (ntV Q K) L) := by
  funext j
  pointwise [k0_pay24, k0_pay20, k0_pay21, k0_pay22, cM, hva]
  simp only [bM, sel, exp2_eq, mask_bot, ← coe_sum, ← EReal.coe_mul, p_eq]
  rfl
theorem k25 (i : grid0.Coords) (a v : BitVec 32) (k : Fin (k0_t1_loop i).trips) (va : Fin 384 → Fin 384 → Bool) (hva : k0_pay23 i a v 1#32 k = bM va) (Q K L : Blk) :
    k0_pay25 (F := Ideal) i a (cM K) v 1#32 k (cM L) (cM Q) = cM (pV va 64 (ntV Q K) L) := by
  funext j
  pointwise [k0_pay25, k0_pay20, k0_pay21, k0_pay22, cM, hva]
  simp only [bM, sel, exp2_eq, mask_bot, ← coe_sum, ← EReal.coe_mul, p_eq]
  rfl
theorem k98 (Q K : Blk) : k0_pay98 (F := Ideal) (cM K) (cM Q) = cM (ntV Q K) := by
  funext j
  pointwise [k0_pay98, k0_pay90, k0_pay91, k0_pay96, k0_pay97, cM]
  simp only [ntV, coe_sum, EReal.coe_mul]
theorem k99 (Q K : Blk) : k0_pay99 (F := Ideal) (cM K) (cM Q) = cM (ntV Q K) := by
  funext j
  pointwise [k0_pay99, k0_pay90, k0_pay91, k0_pay96, k0_pay97, cM]
  simp only [ntV, coe_sum, EReal.coe_mul]
theorem k101 (a v : BitVec 32) (w : IVec S384x384 32) (va : Fin 384 → Fin 384 → Bool) (hva : k0_pay100 a v w = bM va) (L : Blk) (S : Sq) :
    k0_pay101 (F := Ideal) a (cM L) (cM S) v w = cM (pV va 0 S L) := by
  funext j
  pointwise [k0_pay101, cM, hva]
  simp only [bM, sel, exp2_eq, mask_bot, p_eq]
  rfl
theorem k102 (a v : BitVec 32) (w : IVec S384x384 32) (va : Fin 384 → Fin 384 → Bool) (hva : k0_pay100 a v w = bM va) (L : Blk) (S : Sq) :
    k0_pay102 (F := Ideal) a (cM L) (cM S) v w = cM (pV va 64 S L) := by
  funext j
  pointwise [k0_pay102, cM, hva]
  simp only [bM, sel, exp2_eq, mask_bot, p_eq]
  rfl
theorem k65 (h : Fin 128 → Bool) (G : Blk) : k0_pay65 (F := Ideal) (hB h) (cM G) = cM (domV h G) := by
  funext j
  pointwise [k0_pay65, k0_pay58, k0_pay65, k0_pay66, k0_pay28, k0_pay103, k0_pay104, cM, hB, bM]
  exact dom_eq _ _
theorem k66 (h : Fin 128 → Bool) (G : Blk) : k0_pay66 (F := Ideal) (hB h) (cM G) = cM (domV h G) := by
  funext j
  pointwise [k0_pay66, k0_pay58, k0_pay65, k0_pay66, k0_pay28, k0_pay103, k0_pay104, cM, hB, bM]
  exact dom_eq _ _
theorem k103 (h : Fin 128 → Bool) (G : Blk) : k0_pay103 (F := Ideal) (hB h) (cM G) = cM (domV h G) := by
  funext j
  pointwise [k0_pay103, k0_pay58, k0_pay65, k0_pay66, k0_pay28, k0_pay103, k0_pay104, cM, hB, bM]
  exact dom_eq _ _
theorem k104 (h : Fin 128 → Bool) (G : Blk) : k0_pay104 (F := Ideal) (hB h) (cM G) = cM (domV h G) := by
  funext j
  pointwise [k0_pay104, k0_pay58, k0_pay65, k0_pay66, k0_pay28, k0_pay103, k0_pay104, cM, hB, bM]
  exact dom_eq _ _
theorem k28 (h : Fin 128 → Bool) (G : Blk) : k0_pay28 (F := Ideal) (hB h) (cM G) = cM (domV h G) := by
  funext j
  pointwise [k0_pay28, k0_pay58, k0_pay65, k0_pay66, k0_pay28, k0_pay103, k0_pay104, cM, hB, bM]
  exact dom_eq _ _
theorem k68 (h : Fin 128 → Bool) (G : Blk) : k0_pay68 (F := Ideal) (hB h) (cM G) = cM (domV h G) := by
  funext j
  pointwise [k0_pay68, k0_pay58, k0_pay65, k0_pay66, k0_pay28, k0_pay103, k0_pay104, cM, hB, bM]
  exact dom_eq _ _
theorem k69 (h : Fin 128 → Bool) (G : Blk) : k0_pay69 (F := Ideal) (hB h) (cM G) = cM (domV h G) := by
  funext j
  pointwise [k0_pay69, k0_pay58, k0_pay65, k0_pay66, k0_pay28, k0_pay103, k0_pay104, cM, hB, bM]
  exact dom_eq _ _
theorem k105 (h : Fin 128 → Bool) (G : Blk) : k0_pay105 (F := Ideal) (hB h) (cM G) = cM (domV h G) := by
  funext j
  pointwise [k0_pay105, k0_pay58, k0_pay65, k0_pay66, k0_pay28, k0_pay103, k0_pay104, cM, hB, bM]
  exact dom_eq _ _
theorem k106 (h : Fin 128 → Bool) (G : Blk) : k0_pay106 (F := Ideal) (hB h) (cM G) = cM (domV h G) := by
  funext j
  pointwise [k0_pay106, k0_pay58, k0_pay65, k0_pay66, k0_pay28, k0_pay103, k0_pay104, cM, hB, bM]
  exact dom_eq _ _
theorem k30 (h : Fin 128 → Bool) (G : Blk) : k0_pay30 (F := Ideal) (hB h) (cM G) = cM (domV h G) := by
  funext j
  pointwise [k0_pay30, k0_pay58, k0_pay65, k0_pay66, k0_pay28, k0_pay103, k0_pay104, cM, hB, bM]
  exact dom_eq _ _
theorem k27 (h : Fin 128 → Bool) (G : Blk) : k0_pay27 (F := Ideal) (hB h) (cM G) (cM zV) = cM (domV h G) := by
  funext j
  pointwise [k0_pay27, k0_pay27, cM, hB, bM, zV]
  exact dom_eq _ _
theorem k29 (h : Fin 128 → Bool) (G : Blk) : k0_pay29 (F := Ideal) (hB h) (cM G) (cM zV) = cM (domV h G) := by
  funext j
  pointwise [k0_pay29, k0_pay27, cM, hB, bM, zV]
  exact dom_eq _ _
theorem k67 (h : Fin 128 → Bool) (G O : Blk) : k0_pay67 (F := Ideal) (hB h) (cM G) (cM O) = cM (colV (delV (domV h G) O)) := by
  funext j
  pointwise [k0_pay67, k66, k0_pay59, cM]
  simp only [colV, delV, coe_sum, EReal.coe_mul]
theorem k70 (h : Fin 128 → Bool) (V G : Blk) : k0_pay70 (F := Ideal) (hB h) (cM V) (cM G) = cM (ntV (domV h G) V) := by
  funext j
  pointwise [k0_pay70, k69, cM]
  simp only [ntV, coe_sum, EReal.coe_mul]
theorem k71 (h : Fin 128 → Bool) (V K G O L Q : Blk) : k0_pay71 (F := Ideal) (hB h) (cM V) (cM K) (cM G) (cM O) (cM L) (cM Q)
    = cM (dsV (pV tt 0 (ntV Q K) L) (ntV (domV h G) V) (delV (domV h G) O)) := by
  funext j
  pointwise [k0_pay71, k68, k65, k63, k0_pay59, cM]
  simp only [dsV, ntV, delV, coe_sum, EReal.coe_mul, EReal.coe_sub]
theorem k2 (P DP : Sq) (d : Fin 384 → ℝ) : k0_pay2 (F := Ideal) (cM P) (cM (colV d)) (cM DP) = cM (dsV P DP d) := by
  funext j
  pointwise [k0_pay2, cM]
  simp only [dsV, colV, EReal.coe_mul, EReal.coe_sub]
theorem k1 (P : Sq) : k0_pay1 (F := Ideal) (cM P) = cM P := by
  funext j
  pointwise [k0_pay1, cM]
theorem k31 (h : Fin 128 → Bool) (V G O : Blk) (P : Sq) : k0_pay31 (F := Ideal) (hB h) (cM V) (cM G) (cM O) (cM P) (cM zV)
    = cM (dsV P (ntV (domV h G) V) (delV (domV h G) O)) := by
  funext j
  pointwise [k0_pay31, k27, k29, cM]
  simp only [dsV, ntV, delV, coe_sum, EReal.coe_mul, EReal.coe_sub]
theorem k32 (h : Fin 128 → Bool) (V G O : Blk) (P : Sq) : k0_pay32 (F := Ideal) (hB h) (cM V) (cM G) (cM O) (cM P)
    = cM (dsV P (ntV (domV h G) V) (delV (domV h G) O)) := by
  funext j
  pointwise [k0_pay32, k28, k30, cM]
  simp only [dsV, ntV, delV, coe_sum, EReal.coe_mul, EReal.coe_sub]
theorem k107 (a v : BitVec 32) (w : IVec S384x384 32) (va : Fin 384 → Fin 384 → Bool) (hva : k0_pay100 a v w = bM va) (h : Fin 128 → Bool) (V G O L : Blk) (S : Sq) :
    k0_pay107 (F := Ideal) a (hB h) (cM V) (cM G) (cM O) (cM L) (cM S) v w = cM (dsV (pV va 0 S L) (ntV (domV h G) V) (delV (domV h G) O)) := by
  funext j
  pointwise [k0_pay107, k103, k105, k101 a v w va hva, cM]
  simp only [dsV, ntV, delV, coe_sum, EReal.coe_mul, EReal.coe_sub]
theorem k108 (a v : BitVec 32) (w : IVec S384x384 32) (va : Fin 384 → Fin 384 → Bool) (hva : k0_pay100 a v w = bM va) (h : Fin 128 → Bool) (V G O L : Blk) (S : Sq) :
    k0_pay108 (F := Ideal) a (hB h) (cM V) (cM G) (cM O) (cM L) (cM S) v w = cM (dsV (pV va 64 S L) (ntV (domV h G) V) (delV (domV h G) O)) := by
  funext j
  pointwise [k0_pay108, k104, k106, k102 a v w va hva, cM]
  simp only [dsV, ntV, delV, coe_sum, EReal.coe_mul, EReal.coe_sub]
theorem k4 (A Q : Blk) (DS : Sq) : k0_pay4 (F := Ideal) (cM A) (cM Q) (cM DS) = cM (addV A (tnV DS Q)) := by
  funext j
  pointwise [k0_pay4, k1, cM]
  simp only [addV, tnV, nnV, coe_sum, EReal.coe_mul, EReal.coe_add]
theorem k5 (A Q : Blk) (P DP : Sq) (d : Fin 384 → ℝ) : k0_pay5 (F := Ideal) (cM A) (cM Q) (cM P) (cM (colV d)) (cM DP) = cM (addV A (tnV (dsV P DP d) Q)) := by
  funext j
  pointwise [k0_pay5, k2, cM]
  simp only [addV, tnV, nnV, coe_sum, EReal.coe_mul, EReal.coe_add]
theorem k6 (K D : Blk) (DS : Sq) : k0_pay6 (F := Ideal) (cM K) (cM DS) (cM D) = cM (addV D (nnV DS K)) := by
  funext j
  pointwise [k0_pay6, k1, cM]
  simp only [addV, tnV, nnV, coe_sum, EReal.coe_mul, EReal.coe_add]
theorem k7 (K D : Blk) (P DP : Sq) (d : Fin 384 → ℝ) : k0_pay7 (F := Ideal) (cM K) (cM P) (cM (colV d)) (cM DP) (cM D) = cM (addV D (nnV (dsV P DP d) K)) := by
  funext j
  pointwise [k0_pay7, k2, cM]
  simp only [addV, tnV, nnV, coe_sum, EReal.coe_mul, EReal.coe_add]
theorem k3 (A D0 D1 : Blk) (P0 P1 : Sq) : k0_pay3 (F := Ideal) (cM A) (cM P0) (cM P1) (cM D0) (cM D1) = cM (addV (addV A (tnV P0 D0)) (tnV P1 D1)) := by
  funext j
  pointwise [k0_pay3, cM]
  simp only [addV, tnV, nnV, coe_sum, EReal.coe_mul, EReal.coe_add]
theorem k33 (h h' : Fin 128 → Bool) (A G : Blk) (P0 P1 : Sq) : k0_pay33 (F := Ideal) (hB h) (hB h') (cM A) (cM G) (cM P0) (cM P1) (cM zV)
    = cM (addV (addV A (tnV P0 (domV h G))) (tnV P1 (domV h' G))) := by
  funext j
  pointwise [k0_pay33, k29, k30, cM]
  simp only [addV, tnV, nnV, coe_sum, EReal.coe_mul, EReal.coe_add]
theorem k34 (h : Fin 128 → Bool) (V A G O Q : Blk) (P : Sq) : k0_pay34 (F := Ideal) (hB h) (cM V) (cM A) (cM G) (cM O) (cM Q) (cM P) (cM zV)
    = cM (addV A (tnV (dsV P (ntV (domV h G) V) (delV (domV h G) O)) Q)) := by
  funext j
  pointwise [k0_pay34, k31, cM]
  simp only [addV, tnV, nnV, coe_sum, EReal.coe_mul, EReal.coe_add]
theorem k35 (h : Fin 128 → Bool) (V A G O Q : Blk) (P : Sq) : k0_pay35 (F := Ideal) (hB h) (cM V) (cM A) (cM G) (cM O) (cM Q) (cM P)
    = cM (addV A (tnV (dsV P (ntV (domV h G) V) (delV (domV h G) O)) Q)) := by
  funext j
  pointwise [k0_pay35, k32, cM]
  simp only [addV, tnV, nnV, coe_sum, EReal.coe_mul, EReal.coe_add]
theorem k36 (h : Fin 128 → Bool) (V K G O D : Blk) (P : Sq) : k0_pay36 (F := Ideal) (hB h) (cM V) (cM K) (cM G) (cM O) (cM P) (cM zV) (cM D)
    = cM (addV D (nnV (dsV P (ntV (domV h G) V) (delV (domV h G) O)) K)) := by
  funext j
  pointwise [k0_pay36, k31, cM]
  simp only [addV, tnV, nnV, coe_sum, EReal.coe_mul, EReal.coe_add]
theorem k37 (h : Fin 128 → Bool) (V K G O D : Blk) (P : Sq) : k0_pay37 (F := Ideal) (hB h) (cM V) (cM K) (cM G) (cM O) (cM P) (cM D)
    = cM (addV D (nnV (dsV P (ntV (domV h G) V) (delV (domV h G) O)) K)) := by
  funext j
  pointwise [k0_pay37, k32, cM]
  simp only [addV, tnV, nnV, coe_sum, EReal.coe_mul, EReal.coe_add]
theorem k112 (A Q : Blk) (DS : Sq) : k0_pay112 (F := Ideal) (cM A) (cM Q) (cM DS) = cM (addV A (tnV DS Q)) := by
  funext j
  pointwise [k0_pay112, cM]
  simp only [addV, tnV, nnV, coe_sum, EReal.coe_mul, EReal.coe_add]
theorem k113 (A Q : Blk) (DS : Sq) : k0_pay113 (F := Ideal) (cM A) (cM Q) (cM DS) = cM (addV A (tnV DS Q)) := by
  funext j
  pointwise [k0_pay113, cM]
  simp only [addV, tnV, nnV, coe_sum, EReal.coe_mul, EReal.coe_add]
theorem k114 (K D : Blk) (DS : Sq) : k0_pay114 (F := Ideal) (cM K) (cM DS) (cM D) = cM (addV D (nnV DS K)) := by
  funext j
  pointwise [k0_pay114, cM]
  simp only [addV, tnV, nnV, coe_sum, EReal.coe_mul, EReal.coe_add]
theorem k115 (K D : Blk) (DS : Sq) : k0_pay115 (F := Ideal) (cM K) (cM DS) (cM D) = cM (addV D (nnV DS K)) := by
  funext j
  pointwise [k0_pay115, cM]
  simp only [addV, tnV, nnV, coe_sum, EReal.coe_mul, EReal.coe_add]
theorem k109 (a v : BitVec 32) (w : IVec S384x384 32) (va : Fin 384 → Fin 384 → Bool) (hva : k0_pay100 a v w = bM va) (L : Blk) (S : Sq) :
    k0_pay109 (F := Ideal) a (cM L) (cM S) v w = cM (pV va 64 S L) := by
  funext j
  pointwise [k0_pay109, k102 a v w va hva, cM]
theorem k110 (a v : BitVec 32) (w : IVec S384x384 32) (va : Fin 384 → Fin 384 → Bool) (hva : k0_pay100 a v w = bM va) (h : Fin 128 → Bool) (A G L : Blk) (S : Sq) :
    k0_pay110 (F := Ideal) a (hB h) (cM A) (cM G) (cM L) (cM S) v w = cM (addV A (tnV (pV va 0 S L) (domV h G))) := by
  funext j
  pointwise [k0_pay110, k105, k101 a v w va hva, cM]
  simp only [addV, tnV, nnV, coe_sum, EReal.coe_mul, EReal.coe_add]
theorem k111 (D A : Blk) (P : Sq) : k0_pay111 (F := Ideal) (cM D) (cM P) (cM A) (constant S384x128 .f32 0x00000000#32) = cM (addV A (tnV P D)) := by
  funext j
  pointwise [k0_pay111, cM]
  simp only [addV, tnV, nnV, coe_sum, EReal.coe_mul, EReal.coe_add]
theorem k15 (A : Blk) : k0_pay15 (F := Ideal) (cM A) = cM (fun r d => A r d * Real.log 2) := by
  funext j
  pointwise [k0_pay15, cM]
  rw [ln2_real, EReal.coe_mul]
theorem k16 (A : Blk) : k0_pay16 (F := Ideal) (cM A) = cM (fun r d => A r d * Real.log 2) := by
  funext j
  pointwise [k0_pay16, cM]
  rw [ln2_real, EReal.coe_mul]
theorem k17 (A : Blk) : k0_pay17 (F := Ideal) (cM A) = cM A := by
  funext j
  pointwise [k0_pay17, cM]
end Cert.KernelIdeal.Attn

end

end
-- ==== Proof.KernelIdeal.Point.lean ====
/- What the body leaves at a grid point whose blocks are real: the gradients' sums over the rows the point walks. -/
module

public import proofs.«01_k».proof.Proof.KernelIdeal.Block

@[expose] public section

set_option maxRecDepth 16384

noncomputable section

namespace Cert.KernelIdeal.Attn

open Cert.KernelIdeal Cert.KernelIdeal.Gen
open Idealize.ShloMosaic

/-- A matrix of reals by natural indices, as a vector of extended reals. -/
def cN {a b : ℕ} (f : ℕ → ℕ → ℝ) : (⟨2, ![a, b]⟩ : Shape).Idx → EReal := fun j => ((f (j 0).val (j 1).val : ℝ) : EReal)
/-- The block of `f` at row `a` and column `b`. -/
def blk (f : ℕ → ℕ → ℝ) (a b : ℕ) : Blk := fun r d => f (a + r.val) (b + d.val)
def blk2 (f : ℕ → ℕ → ℝ) (a b : ℕ) : Sq := fun r c => f (a + r.val) (b + c.val)

theorem win {n m : ℕ} (f : ℕ → ℕ → ℝ) (off : Fin (⟨2, ![n, m]⟩ : Shape).rank → ℕ) (inb : ∀ a, off a + S384x128.size a ≤ (⟨2, ![n, m]⟩ : Shape).size a) (a b : ℕ) (e : off = ![a, b]) :
    VecWindow.window (cN f : (⟨2, ![n, m]⟩ : Shape).Idx → EReal) off S384x128.size inb = cM (blk f a b) := by
  subst e
  funext y
  show ((f (a + 1 * (y 0).val) (b + 1 * (y 1).val) : ℝ) : EReal) = ((f (a + (y 0).val) (b + (y 1).val) : ℝ) : EReal)
  rw [one_mul, one_mul]

/-- Adding `u`'s two halves to a row block of `f`. -/
theorem put2 (f u : ℕ → ℕ → ℝ) (off off' : Fin S4224x256.rank → ℕ) (a : ℕ) (e : off = ![a, 0]) (e' : off' = ![a, 128]) :
    VecWindow.put (VecWindow.put (cN f : S4224x256.Idx → EReal) off S384x128.size (cM (addV (blk f a 0) (blk u a 0)))) off' S384x128.size (cM (addV (blk f a 128) (blk u a 128)))
      = cN (fun q d => f q d + if a ≤ q ∧ q < a + 384 then u q d else 0) := by
  subst e; subst e'
  funext y
  have hd : (y 1).val < 256 := (y 1).isLt
  unfold VecWindow.put
  by_cases h : ∀ x, (![a, 128] : Fin 2 → ℕ) x ≤ (y x).val ∧ (y x).val < (![a, 128] : Fin 2 → ℕ) x + S384x128.size x
  · have h0 : a ≤ (y 0).val ∧ (y 0).val < a + 384 := h 0
    have h1 : 128 ≤ (y 1).val ∧ (y 1).val < 128 + 128 := h 1
    rw [dif_pos h]
    show ((f (a + ((y 0).val - a)) (128 + ((y 1).val - 128)) + u (a + ((y 0).val - a)) (128 + ((y 1).val - 128)) : ℝ) : EReal)
      = ((f (y 0).val (y 1).val + (if a ≤ (y 0).val ∧ (y 0).val < a + 384 then u (y 0).val (y 1).val else 0) : ℝ) : EReal)
    rw [if_pos h0, Nat.add_sub_cancel' h0.1, Nat.add_sub_cancel' h1.1]
  · rw [dif_neg h]
    by_cases h' : ∀ x, (![a, 0] : Fin 2 → ℕ) x ≤ (y x).val ∧ (y x).val < (![a, 0] : Fin 2 → ℕ) x + S384x128.size x
    · have h0 : a ≤ (y 0).val ∧ (y 0).val < a + 384 := h' 0
      rw [dif_pos h']
      show ((f (a + ((y 0).val - a)) (0 + ((y 1).val - 0)) + u (a + ((y 0).val - a)) (0 + ((y 1).val - 0)) : ℝ) : EReal)
        = ((f (y 0).val (y 1).val + (if a ≤ (y 0).val ∧ (y 0).val < a + 384 then u (y 0).val (y 1).val else 0) : ℝ) : EReal)
      rw [if_pos h0, Nat.add_sub_cancel' h0.1, Nat.zero_add, Nat.sub_zero]
    · rw [dif_neg h']
      show ((f (y 0).val (y 1).val : ℝ) : EReal)
        = ((f (y 0).val (y 1).val + (if a ≤ (y 0).val ∧ (y 0).val < a + 384 then u (y 0).val (y 1).val else 0) : ℝ) : EReal)
      rw [if_neg, add_zero]
      intro h0
      rcases Nat.lt_or_ge (y 1).val 128 with hlt | hge
      · exact h' fun x => match x with
          | ⟨0, _⟩ => h0
          | ⟨1, _⟩ => ⟨Nat.zero_le _, by show (y 1).val < 0 + 128; omega⟩
      · exact h fun x => match x with
          | ⟨0, _⟩ => h0
          | ⟨1, _⟩ => ⟨hge, by show (y 1).val < 128 + 128; omega⟩

/-! ## The masks -/

theorem le_bit (n m : ℕ) (hn : n < 2 ^ 31) (hm : m < 2 ^ 31) : IntOp.cmpi .sle (BitVec.ofNat 32 n) (BitVec.ofNat 32 m) = BitVec.ofBool (decide (n ≤ m)) := by
  have e : ∀ x : ℕ, x < 2 ^ 31 → (BitVec.ofNat 32 x).toInt = x := fun x hx => by
    rw [BitVec.toInt_ofNat']; exact Int.bmod_eq_of_le (by omega) (by omega)
  show BitVec.ofBool (BitVec.sle _ _) = _
  rw [BitVec.sle, e n hn, e m hm]
  congr 1
  simp only [Int.ofNat_le]

theorem ge_bit (n m : ℕ) (hn : n < 2 ^ 31) (hm : m < 2 ^ 31) : IntOp.cmpi .sge (BitVec.ofNat 32 n) (BitVec.ofNat 32 m) = BitVec.ofBool (decide (m ≤ n)) := by
  have e : ∀ x : ℕ, x < 2 ^ 31 → (BitVec.ofNat 32 x).toInt = x := fun x hx => by
    rw [BitVec.toInt_ofNat']; exact Int.bmod_eq_of_le (by omega) (by omega)
  show BitVec.ofBool (BitVec.sle _ _) = _
  rw [BitVec.sle, e n hn, e m hm]
  congr 1
  simp only [Int.ofNat_le]

theorem and_bit (a b : Bool) : IntOp.andi (BitVec.ofBool a) (BitVec.ofBool b) = BitVec.ofBool (a && b) := by cases a <;> cases b <;> rfl
theorem pos_bit (a r : ℕ) : IntOp.addi (Scalar.muli (BitVec.ofNat 32 a) 384#32) (BitVec.ofNat 32 r) = BitVec.ofNat 32 (384 * a + r) := by
  show BitVec.ofNat 32 a * BitVec.ofNat 32 384 + BitVec.ofNat 32 r = _
  rw [← BitVec.ofNat_mul, ← BitVec.ofNat_add, Nat.mul_comm]
theorem iv_bit (a k : ℕ) : Scf.iv (Scalar.addi (BitVec.ofNat 32 a) 1#32) 1#32 k = BitVec.ofNat 32 (a + 1 + k) := by
  show BitVec.ofNat 32 a + BitVec.ofNat 32 1 + BitVec.ofNat 32 k * BitVec.ofNat 32 1 = _
  rw [← BitVec.ofNat_mul, ← BitVec.ofNat_add, ← BitVec.ofNat_add, Nat.mul_one]

/-- Key `k` is seen by row `q`. -/
def seen (q k : ℕ) : Prop := k ≤ q ∧ 112 ≤ k
instance (q k : ℕ) : Decidable (seen q k) := inferInstanceAs (Decidable (k ≤ q ∧ 112 ≤ k))
/-- The same between two blocks. -/
def va (a b : ℕ) : Fin 384 → Fin 384 → Bool := fun r c => decide (seen (a + r.val) (b + c.val))

theorem mask23 (i : grid0.Coords) (k : Fin (k0_t1_loop i).trips) (ki : ℕ) (h : ki < 11) (hk : k.val < 11) :
    k0_pay23 i (BitVec.ofNat 32 ki) (Scalar.addi (BitVec.ofNat 32 ki) 1#32) 1#32 k = bM (va (384 * (ki + 1 + k.val)) (384 * ki)) := by
  funext j
  have h0 : (j 0).val < 384 := (j 0).isLt
  have h1 : (j 1).val < 384 := (j 1).isLt
  pointwise [k0_pay23, bM]
  rw [iv_bit, pos_bit, pos_bit, le_bit _ _ (by omega) (by omega), ge_bit _ 112 (by omega) (by omega), and_bit]
  congr 1
  unfold va seen
  exact (Bool.decide_and _ _).symm
theorem mask100 (ki : ℕ) (h : ki < 11) :
    k0_pay100 (BitVec.ofNat 32 ki) (Scalar.muli (BitVec.ofNat 32 ki) 384#32) (iota .tc S384x384 32 [0] iota_S384x384_d0_w32) = bM (va (384 * ki) (384 * ki)) := by
  funext j
  have h0 : (j 0).val < 384 := (j 0).isLt
  have h1 : (j 1).val < 384 := (j 1).isLt
  pointwise [k0_pay100, bM]
  rw [pos_bit, pos_bit, le_bit _ _ (by omega) (by omega), ge_bit _ 112 (by omega) (by omega), and_bit]
  congr 1
  unfold va seen
  exact (Bool.decide_and _ _).symm
theorem maskT (a b : ℕ) (hb : 112 ≤ b) (hab : b + 384 ≤ a) : tt = va a b := by
  funext r c
  have := c.isLt
  exact (decide_eq_true (show seen _ _ from ⟨by omega, by omega⟩)).symm

/-! ## The gradients of a pair of heads -/

section Pair

variable (Q K V O L C : ℕ → ℕ → ℝ)

/-- The scores, in powers of two. -/
def sG (h q k : ℕ) : ℝ := ∑ d : Fin 128, Q q (128 * h + d.val) * K k (128 * h + d.val)
/-- The weights. -/
def pG (h q k : ℕ) : ℝ := if seen q k then Real.rpow 2 (sG Q K h q k - L q (64 * h)) else 0
/-- A head's half of the cotangent. -/
def cG (h q j : ℕ) : ℝ := if 64 * h ≤ j ∧ j < 64 * h + 64 then C q j else 0
/-- The gradient of the weights less the row's product. -/
def eG (h q k : ℕ) : ℝ := (∑ j : Fin 128, cG C h q j.val * V k j.val) - ∑ j : Fin 128, cG C h q j.val * O q j.val
/-- The gradient of the scores. -/
def dG (h q k : ℕ) : ℝ := pG Q K L h q k * eG V O C h q k
/-- One key block's part of dq. -/
def dqU (k0 q d : ℕ) : ℝ := ∑ c : Fin 384, dG Q K V O L C (d / 128) q (k0 + c.val) * K (k0 + c.val) d
/-- A key block's dk over the rows from `k0` to `n`. -/
def dkU (h k0 n : ℕ) : Blk := fun c d => ∑ q ∈ Finset.Ico k0 n, dG Q K V O L C h q (k0 + c.val) * Q q (128 * h + d.val)
/-- Its dv. -/
def dvU (k0 n : ℕ) : Blk := fun c j => ∑ q ∈ Finset.Ico k0 n, (pG Q K L 0 q (k0 + c.val) * cG C 0 q j.val + pG Q K L 1 q (k0 + c.val) * cG C 1 q j.val)

/-- The state after the rows from `k0` to `n`. -/
def stR (k0 n : ℕ) (D : ℕ → ℕ → ℝ) : St Ideal :=
  ((cM (dkU Q K V O L C 0 k0 n), cM (dkU Q K V O L C 1 k0 n), cM (dvU Q K L C k0 n)),
    cN (fun q d => D q d + if k0 ≤ q ∧ q < n then dqU Q K V O L C k0 q d else 0))

theorem sum_step (f : ℕ → ℝ) (k0 a : ℕ) (h : k0 ≤ a) : (∑ q ∈ Finset.Ico k0 a, f q) + ∑ r : Fin 384, f (a + r.val) = ∑ q ∈ Finset.Ico k0 (a + 384), f q := by
  rw [← Finset.sum_Ico_consecutive f h (Nat.le_add_right a 384), Finset.sum_Ico_eq_sum_range f a (a + 384), Nat.add_sub_cancel_left, Finset.sum_range]

theorem lo_eq (j : Fin 128) : lo j = decide (64 * 0 ≤ j.val ∧ j.val < 64 * 0 + 64) := by revert j; decide +kernel
theorem hi_eq (j : Fin 128) : hi j = decide (64 * 1 ≤ j.val ∧ j.val < 64 * 1 + 64) := by revert j; decide +kernel

theorem dom_lo (a : ℕ) : domV lo (blk C a 0) = blk (cG C 0) a 0 := by
  funext r j
  simp only [domV, blk, cG, lo_eq, decide_eq_true_eq, Nat.zero_add]
theorem dom_hi (a : ℕ) : domV hi (blk C a 0) = blk (cG C 1) a 0 := by
  funext r j
  simp only [domV, blk, cG, hi_eq, decide_eq_true_eq, Nat.zero_add]
theorem nt_s (h a b : ℕ) : ntV (blk Q a (128 * h)) (blk K b (128 * h)) = blk2 (sG Q K h) a b := rfl
theorem p_lo (a b : ℕ) : pV (va a b) 0 (blk2 (sG Q K 0) a b) (blk L a 0) = blk2 (pG Q K L 0) a b := by
  funext r c
  simp only [pV, va, blk2, pG, decide_eq_true_eq]
  rfl
theorem p_hi (a b : ℕ) : pV (va a b) 64 (blk2 (sG Q K 1) a b) (blk L a 0) = blk2 (pG Q K L 1) a b := by
  funext r c
  simp only [pV, va, blk2, pG, decide_eq_true_eq]
  rfl
theorem ds_eq (h a b : ℕ) : dsV (blk2 (pG Q K L h) a b) (ntV (blk (cG C h) a 0) (blk V b 0)) (delV (blk (cG C h) a 0) (blk O a 0)) = blk2 (dG Q K V O L C h) a b := by
  funext r c
  simp only [dsV, blk2, blk, ntV, delV, dG, eG, Nat.zero_add]
theorem dk_step (h k0 a : ℕ) (hk : k0 ≤ a) : addV (dkU Q K V O L C h k0 a) (tnV (blk2 (dG Q K V O L C h) a k0) (blk Q a (128 * h))) = dkU Q K V O L C h k0 (a + 384) := by
  funext c d
  exact sum_step (fun q => dG Q K V O L C h q (k0 + c.val) * Q q (128 * h + d.val)) k0 a hk
theorem dv_step (k0 a : ℕ) (hk : k0 ≤ a) : addV (addV (dvU Q K L C k0 a) (tnV (blk2 (pG Q K L 0) a k0) (blk (cG C 0) a 0))) (tnV (blk2 (pG Q K L 1) a k0) (blk (cG C 1) a 0)) = dvU Q K L C k0 (a + 384) := by
  funext c j
  refine Eq.trans ?_ (sum_step (fun q => pG Q K L 0 q (k0 + c.val) * cG C 0 q j.val + pG Q K L 1 q (k0 + c.val) * cG C 1 q j.val) k0 a hk)
  simp only [addV, dvU, tnV, blk2, blk, Nat.zero_add, Finset.sum_add_distrib, add_assoc]
theorem dq_step (h k0 a : ℕ) : nnV (blk2 (dG Q K V O L C h) a k0) (blk K k0 (128 * h)) = blk (dqU Q K V O L C k0) a (128 * h) := by
  funext r d
  have hd := d.isLt
  have e : (128 * h + d.val) / 128 = h := by omega
  simp only [nnV, blk2, blk, dqU, e]

theorem dq_join (D u : ℕ → ℕ → ℝ) (k0 a : ℕ) (hk : k0 ≤ a) :
    (fun q d => (D q d + if k0 ≤ q ∧ q < a then u q d else 0) + if a ≤ q ∧ q < a + 384 then u q d else 0) = fun q d => D q d + if k0 ≤ q ∧ q < a + 384 then u q d else 0 := by
  funext q d
  rw [add_assoc]
  congr 1
  rcases Nat.lt_or_ge q a with h | h
  · rw [if_neg (c := a ≤ q ∧ _) (by omega), add_zero]
    exact if_congr (by omega) rfl rfl
  · rw [if_neg (c := k0 ≤ q ∧ q < a) (by omega), zero_add]
    exact if_congr (by omega) rfl rfl

theorem sh (f : ℕ → ℕ → ℝ) (k0 b : ℕ) : blk (fun r d => f (k0 + r) d) 0 b = blk f k0 b := by
  funext r d
  simp only [blk, Nat.zero_add]
theorem dk_zero (h k0 : ℕ) : zV = dkU Q K V O L C h k0 k0 := by
  funext c d
  simp only [zV, dkU, Finset.Ico_self, Finset.sum_empty]
theorem dv_zero (k0 : ℕ) : zV = dvU Q K L C k0 k0 := by
  funext c d
  simp only [zV, dvU, Finset.Ico_self, Finset.sum_empty]

/-- The blocks the body reads once. -/
theorem v_real (ki : ℕ) : vB (F := Ideal) (cN fun r d => V (384 * ki + r) d) = cM (blk V (384 * ki) 0) := by
  unfold vB
  rw [win _ _ _ 0 0 rfl, k89, sh]
theorem k0_real (ki : ℕ) : k0B (F := Ideal) (cN fun r d => K (384 * ki + r) d) = cM (blk K (384 * ki) (128 * 0)) := by
  unfold k0B
  rw [win _ _ _ 0 0 rfl, sh]
theorem k1_real (ki : ℕ) : k1B (F := Ideal) (cN fun r d => K (384 * ki + r) d) = cM (blk K (384 * ki) (128 * 1)) := by
  unfold k1B
  rw [win _ _ _ 0 128 rfl, sh]

/-- The diagonal trip. -/
theorem stepD_real (i : grid0.Coords) (ki : ℕ) (e : (i 1).val = ki) (hki : ki < 11) (D : ℕ → ℕ → ℝ) :
    stepD (F := Ideal) i (cN Q) (cN fun r d => K (384 * ki + r) d) (cN fun r d => V (384 * ki + r) d) (cN O) (cN L) (cN C) (cN D) = stR Q K V O L C (384 * ki) (384 * ki + 384) D := by
  have o1 : k0_off1 i = ![384 * ki, 0] := e ▸ k0_off1_eq i
  have o2 : k0_off2 i = ![384 * ki, 0] := e ▸ k0_off2_eq i
  have o3 : k0_off3 i = ![384 * ki, 128] := e ▸ k0_off3_eq i
  have w1 : ∀ x, at1 (F := Ideal) (e := .f32) i (cN x) = cM (blk x (384 * ki) 0) := fun x => win x _ _ _ _ o1
  have w1' : ∀ x, at1 (F := Ideal) (e := .bf16) i (cN x) = cM (blk x (384 * ki) 0) := fun x => win x _ _ _ _ o1
  have w2 : ∀ x, at2 (F := Ideal) (e := .f32) i (cN x) = cM (blk x (384 * ki) (128 * 0)) := fun x => win x _ _ _ _ o2
  have w2' : ∀ x, at2 (F := Ideal) (e := .bf16) i (cN x) = cM (blk x (384 * ki) (128 * 0)) := fun x => win x _ _ _ _ o2
  have w3 : ∀ x, at3 (F := Ideal) (e := .f32) i (cN x) = cM (blk x (384 * ki) (128 * 1)) := fun x => win x _ _ _ _ o3
  have w3' : ∀ x, at3 (F := Ideal) (e := .bf16) i (cN x) = cM (blk x (384 * ki) (128 * 1)) := fun x => win x _ _ _ _ o3
  have hm := mask100 ki hki
  have ek : kiw i = BitVec.ofNat 32 ki := congrArg _ e
  unfold stepD ds0 ds1 stR
  dsimp only
  rw [ek, v_real, k0_real, k1_real, w1, w1', w1, w2', w3', w2, w3, k87, k88, k92, k93, k94, k95, k96, k97, k98, k99, k90, k91, k107 _ _ _ _ hm, k108 _ _ _ _ hm, k109 _ _ _ _ hm, k110 _ _ _ _ hm, k106, k111, k112, k113, k114, k115,
    nt_s, nt_s, p_lo, p_hi, dom_lo, dom_hi, ds_eq, ds_eq, dq_step, dq_step]
  nth_rw 1 [dk_zero Q K V O L C 0 (384 * ki)]
  nth_rw 1 [dk_zero Q K V O L C 1 (384 * ki)]
  rw [dv_zero Q K L C (384 * ki), dk_step _ _ _ _ _ _ _ _ _ le_rfl, dk_step _ _ _ _ _ _ _ _ _ le_rfl, dv_step _ _ _ _ _ _ le_rfl]
  exact congrArg _ (put2 _ _ _ _ _ o2 o3)

/-- A masked trip. -/
theorem step1_real (i : grid0.Coords) (ki : ℕ) (e : (i 1).val = ki) (hki : ki < 11) (k : Fin (k0_t1_loop i).trips) (hk : k.val < 11) (D : ℕ → ℕ → ℝ) :
    step1 (F := Ideal) i (hB lo) (hB hi) (cM (blk V (384 * ki) 0)) (cM (blk K (384 * ki) (128 * 0))) (cM (blk K (384 * ki) (128 * 1))) (cN Q) (cN O) (cN L) (cN C)
        (BitVec.ofNat 32 ki) (Scalar.addi (BitVec.ofNat 32 ki) 1#32) k (stR Q K V O L C (384 * ki) (384 * (ki + 1 + k.val)) D)
      = stR Q K V O L C (384 * ki) (384 * (ki + 1 + k.val) + 384) D := by
  have o4 : k0_off4 i k = ![384 * (ki + 1 + k.val), 0] := e ▸ off4_eq i k
  have o5 : k0_off5 i k = ![384 * (ki + 1 + k.val), 0] := e ▸ off5_eq i k
  have o6 : k0_off6 i k = ![384 * (ki + 1 + k.val), 128] := e ▸ off6_eq i k
  have w4 : ∀ x, at4 (F := Ideal) (e := .f32) i (cN x) k = cM (blk x (384 * (ki + 1 + k.val)) 0) := fun x => win x _ _ _ _ o4
  have w4' : ∀ x, at4 (F := Ideal) (e := .bf16) i (cN x) k = cM (blk x (384 * (ki + 1 + k.val)) 0) := fun x => win x _ _ _ _ o4
  have w5 : ∀ x, at5 (F := Ideal) (e := .f32) i (cN x) k = cM (blk x (384 * (ki + 1 + k.val)) (128 * 0)) := fun x => win x _ _ _ _ o5
  have w5' : ∀ x, at5 (F := Ideal) (e := .bf16) i (cN x) k = cM (blk x (384 * (ki + 1 + k.val)) (128 * 0)) := fun x => win x _ _ _ _ o5
  have w6 : ∀ x, at6 (F := Ideal) (e := .f32) i (cN x) k = cM (blk x (384 * (ki + 1 + k.val)) (128 * 1)) := fun x => win x _ _ _ _ o6
  have w6' : ∀ x, at6 (F := Ideal) (e := .bf16) i (cN x) k = cM (blk x (384 * (ki + 1 + k.val)) (128 * 1)) := fun x => win x _ _ _ _ o6
  have hm := mask23 i k ki hki hk
  have hle : 384 * ki ≤ 384 * (ki + 1 + k.val) := by omega
  unfold step1 mAcc mDq0 mDq1 stR
  dsimp only
  rw [w4, w4', w4, w5', w6', w5, w6, k26, k18, k19, k21, k22, k24 _ _ _ _ _ hm, k25 _ _ _ _ _ hm, k34, k35, k33, k36, k37, nt_s, nt_s, p_lo, p_hi, dom_lo, dom_hi, ds_eq, ds_eq,
    dk_step _ _ _ _ _ _ _ _ _ hle, dk_step _ _ _ _ _ _ _ _ _ hle, dv_step _ _ _ _ _ _ hle, dq_step, dq_step]
  refine congrArg _ ?_
  refine (put2 _ _ _ _ _ o5 o6).trans ?_
  rw [dq_join _ _ _ _ hle]

/-- An unmasked trip. -/
theorem step3_real (i : grid0.Coords) (ki : ℕ) (e : (i 1).val = ki) (hki : 1 ≤ ki) (k : Fin (k0_t3_loop i).trips) (D : ℕ → ℕ → ℝ) :
    step3 (F := Ideal) i (hB lo) (hB hi) (cM (blk V (384 * ki) 0)) (cM (blk K (384 * ki) (128 * 0))) (cM (blk K (384 * ki) (128 * 1))) (cN Q) (cN O) (cN L) (cN C)
        k (stR Q K V O L C (384 * ki) (384 * (ki + 1 + k.val)) D)
      = stR Q K V O L C (384 * ki) (384 * (ki + 1 + k.val) + 384) D := by
  have o4 : k0_off10 i k = ![384 * (ki + 1 + k.val), 0] := e ▸ off10_eq i k
  have o5 : k0_off11 i k = ![384 * (ki + 1 + k.val), 0] := e ▸ off11_eq i k
  have o6 : k0_off12 i k = ![384 * (ki + 1 + k.val), 128] := e ▸ off12_eq i k
  have w4 : ∀ x, at10 (F := Ideal) (e := .f32) i (cN x) k = cM (blk x (384 * (ki + 1 + k.val)) 0) := fun x => win x _ _ _ _ o4
  have w4' : ∀ x, at10 (F := Ideal) (e := .bf16) i (cN x) k = cM (blk x (384 * (ki + 1 + k.val)) 0) := fun x => win x _ _ _ _ o4
  have w5 : ∀ x, at11 (F := Ideal) (e := .f32) i (cN x) k = cM (blk x (384 * (ki + 1 + k.val)) (128 * 0)) := fun x => win x _ _ _ _ o5
  have w5' : ∀ x, at11 (F := Ideal) (e := .bf16) i (cN x) k = cM (blk x (384 * (ki + 1 + k.val)) (128 * 0)) := fun x => win x _ _ _ _ o5
  have w6 : ∀ x, at12 (F := Ideal) (e := .f32) i (cN x) k = cM (blk x (384 * (ki + 1 + k.val)) (128 * 1)) := fun x => win x _ _ _ _ o6
  have w6' : ∀ x, at12 (F := Ideal) (e := .bf16) i (cN x) k = cM (blk x (384 * (ki + 1 + k.val)) (128 * 1)) := fun x => win x _ _ _ _ o6
  have hle : 384 * ki ≤ 384 * (ki + 1 + k.val) := by omega
  have hm := maskT (384 * (ki + 1 + k.val)) (384 * ki) (by omega) (by omega)
  unfold step3 uAcc uDq0 uDq1 stR
  dsimp only
  rw [w4, w4', w4, w5', w6', w5, w6, k61, k62, k63, k64, k67, k68, k69, k70, k71, k4, k5, k3, k6, k7, nt_s, nt_s, hm, p_lo, p_hi, dom_lo, dom_hi, ds_eq, ds_eq,
    dk_step _ _ _ _ _ _ _ _ _ hle, dk_step _ _ _ _ _ _ _ _ _ hle, dv_step _ _ _ _ _ _ hle, dq_step, dq_step]
  refine congrArg _ ?_
  refine (put2 _ _ _ _ _ o5 o6).trans ?_
  rw [dq_join _ _ _ _ hle]

/-- The masked loop. -/
theorem st1_real (i : grid0.Coords) (ki : ℕ) (e : (i 1).val = ki) (hki : ki < 11) (D : ℕ → ℕ → ℝ) (n : ℕ) (hn : n ≤ (k0_t1_loop i).trips) (ht : (k0_t1_loop i).trips ≤ 10) :
    st1 (F := Ideal) i (hB lo) (hB hi) (cM (blk V (384 * ki) 0)) (cM (blk K (384 * ki) (128 * 0))) (cM (blk K (384 * ki) (128 * 1))) (cN Q) (cN O) (cN L) (cN C)
        (BitVec.ofNat 32 ki) (Scalar.addi (BitVec.ofNat 32 ki) 1#32) (stR Q K V O L C (384 * ki) (384 * ki + 384) D) n
      = stR Q K V O L C (384 * ki) (384 * ki + 384 + 384 * n) D := by
  induction n with
  | zero => rfl
  | succ n ih =>
    have hn' : n < (k0_t1_loop i).trips := hn
    rw [st1, dif_pos hn', ih (by omega)]
    have a1 : 384 * ki + 384 + 384 * n = 384 * (ki + 1 + n) := by ring
    have a2 : 384 * ki + 384 + 384 * (n + 1) = 384 * (ki + 1 + n) + 384 := by ring
    rw [a1, a2]
    exact step1_real Q K V O L C i ki e hki ⟨n, hn'⟩ (by show n < 11; omega) D

/-- The unmasked loop. -/
theorem st3_real (i : grid0.Coords) (ki : ℕ) (e : (i 1).val = ki) (D : ℕ → ℕ → ℝ) (n : ℕ) (hn : n ≤ (k0_t3_loop i).trips) (hki : 1 ≤ n → 1 ≤ ki) :
    st3 (F := Ideal) i (hB lo) (hB hi) (cM (blk V (384 * ki) 0)) (cM (blk K (384 * ki) (128 * 0))) (cM (blk K (384 * ki) (128 * 1))) (cN Q) (cN O) (cN L) (cN C)
        (stR Q K V O L C (384 * ki) (384 * ki + 384) D) n
      = stR Q K V O L C (384 * ki) (384 * ki + 384 + 384 * n) D := by
  induction n with
  | zero => rfl
  | succ n ih =>
    have hn' : n < (k0_t3_loop i).trips := hn
    have h1 := hki (Nat.le_add_left 1 n)
    rw [st3, dif_pos hn', ih (by omega) fun _ => h1]
    have a1 : 384 * ki + 384 + 384 * n = 384 * (ki + 1 + n) := by ring
    have a2 : 384 * ki + 384 + 384 * (n + 1) = 384 * (ki + 1 + n) + 384 := by ring
    rw [a1, a2]
    exact step3_real Q K V O L C i ki e h1 ⟨n, hn'⟩ D

/-- The whole body: the rows from the key block's first on. -/
theorem bodySt_real (i : grid0.Coords) (ki : ℕ) (e : (i 1).val = ki) (D : ℕ → ℕ → ℝ) :
    bodySt (F := Ideal) i (cN Q) (cN fun r d => K (384 * ki + r) d) (cN fun r d => V (384 * ki + r) d) (cN O) (cN L) (cN C) (cN D)
      = stR Q K V O L C (384 * ki) 4224 (if ki = 0 then fun _ _ => 0 else D) := by
  have hki : ki < 11 := e ▸ (i 1).isLt
  have ek : kiw i = BitVec.ofNat 32 ki := congrArg _ e
  have t1 := trips1_eq i
  have t3 := trips3_eq i
  rw [e] at t1 t3
  have hD : (if (i 1).val = 0 then k0_pay86 (F := Ideal) else cN D) = cN (if ki = 0 then fun _ _ => 0 else D) := by
    rw [e]
    by_cases h : ki = 0
    · rw [if_pos h, if_pos h, k86]; rfl
    · rw [if_neg h, if_neg h]
  unfold bodySt
  rw [hD, stepD_real Q K V O L C i ki e hki, ek, v_real, k0_real, k1_real, k87, k88, k90, k91]
  by_cases h : ki = 0
  · rw [if_pos h] at t1 t3
    rw [st1_real Q K V O L C i ki e hki _ _ le_rfl (by omega), t3, t1]
    subst h
    rfl
  · rw [if_neg h] at t1 t3
    rw [t1]
    refine (st3_real Q K V O L C i ki e _ _ le_rfl fun _ => by omega).trans ?_
    rw [t3, show 384 * ki + 384 + 384 * (10 - ki) = 4224 by omega]

end Pair

end Cert.KernelIdeal.Attn

end

end
-- ==== Proof.KernelIdeal.Arr.lean ====
/- What the kernel's three results hold after the run, where its operands are real: sums over all rows and keys. -/
module

public import proofs.«01_k».proof.Proof.KernelIdeal.Point
public import proofs.«01_k».proof.Proof.KernelIdeal.Frame
public import Idealize.ShloMosaic.Lib.Pipeline.ValueKit.Geometry

@[expose] public section

set_option maxRecDepth 16384

noncomputable section

namespace Cert.KernelIdeal.Attn

open Cert.KernelIdeal Cert.KernelIdeal.Gen
open Idealize.ShloMosaic Idealize.ShloMosaic.TcCoe Idealize.ShloMosaic.Pipeline

/-- Columns `b` on of a matrix. -/
def cols (f : ℕ → ℕ → ℝ) (b : ℕ) : ℕ → ℕ → ℝ := fun q d => f q (b + d)

/-! ## The gradients by head -/

section Heads

variable (Q K V O L C : ℕ → ℕ → ℝ)

def sH (h q k : ℕ) : ℝ := ∑ d : Fin 128, Q q (128 * h + d.val) * K k (128 * h + d.val)
def pH (h q k : ℕ) : ℝ := if seen q k then Real.rpow 2 (sH Q K h q k - L q (64 * h)) else 0
def eH (h q k : ℕ) : ℝ := (∑ j : Fin 64, C q (1024 + (64 * h + j.val)) * V k (64 * h + j.val)) - ∑ j : Fin 64, C q (1024 + (64 * h + j.val)) * O q (64 * h + j.val)
def dH (h q k : ℕ) : ℝ := pH Q K L h q k * eH V O C h q k
/-- dq over the keys before `n`. -/
def dqH (n q d : ℕ) : ℝ := ∑ k ∈ Finset.range n, dH Q K V O L C (d / 128) q k * K k d
def dkH (k d : ℕ) : ℝ := (∑ q ∈ Finset.range 4224, dH Q K V O L C (d / 128) q k * Q q d) * Real.log 2
def dvH (k j : ℕ) : ℝ := ∑ q ∈ Finset.range 4224, pH Q K L (j / 64) q k * C q (1024 + j)

theorem half_sum (h : ℕ) (hh : h < 2) (f : ℕ → ℝ) : (∑ j : Fin 128, if 64 * h ≤ j.val ∧ j.val < 64 * h + 64 then f j.val else 0) = ∑ j : Fin 64, f (64 * h + j.val) := by
  rw [← Finset.sum_range (fun j => if 64 * h ≤ j ∧ j < 64 * h + 64 then f j else 0), ← Finset.sum_range (fun j => f (64 * h + j)), ← Finset.sum_filter]
  have e : (Finset.range 128).filter (fun j => 64 * h ≤ j ∧ j < 64 * h + 64) = Finset.Ico (64 * h) (64 * h + 64) := by
    ext j
    simp only [Finset.mem_filter, Finset.mem_range, Finset.mem_Ico]
    omega
  rw [e, Finset.sum_Ico_eq_sum_range, Nat.add_sub_cancel_left]

theorem sG_pair (p h q k : ℕ) : sG (cols Q (256 * p)) (cols K (256 * p)) h q k = sH Q K (2 * p + h) q k := by
  unfold sG sH cols
  refine Finset.sum_congr rfl fun d _ => ?_
  rw [show 256 * p + (128 * h + d.val) = 128 * (2 * p + h) + d.val by ring]
theorem pG_pair (p h q k : ℕ) : pG (cols Q (256 * p)) (cols K (256 * p)) (cols L (128 * p)) h q k = pH Q K L (2 * p + h) q k := by
  unfold pG pH
  rw [sG_pair]
  unfold cols
  rw [show 128 * p + 64 * h = 64 * (2 * p + h) by ring]
theorem eG_pair (p h q k : ℕ) (hh : h < 2) : eG (cols V (128 * p)) (cols O (128 * p)) (cols C (1024 + 128 * p)) h q k = eH V O C (2 * p + h) q k := by
  have key : ∀ X : ℕ → ℝ, (∑ j : Fin 128, cG (cols C (1024 + 128 * p)) h q j.val * X (128 * p + j.val)) = ∑ j : Fin 64, C q (1024 + (64 * (2 * p + h) + j.val)) * X (64 * (2 * p + h) + j.val) := by
    intro X
    have := half_sum h hh (fun j => C q (1024 + 128 * p + j) * X (128 * p + j))
    refine Eq.trans (Finset.sum_congr rfl fun j _ => ?_) (this.trans (Finset.sum_congr rfl fun j _ => ?_))
    · unfold cG cols
      rw [ite_mul, zero_mul]
    · show C q (1024 + 128 * p + (64 * h + j.val)) * X (128 * p + (64 * h + j.val)) = _
      rw [show 1024 + 128 * p + (64 * h + j.val) = 1024 + (64 * (2 * p + h) + j.val) by ring, show 128 * p + (64 * h + j.val) = 64 * (2 * p + h) + j.val by ring]
  unfold eG eH
  exact congrArg₂ (· - ·) (key (V k)) (key (O q))
theorem dG_pair (p h q k : ℕ) (hh : h < 2) : dG (cols Q (256 * p)) (cols K (256 * p)) (cols V (128 * p)) (cols O (128 * p)) (cols L (128 * p)) (cols C (1024 + 128 * p)) h q k
    = dH Q K V O L C (2 * p + h) q k := by
  unfold dG dH
  rw [pG_pair, eG_pair _ _ _ _ _ _ _ hh]
theorem dH_zero (h q k : ℕ) (hq : q < k) : dH Q K V O L C h q k = 0 := by
  unfold dH pH
  rw [if_neg (by unfold seen; omega), zero_mul]
theorem pH_zero (h q k : ℕ) (hq : q < k) : pH Q K L h q k = 0 := by
  unfold pH
  rw [if_neg (by unfold seen; omega)]

theorem dqU_pair (p k0 q d : ℕ) (hd : d < 256) : dqU (cols Q (256 * p)) (cols K (256 * p)) (cols V (128 * p)) (cols O (128 * p)) (cols L (128 * p)) (cols C (1024 + 128 * p)) k0 q d
    = ∑ c ∈ Finset.Ico k0 (k0 + 384), dH Q K V O L C ((256 * p + d) / 128) q c * K c (256 * p + d) := by
  rw [Finset.sum_Ico_eq_sum_range, Nat.add_sub_cancel_left, Finset.sum_range]
  unfold dqU
  refine Finset.sum_congr rfl fun c _ => ?_
  rw [dG_pair _ _ _ _ _ _ _ _ _ _ (by omega), show (256 * p + d) / 128 = 2 * p + d / 128 by omega]
  rfl

theorem dq_next (p k0 q d : ℕ) (hd : d < 256) (hq : q < 4224) :
    (dqH Q K V O L C k0 q (256 * p + d) + if k0 ≤ q ∧ q < 4224 then dqU (cols Q (256 * p)) (cols K (256 * p)) (cols V (128 * p)) (cols O (128 * p)) (cols L (128 * p)) (cols C (1024 + 128 * p)) k0 q d else 0)
      = dqH Q K V O L C (k0 + 384) q (256 * p + d) := by
  have e : (if k0 ≤ q ∧ q < 4224 then dqU (cols Q (256 * p)) (cols K (256 * p)) (cols V (128 * p)) (cols O (128 * p)) (cols L (128 * p)) (cols C (1024 + 128 * p)) k0 q d else 0)
      = ∑ c ∈ Finset.Ico k0 (k0 + 384), dH Q K V O L C ((256 * p + d) / 128) q c * K c (256 * p + d) := by
    by_cases h : k0 ≤ q
    · rw [if_pos ⟨h, hq⟩, dqU_pair _ _ _ _ _ _ _ _ _ _ hd]
    · rw [if_neg fun h' => h h'.1]
      refine (Finset.sum_eq_zero fun c hc => ?_).symm
      rw [dH_zero _ _ _ _ _ _ _ _ _ (by have := Finset.mem_Ico.mp hc; omega), zero_mul]
  rw [e]
  unfold dqH
  rw [Finset.sum_range_add_sum_Ico]
  exact Nat.le_add_right _ _

theorem from_zero (f : ℕ → ℝ) (k0 : ℕ) (hk : k0 ≤ 4224) (h : ∀ q, q < k0 → f q = 0) : ∑ q ∈ Finset.Ico k0 4224, f q = ∑ q ∈ Finset.range 4224, f q := by
  rw [← Finset.sum_range_add_sum_Ico f hk, Finset.sum_eq_zero (s := Finset.range k0) fun q hq => h q (Finset.mem_range.mp hq), zero_add]

theorem dkU_pair (p h k0 : ℕ) (hh : h < 2) (hk : k0 ≤ 4224) (r : Fin 384) (d : Fin 128) :
    dkU (cols Q (256 * p)) (cols K (256 * p)) (cols V (128 * p)) (cols O (128 * p)) (cols L (128 * p)) (cols C (1024 + 128 * p)) h k0 4224 r d * Real.log 2
      = dkH Q K V O L C (k0 + r.val) (256 * p + (128 * h + d.val)) := by
  unfold dkU dkH
  rw [from_zero _ _ hk]
  · congr 1
    refine Finset.sum_congr rfl fun q _ => ?_
    rw [dG_pair _ _ _ _ _ _ _ _ _ _ hh, show (256 * p + (128 * h + d.val)) / 128 = 2 * p + h by omega]
    rfl
  · intro q hq
    rw [dG_pair _ _ _ _ _ _ _ _ _ _ hh, dH_zero _ _ _ _ _ _ _ _ _ (by omega), zero_mul]

theorem dvU_pair (p k0 : ℕ) (hk : k0 ≤ 4224) (r : Fin 384) (j : Fin 128) :
    dvU (cols Q (256 * p)) (cols K (256 * p)) (cols L (128 * p)) (cols C (1024 + 128 * p)) k0 4224 r j
      = dvH Q K L C (k0 + r.val) (128 * p + j.val) := by
  unfold dvU dvH
  rw [from_zero _ _ hk]
  · refine Finset.sum_congr rfl fun q _ => ?_
    rw [pG_pair, pG_pair]
    unfold cG cols
    rw [show 1024 + 128 * p + j.val = 1024 + (128 * p + j.val) by ring]
    by_cases hj : j.val < 64
    · rw [if_pos (by omega), if_neg (by omega), mul_zero, add_zero, show (128 * p + j.val) / 64 = 2 * p + 0 by omega]
    · rw [if_neg (by omega), if_pos (by have := j.isLt; omega), mul_zero, zero_add, show (128 * p + j.val) / 64 = 2 * p + 1 by omega]
  · intro q hq
    rw [pG_pair, pG_pair, pH_zero _ _ _ _ _ _ (by omega), pH_zero _ _ _ _ _ _ (by omega), zero_mul, zero_mul, add_zero]

end Heads

/-- dk's block from two heads' sums. -/
theorem outDk_real (a b x : Blk) (f : ℕ → ℕ → ℝ) (ha : ∀ r d, a r d * Real.log 2 = f r.val (0 + d.val)) (hb : ∀ r d, b r d * Real.log 2 = f r.val (128 + d.val)) :
    outDk (F := Ideal) (cM a, cM b, cM x) = (cN f : S384x256.Idx → EReal) := by
  unfold outDk
  rw [k15, k16]
  funext y
  have hr : (y 0).val < 384 := (y 0).isLt
  have hd : (y 1).val < 256 := (y 1).isLt
  unfold VecWindow.put
  by_cases h : ∀ x, (![0, 128] : Fin 2 → ℕ) x ≤ (y x).val ∧ (y x).val < (![0, 128] : Fin 2 → ℕ) x + S384x128.size x
  · have h1 : 128 ≤ (y 1).val ∧ (y 1).val < 128 + 128 := h 1
    rw [dif_pos h]
    refine congrArg (fun r : ℝ => (r : EReal)) ((hb ⟨(y 0).val - 0, by omega⟩ ⟨(y 1).val - 128, by omega⟩).trans ?_)
    show f ((y 0).val - 0) (128 + ((y 1).val - 128)) = _
    rw [Nat.sub_zero, Nat.add_sub_cancel' h1.1]
  · have hlt : (y 1).val < 128 := by
      by_contra hge
      exact h fun x => match x with
        | ⟨0, _⟩ => ⟨Nat.zero_le _, by show (y 0).val < 0 + 384; omega⟩
        | ⟨1, _⟩ => ⟨by show 128 ≤ (y 1).val; omega, by show (y 1).val < 128 + 128; omega⟩
    rw [dif_neg h, dif_pos (fun x => match x with
        | ⟨0, _⟩ => ⟨Nat.zero_le _, by show (y 0).val < 0 + 384; omega⟩
        | ⟨1, _⟩ => ⟨Nat.zero_le _, by show (y 1).val < 0 + 128; omega⟩)]
    refine congrArg (fun r : ℝ => (r : EReal)) ((ha ⟨(y 0).val - 0, by omega⟩ ⟨(y 1).val - 0, by omega⟩).trans ?_)
    show f ((y 0).val - 0) (0 + ((y 1).val - 0)) = _
    rw [Nat.sub_zero, Nat.sub_zero, Nat.zero_add]

/-! ## The blocks of the operands -/

theorem ix0 : ∀ t : Fin cfg0.N, win0_0.index t = ![0, t.val / 11] := (by decide +kernel : ∀ t : Fin grid0.N, _)
theorem ix1 : ∀ t : Fin cfg0.N, win0_1.index t = ![t.val % 11, t.val / 11] := (by decide +kernel : ∀ t : Fin grid0.N, _)
theorem ix2' : ∀ t : Fin cfg0.N, win0_2.index t = ![t.val % 11, t.val / 11] := (by decide +kernel : ∀ t : Fin grid0.N, _)
theorem ix3 : ∀ t : Fin cfg0.N, win0_3.index t = ![0, t.val / 11] := (by decide +kernel : ∀ t : Fin grid0.N, _)
theorem ix4 : ∀ t : Fin cfg0.N, win0_4.index t = ![0, t.val / 11] := (by decide +kernel : ∀ t : Fin grid0.N, _)
theorem ix5 : ∀ t : Fin cfg0.N, win0_5.index t = ![0, t.val / 11 + 8] := (by decide +kernel : ∀ t : Fin grid0.N, _)
theorem ix6 : ∀ t : Fin cfg0.N, win0_6.index t = ![0, t.val / 11] := (by decide +kernel : ∀ t : Fin grid0.N, _)
theorem ix7 : ∀ t : Fin cfg0.N, win0_7.index t = ![t.val % 11, t.val / 11] := (by decide +kernel : ∀ t : Fin grid0.N, _)
theorem ix8 : ∀ t : Fin cfg0.N, win0_8.index t = ![t.val % 11, t.val / 11] := (by decide +kernel : ∀ t : Fin grid0.N, _)

variable (m : (ℓ : Loc nD τ sig) → Buf (Elt Ideal) ℓ) (c : Dev nD)

theorem iblk0 (Q : ℕ → ℕ → ℝ) (h : V m c main_v45 = (cN Q : S4224x2048.Idx → EReal)) (t : Fin cfg0.N) : iblk m c 0 t = (cN (cols Q (256 * (t.val / 11))) : S4224x256.Idx → EReal) := by
  funext y
  blk_simp [iblk]
  rw [h]
  show ((Q ((win0_0.blk t).view.emb y 0).val ((win0_0.blk t).view.emb y 1).val : ℝ) : EReal) = ((Q ((y 0).val) (256 * (t.val / 11) + (y 1).val) : ℝ) : EReal)
  congr 2 <;> blk_simp [ix0] <;> simp <;> omega

theorem iblk1 (K : ℕ → ℕ → ℝ) (h : V m c main_v47 = (cN K : S4224x2048.Idx → EReal)) (t : Fin cfg0.N) : iblk m c 1 t = (cN (fun r d => cols K (256 * (t.val / 11)) (384 * (t.val % 11) + r) d) : S384x256.Idx → EReal) := by
  funext y
  blk_simp [iblk]
  rw [h]
  show ((K ((win0_1.blk t).view.emb y 0).val ((win0_1.blk t).view.emb y 1).val : ℝ) : EReal) = ((K (384 * (t.val % 11) + (y 0).val) (256 * (t.val / 11) + (y 1).val) : ℝ) : EReal)
  congr 2 <;> blk_simp [ix1] <;> simp <;> omega

theorem iblk2 (W : ℕ → ℕ → ℝ) (h : V m c main_v48 = (cN W : S4224x1024.Idx → EReal)) (t : Fin cfg0.N) : iblk m c 2 t = (cN (fun r d => cols W (128 * (t.val / 11)) (384 * (t.val % 11) + r) d) : S384x128.Idx → EReal) := by
  funext y
  blk_simp [iblk]
  rw [h]
  show ((W ((win0_2.blk t).view.emb y 0).val ((win0_2.blk t).view.emb y 1).val : ℝ) : EReal) = ((W (384 * (t.val % 11) + (y 0).val) (128 * (t.val / 11) + (y 1).val) : ℝ) : EReal)
  congr 2 <;> blk_simp [ix2'] <;> simp <;> omega

theorem iblk3 (O : ℕ → ℕ → ℝ) (h : V m c main_v49 = (cN O : S4224x1024.Idx → EReal)) (t : Fin cfg0.N) : iblk m c 3 t = (cN (cols O (128 * (t.val / 11))) : S4224x128.Idx → EReal) := by
  funext y
  blk_simp [iblk]
  rw [h]
  show ((O ((win0_3.blk t).view.emb y 0).val ((win0_3.blk t).view.emb y 1).val : ℝ) : EReal) = ((O ((y 0).val) (128 * (t.val / 11) + (y 1).val) : ℝ) : EReal)
  congr 2 <;> blk_simp [ix3] <;> simp <;> omega

theorem iblk4 (L : ℕ → ℕ → ℝ) (h : V m c main_v42 = (cN L : S4224x1024.Idx → EReal)) (t : Fin cfg0.N) : iblk m c 4 t = (cN (cols L (128 * (t.val / 11))) : S4224x128.Idx → EReal) := by
  funext y
  blk_simp [iblk]
  rw [h]
  show ((L ((win0_4.blk t).view.emb y 0).val ((win0_4.blk t).view.emb y 1).val : ℝ) : EReal) = ((L ((y 0).val) (128 * (t.val / 11) + (y 1).val) : ℝ) : EReal)
  congr 2 <;> blk_simp [ix4] <;> simp <;> omega

theorem iblk5 (C : ℕ → ℕ → ℝ) (h : V m c main_v46 = (cN C : S4224x2048.Idx → EReal)) (t : Fin cfg0.N) : iblk m c 5 t = (cN (cols C (1024 + 128 * (t.val / 11))) : S4224x128.Idx → EReal) := by
  funext y
  blk_simp [iblk]
  rw [h]
  show ((C ((win0_5.blk t).view.emb y 0).val ((win0_5.blk t).view.emb y 1).val : ℝ) : EReal) = ((C ((y 0).val) (1024 + 128 * (t.val / 11) + (y 1).val) : ℝ) : EReal)
  congr 2 <;> blk_simp [ix5] <;> simp <;> omega

/-! ## The states -/

section States

variable (Q K W O L C : ℕ → ℕ → ℝ)
variable (hQ : V m c main_v45 = (cN Q : S4224x2048.Idx → EReal)) (hK : V m c main_v47 = (cN K : S4224x2048.Idx → EReal)) (hW : V m c main_v48 = (cN W : S4224x1024.Idx → EReal))
variable (hO : V m c main_v49 = (cN O : S4224x1024.Idx → EReal)) (hL : V m c main_v42 = (cN L : S4224x1024.Idx → EReal)) (hC : V m c main_v46 = (cN C : S4224x2048.Idx → EReal))
include hQ hK hW hO hL hC

/-- The body at a point on real operands. -/
theorem pt_real (t : Fin cfg0.N) (D : ℕ → ℕ → ℝ) :
    bodySt (F := Ideal) (grid0.coords t) (iblk m c 0 t) (iblk m c 1 t) (iblk m c 2 t) (iblk m c 3 t) (iblk m c 4 t) (iblk m c 5 t) (cN D)
      = stR (cols Q (256 * (t.val / 11))) (cols K (256 * (t.val / 11))) (cols W (128 * (t.val / 11))) (cols O (128 * (t.val / 11))) (cols L (128 * (t.val / 11))) (cols C (1024 + 128 * (t.val / 11)))
          (384 * (t.val % 11)) 4224 (if t.val % 11 = 0 then fun _ _ => 0 else D) := by
  rw [iblk0 m c Q hQ, iblk1 m c K hK, iblk2 m c W hW, iblk3 m c O hO, iblk4 m c L hL, iblk5 m c C hC]
  exact bodySt_real _ _ _ _ _ _ _ _ (coords_1 t) D

/-- The state after a point: the sums of its key block, and dq over the keys up to its end. -/
theorem st_real (n : ℕ) (hn : n < cfg0.N) :
    stAt m c n = ((cM (dkU (cols Q (256 * (n / 11))) (cols K (256 * (n / 11))) (cols W (128 * (n / 11))) (cols O (128 * (n / 11))) (cols L (128 * (n / 11))) (cols C (1024 + 128 * (n / 11))) 0 (384 * (n % 11)) 4224),
        cM (dkU (cols Q (256 * (n / 11))) (cols K (256 * (n / 11))) (cols W (128 * (n / 11))) (cols O (128 * (n / 11))) (cols L (128 * (n / 11))) (cols C (1024 + 128 * (n / 11))) 1 (384 * (n % 11)) 4224),
        cM (dvU (cols Q (256 * (n / 11))) (cols K (256 * (n / 11))) (cols L (128 * (n / 11))) (cols C (1024 + 128 * (n / 11))) (384 * (n % 11)) 4224)),
      cN fun q d => dqH Q K W O L C (384 * (n % 11) + 384) q (256 * (n / 11) + d)) := by
  have hp : ∀ t : Fin cfg0.N, ∀ e, ptSt m c t.val e = bodySt (grid0.coords t) (iblk m c 0 t) (iblk m c 1 t) (iblk m c 2 t) (iblk m c 3 t) (iblk m c 4 t) (iblk m c 5 t) e := fun t e => by
    unfold ptSt; rw [dif_pos t.isLt]
  have go : ∀ t : Fin cfg0.N, ∀ e, (t.val % 11 ≠ 0 → e = cN fun q d => dqH Q K W O L C (384 * (t.val % 11)) q (256 * (t.val / 11) + d)) →
      ptSt m c t.val e = ((cM (dkU (cols Q (256 * (t.val / 11))) (cols K (256 * (t.val / 11))) (cols W (128 * (t.val / 11))) (cols O (128 * (t.val / 11))) (cols L (128 * (t.val / 11))) (cols C (1024 + 128 * (t.val / 11))) 0 (384 * (t.val % 11)) 4224),
        cM (dkU (cols Q (256 * (t.val / 11))) (cols K (256 * (t.val / 11))) (cols W (128 * (t.val / 11))) (cols O (128 * (t.val / 11))) (cols L (128 * (t.val / 11))) (cols C (1024 + 128 * (t.val / 11))) 1 (384 * (t.val % 11)) 4224),
        cM (dvU (cols Q (256 * (t.val / 11))) (cols K (256 * (t.val / 11))) (cols L (128 * (t.val / 11))) (cols C (1024 + 128 * (t.val / 11))) (384 * (t.val % 11)) 4224)),
      cN fun q d => dqH Q K W O L C (384 * (t.val % 11) + 384) q (256 * (t.val / 11) + d)) := fun t e he => by
    have key : ptSt m c t.val e = stR (cols Q (256 * (t.val / 11))) (cols K (256 * (t.val / 11))) (cols W (128 * (t.val / 11))) (cols O (128 * (t.val / 11))) (cols L (128 * (t.val / 11))) (cols C (1024 + 128 * (t.val / 11)))
          (384 * (t.val % 11)) 4224 (fun q d => dqH Q K W O L C (384 * (t.val % 11)) q (256 * (t.val / 11) + d)) := by
      rw [hp]
      by_cases h : t.val % 11 = 0
      · rw [bodySt_first (F := Ideal) _ ((coords_1 t).trans h) _ _ _ _ _ _ e (cN fun _ _ => 0), pt_real m c Q K W O L C hQ hK hW hO hL hC, if_pos h, h]
        congr 1
      · rw [he h, pt_real m c Q K W O L C hQ hK hW hO hL hC, if_neg h]
    rw [key]
    unfold stR
    refine congrArg _ ?_
    funext y
    have hq : (y 0).val < 4224 := (y 0).isLt
    have hd : (y 1).val < 256 := (y 1).isLt
    exact congrArg _ (dq_next Q K W O L C (t.val / 11) (384 * (t.val % 11)) (y 0).val (y 1).val hd hq)
  induction n with
  | zero => exact go ⟨0, hn⟩ _ fun h => absurd rfl h
  | succ n ih =>
    refine go ⟨n + 1, hn⟩ _ fun h => ?_
    rw [ih (by omega)]
    have h' : (n + 1) % 11 ≠ 0 := h
    show (cN fun q d => dqH Q K W O L C (384 * (n % 11) + 384) q (256 * (n / 11) + d) : S4224x256.Idx → EReal) = cN fun q d => dqH Q K W O L C (384 * ((n + 1) % 11)) q (256 * ((n + 1) / 11) + d)
    rw [show (n + 1) / 11 = n / 11 by omega, show (n + 1) % 11 = n % 11 + 1 by omega]
    rfl

/-! ## The arrays -/

theorem arr6 : (dats m 0 c).arrAt 6 cfg0.N = (cN fun q d => dqH Q K W O L C 4224 q d : S4224x2048.Idx → EReal) :=
  (dats m 0 c).arrAt_eq_of_covers 6 _ (by decide +kernel) fun t hf y => by
    have h10 : t.val % 11 = 10 := (flush0_6 t).mp hf
    blk_simp
    rw [after6, st_real m c Q K W O L C hQ hK hW hO hL hC _ t.isLt, h10]
    show ((dqH Q K W O L C (384 * 10 + 384) (y 0).val (256 * (t.val / 11) + (y 1).val) : ℝ) : EReal) = ((dqH Q K W O L C 4224 ((win0_6.blk t).view.emb y 0).val ((win0_6.blk t).view.emb y 1).val : ℝ) : EReal)
    congr 2 <;> blk_simp [ix6] <;> simp <;> omega

theorem arr7 : (dats m 0 c).arrAt 7 cfg0.N = (cN (dkH Q K W O L C) : S4224x2048.Idx → EReal) :=
  (dats m 0 c).arrAt_eq_of_covers 7 _ (by decide +kernel) fun t hf y => by
    blk_simp
    have ht : t.val < 88 := lt_of_lt_of_eq t.isLt N_0
    rw [after7, st_real m c Q K W O L C hQ hK hW hO hL hC _ t.isLt,
      outDk_real _ _ _ (fun r d => dkH Q K W O L C (384 * (t.val % 11) + r) (256 * (t.val / 11) + d))
        (fun r d => dkU_pair Q K W O L C _ 0 _ (by omega) (by omega) r d) (fun r d => dkU_pair Q K W O L C _ 1 _ (by omega) (by omega) r d)]
    show ((dkH Q K W O L C (384 * (t.val % 11) + (y 0).val) (256 * (t.val / 11) + (y 1).val) : ℝ) : EReal) = ((dkH Q K W O L C ((win0_7.blk t).view.emb y 0).val ((win0_7.blk t).view.emb y 1).val : ℝ) : EReal)
    congr 2 <;> blk_simp [ix7] <;> simp <;> omega

theorem arr8 : (dats m 0 c).arrAt 8 cfg0.N = (cN (dvH Q K L C) : S4224x1024.Idx → EReal) :=
  (dats m 0 c).arrAt_eq_of_covers 8 _ (by decide +kernel) fun t hf y => by
    blk_simp
    have ht : t.val < 88 := lt_of_lt_of_eq t.isLt N_0
    rw [after8, st_real m c Q K W O L C hQ hK hW hO hL hC _ t.isLt]
    unfold outDv
    rw [k17]
    refine (congrArg (fun r : ℝ => (r : EReal)) (dvU_pair Q K L C (t.val / 11) (384 * (t.val % 11)) (by omega) (y 0) (y 1))).trans ?_
    show ((dvH Q K L C (384 * (t.val % 11) + (y 0).val) (128 * (t.val / 11) + (y 1).val) : ℝ) : EReal) = ((dvH Q K L C ((win0_8.blk t).view.emb y 0).val ((win0_8.blk t).view.emb y 1).val : ℝ) : EReal)
    congr 2 <;> blk_simp [ix8] <;> simp <;> omega

end States

end Cert.KernelIdeal.Attn

end

end
-- ==== Proof.Value.Host.lean ====
/- The host lines of the attention and of its gradient, a stage at a time, and what each makes of real operands. -/
module

public import proofs.«01_k».proof.Proof.Gen.ReferenceIdeal
public import Idealize.ShloMosaic.Lib.Pointwise
public import proofs.«01_k».proof.Proof.KernelIdeal.Arr

@[expose] public section

set_option maxRecDepth 16384

noncomputable section

namespace Cert.Attn

open Cert.ReferenceIdeal Cert.ReferenceIdeal.Gen
open Idealize.ShloMosaic Idealize.ShloMosaic.TcCoe
open Cert.KernelIdeal.Attn (cN coe_sum sH)

abbrev Vf (S : Shape) : Type := FVec Ideal S .f32

/-! ## The stages -/

def q3 (x : Vf S4224x2048) : Vf S4224x16x128 := shapeCast _ x shapeCasts_S4224x2048_S4224x16x128
def v3 (x : Vf S4224x1024) : Vf S4224x16x64 := shapeCast _ x shapeCasts_S4224x1024_S4224x16x64
def mkV : IVec S16x4224x4224 1 := broadcastInDim S16x4224x4224 ![1, 2] bcast_S4224x4224_S16x4224x4224_1_2 (andi (cmpi .sle (broadcastInDim S4224x4224 ![0, 1] bcast_S1x4224_S4224x4224_0_1 (broadcastInDim S1x4224 ![1] bcast_S4224_S1x4224_1 (iotaInDim S4224 32 0))) (broadcastInDim S4224x4224 ![0, 1] bcast_S4224x1_S4224x4224_0_1 (broadcastInDim S4224x1 ![0] bcast_S4224_S4224x1_0 (iotaInDim S4224 32 0)))) (ori (broadcastInDim S4224x4224 ![0, 1] bcast_S1x4224_S4224x4224_0_1 (cmpi .sge (broadcastInDim S1x4224 ![1] bcast_S4224_S1x4224_1 (iotaInDim S4224 32 0)) (broadcastInDim S1x4224 ![] bcast_S_S1x4224 (constantI S_ 32 112#32)))) (broadcastInDim S4224x4224 ![0, 1] bcast_S4224x1_S4224x4224_0_1 (cmpi .slt (broadcastInDim S4224x1 ![0] bcast_S4224_S4224x1_0 (iotaInDim S4224 32 0)) (broadcastInDim S4224x1 ![] bcast_S_S4224x1 (constantI S_ 32 112#32))))))
def sV (q k : Vf S4224x2048) : Vf S16x4224x4224 := select mkV (Host.dotGeneral dot_S4224x16x128_S4224x16x128_S16x4224x4224_2_2_0_0_1_1 none (q3 q) (q3 k)) (broadcastInDim S16x4224x4224 ![] bcast_S_S16x4224x4224 (id (constant S_ .f32 0xFF800000#32)))
def mV (s : Vf S16x4224x4224) : Vf S16x4224 := Host.reduce FloatOps.maximumf s (constant S_ .f32 0xFF800000#32) reducesTo_S16x4224x4224_S16x4224_d2 h_S_
def m1 (x : Vf S16x4224) : Vf S16x4224x1 := broadcastInDim S16x4224x1 ![0, 1] bcast_S16x4224_S16x4224x1_0_1 x
def m3 (x : Vf S16x4224x1) : Vf S16x4224x4224 := broadcastInDim S16x4224x4224 ![0, 1, 2] bcast_S16x4224x1_S16x4224x4224_0_1_2 x
def mV' (s : Vf S16x4224x4224) : Vf S16x4224 := maximumf (broadcastInDim S16x4224 ![] bcast_S_S16x4224 (constant S_ .f32 0xFF800000#32)) (mV s)
def eV (s : Vf S16x4224x4224) (mx : Vf S16x4224) : Vf S16x4224x4224 := Host.exp (subf s (m3 (m1 mx)))
def lV (e : Vf S16x4224x4224) : Vf S16x4224 := Host.reduceAdd e (constant S_ .f32 0x00000000#32) reducesTo_S16x4224x4224_S16x4224_d2 h_S_
def pV (e : Vf S16x4224x4224) (l : Vf S16x4224) : Vf S16x4224x4224 := Host.divf e (m3 (m1 l))
def oV (v : Vf S4224x1024) (p : Vf S16x4224x4224) : Vf S4224x1024 := shapeCast _ (transpose S4224x16x64 [2, 0, 1] (Host.dotGeneral dot_S4224x16x64_S16x4224x4224_S16x64x4224_0_2_2_1_1_0 none (v3 v) p) transposes_S16x64x4224_S4224x16x64_2_0_1) shapeCasts_S4224x16x64_S4224x1024

/-- The cotangent by head, its first rows zero. -/
def ctV (ct : Vf S4112x1024) : Vf S16x64x4224 := transpose S16x64x4224 [1, 2, 0] (shapeCast _ (pad S4224x1024 ![112, 0] ![0, 0] ![0, 0] ct (constant S_ .f32 0x00000000#32) pads_S4112x1024_S4224x1024_11200_000 h_S_) shapeCasts_S4224x1024_S4224x16x64) transposes_S4224x16x64_S16x64x4224_1_2_0
def dpV (c : Vf S16x64x4224) (v : Vf S4224x1024) : Vf S16x4224x4224 := Host.dotGeneral dot_S16x64x4224_S4224x16x64_S16x4224x4224_1_2_2_0_0_1 none c (v3 v)
def dvV (c : Vf S16x64x4224) (p : Vf S16x4224x4224) : FVec Ideal S4224x1024 .bf16 := truncf .bf16 (shapeCast _ (transpose S4224x16x64 [2, 0, 1] (Host.dotGeneral dot_S16x64x4224_S16x4224x4224_S16x64x4224_2_1_1_2_0_0 none c p) transposes_S16x64x4224_S4224x16x64_2_0_1) shapeCasts_S4224x16x64_S4224x1024) bitsLt_bf16_f32
/-- A row's sum of the cotangents of the weights, over the square of its sum. -/
def rsV (dp e : Vf S16x4224x4224) (l : Vf S16x4224) : Vf S16x4224 := Host.reduceAdd (mulf (mulf dp (m3 (Host.divf (broadcastInDim S16x4224x1 ![] bcast_S_S16x4224x1 (constant S_ .f32 0x3F800000#32)) (mulf (m1 l) (m1 l))))) e) (constant S_ .f32 0x00000000#32) reducesTo_S16x4224x4224_S16x4224_d2 h_S_
def ngV (r : Vf S16x4224) : Vf S16x4224 := Host.reduceAdd (Host.negf (shapeCast _ r shapeCasts_S16x4224_S16x4224x1)) (constant S_ .f32 0x00000000#32) reducesTo_S16x4224x1_S16x4224_d2 h_S_
def dsV (dp e : Vf S16x4224x4224) (l : Vf S16x4224) : Vf S16x4224x4224 :=
  select mkV (mulf (addf (Host.divf dp (m3 (m1 l))) (broadcastInDim S16x4224x4224 ![0, 1] bcast_S16x4224_S16x4224x4224_0_1 (ngV (rsV dp e l)))) e)
    (broadcastInDim S16x4224x4224 ![] bcast_S_S16x4224x4224 (constant S_ .f32 0x00000000#32))
def dkV (ds : Vf S16x4224x4224) (q : Vf S4224x2048) : Vf S4224x2048 := shapeCast _ (transpose S4224x16x128 [1, 0, 2] (Host.dotGeneral dot_S16x4224x4224_S4224x16x128_S16x4224x128_1_0_2_2_0_1 none ds (q3 q)) transposes_S16x4224x128_S4224x16x128_1_0_2) shapeCasts_S4224x16x128_S4224x2048
def dqV (ds : Vf S16x4224x4224) (k : Vf S4224x2048) : Vf S4224x2048 := shapeCast _ (transpose S4224x16x128 [1, 0, 2] (Host.dotGeneral dot_S16x4224x4224_S4224x16x128_S16x4224x128_2_0_1_2_0_1 none ds (q3 k)) transposes_S16x4224x128_S4224x16x128_1_0_2) shapeCasts_S4224x16x128_S4224x2048

/-! ## Their values -/

/-- The keys a row sees on the host: those before it, and before a row of the padding the padding too. -/
abbrev mk (q k : ℕ) : Prop := k ≤ q ∧ (112 ≤ k ∨ q < 112)
/-- A real array of three axes, and of two (by head and row). -/
def c3 {a b c : ℕ} (f : ℕ → ℕ → ℕ → ℝ) : (⟨3, ![a, b, c]⟩ : Shape).Idx → EReal := fun j => ((f (j 0).val (j 1).val (j 2).val : ℝ) : EReal)
def cB (f : ℕ → ℕ → ℕ → ℝ) : S16x4224x4224.Idx → EReal := fun j => if mk (j 1).val (j 2).val then ((f (j 0).val (j 1).val (j 2).val : ℝ) : EReal) else ⊥

theorem bot_lit : Ideal.ofBits .f32 0xFF800000#32 = (⊥ : EReal) := by simp [Ideal.ofBits, Ideal.ieee]
theorem div_real (a b : ℝ) (h : b ≠ 0) : Ideal.div (a : EReal) (b : EReal) = ((a / b : ℝ) : EReal) := by
  unfold Ideal.div
  rw [if_neg (by exact_mod_cast h), ← EReal.coe_inv, ← EReal.coe_mul, div_eq_mul_inv]

theorem le_word (a b : ℕ) (ha : a < 4224) (hb : b < 4224) : IntOp.cmpi CmpIPredicate.sle (BitVec.ofNat 32 a) (BitVec.ofNat 32 b) = BitVec.ofBool (decide (a ≤ b)) := by
  have e1 : (BitVec.ofNat 32 a).toInt = a := by rw [BitVec.toInt_ofNat']; exact Int.bmod_eq_of_le (by omega) (by omega)
  have e2 : (BitVec.ofNat 32 b).toInt = b := by rw [BitVec.toInt_ofNat']; exact Int.bmod_eq_of_le (by omega) (by omega)
  unfold IntOp.cmpi
  simp [BitVec.sle, e1, e2]
theorem lt_word (a b : ℕ) (ha : a < 4224) (hb : b < 4224) : IntOp.cmpi CmpIPredicate.slt (BitVec.ofNat 32 a) (BitVec.ofNat 32 b) = BitVec.ofBool (decide (a < b)) := by
  have e1 : (BitVec.ofNat 32 a).toInt = a := by rw [BitVec.toInt_ofNat']; exact Int.bmod_eq_of_le (by omega) (by omega)
  have e2 : (BitVec.ofNat 32 b).toInt = b := by rw [BitVec.toInt_ofNat']; exact Int.bmod_eq_of_le (by omega) (by omega)
  unfold IntOp.cmpi
  simp [BitVec.slt, e1, e2]
theorem ge_word (a b : ℕ) (ha : a < 4224) (hb : b < 4224) : IntOp.cmpi CmpIPredicate.sge (BitVec.ofNat 32 a) (BitVec.ofNat 32 b) = BitVec.ofBool (decide (b ≤ a)) := by
  have e1 : (BitVec.ofNat 32 a).toInt = a := by rw [BitVec.toInt_ofNat']; exact Int.bmod_eq_of_le (by omega) (by omega)
  have e2 : (BitVec.ofNat 32 b).toInt = b := by rw [BitVec.toInt_ofNat']; exact Int.bmod_eq_of_le (by omega) (by omega)
  unfold IntOp.cmpi
  simp [BitVec.sle, e1, e2]

theorem mkV_at (j : S16x4224x4224.Idx) : mkV j = BitVec.ofBool (decide (mk (j 1).val (j 2).val)) := by
  pointwise [mkV]
  have h1 : (j 1).val < 4224 := (j 1).isLt
  have h2 : (j 2).val < 4224 := (j 2).isLt
  rw [le_word _ _ h2 h1, show (112#32 : BitVec 32) = BitVec.ofNat 32 112 from rfl, ge_word _ _ h2 (by omega), lt_word _ _ h1 (by omega)]
  unfold mk
  by_cases a : (j 2).val ≤ (j 1).val <;> by_cases b : 112 ≤ (j 2).val <;> by_cases c : (j 1).val < 112 <;> simp [a, b, c, IntOp.andi, IntOp.ori]

theorem sV_real (Q K : ℕ → ℕ → ℝ) : sV (cN Q) (cN K) = cB (sH Q K) := by
  funext j
  pointwise [sV, q3, cN]
  rw [mkV_at]
  unfold cB sH
  by_cases h : mk (j 1).val (j 2).val
  · rw [if_pos h, decide_eq_true h]
    show (∑ x : Fin 128, ((Q (j 1).val ((j 0).val * 128 + x.val) : ℝ) : EReal) * ((K (j 2).val ((j 0).val * 128 + x.val) : ℝ) : EReal)) = _
    refine Eq.trans (Finset.sum_congr rfl fun x _ => ?_) (coe_sum _).symm
    rw [EReal.coe_mul, mul_comm (j 0).val 128]
  · rw [if_neg h, decide_eq_false h]
    exact bot_lit

theorem c2_of (x : S16x4224.Idx → EReal) (hb : ∀ j, x j ≠ ⊥) (ht : ∀ j, x j ≠ ⊤) : ∃ M : ℕ → ℕ → ℝ, x = cN M := by
  refine ⟨fun h q => if hh : h < 16 ∧ q < 4224 then (x (ix2 ⟨h, hh.1⟩ ⟨q, hh.2⟩)).toReal else 0, ?_⟩
  funext j
  have hj : (j 0).val < 16 ∧ (j 1).val < 4224 := ⟨(j 0).isLt, (j 1).isLt⟩
  show x j = ((if hh : (j 0).val < 16 ∧ (j 1).val < 4224 then (x (ix2 ⟨(j 0).val, hh.1⟩ ⟨(j 1).val, hh.2⟩)).toReal else 0 : ℝ) : EReal)
  rw [dif_pos hj]
  have e : (ix2 ⟨(j 0).val, hj.1⟩ ⟨(j 1).val, hj.2⟩ : S16x4224.Idx) = j := ix2_eta j
  rw [e]
  exact (EReal.coe_toReal (ht j) (hb j)).symm

theorem fold_real {n : ℕ} (f : Fin n → EReal) (a : Fin n) (hb : ⊥ < f a) (ht : ∀ x, f x < ⊤) : Finset.fold max (⊥ : EReal) f Finset.univ ≠ ⊥ ∧ Finset.fold max (⊥ : EReal) f Finset.univ ≠ ⊤ :=
  ⟨ne_of_gt ((Finset.lt_fold_max _).mpr (Or.inr ⟨a, Finset.mem_univ _, hb⟩)), ne_of_lt ((Finset.fold_max_lt _).mpr ⟨bot_lt_top, fun x _ => ht x⟩)⟩
theorem cB_bot (S : ℕ → ℕ → ℕ → ℝ) (i : S16x4224x4224.Idx) (h : mk (i 1).val (i 2).val) : ⊥ < cB S i := by
  unfold cB
  rw [if_pos h]
  exact EReal.bot_lt_coe _
theorem cB_top (S : ℕ → ℕ → ℕ → ℝ) (i : S16x4224x4224.Idx) : cB S i < ⊤ := by
  unfold cB
  split
  · exact EReal.coe_lt_top _
  · exact bot_lt_top
theorem mV_at (s : Vf S16x4224x4224) (j : S16x4224.Idx) : mV s j = Finset.fold max (⊥ : EReal) (fun x : Fin 4224 => s (ix3 (j 0) (j 1) x)) Finset.univ := by
  pointwise [mV]
  rw [bot_lit]
theorem mk_self (q : ℕ) : mk q q := by unfold mk; omega

/-- The rows' largest scores are real: a row sees itself. -/
theorem mV_real (S : ℕ → ℕ → ℕ → ℝ) : ∃ M : ℕ → ℕ → ℝ, mV (cB S) = cN M := by
  have key : ∀ j : S16x4224.Idx, mV (cB S) j ≠ ⊥ ∧ mV (cB S) j ≠ ⊤ := fun j => by
    rw [mV_at]
    exact fold_real _ (j 1) (cB_bot S (ix3 (j 0) (j 1) (j 1)) (mk_self _)) fun x => cB_top S _
  exact c2_of _ (fun j => (key j).1) fun j => (key j).2

theorem max_bot (x : Vf S16x4224) : maximumf (broadcastInDim S16x4224 ![] bcast_S_S16x4224 (constant S_ .f32 0xFF800000#32)) x = x := by
  funext j
  pointwise
  rw [bot_lit]
  exact max_eq_right bot_le
theorem mV'_eq (s : Vf S16x4224x4224) : mV' s = mV s := max_bot (mV s)

def eR (S : ℕ → ℕ → ℕ → ℝ) (M : ℕ → ℕ → ℝ) (h q k : ℕ) : ℝ := if mk q k then Real.exp (S h q k - M h q) else 0
def lR (e : ℕ → ℕ → ℕ → ℝ) (h q : ℕ) : ℝ := ∑ k : Fin 4224, e h q k.val

theorem eV_real (S : ℕ → ℕ → ℕ → ℝ) (M : ℕ → ℕ → ℝ) : eV (cB S) (cN M) = c3 (eR S M) := by
  funext j
  pointwise [eV, m1, m3]
  unfold cB c3 eR cN
  by_cases h : mk (j 1).val (j 2).val
  · rw [if_pos h, if_pos h]
    show Ideal.exp (((S (j 0).val (j 1).val (j 2).val : ℝ) : EReal) - ((M (j 0).val (j 1).val : ℝ) : EReal)) = _
    rw [← EReal.coe_sub, Ideal.exp_coe]
  · rw [if_neg h, if_neg h, EReal.bot_sub, Ideal.exp_bot]
    rfl

theorem lV_real (e : ℕ → ℕ → ℕ → ℝ) : lV (c3 e) = cN (lR e) := by
  funext j
  pointwise [lV]
  exact (coe_sum _).symm

theorem lR_pos (S : ℕ → ℕ → ℕ → ℝ) (M : ℕ → ℕ → ℝ) (h q : ℕ) (hq : q < 4224) : 0 < lR (eR S M) h q := by
  unfold lR
  refine Finset.sum_pos' (fun k _ => ?_) ⟨⟨q, hq⟩, Finset.mem_univ _, ?_⟩
  · unfold eR; split
    · exact (Real.exp_pos _).le
    · exact le_rfl
  · unfold eR
    rw [if_pos (mk_self q)]
    exact Real.exp_pos _

theorem pV_real (e : ℕ → ℕ → ℕ → ℝ) (l : ℕ → ℕ → ℝ) (hl : ∀ h q, q < 4224 → l h q ≠ 0) : pV (c3 e) (cN l) = c3 fun h q k => e h q k / l h q := by
  funext j
  pointwise [pV, m1, m3]
  exact div_real _ _ (hl _ _ (j 1).isLt)

theorem oV_real (V : ℕ → ℕ → ℝ) (p : ℕ → ℕ → ℕ → ℝ) : oV (cN V) (c3 p) = cN fun q j => ∑ k : Fin 4224, V k.val j * p (j / 64) q k.val := by
  funext j
  pointwise [oV, v3]
  unfold cN
  simp only [coe_sum, EReal.coe_mul]
  rfl

theorem ctV_real (C : ℕ → ℕ → ℝ) : ctV (cN C) = c3 fun h j q => if 112 ≤ q then C (q - 112) (64 * h + j) else 0 := by
  funext j
  pointwise [ctV]
  have h0 : (j 0).val < 16 := (j 0).isLt
  have h1 : (j 1).val < 64 := (j 1).isLt
  have h2 : (j 2).val < 4224 := (j 2).isLt
  show _ = ((if 112 ≤ (j 2).val then C ((j 2).val - 112) (64 * (j 0).val + (j 1).val) else 0 : ℝ) : EReal)
  by_cases h : 112 ≤ (j 2).val
  · rw [dif_pos ⟨⟨h, by omega⟩, by omega⟩, if_pos h, mul_comm 64 (j 0).val]
    rfl
  · rw [dif_neg fun h' => h h'.1.1, if_neg h]
    rfl

theorem dpV_real (c : ℕ → ℕ → ℕ → ℝ) (V : ℕ → ℕ → ℝ) : dpV (c3 c) (cN V) = c3 fun h q k => ∑ j : Fin 64, c h j.val q * V k (64 * h + j.val) := by
  funext j
  pointwise [dpV, v3]
  unfold c3
  rw [coe_sum]
  refine Finset.sum_congr rfl fun x _ => ?_
  rw [EReal.coe_mul, mul_comm 64 (j 0).val]
  rfl

theorem dvV_real (c p : ℕ → ℕ → ℕ → ℝ) : dvV (c3 c) (c3 p) = cN fun k j => ∑ q : Fin 4224, c (j / 64) (j % 64) q.val * p (j / 64) q.val k := by
  funext j
  pointwise [dvV]
  refine (Finset.sum_congr rfl fun x _ => ?_).trans (coe_sum _).symm
  rw [EReal.coe_mul]
  rfl

theorem rsV_real (dp e : ℕ → ℕ → ℕ → ℝ) (l : ℕ → ℕ → ℝ) (hl : ∀ h q, q < 4224 → l h q ≠ 0) : rsV (c3 dp) (c3 e) (cN l) = cN fun h q => ∑ k : Fin 4224, dp h q k.val * (1 / (l h q * l h q)) * e h q k.val := by
  funext j
  pointwise [rsV, m1, m3]
  refine (Finset.sum_congr rfl fun x _ => ?_).trans (coe_sum _).symm
  have hn := hl (j 0).val (j 1).val (j 1).isLt
  have e1 : Ideal.div 1 (((l (j 0).val (j 1).val : ℝ) : EReal) * ((l (j 0).val (j 1).val : ℝ) : EReal)) = ((1 / (l (j 0).val (j 1).val * l (j 0).val (j 1).val) : ℝ) : EReal) := by
    rw [← EReal.coe_mul, ← EReal.coe_one]
    exact div_real _ _ (mul_ne_zero hn hn)
  rw [EReal.coe_mul, EReal.coe_mul, ← e1]
  rfl

theorem ngV_real (r : ℕ → ℕ → ℝ) : ngV (cN r) = cN fun h q => - r h q := by
  funext j
  pointwise [ngV]
  rw [Fin.sum_univ_one]
  exact (EReal.coe_neg _).symm

theorem dsV_real (dp e : ℕ → ℕ → ℕ → ℝ) (l : ℕ → ℕ → ℝ) (hl : ∀ h q, q < 4224 → l h q ≠ 0) :
    dsV (c3 dp) (c3 e) (cN l) = c3 fun h q k => if mk q k then (dp h q k / l h q + -(∑ k : Fin 4224, dp h q k.val * (1 / (l h q * l h q)) * e h q k.val)) * e h q k else 0 := by
  unfold dsV
  rw [rsV_real _ _ _ hl, ngV_real]
  funext j
  pointwise [m1, m3]
  rw [mkV_at]
  show _ = ((if mk (j 1).val (j 2).val then (dp (j 0).val (j 1).val (j 2).val / l (j 0).val (j 1).val
    + -(∑ k : Fin 4224, dp (j 0).val (j 1).val k.val * (1 / (l (j 0).val (j 1).val * l (j 0).val (j 1).val)) * e (j 0).val (j 1).val k.val)) * e (j 0).val (j 1).val (j 2).val else 0 : ℝ) : EReal)
  by_cases h : mk (j 1).val (j 2).val
  · rw [if_pos h, decide_eq_true h, EReal.coe_mul, EReal.coe_add, ← div_real _ _ (hl (j 0).val (j 1).val (j 1).isLt)]
    rfl
  · rw [if_neg h, decide_eq_false h]
    rfl

theorem dkV_real (ds : ℕ → ℕ → ℕ → ℝ) (Q : ℕ → ℕ → ℝ) : dkV (c3 ds) (cN Q) = cN fun k d => ∑ q : Fin 4224, ds (d / 128) q.val k * Q q.val d := by
  funext j
  pointwise [dkV, q3]
  refine (Finset.sum_congr rfl fun x _ => ?_).trans (coe_sum _).symm
  rw [EReal.coe_mul]
  rfl

theorem dqV_real (ds : ℕ → ℕ → ℕ → ℝ) (K : ℕ → ℕ → ℝ) : dqV (c3 ds) (cN K) = cN fun q d => ∑ k : Fin 4224, ds (d / 128) q k.val * K k.val d := by
  funext j
  pointwise [dqV, q3]
  refine (Finset.sum_congr rfl fun x _ => ?_).trans (coe_sum _).symm
  rw [EReal.coe_mul]
  rfl

end Cert.Attn

end

end
-- ==== Proof.Value.Real.lean ====
/- The kernel's sums over the reals are the gradients of the attention. -/
module

public import proofs.«01_k».proof.Proof.Value.Host

@[expose] public section

noncomputable section

namespace Cert.Attn

open Cert.KernelIdeal.Attn (sH pH eH dH dqH dkH dvH seen)

variable (Q K V C M : ℕ → ℕ → ℝ)

/-- The exponentials, their sums and the weights. -/
def EE : ℕ → ℕ → ℕ → ℝ := eR (sH Q K) M
def LL : ℕ → ℕ → ℝ := lR (EE Q K M)
def PP (h q k : ℕ) : ℝ := EE Q K M h q k / LL Q K M h q
/-- The kernel's operands. -/
def Qk (q d : ℕ) : ℝ := Q q d / Real.log 2
def Lk (q j : ℕ) : ℝ := (M (j / 64) q + Real.log (LL Q K M (j / 64) q)) / Real.log 2
def Ok (q j : ℕ) : ℝ := ∑ k : Fin 4224, V k.val j * PP Q K M (j / 64) q k.val
def Ck (q j : ℕ) : ℝ := if 112 ≤ q ∧ 1024 ≤ j then C (q - 112) (j - 1024) else 0
/-- The reference's cotangents: of the output by head, of the weights, of the scores. -/
def ctR (h j q : ℕ) : ℝ := if 112 ≤ q then C (q - 112) (64 * h + j) else 0
def dpR (h q k : ℕ) : ℝ := ∑ j : Fin 64, ctR C h j.val q * V k (64 * h + j.val)
def dsR (h q k : ℕ) : ℝ := if mk q k then (dpR V C h q k / LL Q K M h q + -(∑ k : Fin 4224, dpR V C h q k.val * (1 / (LL Q K M h q * LL Q K M h q)) * EE Q K M h q k.val)) * EE Q K M h q k else 0

theorem LL_pos (h q : ℕ) (hq : q < 4224) : 0 < LL Q K M h q := lR_pos _ _ h q hq
theorem ln2_pos : 0 < Real.log 2 := Real.log_pos one_lt_two

theorem sH_Qk (h q k : ℕ) : sH (Qk Q) K h q k = sH Q K h q k / Real.log 2 := by
  unfold sH Qk
  rw [Finset.sum_div]
  refine Finset.sum_congr rfl fun d _ => ?_
  rw [div_mul_eq_mul_div]

/-- The kernel's weights. -/
theorem pH_real (h q k : ℕ) (hq : q < 4224) : pH (Qk Q) K (Lk Q K M) h q k = if seen q k then PP Q K M h q k else 0 := by
  unfold pH
  by_cases hs : seen q k
  · have hm : mk q k := ⟨hs.1, Or.inl hs.2⟩
    have hp := LL_pos Q K M h q hq
    have hl := ln2_pos
    rw [if_pos hs, if_pos hs, sH_Qk]
    unfold Lk
    rw [Nat.mul_div_cancel_left _ (by norm_num), ← sub_div]
    show (2 : ℝ) ^ (((sH Q K h q k - (M h q + Real.log (LL Q K M h q))) / Real.log 2) : ℝ) = _
    rw [Real.rpow_def_of_pos two_pos, mul_div_cancel₀ _ hl.ne']
    unfold PP EE eR
    rw [if_pos hm, ← sub_sub, Real.exp_sub, Real.exp_log hp]
  · rw [if_neg hs, if_neg hs]

theorem Ck_at (h j q : ℕ) : Ck C q (1024 + (64 * h + j)) = ctR C h j q := by
  unfold Ck ctR
  rw [Nat.add_sub_cancel_left]
  by_cases hq : 112 ≤ q
  · rw [if_pos hq, if_pos ⟨hq, Nat.le_add_right _ _⟩]
  · rw [if_neg hq, if_neg fun h => hq h.1]

/-- The kernel's cotangent of the scores, over the weight. -/
theorem eH_real (h q k : ℕ) : eH V (Ok Q K V M) (Ck C) h q k = dpR V C h q k - ∑ k : Fin 4224, PP Q K M h q k.val * dpR V C h q k.val := by
  unfold eH
  congr 1
  · unfold dpR
    refine Finset.sum_congr rfl fun j _ => ?_
    rw [Ck_at]
  · have e : ∀ j : Fin 64, Ck C q (1024 + (64 * h + j.val)) * Ok Q K V M q (64 * h + j.val) = ∑ k : Fin 4224, PP Q K M h q k.val * (ctR C h j.val q * V k.val (64 * h + j.val)) := by
      intro j
      rw [Ck_at]
      unfold Ok
      rw [Finset.mul_sum, show (64 * h + j.val) / 64 = h by have := j.isLt; omega]
      refine Finset.sum_congr rfl fun k _ => ?_
      ring
    rw [Finset.sum_congr rfl fun j _ => e j, Finset.sum_comm]
    unfold dpR
    refine Finset.sum_congr rfl fun k _ => ?_
    rw [Finset.mul_sum]

theorem dpR_zero (h q k : ℕ) (hq : q < 112) : dpR V C h q k = 0 := by
  unfold dpR ctR
  refine Finset.sum_eq_zero fun j _ => ?_
  rw [if_neg (by omega), zero_mul]

/-- The kernel's cotangent of the scores is the reference's. -/
theorem dH_real (h q k : ℕ) (hq : q < 4224) : dH (Qk Q) K V (Ok Q K V M) (Lk Q K M) (Ck C) h q k = dsR Q K V C M h q k := by
  unfold dH dsR
  rw [pH_real _ _ _ _ _ _ hq, eH_real]
  have hp := (LL_pos Q K M h q hq).ne'
  rcases Nat.lt_or_ge q 112 with h1 | h1
  · simp only [dpR_zero V C h q _ h1]
    simp
  · by_cases hs : seen q k
    · have hm : mk q k := ⟨hs.1, Or.inl hs.2⟩
      rw [if_pos hs, if_pos hm]
      have e : (∑ k : Fin 4224, dpR V C h q k.val * (1 / (LL Q K M h q * LL Q K M h q)) * EE Q K M h q k.val) = (∑ k : Fin 4224, PP Q K M h q k.val * dpR V C h q k.val) / LL Q K M h q := by
        rw [Finset.sum_div]
        refine Finset.sum_congr rfl fun k _ => ?_
        unfold PP
        field_simp
      rw [e]
      unfold PP
      field_simp
      ring
    · have hm : ¬ mk q k := fun hm => hs ⟨hm.1, hm.2.resolve_right (by omega)⟩
      rw [if_neg hs, if_neg hm, zero_mul]

theorem dq_real (q d : ℕ) (hq : q < 4224) : dqH (Qk Q) K V (Ok Q K V M) (Lk Q K M) (Ck C) 4224 q d = ∑ k : Fin 4224, dsR Q K V C M (d / 128) q k.val * K k.val d := by
  unfold dqH
  rw [Finset.sum_range]
  refine Finset.sum_congr rfl fun k _ => ?_
  rw [dH_real _ _ _ _ _ _ _ _ hq]

theorem dk_real (k d : ℕ) : dkH (Qk Q) K V (Ok Q K V M) (Lk Q K M) (Ck C) k d = ∑ q : Fin 4224, dsR Q K V C M (d / 128) q.val k * Q q.val d := by
  unfold dkH
  rw [Finset.sum_range, Finset.sum_mul]
  refine Finset.sum_congr rfl fun q _ => ?_
  rw [dH_real _ _ _ _ _ _ _ _ q.isLt]
  unfold Qk
  rw [mul_assoc, div_mul_cancel₀ _ ln2_pos.ne']

theorem dv_real (k j : ℕ) : dvH (Qk Q) K (Lk Q K M) (Ck C) k j = ∑ q : Fin 4224, ctR C (j / 64) (j % 64) q.val * PP Q K M (j / 64) q.val k := by
  unfold dvH
  rw [Finset.sum_range]
  refine Finset.sum_congr rfl fun q _ => ?_
  rw [pH_real _ _ _ _ _ _ q.isLt, show 1024 + j = 1024 + (64 * (j / 64) + j % 64) by omega, Ck_at]
  by_cases h1 : 112 ≤ q.val
  · by_cases hs : seen q.val k
    · rw [if_pos hs, mul_comm]
    · have hm : ¬ mk q.val k := fun hm => hs ⟨hm.1, hm.2.resolve_right (by omega)⟩
      rw [if_neg hs, zero_mul]
      unfold PP EE eR
      rw [if_neg hm, zero_div, mul_zero]
  · unfold ctR
    rw [if_neg h1, mul_zero, zero_mul]

end Cert.Attn

end

end
-- ==== Proof.Value.KHost.lean ====
/- The kernel's operands: what its host lines make of the arguments, and their values at real ones. -/
module

public import proofs.«01_k».proof.Proof.Value.Host
public import Idealize.ShloMosaic.Lib.StableHlo.Run

@[expose] public section

set_option maxRecDepth 16384

noncomputable section

namespace Cert.KernelIdeal.Attn

open Cert.KernelIdeal Cert.KernelIdeal.Gen
open Idealize.ShloMosaic Idealize.ShloMosaic.TcCoe Idealize.ShloMosaic.StableHlo

abbrev Vf (S : Shape) : Type := FVec Ideal S .f32

/-- The logarithm of two. -/
def lnV : Vf S_ := Host.log (constant S_ .f32 0x40000000#32)
def q2V (q : Vf S4224x2048) : FVec Ideal S4224x2048 .bf16 := truncf .bf16 (Host.divf q (broadcastInDim S4224x2048 ![] bcast_S_S4224x2048 lnV)) bitsLt_bf16_f32
/-- The rows' log-sums, in powers of two, spread over each head's lanes. -/
def lseV (mx l : Vf S16x4224) : Vf S4224x1024 :=
  shapeCast _ (broadcastInDim S4224x16x64 ![0, 1, 2] bcast_S4224x16x1_S4224x16x64_0_1_2 (broadcastInDim S4224x16x1 ![0, 1] bcast_S4224x16_S4224x16x1_0_1
    (transpose S4224x16 [1, 0] (Host.divf (shapeCast _ (addf (broadcastInDim S16x4224x1 ![0, 1] bcast_S16x4224_S16x4224x1_0_1 mx) (Host.log (broadcastInDim S16x4224x1 ![0, 1] bcast_S16x4224_S16x4224x1_0_1 l))) shapeCasts_S16x4224x1_S16x4224)
      (broadcastInDim S16x4224 ![] bcast_S_S16x4224 lnV)) transposes_S16x4224_S4224x16_1_0))) shapeCasts_S4224x16x64_S4224x1024
def ctP (ct : Vf S4112x1024) : Vf S4224x2048 := pad S4224x2048 ![112, 1024] ![0, 0] ![0, 0] ct (sitofp .f32 (constantI S_ 32 0#32)) pads_S4112x1024_S4224x2048_11200_102400 h_S_

variable (m : (ℓ : Loc nD τ sig) → Buf (Elt Ideal) ℓ) (c : Dev nD)

theorem V47 : V m c main_v47 = (truncf .bf16 (m (c, main_arg1)) bitsLt_bf16_f32 : FVec Ideal S4224x2048 .bf16) := by
  simp only [V, List.flatten, List.append, TRef.nullary, TRef.ternary, TRef.binary, TRef.unary, TRef.toBuf, TRef.ofBuf, cast_eq]
  after_results_simp <;> rfl
theorem V45 : V m c main_v45 = q2V (m (c, main_arg0)) := by
  simp only [V, List.flatten, List.append, TRef.nullary, TRef.ternary, TRef.binary, TRef.unary, TRef.toBuf, TRef.ofBuf, cast_eq]
  after_results_simp <;> rfl
theorem V46 : V m c main_v46 = ctP (m (c, main_arg3)) := by
  simp only [V, List.flatten, List.append, TRef.nullary, TRef.ternary, TRef.binary, TRef.unary, TRef.toBuf, TRef.ofBuf, cast_eq]
  after_results_simp <;> rfl

open Cert.Attn (sV mV eV lV oV) in
theorem V49 : V m c main_v49 = (truncf .bf16 (oV (m (c, main_arg2)) (Cert.Attn.pV (eV (sV (m (c, main_arg0)) (m (c, main_arg1))) (mV (sV (m (c, main_arg0)) (m (c, main_arg1)))))
    (lV (eV (sV (m (c, main_arg0)) (m (c, main_arg1))) (mV (sV (m (c, main_arg0)) (m (c, main_arg1)))))))) bitsLt_bf16_f32 : FVec Ideal S4224x1024 .bf16) := by
  simp only [V, List.flatten, List.append, TRef.nullary, TRef.ternary, TRef.binary, TRef.unary, TRef.toBuf, TRef.ofBuf, cast_eq]
  after_results_simp <;> rfl
theorem V48 : V m c main_v48 = (truncf .bf16 (m (c, main_arg2)) bitsLt_bf16_f32 : FVec Ideal S4224x1024 .bf16) := by
  simp only [V, List.flatten, List.append, TRef.nullary, TRef.ternary, TRef.binary, TRef.unary, TRef.toBuf, TRef.ofBuf, cast_eq]
  after_results_simp <;> rfl
open Cert.Attn (sV mV eV lV) in
theorem V42 : V m c main_v42 = lseV (mV (sV (m (c, main_arg0)) (m (c, main_arg1)))) (lV (eV (sV (m (c, main_arg0)) (m (c, main_arg1))) (mV (sV (m (c, main_arg0)) (m (c, main_arg1)))))) := by
  simp only [V, List.flatten, List.append, TRef.nullary, TRef.ternary, TRef.binary, TRef.unary, TRef.toBuf, TRef.ofBuf, cast_eq]
  after_results_simp <;> rfl

/-! ## The values -/

theorem two_lit : Ideal.ofBits .f32 0x40000000#32 = ((2 : ℝ) : EReal) := by
  simp [Ideal.ofBits, Ideal.ieee, -EReal.coe_mul]; norm_num
theorem log2_pos : 0 < Real.log 2 := Real.log_pos one_lt_two
theorem lnV_at (j : S_.Idx) : lnV j = ((Real.log 2 : ℝ) : EReal) := by
  pointwise [lnV]
  rw [two_lit, Ideal.log_coe, if_neg (by norm_num)]
theorem q2V_real (Q : ℕ → ℕ → ℝ) : q2V (cN Q) = cN fun q d => Q q d / Real.log 2 := by
  funext j
  pointwise [q2V]
  rw [lnV_at]
  exact Cert.Attn.div_real _ _ log2_pos.ne'
theorem lseV_real (M L : ℕ → ℕ → ℝ) (hL : ∀ h q, q < 4224 → 0 < L h q) : lseV (cN M) (cN L) = cN fun q j => (M (j / 64) q + Real.log (L (j / 64) q)) / Real.log 2 := by
  funext j
  pointwise [lseV]
  rw [lnV_at]
  have hp := hL ((j 1).val / 64) (j 0).val (j 0).isLt
  show Ideal.div (((M ((j 1).val / 64) (j 0).val : ℝ) : EReal) + Ideal.log ((L ((j 1).val / 64) (j 0).val : ℝ) : EReal)) ((Real.log 2 : ℝ) : EReal) = _
  rw [Ideal.log_coe, if_neg (not_le.mpr hp), ← EReal.coe_add]
  exact Cert.Attn.div_real _ _ log2_pos.ne'
theorem ctP_real (C : ℕ → ℕ → ℝ) : ctP (cN C) = cN fun q j => if 112 ≤ q ∧ 1024 ≤ j then C (q - 112) (j - 1024) else 0 := by
  funext j
  pointwise [ctP]
  have h0 : (j 0).val < 4224 := (j 0).isLt
  have h1 : (j 1).val < 2048 := (j 1).isLt
  show _ = ((if 112 ≤ (j 0).val ∧ 1024 ≤ (j 1).val then C ((j 0).val - 112) ((j 1).val - 1024) else 0 : ℝ) : EReal)
  by_cases h : 112 ≤ (j 0).val ∧ 1024 ≤ (j 1).val
  · rw [dif_pos ⟨⟨h.1, by omega⟩, h.2, by omega⟩, if_pos h]
    rfl
  · rw [dif_neg fun h' => h ⟨h'.1.1, h'.2.1⟩, if_neg h]
    show (((0#32 : BitVec 32).toInt : ℝ) : EReal) = _
    simp
theorem truncf_id {a b : ℕ} (x : FVec Ideal (⟨2, ![a, b]⟩ : Shape) .f32) : truncf .bf16 x bitsLt_bf16_f32 = x := by
  funext j
  pointwise

end Cert.KernelIdeal.Attn

end

end
-- ==== Proof.Value.Ref.lean ====
/- The reference's three results, a stage at a time. -/
module

public import proofs.«01_k».proof.Proof.Value.Host
public import proofs.«01_k».proof.Proof.Gen.ReferenceIdeal.Run

@[expose] public section

set_option maxRecDepth 16384

noncomputable section

namespace Cert.Attn

open Cert.ReferenceIdeal Cert.ReferenceIdeal.Gen Cert.ReferenceIdeal.Value
open Idealize.ShloMosaic Idealize.ShloMosaic.TcCoe

variable (m : (ℓ : Loc nD τ sig) → Buf (Elt Ideal) ℓ) (c : Dev nD)

def sA (q k : Vf S4224x2048) : Vf S16x4224x4224 := eV (sV q k) (mV' (sV q k))
def dsA (q k : Vf S4224x2048) (v : Vf S4224x1024) (ct : Vf S4112x1024) : Vf S16x4224x4224 := dsV (dpV (ctV ct) v) (sA q k) (lV (sA q k))

theorem ref_dv : res_main_v79 m c = dvV (ctV (m ((c.tc : Thread nD τ).loc main_arg3))) (pV (sA (m ((c.tc : Thread nD τ).loc main_arg0)) (m ((c.tc : Thread nD τ).loc main_arg1))) (lV (sA (m ((c.tc : Thread nD τ).loc main_arg0)) (m ((c.tc : Thread nD τ).loc main_arg1))))) := rfl
theorem ref_dk : res_main_v77 m c = dkV (dsA (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0)) := rfl
theorem ref_dq : res_main_v78 m c = dqV (dsA (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1)) := rfl

end Cert.Attn

end

end
-- ==== Proof.Value.Final.lean ====
/- The kernel's three arrays are the reference's results where the arguments are real. -/
module

public import proofs.«01_k».proof.Proof.Value.Real
public import proofs.«01_k».proof.Proof.Value.KHost
public import proofs.«01_k».proof.Proof.Value.Ref
public import proofs.«01_k».proof.Pre_finite

@[expose] public section

set_option maxRecDepth 16384

noncomputable section

namespace Cert.KernelIdeal.Attn

open Cert.KernelIdeal Cert.KernelIdeal.Gen
open Idealize.ShloMosaic Idealize.ShloMosaic.TcCoe Idealize.ShloMosaic.StableHlo
open Cert.Attn (sV mV mV' eV lV oV sA dsA dqV dkV dvV ctV dpV dsV EE LL PP Qk Lk Ok Ck ctR dpR dsR c3 cB)

theorem cN_congr {a b : ℕ} (f g : ℕ → ℕ → ℝ) (h : ∀ i < a, ∀ j, f i j = g i j) : (cN f : (⟨2, ![a, b]⟩ : Shape).Idx → EReal) = cN g := by
  funext i
  show ((f (i 0).val (i 1).val : ℝ) : EReal) = ((g (i 0).val (i 1).val : ℝ) : EReal)
  rw [h _ (i 0).isLt]

section
variable (Q K W C M : ℕ → ℕ → ℝ) (hM : mV (cB (sH Q K)) = (cN M : S16x4224.Idx → EReal))
include hM

theorem sA_real : sA (cN Q) (cN K) = c3 (EE Q K M) := by
  unfold sA
  rw [Cert.Attn.mV'_eq, Cert.Attn.sV_real, hM, Cert.Attn.eV_real]
  rfl
theorem eA_real : eV (sV (cN Q) (cN K)) (mV (sV (cN Q) (cN K))) = c3 (EE Q K M) := by
  rw [Cert.Attn.sV_real, hM, Cert.Attn.eV_real]
  rfl
omit hM in
theorem lA_real : lV (c3 (EE Q K M)) = (cN (LL Q K M) : S16x4224.Idx → EReal) := Cert.Attn.lV_real _
omit hM in
theorem LL_ne (h q : ℕ) (hq : q < 4224) : LL Q K M h q ≠ 0 := (Cert.Attn.LL_pos Q K M h q hq).ne'

theorem dsA_real : dsA (cN Q) (cN K) (cN W) (cN C) = c3 (dsR Q K W C M) := by
  unfold dsA
  rw [sA_real Q K M hM, lA_real, Cert.Attn.ctV_real, Cert.Attn.dpV_real, Cert.Attn.dsV_real _ _ _ (LL_ne Q K M)]
  rfl
theorem dvA_real : dvV (ctV (cN C)) (Cert.Attn.pV (sA (cN Q) (cN K)) (lV (sA (cN Q) (cN K)))) =
    (cN fun k j => ∑ q : Fin 4224, ctR C (j / 64) (j % 64) q.val * PP Q K M (j / 64) q.val k : S4224x1024.Idx → EReal) := by
  rw [sA_real Q K M hM, lA_real, Cert.Attn.ctV_real, Cert.Attn.pV_real _ _ (LL_ne Q K M), Cert.Attn.dvV_real]
  rfl

variable (m : (ℓ : Loc nD τ sig) → Buf (Elt Ideal) ℓ) (c : Dev nD)
  (h0 : m (c, main_arg0) = (cN Q : S4224x2048.Idx → EReal)) (h1 : m (c, main_arg1) = (cN K : S4224x2048.Idx → EReal))
  (h2 : m (c, main_arg2) = (cN W : S4224x1024.Idx → EReal)) (h3 : m (c, main_arg3) = (cN C : S4112x1024.Idx → EReal))
include h0 h1 h2 h3

omit hM h1 h2 h3 in
theorem op45 : V m c main_v45 = (cN (Qk Q) : S4224x2048.Idx → EReal) := by
  rw [V45, h0]
  exact q2V_real Q
omit hM h0 h2 h3 in
theorem op47 : V m c main_v47 = (cN K : S4224x2048.Idx → EReal) := by
  rw [V47, h1]
  exact truncf_id _
omit hM h0 h1 h3 in
theorem op48 : V m c main_v48 = (cN W : S4224x1024.Idx → EReal) := by
  rw [V48, h2]
  exact truncf_id _
omit hM h0 h1 h2 in
theorem op46 : V m c main_v46 = (cN (Ck C) : S4224x2048.Idx → EReal) := by
  rw [V46, h3]
  exact ctP_real C
omit h2 h3 in
theorem op42 : V m c main_v42 = (cN (Lk Q K M) : S4224x1024.Idx → EReal) := by
  rw [V42, h0, h1]
  refine (congrArg₂ lseV ((congrArg mV (Cert.Attn.sV_real Q K)).trans hM) ((congrArg lV (eA_real Q K M hM)).trans (lA_real Q K M))).trans ?_
  exact lseV_real M (LL Q K M) (Cert.Attn.LL_pos Q K M)
omit h3 in
theorem op49 : V m c main_v49 = (cN (Ok Q K W M) : S4224x1024.Idx → EReal) := by
  rw [V49, h0, h1, h2]
  refine (truncf_id _).trans ?_
  have e := eA_real Q K M hM
  refine (congrArg (oV (cN W)) ((congrArg₂ Cert.Attn.pV e ((congrArg lV e).trans (lA_real Q K M))).trans (Cert.Attn.pV_real _ _ (LL_ne Q K M)))).trans ?_
  exact Cert.Attn.oV_real W _

theorem res6 : (dats m 0 c).arrAt 6 cfg0.N = dqV (dsA (cN Q) (cN K) (cN W) (cN C)) (cN K) := by
  rw [dsA_real Q K W C M hM]
  refine (arr6 m c _ _ _ _ _ _ (op45 Q m c h0) (op47 K m c h1) (op48 W m c h2) (op49 Q K W M hM m c h0 h1 h2) (op42 Q K M hM m c h0 h1) (op46 C m c h3)).trans ?_
  exact (cN_congr _ _ fun i hi j => Cert.Attn.dq_real Q K W C M i j hi).trans (Cert.Attn.dqV_real _ _).symm
theorem res7 : (dats m 0 c).arrAt 7 cfg0.N = dkV (dsA (cN Q) (cN K) (cN W) (cN C)) (cN Q) := by
  rw [dsA_real Q K W C M hM]
  refine (arr7 m c _ _ _ _ _ _ (op45 Q m c h0) (op47 K m c h1) (op48 W m c h2) (op49 Q K W M hM m c h0 h1 h2) (op42 Q K M hM m c h0 h1) (op46 C m c h3)).trans ?_
  exact (cN_congr _ _ fun i _ j => Cert.Attn.dk_real Q K W C M i j).trans (Cert.Attn.dkV_real _ _).symm
theorem res8 : (dats m 0 c).arrAt 8 cfg0.N = dvV (ctV (cN C)) (Cert.Attn.pV (sA (cN Q) (cN K)) (lV (sA (cN Q) (cN K)))) := by
  rw [dvA_real Q K C M hM]
  refine (arr8 m c _ _ _ _ _ _ (op45 Q m c h0) (op47 K m c h1) (op48 W m c h2) (op49 Q K W M hM m c h0 h1 h2) (op42 Q K M hM m c h0 h1) (op46 C m c h3)).trans ?_
  exact cN_congr _ _ fun i _ j => Cert.Attn.dv_real Q K C M i j

end

/-! ## Real arguments -/

theorem real_of {a b : ℕ} (x : (⟨2, ![a, b]⟩ : Shape).Idx → EReal) (hb : ∀ j, x j ≠ ⊥) (ht : ∀ j, x j ≠ ⊤) : ∃ M : ℕ → ℕ → ℝ, x = cN M := by
  refine ⟨fun h q => if hh : h < a ∧ q < b then (x (ix2 ⟨h, hh.1⟩ ⟨q, hh.2⟩)).toReal else 0, ?_⟩
  funext j
  have hj : (j 0).val < a ∧ (j 1).val < b := ⟨(j 0).isLt, (j 1).isLt⟩
  show x j = ((if hh : (j 0).val < a ∧ (j 1).val < b then (x (ix2 ⟨(j 0).val, hh.1⟩ ⟨(j 1).val, hh.2⟩)).toReal else 0 : ℝ) : EReal)
  rw [dif_pos hj]
  have e : (ix2 ⟨(j 0).val, hj.1⟩ ⟨(j 1).val, hj.2⟩ : (⟨2, ![a, b]⟩ : Shape).Idx) = j := ix2_eta j
  rw [e]
  exact (EReal.coe_toReal (ht j) (hb j)).symm

theorem top_lit : Ideal.ofBits .f32 0x7F800000#32 = ⊤ := by
  simp [Ideal.ofBits, Ideal.ieee]

theorem fin_at (x : EReal) (h : Ideal.cmp .olt (max x (-x)) ⊤ = 1#1) : x ≠ ⊥ ∧ x ≠ ⊤ := by
  constructor <;> rintro rfl <;> revert h <;> simp [Ideal.cmp]

theorem real_of_pre {a b : ℕ} (hb : (⟨0, ![]⟩ : Shape).BroadcastsInDim ⟨2, ![a, b]⟩ (![] : Fin 0 → Fin 2)) (x : FVec Ideal ⟨2, ![a, b]⟩ .f32)
    (h : cmpf .olt (Host.absf x) (broadcastInDim ⟨2, ![a, b]⟩ ![] hb (constant ⟨0, ![]⟩ .f32 0x7F800000#32)) = fun _ => 1#1) :
    ∃ M : ℕ → ℕ → ℝ, x = cN M := by
  have key : ∀ j, x j ≠ ⊥ ∧ x j ≠ ⊤ := fun j => fin_at (x j) (by
    have := congrFun h j
    rw [← top_lit]
    exact this)
  exact real_of x (fun j => (key j).1) fun j => (key j).2

end Cert.KernelIdeal.Attn

namespace Cert.Pre_finite

theorem facts : Facts := ⟨by decide, by decide, by decide⟩

end Cert.Pre_finite

end

end
-- ==== Proof.Mlp.Run.lean ====
/- The run of the six products: at the end every buffer of the program holds its last contents. -/
module

public import proofs.«01_k».proof.Proof.Gen.Kernel2Ideal.Frame

@[expose] public section

set_option maxRecDepth 16384

noncomputable section

namespace Cert.Mlp

open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ fun r => ∀ c : Dev nD,
    ∀ b ∈ Pipeline.ucRefs τ sig, r.2.mem (((c : Thread nD τ)).1, b) = W7 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => h)

end Cert.Mlp

end

end
-- ==== Proof.Mat.Basic.lean ====
/- Matrices by natural indices, their blocks and their products. -/
module

public import Idealize.ShloMosaic.Lib.Pipeline.ValueKit
public import Idealize.ShloMosaic.Lib.Pointwise

@[expose] public section

noncomputable section

namespace Cert.Mat

open Idealize.ShloMosaic

/-- A matrix by natural indices, as an array. -/
def eN {a b : ℕ} (f : ℕ → ℕ → EReal) : (⟨2, ![a, b]⟩ : Shape).Idx → EReal := fun j => f (j 0).val (j 1).val
/-- An array of three axes by natural indices. -/
def e3 {a b c : ℕ} (f : ℕ → ℕ → ℕ → EReal) : (⟨3, ![a, b, c]⟩ : Shape).Idx → EReal := fun j => f (j 0).val (j 1).val (j 2).val

theorem eN_of {a b : ℕ} (x : (⟨2, ![a, b]⟩ : Shape).Idx → EReal) : ∃ f, x = eN f := by
  refine ⟨fun i k => if h : i < a ∧ k < b then x (ix2 ⟨i, h.1⟩ ⟨k, h.2⟩) else 0, ?_⟩
  funext j
  have hj : (j 0).val < a ∧ (j 1).val < b := ⟨(j 0).isLt, (j 1).isLt⟩
  show x j = if h : (j 0).val < a ∧ (j 1).val < b then x (ix2 ⟨(j 0).val, h.1⟩ ⟨(j 1).val, h.2⟩) else 0
  rw [dif_pos hj]
  exact congrArg x (ix2_eta j).symm

/-- A block of a matrix, `p` rows down and `q` columns along. -/
theorem blk {a b a' b' : ℕ} {x : (⟨2, ![a, b]⟩ : Shape).Idx → EReal} {f : ℕ → ℕ → EReal} (hx : x = eN f) (p q : ℕ) (emb : (⟨2, ![a', b']⟩ : Shape).Idx → (⟨2, ![a, b]⟩ : Shape).Idx)
    (h0 : ∀ y, (emb y 0).val = (y 0).val + p) (h1 : ∀ y, (emb y 1).val = (y 1).val + q) : (fun y => x (emb y)) = eN fun i j => f (i + p) (j + q) := by
  funext y
  rw [hx]
  show f (emb y 0).val (emb y 1).val = f ((y 0).val + p) ((y 1).val + q)
  rw [h0, h1]

/-- The three products over an axis of `K`: of the matrices as they stand, with the second turned, with the first turned. -/
def nn (K : ℕ) (A B : ℕ → ℕ → EReal) (i j : ℕ) : EReal := ∑ k : Fin K, A i k.val * B k.val j
def nt (K : ℕ) (A B : ℕ → ℕ → EReal) (i j : ℕ) : EReal := ∑ k : Fin K, A i k.val * B j k.val
def tn (K : ℕ) (A B : ℕ → ℕ → EReal) (i j : ℕ) : EReal := ∑ k : Fin K, A k.val i * B k.val j

theorem tn_congr {K : ℕ} {A B B' : ℕ → ℕ → EReal} {i j j' : ℕ} (h : ∀ k, B k j = B' k j') : tn K A B i j = tn K A B' i j' :=
  Finset.sum_congr rfl fun k _ => congrArg (_ * ·) (h k.val)
theorem tn_congr_left {K : ℕ} {A A' B : ℕ → ℕ → EReal} {i i' j : ℕ} (h : ∀ k, A k i = A' k i') : tn K A B i j = tn K A' B i' j :=
  Finset.sum_congr rfl fun k _ => congrArg (· * _) (h k.val)

/-- Two matrices side by side, the first of `p` columns. -/
def cat (p : ℕ) (A B : ℕ → ℕ → EReal) (i j : ℕ) : EReal := if j < p then A i j else B i (j - p)
theorem cat_lt {p : ℕ} {A B : ℕ → ℕ → EReal} {i j : ℕ} (h : j < p) : cat p A B i j = A i j := if_pos h
theorem cat_ge {p : ℕ} {A B : ℕ → ℕ → EReal} {i j : ℕ} (h : p ≤ j) : cat p A B i j = B i (j - p) := if_neg (Nat.not_lt.mpr h)
theorem cat_add {p : ℕ} {A B : ℕ → ℕ → EReal} {i j : ℕ} : cat p A B i (j + p) = B i j := (cat_ge (Nat.le_add_left p j)).trans (congrArg (B i) (Nat.add_sub_cancel ..))
/-- A product over two matrices side by side is the sum of two products. -/
theorem nn_cat (p q : ℕ) (A B W : ℕ → ℕ → EReal) (i j : ℕ) : nn (p + q) (cat p A B) W i j = nn p A W i j + nn q B (fun k j => W (k + p) j) i j := by
  refine (Fin.sum_univ_add _).trans (congrArg₂ (· + ·) (Finset.sum_congr rfl fun k _ => congrArg (· * _) (cat_lt k.isLt)) (Finset.sum_congr rfl fun k _ => ?_))
  show cat p A B i (p + k.val) * W (p + k.val) j = B i k.val * W (k.val + p) j
  rw [Nat.add_comm p k.val, cat_add]

end Cert.Mat

end

end
-- ==== Proof.Mlp.Up.lean ====
/- The forward product and its rectifier: what the first region leaves, at any contents it is entered with. -/
module

public import proofs.«01_k».proof.Proof.Gen.Kernel2Ideal.Frame
public import proofs.«01_k».proof.Proof.Mat.Basic

@[expose] public section

set_option maxRecDepth 16384

noncomputable section

namespace Cert.Mlp

open Cert.Kernel2Ideal Cert.Kernel2Ideal.Gen
open Cert.Mat (eN e3 eN_of)
open Idealize.ShloMosaic Idealize.ShloMosaic.TcCoe Idealize.ShloMosaic.Pipeline

/-- The rectified product, and its square. -/
def rE (X : ℕ → ℕ → EReal) (W : ℕ → ℕ → ℕ → EReal) (t j : ℕ) : EReal := max (∑ d : Fin 1024, X t d.val * W (j / 512) d.val (j % 512)) 0
def uE (X : ℕ → ℕ → EReal) (W : ℕ → ℕ → ℕ → EReal) (t j : ℕ) : EReal := rE X W t j * rE X W t j

theorem zero_lit : Ideal.ofBits .f32 0x00000000#32 = (0 : EReal) := by simp [Ideal.ofBits, Ideal.ieee]

theorem i0_0 : ∀ t : Fin cfg0.N, win0_0.index t = ![0, 0] := (by decide +kernel : ∀ t : Fin grid0.N, _)
theorem i0_1 : ∀ t : Fin cfg0.N, win0_1.index t = ![t.val / 2, 0, t.val % 2] := (by decide +kernel : ∀ t : Fin grid0.N, _)
theorem i0_2 : ∀ t : Fin cfg0.N, win0_2.index t = ![0, t.val] := (by decide +kernel : ∀ t : Fin grid0.N, _)
theorem i0_3 : ∀ t : Fin cfg0.N, win0_3.index t = ![0, t.val] := (by decide +kernel : ∀ t : Fin grid0.N, _)

section
variable (V : (c : Dev nD) → (b : Ref sig .tc) → Buf (Elt Ideal) ((c : Thread nD τ).loc b)) (c : Dev nD)
variable (X : ℕ → ℕ → EReal) (W : ℕ → ℕ → ℕ → EReal)

theorem b0_0 (hX : V c main_v0 = (eN X : S4224x1024.Idx → EReal)) (t : Fin cfg0.N) : iblk0 V c 0 t = (eN X : S4224x1024.Idx → EReal) := by
  funext y
  show V c main_v0 (((cfg0.win 0).blk t).view.emb y) = _
  rw [hX]
  show X (((cfg0.win 0).blk t).view.emb y 0).val (((cfg0.win 0).blk t).view.emb y 1).val = X (y 0).val (y 1).val
  congr 1 <;> blk_simp [i0_0] <;> simp
theorem b0_1 (hW : V c main_v4 = (e3 W : S8x1024x512.Idx → EReal)) (t : Fin cfg0.N) :
    iblk0 V c 1 t = (e3 fun _ d j => W (t.val / 2) d (256 * (t.val % 2) + j) : S1x1024x256.Idx → EReal) := by
  funext y
  show V c main_v4 (((cfg0.win 1).blk t).view.emb y) = _
  rw [hW]
  have h0 : (y 0).val < 1 := (y 0).isLt
  show W (((cfg0.win 1).blk t).view.emb y 0).val (((cfg0.win 1).blk t).view.emb y 1).val (((cfg0.win 1).blk t).view.emb y 2).val = W (t.val / 2) (y 1).val (256 * (t.val % 2) + (y 2).val)
  congr 1 <;> blk_simp [i0_1] <;> simp <;> omega

theorem pay0_3 (X : ℕ → ℕ → EReal) (W : ℕ → ℕ → EReal) (y : S4224x256.Idx) : k0_pay3 (F := Ideal) (eN X : S4224x1024.Idx → EReal) (e3 fun _ => W : S1x1024x256.Idx → EReal) y
    = max (∑ d : Fin 1024, X (y 0).val d.val * W d.val (y 1).val) 0 := by
  pointwise [k0_pay3, k0_pay1]
  rfl
theorem pay0_2 (X : ℕ → ℕ → EReal) (W : ℕ → ℕ → EReal) (y : S4224x256.Idx) : k0_pay2 (F := Ideal) (eN X : S4224x1024.Idx → EReal) (e3 fun _ => W : S1x1024x256.Idx → EReal) y
    = max (∑ d : Fin 1024, X (y 0).val d.val * W d.val (y 1).val) 0 * max (∑ d : Fin 1024, X (y 0).val d.val * W d.val (y 1).val) 0 := by
  pointwise [k0_pay2, k0_pay1]
  rfl

theorem r_at (X : ℕ → ℕ → EReal) (W : ℕ → ℕ → ℕ → EReal) (t q j : ℕ) (hj : j < 256) : rE X W q (256 * t + j) = max (∑ d : Fin 1024, X q d.val * W (t / 2) d.val (256 * (t % 2) + j)) 0 := by
  unfold rE
  rw [show (256 * t + j) / 512 = t / 2 by omega, show (256 * t + j) % 512 = 256 * (t % 2) + j by omega]

theorem arr0_3 (hX : V c main_v0 = (eN X : S4224x1024.Idx → EReal)) (hW : V c main_v4 = (e3 W : S8x1024x512.Idx → EReal)) : (dat0 V c).arrAt 3 cfg0.N = (eN (rE X W) : S4224x4096.Idx → EReal) :=
  (dat0 V c).arrAt_eq_of_covers 3 _ (by decide +kernel) fun t hf y => by
    blk_simp
    rw [after0_3]
    frame_out
    rw [b0_0 V c X hX, b0_1 V c W hW, pay0_3]
    refine (r_at X W t.val (y 0).val (y 1).val (y 1).isLt).symm.trans ?_
    show rE X W (y 0).val (256 * t.val + (y 1).val) = rE X W ((win0_3.blk t).view.emb y 0).val ((win0_3.blk t).view.emb y 1).val
    congr 1 <;> blk_simp [i0_3] <;> simp <;> omega
theorem arr0_2 (hX : V c main_v0 = (eN X : S4224x1024.Idx → EReal)) (hW : V c main_v4 = (e3 W : S8x1024x512.Idx → EReal)) : (dat0 V c).arrAt 2 cfg0.N = (eN (uE X W) : S4224x4096.Idx → EReal) :=
  (dat0 V c).arrAt_eq_of_covers 2 _ (by decide +kernel) fun t hf y => by
    blk_simp
    rw [after0_2]
    frame_out
    rw [b0_0 V c X hX, b0_1 V c W hW, pay0_2]
    rw [← r_at X W t.val (y 0).val (y 1).val (y 1).isLt]
    show uE X W (y 0).val (256 * t.val + (y 1).val) = uE X W ((win0_2.blk t).view.emb y 0).val ((win0_2.blk t).view.emb y 1).val
    congr 1 <;> blk_simp [i0_2] <;> simp <;> omega
end

end Cert.Mlp

end

end
-- ==== Proof.Mlp.Down.lean ====
/- The two products over the hidden axis, each a sum of eight: the output and the input's gradient. -/
module

public import proofs.«01_k».proof.Proof.Mlp.Up

@[expose] public section

set_option maxRecDepth 16384

noncomputable section

namespace Cert.Mlp

open Cert.Kernel2Ideal Cert.Kernel2Ideal.Gen
open Cert.Mat (eN e3 eN_of)
open Idealize.ShloMosaic Idealize.ShloMosaic.TcCoe Idealize.ShloMosaic.Pipeline

/-- Product over the hidden axis, whose second operand's rows stand in eight blocks. -/
def nnE (U : ℕ → ℕ → EReal) (W : ℕ → ℕ → ℕ → EReal) (t j : ℕ) : EReal := ∑ k : Fin 4096, U t k.val * W (k.val / 512) (k.val % 512) j
/-- The same, whose second operand's columns do, and are what is summed over. -/
def ntE (U : ℕ → ℕ → EReal) (W : ℕ → ℕ → ℕ → EReal) (t j : ℕ) : EReal := ∑ k : Fin 4096, U t k.val * W (k.val / 512) j (k.val % 512)

theorem range_blocks (f : ℕ → EReal) (n : ℕ) : ∑ k ∈ Finset.range (512 * n), f k = ∑ p ∈ Finset.range n, ∑ d ∈ Finset.range 512, f (512 * p + d) := by
  induction n with
  | zero => rfl
  | succ n ih => rw [Nat.mul_succ, Finset.sum_range_add, ih, Finset.sum_range_succ (fun p => ∑ d ∈ Finset.range 512, f (512 * p + d)) n]
/-- A sum over the hidden axis, block after block. -/
theorem eight (f : ℕ → EReal) : (∑ k : Fin 4096, f k.val) = (((((((∑ d : Fin 512, f (512 * 0 + d.val)) + ∑ d : Fin 512, f (512 * 1 + d.val)) + ∑ d : Fin 512, f (512 * 2 + d.val)) + ∑ d : Fin 512, f (512 * 3 + d.val))
      + ∑ d : Fin 512, f (512 * 4 + d.val)) + ∑ d : Fin 512, f (512 * 5 + d.val)) + ∑ d : Fin 512, f (512 * 6 + d.val)) + ∑ d : Fin 512, f (512 * 7 + d.val) := by
  rw [← Finset.sum_range f, show 4096 = 512 * 8 from rfl, range_blocks]
  simp only [Finset.sum_range_succ _ 0, Finset.sum_range_succ _ 1, Finset.sum_range_succ _ 2, Finset.sum_range_succ _ 3, Finset.sum_range_succ _ 4, Finset.sum_range_succ _ 5, Finset.sum_range_succ _ 6, Finset.sum_range_succ _ 7,
    Finset.sum_range_zero, zero_add, ← Finset.sum_range (fun d => f (512 * _ + d))]
  rfl

/-- One of the eight products. -/
def dN (A B : ℕ → ℕ → EReal) (r j : ℕ) : EReal := ∑ d : Fin 512, A r d.val * B d.val j
def dT (A B : ℕ → ℕ → EReal) (r j : ℕ) : EReal := ∑ d : Fin 512, A r d.val * B j d.val

theorem p1_2 (A B : ℕ → ℕ → EReal) : k1_pay2 (F := Ideal) (eN A : S1056x512.Idx → EReal) (e3 fun _ => B : S1x512x512.Idx → EReal) = (eN (dN A B) : S1056x512.Idx → EReal) := by
  funext y
  pointwise [k1_pay2]
  rfl
theorem p1_3 (A B : ℕ → ℕ → EReal) : k1_pay3 (F := Ideal) (eN A : S1056x512.Idx → EReal) (e3 fun _ => B : S1x512x512.Idx → EReal) = (eN (dN A B) : S1056x512.Idx → EReal) := p1_2 A B
theorem p1_4 (A B : ℕ → ℕ → EReal) : k1_pay4 (F := Ideal) (eN A : S1056x512.Idx → EReal) (e3 fun _ => B : S1x512x512.Idx → EReal) = (eN (dN A B) : S1056x512.Idx → EReal) := p1_2 A B
theorem p1_5 (A B : ℕ → ℕ → EReal) : k1_pay5 (F := Ideal) (eN A : S1056x512.Idx → EReal) (e3 fun _ => B : S1x512x512.Idx → EReal) = (eN (dN A B) : S1056x512.Idx → EReal) := p1_2 A B
theorem p1_6 (A B : ℕ → ℕ → EReal) : k1_pay6 (F := Ideal) (eN A : S1056x512.Idx → EReal) (e3 fun _ => B : S1x512x512.Idx → EReal) = (eN (dN A B) : S1056x512.Idx → EReal) := p1_2 A B
theorem p1_1 (a b c d e A₅ B₅ A₆ B₆ A₇ B₇ : ℕ → ℕ → EReal) : k1_pay1 (F := Ideal) (eN a : S1056x512.Idx → EReal) (eN b : S1056x512.Idx → EReal) (eN c : S1056x512.Idx → EReal) (eN d : S1056x512.Idx → EReal) (eN e : S1056x512.Idx → EReal)
    (eN A₅ : S1056x512.Idx → EReal) (e3 fun _ => B₅ : S1x512x512.Idx → EReal) (eN A₆ : S1056x512.Idx → EReal) (e3 fun _ => B₆ : S1x512x512.Idx → EReal) (eN A₇ : S1056x512.Idx → EReal) (e3 fun _ => B₇ : S1x512x512.Idx → EReal)
      = (eN fun r j => a r j + b r j + c r j + d r j + e r j + dN A₅ B₅ r j + dN A₆ B₆ r j + dN A₇ B₇ r j : S1056x512.Idx → EReal) := by
  funext y
  pointwise [k1_pay1]
  rfl
theorem p5_2 (A B : ℕ → ℕ → EReal) : k5_pay2 (F := Ideal) (eN A : S1056x512.Idx → EReal) (e3 fun _ => B : S1x512x512.Idx → EReal) = (eN (dT A B) : S1056x512.Idx → EReal) := by
  funext y
  pointwise [k5_pay2]
  rfl
theorem p5_3 (A B : ℕ → ℕ → EReal) : k5_pay3 (F := Ideal) (eN A : S1056x512.Idx → EReal) (e3 fun _ => B : S1x512x512.Idx → EReal) = (eN (dT A B) : S1056x512.Idx → EReal) := p5_2 A B
theorem p5_4 (A B : ℕ → ℕ → EReal) : k5_pay4 (F := Ideal) (eN A : S1056x512.Idx → EReal) (e3 fun _ => B : S1x512x512.Idx → EReal) = (eN (dT A B) : S1056x512.Idx → EReal) := p5_2 A B
theorem p5_5 (A B : ℕ → ℕ → EReal) : k5_pay5 (F := Ideal) (eN A : S1056x512.Idx → EReal) (e3 fun _ => B : S1x512x512.Idx → EReal) = (eN (dT A B) : S1056x512.Idx → EReal) := p5_2 A B
theorem p5_6 (A B : ℕ → ℕ → EReal) : k5_pay6 (F := Ideal) (eN A : S1056x512.Idx → EReal) (e3 fun _ => B : S1x512x512.Idx → EReal) = (eN (dT A B) : S1056x512.Idx → EReal) := p5_2 A B
theorem p5_1 (a b c d e A₅ B₅ A₆ B₆ A₇ B₇ : ℕ → ℕ → EReal) : k5_pay1 (F := Ideal) (eN a : S1056x512.Idx → EReal) (eN b : S1056x512.Idx → EReal) (eN c : S1056x512.Idx → EReal) (eN d : S1056x512.Idx → EReal) (eN e : S1056x512.Idx → EReal)
    (eN A₅ : S1056x512.Idx → EReal) (e3 fun _ => B₅ : S1x512x512.Idx → EReal) (eN A₆ : S1056x512.Idx → EReal) (e3 fun _ => B₆ : S1x512x512.Idx → EReal) (eN A₇ : S1056x512.Idx → EReal) (e3 fun _ => B₇ : S1x512x512.Idx → EReal)
      = (eN fun r j => a r j + b r j + c r j + d r j + e r j + dT A₅ B₅ r j + dT A₆ B₆ r j + dT A₇ B₇ r j : S1056x512.Idx → EReal) := by
  funext y
  pointwise [k5_pay1]
  rfl

/-- A load of 512 columns from column `o` on. -/
theorem ldA (A : ℕ → ℕ → EReal) (o : ℕ) (inb) : View.ld (Val := Elt Ideal) (e' := .bf16) (eN A : S1056x4096.Idx → EReal) (Rect.unit (s := S1056x4096) ![0, o] S1056x512.size inb)= (eN fun r d => A r (o + d) : S1056x512.Idx → EReal) := by
  funext y
  show A (0 + 1 * (y 0).val) (o + 1 * (y 1).val) = A (y 0).val (o + (y 1).val)
  rw [one_mul, one_mul, zero_add]
/-- A load of block `p`. -/
theorem ldB (B : ℕ → ℕ → ℕ → EReal) (p : ℕ) (inb) : View.ld (Val := Elt Ideal) (e' := .bf16) (e3 B : S8x512x512.Idx → EReal) (Rect.unit (s := S8x512x512) ![p, 0, 0] S1x512x512.size inb)= (e3 fun _ => B p : S1x512x512.Idx → EReal) := by
  funext y
  have h0 : (y 0).val < 1 := (y 0).isLt
  show B (p + 1 * (y 0).val) (0 + 1 * (y 1).val) (0 + 1 * (y 2).val) = B p (y 1).val (y 2).val
  rw [one_mul, one_mul, one_mul, zero_add, zero_add, show (y 0).val = 0 by omega, add_zero]

theorem out1 (A : ℕ → ℕ → EReal) (B : ℕ → ℕ → ℕ → EReal) (y : S1056x512.Idx) : out1_2 (F := Ideal) (eN A : S1056x4096.Idx → EReal) (e3 B : S8x512x512.Idx → EReal) y = nnE A B (y 0).val (y 1).val := by
  unfold out1_2
  frame_out
  rw [ldA A 0, ldB B 0, ldA A 512, ldB B 1, ldA A 1024, ldB B 2, ldA A 1536, ldB B 3, ldA A 2048, ldB B 4, ldA A 2560, ldB B 5, ldA A 3072, ldB B 6, ldA A 3584, ldB B 7,
    p1_2, p1_3, p1_4, p1_5, p1_6, p1_1]
  unfold nnE
  rw [eight fun k => A (y 0).val k * B (k / 512) (k % 512) (y 1).val]
  show ((((((dN _ _ (y 0).val (y 1).val + dN _ _ (y 0).val (y 1).val) + dN _ _ (y 0).val (y 1).val) + dN _ _ (y 0).val (y 1).val) + dN _ _ (y 0).val (y 1).val) + dN _ _ (y 0).val (y 1).val) + dN _ _ (y 0).val (y 1).val) + dN _ _ (y 0).val (y 1).val = _
  unfold dN
  have q : ∀ p (x : Fin 512), (512 * p + x.val) / 512 = p ∧ (512 * p + x.val) % 512 = x.val := fun p x => by have := x.isLt; omega
  simp only [fun p x => (q p x).1, fun p x => (q p x).2]

theorem out5 (A : ℕ → ℕ → EReal) (B : ℕ → ℕ → ℕ → EReal) (y : S1056x512.Idx) : out5_2 (F := Ideal) (eN A : S1056x4096.Idx → EReal) (e3 B : S8x512x512.Idx → EReal) y = ntE A B (y 0).val (y 1).val := by
  unfold out5_2
  frame_out
  rw [ldA A 0, ldB B 0, ldA A 512, ldB B 1, ldA A 1024, ldB B 2, ldA A 1536, ldB B 3, ldA A 2048, ldB B 4, ldA A 2560, ldB B 5, ldA A 3072, ldB B 6, ldA A 3584, ldB B 7,
    p5_2, p5_3, p5_4, p5_5, p5_6, p5_1]
  unfold ntE
  rw [eight fun k => A (y 0).val k * B (k / 512) (y 1).val (k % 512)]
  show ((((((dT _ _ (y 0).val (y 1).val + dT _ _ (y 0).val (y 1).val) + dT _ _ (y 0).val (y 1).val) + dT _ _ (y 0).val (y 1).val) + dT _ _ (y 0).val (y 1).val) + dT _ _ (y 0).val (y 1).val) + dT _ _ (y 0).val (y 1).val) + dT _ _ (y 0).val (y 1).val = _
  unfold dT
  have q : ∀ p (x : Fin 512), (512 * p + x.val) / 512 = p ∧ (512 * p + x.val) % 512 = x.val := fun p x => by have := x.isLt; omega
  simp only [fun p x => (q p x).1, fun p x => (q p x).2]

theorem i1_0 : ∀ t : Fin cfg1.N, win1_0.index t = ![t.val / 2, 0] := (by decide +kernel : ∀ t : Fin grid1.N, _)
theorem i1_1 : ∀ t : Fin cfg1.N, win1_1.index t = ![0, 0, t.val % 2] := (by decide +kernel : ∀ t : Fin grid1.N, _)
theorem i1_2 : ∀ t : Fin cfg1.N, win1_2.index t = ![t.val / 2, t.val % 2] := (by decide +kernel : ∀ t : Fin grid1.N, _)
theorem i5_0 : ∀ t : Fin cfg5.N, win5_0.index t = ![t.val / 2, 0] := (by decide +kernel : ∀ t : Fin grid5.N, _)
theorem i5_1 : ∀ t : Fin cfg5.N, win5_1.index t = ![0, t.val % 2, 0] := (by decide +kernel : ∀ t : Fin grid5.N, _)
theorem i5_2 : ∀ t : Fin cfg5.N, win5_2.index t = ![t.val / 2, t.val % 2] := (by decide +kernel : ∀ t : Fin grid5.N, _)

section
variable (V : (c : Dev nD) → (b : Ref sig .tc) → Buf (Elt Ideal) ((c : Thread nD τ).loc b)) (c : Dev nD)
variable (U : ℕ → ℕ → EReal) (W : ℕ → ℕ → ℕ → EReal)

theorem b1_0 (hU : V c main_v7_0 = (eN U : S4224x4096.Idx → EReal)) (t : Fin cfg1.N) : iblk1 V c 0 t = (eN fun r k => U (1056 * (t.val / 2) + r) k : S1056x4096.Idx → EReal) := by
  funext y
  show V c main_v7_0 (((cfg1.win 0).blk t).view.emb y) = _
  rw [hU]
  show U (((cfg1.win 0).blk t).view.emb y 0).val (((cfg1.win 0).blk t).view.emb y 1).val = U (1056 * (t.val / 2) + (y 0).val) (y 1).val
  congr 1 <;> blk_simp [i1_0] <;> simp <;> omega
theorem b1_1 (hW : V c main_v6 = (e3 W : S8x512x1024.Idx → EReal)) (t : Fin cfg1.N) : iblk1 V c 1 t = (e3 fun b k j => W b k (512 * (t.val % 2) + j) : S8x512x512.Idx → EReal) := by
  funext y
  show V c main_v6 (((cfg1.win 1).blk t).view.emb y) = _
  rw [hW]
  show W (((cfg1.win 1).blk t).view.emb y 0).val (((cfg1.win 1).blk t).view.emb y 1).val (((cfg1.win 1).blk t).view.emb y 2).val = W (y 0).val (y 1).val (512 * (t.val % 2) + (y 2).val)
  congr 1 <;> blk_simp [i1_1] <;> simp <;> omega
theorem arr1 (hU : V c main_v7_0 = (eN U : S4224x4096.Idx → EReal)) (hW : V c main_v6 = (e3 W : S8x512x1024.Idx → EReal)) : (dat1 V c).arrAt 2 cfg1.N = (eN (nnE U W) : S4224x1024.Idx → EReal) :=
  (dat1 V c).arrAt_eq_of_covers 2 _ (by decide +kernel) fun t hf y => by
    blk_simp
    rw [after1_2, b1_0 V c U hU, b1_1 V c W hW, out1]
    show nnE U W (1056 * (t.val / 2) + (y 0).val) (512 * (t.val % 2) + (y 1).val) = nnE U W ((win1_2.blk t).view.emb y 0).val ((win1_2.blk t).view.emb y 1).val
    congr 1 <;> blk_simp [i1_2] <;> simp <;> omega

theorem b5_0 (hU : V c main_v10 = (eN U : S4224x4096.Idx → EReal)) (t : Fin cfg5.N) : iblk5 V c 0 t = (eN fun r k => U (1056 * (t.val / 2) + r) k : S1056x4096.Idx → EReal) := by
  funext y
  show V c main_v10 (((cfg5.win 0).blk t).view.emb y) = _
  rw [hU]
  show U (((cfg5.win 0).blk t).view.emb y 0).val (((cfg5.win 0).blk t).view.emb y 1).val = U (1056 * (t.val / 2) + (y 0).val) (y 1).val
  congr 1 <;> blk_simp [i5_0] <;> simp <;> omega
theorem b5_1 (hW : V c main_v4 = (e3 W : S8x1024x512.Idx → EReal)) (t : Fin cfg5.N) : iblk5 V c 1 t = (e3 fun b j k => W b (512 * (t.val % 2) + j) k : S8x512x512.Idx → EReal) := by
  funext y
  show V c main_v4 (((cfg5.win 1).blk t).view.emb y) = _
  rw [hW]
  show W (((cfg5.win 1).blk t).view.emb y 0).val (((cfg5.win 1).blk t).view.emb y 1).val (((cfg5.win 1).blk t).view.emb y 2).val = W (y 0).val (512 * (t.val % 2) + (y 1).val) (y 2).val
  congr 1 <;> blk_simp [i5_1] <;> simp <;> omega
theorem arr5 (hU : V c main_v10 = (eN U : S4224x4096.Idx → EReal)) (hW : V c main_v4 = (e3 W : S8x1024x512.Idx → EReal)) : (dat5 V c).arrAt 2 cfg5.N = (eN (ntE U W) : S4224x1024.Idx → EReal) :=
  (dat5 V c).arrAt_eq_of_covers 2 _ (by decide +kernel) fun t hf y => by
    blk_simp
    rw [after5_2, b5_0 V c U hU, b5_1 V c W hW, out5]
    show ntE U W (1056 * (t.val / 2) + (y 0).val) (512 * (t.val % 2) + (y 1).val) = ntE U W ((win5_2.blk t).view.emb y 0).val ((win5_2.blk t).view.emb y 1).val
    congr 1 <;> blk_simp [i5_2] <;> simp <;> omega
end

end Cert.Mlp

end

end
-- ==== Proof.Mlp.Grad.lean ====
/- The gradients of the two weights, and of the hidden values before their rectifier. -/
module

public import proofs.«01_k».proof.Proof.Mlp.Up

@[expose] public section

set_option maxRecDepth 16384

noncomputable section

namespace Cert.Mlp

open Cert.Kernel2Ideal Cert.Kernel2Ideal.Gen
open Cert.Mat (eN e3 eN_of)
open Idealize.ShloMosaic Idealize.ShloMosaic.TcCoe Idealize.ShloMosaic.Pipeline

/-- A product over the rows. -/
def tnE (A B : ℕ → ℕ → EReal) (i j : ℕ) : EReal := ∑ t : Fin 4224, A t.val i * B t.val j
/-- The same, its columns in blocks. -/
def tbE (A B : ℕ → ℕ → EReal) (b i j : ℕ) : EReal := ∑ t : Fin 4224, A t.val i * B t.val (512 * b + j)
/-- The gradient of the hidden values: that of their squares, times twice the rectified values. -/
def gE (C : ℕ → ℕ → EReal) (W : ℕ → ℕ → ℕ → EReal) (R : ℕ → ℕ → EReal) (t j : ℕ) : EReal :=
  (∑ d : Fin 1024, C t d.val * W (j / 512) (j % 512) d.val) * (Ideal.ofBits .f32 0x40000000#32 * R t j)

theorem p2 (A B : ℕ → ℕ → EReal) (y : S1024x512.Idx) : k2_pay1 (F := Ideal) (eN A : S4224x1024.Idx → EReal) (eN B : S4224x512.Idx → EReal) y = ∑ t : Fin 4224, A t.val (y 0).val * B t.val (y 1).val := by
  pointwise [k2_pay1]
  rfl
theorem p4 (A B : ℕ → ℕ → EReal) (y : S1x1024x512.Idx) : k4_pay1 (F := Ideal) (eN A : S4224x1024.Idx → EReal) (eN B : S4224x512.Idx → EReal) y = ∑ t : Fin 4224, A t.val (y 1).val * B t.val (y 2).val := by
  pointwise [k4_pay1]
  rfl
theorem p3 (C W R : ℕ → ℕ → EReal) (y : S4224x256.Idx) : k3_pay1 (F := Ideal) (eN C : S4224x1024.Idx → EReal) (e3 fun _ => W : S1x256x1024.Idx → EReal) (eN R : S4224x256.Idx → EReal) y
    = (∑ d : Fin 1024, C (y 0).val d.val * W (y 1).val d.val) * (Ideal.ofBits .f32 0x40000000#32 * R (y 0).val (y 1).val) := by
  pointwise [k3_pay1]
  rfl

theorem i2_0 : ∀ t : Fin cfg2.N, win2_0.index t = ![0, t.val / 2] := (by decide +kernel : ∀ t : Fin grid2.N, _)
theorem i2_1 : ∀ t : Fin cfg2.N, win2_1.index t = ![0, t.val % 2] := (by decide +kernel : ∀ t : Fin grid2.N, _)
theorem i2_2 : ∀ t : Fin cfg2.N, win2_2.index t = ![t.val / 2, t.val % 2] := (by decide +kernel : ∀ t : Fin grid2.N, _)
theorem i3_0 : ∀ t : Fin cfg3.N, win3_0.index t = ![0, 0] := (by decide +kernel : ∀ t : Fin grid3.N, _)
theorem i3_1 : ∀ t : Fin cfg3.N, win3_1.index t = ![t.val / 2, t.val % 2, 0] := (by decide +kernel : ∀ t : Fin grid3.N, _)
theorem i3_2 : ∀ t : Fin cfg3.N, win3_2.index t = ![0, t.val] := (by decide +kernel : ∀ t : Fin grid3.N, _)
theorem i3_3 : ∀ t : Fin cfg3.N, win3_3.index t = ![0, t.val] := (by decide +kernel : ∀ t : Fin grid3.N, _)
theorem i4_0 : ∀ t : Fin cfg4.N, win4_0.index t = ![0, 0] := (by decide +kernel : ∀ t : Fin grid4.N, _)
theorem i4_1 : ∀ t : Fin cfg4.N, win4_1.index t = ![0, t.val] := (by decide +kernel : ∀ t : Fin grid4.N, _)
theorem i4_2 : ∀ t : Fin cfg4.N, win4_2.index t = ![t.val, 0, 0] := (by decide +kernel : ∀ t : Fin grid4.N, _)

section
variable (V : (c : Dev nD) → (b : Ref sig .tc) → Buf (Elt Ideal) ((c : Thread nD τ).loc b)) (c : Dev nD)
variable (X U C R D : ℕ → ℕ → EReal) (W : ℕ → ℕ → ℕ → EReal)

theorem b2_0 (h : V c main_v7_0 = (eN U : S4224x4096.Idx → EReal)) (t : Fin cfg2.N) : iblk2 V c 0 t = (eN fun r j => U r (1024 * (t.val / 2) + j) : S4224x1024.Idx → EReal) := by
  funext y
  show V c main_v7_0 (((cfg2.win 0).blk t).view.emb y) = _
  rw [h]
  show U (((cfg2.win 0).blk t).view.emb y 0).val (((cfg2.win 0).blk t).view.emb y 1).val = U (y 0).val (1024 * (t.val / 2) + (y 1).val)
  congr 1 <;> blk_simp [i2_0] <;> simp <;> omega
theorem b2_1 (h : V c main_v1 = (eN C : S4224x1024.Idx → EReal)) (t : Fin cfg2.N) : iblk2 V c 1 t = (eN fun r j => C r (512 * (t.val % 2) + j) : S4224x512.Idx → EReal) := by
  funext y
  show V c main_v1 (((cfg2.win 1).blk t).view.emb y) = _
  rw [h]
  show C (((cfg2.win 1).blk t).view.emb y 0).val (((cfg2.win 1).blk t).view.emb y 1).val = C (y 0).val (512 * (t.val % 2) + (y 1).val)
  congr 1 <;> blk_simp [i2_1] <;> simp <;> omega
theorem arr2 (hU : V c main_v7_0 = (eN U : S4224x4096.Idx → EReal)) (hC : V c main_v1 = (eN C : S4224x1024.Idx → EReal)) : (dat2 V c).arrAt 2 cfg2.N = (eN (tnE U C) : S4096x1024.Idx → EReal) :=
  (dat2 V c).arrAt_eq_of_covers 2 _ (by decide +kernel) fun t hf y => by
    blk_simp
    rw [after2_2]
    frame_out
    rw [b2_0 V c U hU, b2_1 V c C hC, p2]
    show tnE U C (1024 * (t.val / 2) + (y 0).val) (512 * (t.val % 2) + (y 1).val) = tnE U C ((win2_2.blk t).view.emb y 0).val ((win2_2.blk t).view.emb y 1).val
    congr 1 <;> blk_simp [i2_2] <;> simp <;> omega

theorem b3_0 (h : V c main_v1 = (eN C : S4224x1024.Idx → EReal)) (t : Fin cfg3.N) : iblk3 V c 0 t = (eN C : S4224x1024.Idx → EReal) := by
  funext y
  show V c main_v1 (((cfg3.win 0).blk t).view.emb y) = _
  rw [h]
  show C (((cfg3.win 0).blk t).view.emb y 0).val (((cfg3.win 0).blk t).view.emb y 1).val = C (y 0).val (y 1).val
  congr 1 <;> blk_simp [i3_0] <;> simp
theorem b3_1 (h : V c main_v6 = (e3 W : S8x512x1024.Idx → EReal)) (t : Fin cfg3.N) : iblk3 V c 1 t = (e3 fun _ j d => W (t.val / 2) (256 * (t.val % 2) + j) d : S1x256x1024.Idx → EReal) := by
  funext y
  show V c main_v6 (((cfg3.win 1).blk t).view.emb y) = _
  rw [h]
  have h0 : (y 0).val < 1 := (y 0).isLt
  show W (((cfg3.win 1).blk t).view.emb y 0).val (((cfg3.win 1).blk t).view.emb y 1).val (((cfg3.win 1).blk t).view.emb y 2).val = W (t.val / 2) (256 * (t.val % 2) + (y 1).val) (y 2).val
  congr 1 <;> blk_simp [i3_1] <;> simp <;> omega
theorem b3_2 (h : V c main_v7_1 = (eN R : S4224x4096.Idx → EReal)) (t : Fin cfg3.N) : iblk3 V c 2 t = (eN fun r j => R r (256 * t.val + j) : S4224x256.Idx → EReal) := by
  funext y
  show V c main_v7_1 (((cfg3.win 2).blk t).view.emb y) = _
  rw [h]
  show R (((cfg3.win 2).blk t).view.emb y 0).val (((cfg3.win 2).blk t).view.emb y 1).val = R (y 0).val (256 * t.val + (y 1).val)
  congr 1 <;> blk_simp [i3_2] <;> simp <;> omega
theorem g_at (t q j : ℕ) (hj : j < 256) : (∑ d : Fin 1024, C q d.val * W (t / 2) (256 * (t % 2) + j) d.val) * (Ideal.ofBits .f32 0x40000000#32 * R q (256 * t + j)) = gE C W R q (256 * t + j) := by
  unfold gE
  rw [show (256 * t + j) / 512 = t / 2 by omega, show (256 * t + j) % 512 = 256 * (t % 2) + j by omega]
theorem arr3 (hC : V c main_v1 = (eN C : S4224x1024.Idx → EReal)) (hW : V c main_v6 = (e3 W : S8x512x1024.Idx → EReal)) (hR : V c main_v7_1 = (eN R : S4224x4096.Idx → EReal)) :
    (dat3 V c).arrAt 3 cfg3.N = (eN (gE C W R) : S4224x4096.Idx → EReal) :=
  (dat3 V c).arrAt_eq_of_covers 3 _ (by decide +kernel) fun t hf y => by
    blk_simp
    rw [after3_3]
    frame_out
    rw [b3_0 V c C hC, b3_1 V c W hW, b3_2 V c R hR, p3]
    refine (g_at C R W t.val (y 0).val (y 1).val (y 1).isLt).trans ?_
    show gE C W R (y 0).val (256 * t.val + (y 1).val) = gE C W R ((win3_3.blk t).view.emb y 0).val ((win3_3.blk t).view.emb y 1).val
    congr 1 <;> blk_simp [i3_3] <;> simp <;> omega

theorem b4_0 (h : V c main_v0 = (eN X : S4224x1024.Idx → EReal)) (t : Fin cfg4.N) : iblk4 V c 0 t = (eN X : S4224x1024.Idx → EReal) := by
  funext y
  show V c main_v0 (((cfg4.win 0).blk t).view.emb y) = _
  rw [h]
  show X (((cfg4.win 0).blk t).view.emb y 0).val (((cfg4.win 0).blk t).view.emb y 1).val = X (y 0).val (y 1).val
  congr 1 <;> blk_simp [i4_0] <;> simp
theorem b4_1 (h : V c main_v10 = (eN D : S4224x4096.Idx → EReal)) (t : Fin cfg4.N) : iblk4 V c 1 t = (eN fun r j => D r (512 * t.val + j) : S4224x512.Idx → EReal) := by
  funext y
  show V c main_v10 (((cfg4.win 1).blk t).view.emb y) = _
  rw [h]
  show D (((cfg4.win 1).blk t).view.emb y 0).val (((cfg4.win 1).blk t).view.emb y 1).val = D (y 0).val (512 * t.val + (y 1).val)
  congr 1 <;> blk_simp [i4_1] <;> simp <;> omega
theorem arr4 (hX : V c main_v0 = (eN X : S4224x1024.Idx → EReal)) (hD : V c main_v10 = (eN D : S4224x4096.Idx → EReal)) : (dat4 V c).arrAt 2 cfg4.N = (e3 (tbE X D) : S8x1024x512.Idx → EReal) :=
  (dat4 V c).arrAt_eq_of_covers 2 _ (by decide +kernel) fun t hf y => by
    blk_simp
    rw [after4_2]
    frame_out
    rw [b4_0 V c X hX, b4_1 V c D hD, p4]
    have h0 : (y 0).val < 1 := (y 0).isLt
    show tbE X D t.val (y 1).val (y 2).val = tbE X D ((win4_2.blk t).view.emb y 0).val ((win4_2.blk t).view.emb y 1).val ((win4_2.blk t).view.emb y 2).val
    congr 1 <;> blk_simp [i4_2] <;> simp <;> omega
end

end Cert.Mlp

end

end
-- ==== Proof.Mlp.Ref.lean ====
/- The reference's four results, as the same sums. -/
module

public import proofs.«01_k».proof.Proof.Gen.Reference2Ideal.Run
public import proofs.«01_k».proof.Proof.Mlp.Down
public import proofs.«01_k».proof.Proof.Mlp.Grad

@[expose] public section

set_option maxRecDepth 16384

noncomputable section

namespace Cert.Mlp

open Cert.Reference2Ideal Cert.Reference2Ideal.Gen
open Cert.Mat (eN e3 eN_of)
open Idealize.ShloMosaic Idealize.ShloMosaic.TcCoe

abbrev Vf (S : Shape) : Type := FVec Ideal S .f32

/-! ## The reference's lines -/

def zV : Vf S4224x4096 := broadcastInDim S4224x4096 ![] bcast_S_S4224x4096 (constant S_ .f32 0x00000000#32)
def preV (x : Vf S4224x1024) (a : Vf S1024x4096) : Vf S4224x4096 := Host.dotGeneral dot_S4224x1024_S1024x4096_S4224x4096_1_0_0_1_n_n none x a
def reluV (p : Vf S4224x4096) : Vf S4224x4096 := maximumf p zV
def sqV (r : Vf S4224x4096) : Vf S4224x4096 := mulf r r
def outV (u : Vf S4224x4096) (b : Vf S4096x1024) : Vf S4224x1024 := Host.dotGeneral dot_S4224x4096_S4096x1024_S4224x1024_1_0_0_1_n_n none u b
def dpreV (p r : Vf S4224x4096) (c : Vf S4224x1024) (b : Vf S4096x1024) : Vf S4224x4096 :=
  select (cmpf .ogt p zV) (mulf (Host.dotGeneral dot_S4224x1024_S4096x1024_S4224x4096_1_1_0_0_n_n none c b)
    (mulf (broadcastInDim S4224x4096 ![] bcast_S_S4224x4096 (constant S_ .f32 0x40000000#32)) r)) zV
def dinV (g : Vf S4224x4096) (a : Vf S1024x4096) : Vf S4224x1024 := Host.dotGeneral dot_S4224x4096_S1024x4096_S4224x1024_1_1_0_0_n_n none g a
def dupV (g : Vf S4224x4096) (x : Vf S4224x1024) : FVec Ideal S8x1024x512 .bf16 :=
  truncf .bf16 (transpose S8x1024x512 [1, 0, 2] (shapeCast _ (transpose S1024x4096 [1, 0] (Host.dotGeneral dot_S4224x4096_S4224x1024_S4096x1024_0_0_1_1_n_n none g x) transposes_S4096x1024_S1024x4096_1_0)
    shapeCasts_S1024x4096_S1024x8x512) transposes_S1024x8x512_S8x1024x512_1_0_2) bitsLt_bf16_f32
def ddownV (c : Vf S4224x1024) (u : Vf S4224x4096) : FVec Ideal S4096x1024 .bf16 :=
  truncf .bf16 (transpose S4096x1024 [1, 0] (Host.dotGeneral dot_S4224x1024_S4224x4096_S1024x4096_0_0_1_1_n_n none c u) transposes_S1024x4096_S4096x1024_1_0) bitsLt_bf16_f32

/-! ## Their values -/

/-- The two weights, in blocks. -/
def upB (A : ℕ → ℕ → EReal) (b d j : ℕ) : EReal := A d (512 * b + j)
def downB (B : ℕ → ℕ → EReal) (b k j : ℕ) : EReal := B (512 * b + k) j

variable (X A B C : ℕ → ℕ → EReal)

theorem up_at (d j : ℕ) : upB A (j / 512) d (j % 512) = A d j := by
  unfold upB
  rw [Nat.div_add_mod]
theorem down_at (k j : ℕ) : downB B (k / 512) (k % 512) j = B k j := by
  unfold downB
  rw [Nat.div_add_mod]

def preE (t j : ℕ) : EReal := ∑ d : Fin 1024, X t d.val * A d.val j

theorem zV_at (j : S4224x4096.Idx) : zV j = 0 := by
  pointwise [zV]
theorem preV_eq : preV (eN X) (eN A) = (eN (preE X A) : S4224x4096.Idx → EReal) := by
  funext j
  pointwise [preV]
  rfl
theorem rE_eq (t j : ℕ) : rE X (upB A) t j = max (preE X A t j) 0 := by
  unfold rE preE
  simp only [up_at]
theorem reluV_eq : reluV (eN (preE X A)) = (eN (rE X (upB A)) : S4224x4096.Idx → EReal) := by
  funext j
  pointwise [reluV]
  rw [zV_at]
  exact (rE_eq X A _ _).symm
theorem sqV_eq : sqV (eN (rE X (upB A))) = (eN (uE X (upB A)) : S4224x4096.Idx → EReal) := by
  funext j
  pointwise [sqV]
  rfl
theorem outV_eq (U : ℕ → ℕ → EReal) : outV (eN U) (eN B) = (eN (nnE U (downB B)) : S4224x1024.Idx → EReal) := by
  funext j
  pointwise [outV]
  show (∑ k : Fin 4096, U (j 0).val k.val * B k.val (j 1).val) = ∑ k : Fin 4096, U (j 0).val k.val * downB B (k.val / 512) (k.val % 512) (j 1).val
  simp only [down_at]
/-- Where the rectifier is shut, twice its value is zero. -/
theorem dpreV_eq : dpreV (eN (preE X A)) (eN (rE X (upB A))) (eN C) (eN B) = (eN (gE C (downB B) (rE X (upB A))) : S4224x4096.Idx → EReal) := by
  funext j
  pointwise [dpreV]
  rw [zV_at]
  show (if 0 < preE X A (j 0).val (j 1).val then (∑ d : Fin 1024, C (j 0).val d.val * B (j 1).val d.val) * (Ideal.ofBits .f32 0x40000000#32 * rE X (upB A) (j 0).val (j 1).val) else 0)
    = (∑ d : Fin 1024, C (j 0).val d.val * downB B ((j 1).val / 512) ((j 1).val % 512) d.val) * (Ideal.ofBits .f32 0x40000000#32 * rE X (upB A) (j 0).val (j 1).val)
  simp only [down_at]
  by_cases h : 0 < preE X A (j 0).val (j 1).val
  · rw [if_pos h]
  · rw [if_neg h, rE_eq, max_eq_right (not_lt.mp h), mul_zero, mul_zero]
theorem dinV_eq (G : ℕ → ℕ → EReal) : dinV (eN G) (eN A) = (eN (ntE G (upB A)) : S4224x1024.Idx → EReal) := by
  funext j
  pointwise [dinV]
  show (∑ k : Fin 4096, G (j 0).val k.val * A (j 1).val k.val) = ∑ k : Fin 4096, G (j 0).val k.val * upB A (k.val / 512) (j 1).val (k.val % 512)
  simp only [up_at]
theorem dupV_eq (G : ℕ → ℕ → EReal) : dupV (eN G) (eN X) = (e3 (tbE X G) : S8x1024x512.Idx → EReal) := by
  funext j
  pointwise [dupV]
  show (∑ t : Fin 4224, G t.val ((j 0).val * 512 + (j 2).val) * X t.val (j 1).val) = ∑ t : Fin 4224, X t.val (j 1).val * G t.val (512 * (j 0).val + (j 2).val)
  simp only [mul_comm (j 0).val 512]
  exact Finset.sum_congr rfl fun t _ => mul_comm _ _
theorem ddownV_eq (U : ℕ → ℕ → EReal) : ddownV (eN C) (eN U) = (eN (tnE U C) : S4096x1024.Idx → EReal) := by
  funext j
  pointwise [ddownV]
  show (∑ t : Fin 4224, C t.val (j 1).val * U t.val (j 0).val) = ∑ t : Fin 4224, U t.val (j 0).val * C t.val (j 1).val
  exact Finset.sum_congr rfl fun t _ => mul_comm _ _

end Cert.Mlp

end

end
-- ==== Proof.Mlp.Host.lean ====
/- The contents between the six regions: what each is entered with, and what the program's results hold at the end. -/
module

public import proofs.«01_k».proof.Proof.Mlp.Run
public import proofs.«01_k».proof.Proof.Mlp.Ref
public import Idealize.ShloMosaic.Lib.StableHlo.Run

@[expose] public section

set_option maxRecDepth 16384

noncomputable section

namespace Cert.Mlp

open Cert.Kernel2Ideal Cert.Kernel2Ideal.Gen
open Cert.Mat (eN e3 eN_of)
open Idealize.ShloMosaic Idealize.ShloMosaic.TcCoe Idealize.ShloMosaic.StableHlo

variable (m : (ℓ : Loc nD τ sig) → Buf (Elt Ideal) ℓ) (ρ : Dev nD → PrngReg) (c : Dev nD)

/-! ## The operands -/

theorem cut2 {a b : ℕ} (x : FVec Ideal (⟨2, ![a, b]⟩ : Shape) .f32) : truncf .bf16 x bitsLt_bf16_f32 = x := by
  funext j
  pointwise
def upV (a : FVec Ideal S1024x4096 .f32) : FVec Ideal S8x1024x512 .bf16 :=
  transpose S8x1024x512 [1, 0, 2] (shapeCast S1024x8x512 (truncf .bf16 a bitsLt_bf16_f32) shapeCasts_S1024x4096_S1024x8x512) transposes_S1024x8x512_S8x1024x512_1_0_2
def downV (b : FVec Ideal S4096x1024 .f32) : FVec Ideal S8x512x1024 .bf16 := shapeCast S8x512x1024 (truncf .bf16 b bitsLt_bf16_f32) shapeCasts_S4096x1024_S8x512x1024
theorem upV_eq (A : ℕ → ℕ → EReal) : upV (eN A) = (e3 (upB A) : S8x1024x512.Idx → EReal) := by
  funext j
  pointwise [upV]
  show A (j 1).val ((j 0).val * 512 + (j 2).val) = A (j 1).val (512 * (j 0).val + (j 2).val)
  rw [mul_comm]
theorem downV_eq (B : ℕ → ℕ → EReal) : downV (eN B) = (e3 (downB B) : S8x512x1024.Idx → EReal) := by
  funext j
  pointwise [downV]
  show B ((j 0).val * 512 + (j 1).val) (j 2).val = B (512 * (j 0).val + (j 1).val) (j 2).val
  rw [mul_comm]

theorem h0 : W1 m ρ c (Proc.devRef .tc main_v0) = (truncf .bf16 (m ((c.tc : Thread nD τ).loc main_arg0)) bitsLt_bf16_f32 : FVec Ideal S4224x1024 .bf16) := by
  simp only [W1, hostOps0]
  after_results_simp <;> rfl
theorem h1 : W1 m ρ c (Proc.devRef .tc main_v1) = (truncf .bf16 (m ((c.tc : Thread nD τ).loc main_arg3)) bitsLt_bf16_f32 : FVec Ideal S4224x1024 .bf16) := by
  simp only [W1, hostOps0]
  after_results_simp <;> rfl
theorem h4 : W1 m ρ c (Proc.devRef .tc main_v4) = upV (m ((c.tc : Thread nD τ).loc main_arg1)) := by
  simp only [W1, hostOps0]
  after_results_simp <;> rfl
theorem h6 : W1 m ρ c (Proc.devRef .tc main_v6) = downV (m ((c.tc : Thread nD τ).loc main_arg2)) := by
  simp only [W1, hostOps0]
  after_results_simp <;> rfl

/-! ## From region to region -/

section
variable (X A B C : ℕ → ℕ → EReal)
variable (a0 : m ((c.tc : Thread nD τ).loc main_arg0) = (eN X : S4224x1024.Idx → EReal)) (a1 : m ((c.tc : Thread nD τ).loc main_arg1) = (eN A : S1024x4096.Idx → EReal))
variable (a2 : m ((c.tc : Thread nD τ).loc main_arg2) = (eN B : S4096x1024.Idx → EReal)) (a3 : m ((c.tc : Thread nD τ).loc main_arg3) = (eN C : S4224x1024.Idx → EReal))
include a0 in
theorem e1_0 : V1 m ρ c main_v0 = (eN X : S4224x1024.Idx → EReal) := (h0 m ρ c).trans ((cut2 _).trans a0)
include a3 in
theorem e1_1 : V1 m ρ c main_v1 = (eN C : S4224x1024.Idx → EReal) := (h1 m ρ c).trans ((cut2 _).trans a3)
include a1 in
theorem e1_4 : V1 m ρ c main_v4 = (e3 (upB A) : S8x1024x512.Idx → EReal) := (h4 m ρ c).trans ((congrArg upV a1).trans (upV_eq A))
include a2 in
theorem e1_6 : V1 m ρ c main_v6 = (e3 (downB B) : S8x512x1024.Idx → EReal) := (h6 m ρ c).trans ((congrArg downV a2).trans (downV_eq B))

include a0 a1 in
theorem e2_u : V2 m ρ c main_v7_0 = (eN (uE X (upB A)) : S4224x4096.Idx → EReal) :=
  (W2_arr m ρ c 2).trans (arr0_2 (V1 m ρ) c X (upB A) (e1_0 m ρ c X a0) (e1_4 m ρ c A a1))
include a0 a1 in
theorem e2_r : V2 m ρ c main_v7_1 = (eN (rE X (upB A)) : S4224x4096.Idx → EReal) :=
  (W2_arr m ρ c 3).trans (arr0_3 (V1 m ρ) c X (upB A) (e1_0 m ρ c X a0) (e1_4 m ρ c A a1))
include a2 in
theorem e2_6 : V2 m ρ c main_v6 = (e3 (downB B) : S8x512x1024.Idx → EReal) := (W2_of m ρ c main_v6 (by decide +kernel)).trans (e1_6 m ρ c B a2)
include a0 a1 a2 in
theorem e3_8 : V3 m ρ c main_v8 = (eN (nnE (uE X (upB A)) (downB B)) : S4224x1024.Idx → EReal) :=
  (W3_arr m ρ c 2).trans (arr1 (V2 m ρ) c (uE X (upB A)) (downB B) (e2_u m ρ c X A a0 a1) (e2_6 m ρ c B a2))
include a0 a1 in
theorem e3_u : V3 m ρ c main_v7_0 = (eN (uE X (upB A)) : S4224x4096.Idx → EReal) := (W3_of m ρ c main_v7_0 (by decide +kernel)).trans (e2_u m ρ c X A a0 a1)
include a3 in
theorem e3_1 : V3 m ρ c main_v1 = (eN C : S4224x1024.Idx → EReal) :=
  (W3_of m ρ c main_v1 (by decide +kernel)).trans ((W2_of m ρ c main_v1 (by decide +kernel)).trans (e1_1 m ρ c C a3))
include a0 a1 a3 in
theorem e4_9 : V4 m ρ c main_v9 = (eN (tnE (uE X (upB A)) C) : S4096x1024.Idx → EReal) :=
  (W4_arr m ρ c 2).trans (arr2 (V3 m ρ) c (uE X (upB A)) C (e3_u m ρ c X A a0 a1) (e3_1 m ρ c C a3))
include a3 in
theorem e4_1 : V4 m ρ c main_v1 = (eN C : S4224x1024.Idx → EReal) := (W4_of m ρ c main_v1 (by decide +kernel)).trans (e3_1 m ρ c C a3)
include a2 in
theorem e4_6 : V4 m ρ c main_v6 = (e3 (downB B) : S8x512x1024.Idx → EReal) :=
  (W4_of m ρ c main_v6 (by decide +kernel)).trans ((W3_of m ρ c main_v6 (by decide +kernel)).trans (e2_6 m ρ c B a2))
include a0 a1 in
theorem e4_r : V4 m ρ c main_v7_1 = (eN (rE X (upB A)) : S4224x4096.Idx → EReal) :=
  (W4_of m ρ c main_v7_1 (by decide +kernel)).trans ((W3_of m ρ c main_v7_1 (by decide +kernel)).trans (e2_r m ρ c X A a0 a1))
include a0 a1 a2 a3 in
theorem e5_g : V5 m ρ c main_v10 = (eN (gE C (downB B) (rE X (upB A))) : S4224x4096.Idx → EReal) :=
  (W5_arr m ρ c 3).trans (arr3 (V4 m ρ) c C (rE X (upB A)) (downB B) (e4_1 m ρ c C a3) (e4_6 m ρ c B a2) (e4_r m ρ c X A a0 a1))
theorem e5_of (r : Ref sig .tc) (h2 : ∀ w : Fin cfg0.W, Pipeline.arrRef spec0 w = r → (cfg0.win w).isOut = false) (h3 : ∀ w : Fin cfg1.W, Pipeline.arrRef spec1 w = r → (cfg1.win w).isOut = false)
    (h4 : ∀ w : Fin cfg2.W, Pipeline.arrRef spec2 w = r → (cfg2.win w).isOut = false) (h5 : ∀ w : Fin cfg3.W, Pipeline.arrRef spec3 w = r → (cfg3.win w).isOut = false) : V5 m ρ c r = V1 m ρ c r :=
  (W5_of m ρ c r h5).trans ((W4_of m ρ c r h4).trans ((W3_of m ρ c r h3).trans (W2_of m ρ c r h2)))
include a0 in
theorem e5_0 : V5 m ρ c main_v0 = (eN X : S4224x1024.Idx → EReal) :=
  (e5_of m ρ c main_v0 (by decide +kernel) (by decide +kernel) (by decide +kernel) (by decide +kernel)).trans (e1_0 m ρ c X a0)
include a1 in
theorem e6_4 : V6 m ρ c main_v4 = (e3 (upB A) : S8x1024x512.Idx → EReal) :=
  (W6_of m ρ c main_v4 (by decide +kernel)).trans ((e5_of m ρ c main_v4 (by decide +kernel) (by decide +kernel) (by decide +kernel) (by decide +kernel)).trans (e1_4 m ρ c A a1))
include a0 a1 a2 a3 in
theorem e6_11 : V6 m ρ c main_v11 = (e3 (tbE X (gE C (downB B) (rE X (upB A)))) : S8x1024x512.Idx → EReal) :=
  (W6_arr m ρ c 2).trans (arr4 (V5 m ρ) c X (gE C (downB B) (rE X (upB A))) (e5_0 m ρ c X a0) (e5_g m ρ c X A B C a0 a1 a2 a3))
include a0 a1 a2 a3 in
theorem e6_g : V6 m ρ c main_v10 = (eN (gE C (downB B) (rE X (upB A))) : S4224x4096.Idx → EReal) := (W6_of m ρ c main_v10 (by decide +kernel)).trans (e5_g m ρ c X A B C a0 a1 a2 a3)

/-! ## The results -/

include a0 a1 a2 in
theorem f8 : V7 m ρ c main_v8 = (eN (nnE (uE X (upB A)) (downB B)) : S4224x1024.Idx → EReal) :=
  (W7_of m ρ c main_v8 (by decide +kernel)).trans ((W6_of m ρ c main_v8 (by decide +kernel)).trans ((W5_of m ρ c main_v8 (by decide +kernel)).trans
    ((W4_of m ρ c main_v8 (by decide +kernel)).trans (e3_8 m ρ c X A B a0 a1 a2))))
include a0 a1 a2 a3 in
theorem f12 : V7 m ρ c main_v12 = (eN (ntE (gE C (downB B) (rE X (upB A))) (upB A)) : S4224x1024.Idx → EReal) :=
  (W7_arr m ρ c 2).trans (arr5 (V6 m ρ) c (gE C (downB B) (rE X (upB A))) (upB A) (e6_g m ρ c X A B C a0 a1 a2 a3) (e6_4 m ρ c A a1))
include a0 a1 a2 a3 in
theorem f11 : V7 m ρ c main_v11 = (e3 (tbE X (gE C (downB B) (rE X (upB A)))) : S8x1024x512.Idx → EReal) :=
  (W7_of m ρ c main_v11 (by decide +kernel)).trans (e6_11 m ρ c X A B C a0 a1 a2 a3)
include a0 a1 a3 in
theorem f9 : V7 m ρ c main_v9 = (eN (tnE (uE X (upB A)) C) : S4096x1024.Idx → EReal) :=
  (W7_of m ρ c main_v9 (by decide +kernel)).trans ((W6_of m ρ c main_v9 (by decide +kernel)).trans ((W5_of m ρ c main_v9 (by decide +kernel)).trans (e4_9 m ρ c X A C a0 a1 a3)))
end

end Cert.Mlp

end

end
-- ==== Proof.Mlp.Final.lean ====
/- The two runs end with equal results. -/
module

public import proofs.«01_k».proof.Proof.Mlp.Host

@[expose] public section

set_option maxRecDepth 16384

noncomputable section

namespace Cert.Mlp

open Cert.Mat (eN e3 eN_of)
open Idealize.ShloMosaic Idealize.ShloMosaic.TcCoe Idealize.SL.Sem

/-! ## The reference's results, of its arguments -/

abbrev rA (x : Vf Cert.Reference2Ideal.S4224x1024) (a : Vf Cert.Reference2Ideal.S1024x4096) : Vf Cert.Reference2Ideal.S4224x4096 := reluV (preV x a)
abbrev gA (x : Vf Cert.Reference2Ideal.S4224x1024) (a : Vf Cert.Reference2Ideal.S1024x4096) (b : Vf Cert.Reference2Ideal.S4096x1024) (c : Vf Cert.Reference2Ideal.S4224x1024) : Vf Cert.Reference2Ideal.S4224x4096 :=
  dpreV (preV x a) (rA x a) c b

theorem rA_eq (X A : ℕ → ℕ → EReal) : rA (eN X) (eN A) = (eN (rE X (upB A)) : Cert.Reference2Ideal.S4224x4096.Idx → EReal) := (congrArg reluV (preV_eq X A)).trans (reluV_eq X A)
theorem gA_eq (X A B C : ℕ → ℕ → EReal) : gA (eN X) (eN A) (eN B) (eN C) = (eN (gE C (downB B) (rE X (upB A))) : Cert.Reference2Ideal.S4224x4096.Idx → EReal) :=
  (congrArg₂ (fun p r => dpreV p r (eN C) (eN B)) (preV_eq X A) (rA_eq X A)).trans (dpreV_eq X A B C)

section Ref
open Cert.Reference2Ideal
variable (m : (ℓ : Loc nD τ sig) → Buf (Elt Ideal) ℓ) (ρ : Dev nD → PrngReg)

theorem ref_run : θ_run (defs (F := Ideal)) (onTc (τ := τ) (main (F := Ideal))) ⟨m, fun _ => 0, ρ⟩ fun r => ∀ c : Dev nD,
    r.2.mem ((c.tc : Thread nD τ).loc main_v8) = outV (sqV (rA (m ((c.tc : Thread nD τ).loc main_arg0)) (m ((c.tc : Thread nD τ).loc main_arg1)))) (m ((c.tc : Thread nD τ).loc main_arg2))
    ∧ r.2.mem ((c.tc : Thread nD τ).loc main_v17) = dinV (gA (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg1))
    ∧ r.2.mem ((c.tc : Thread nD τ).loc main_v20) = dupV (gA (m ((c.tc : Thread nD τ).loc main_arg0)) (m ((c.tc : Thread nD τ).loc main_arg1)) (m ((c.tc : Thread nD τ).loc main_arg2)) (m ((c.tc : Thread nD τ).loc main_arg3))) (m ((c.tc : Thread nD τ).loc main_arg0))
    ∧ r.2.mem ((c.tc : Thread nD τ).loc main_v21) = ddownV (m ((c.tc : Thread nD τ).loc main_arg3)) (sqV (rA (m ((c.tc : Thread nD τ).loc main_arg0)) (m ((c.tc : Thread nD τ).loc main_arg1))))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3) :=
  Cert.Reference2Ideal.Value.run (F := Ideal) m ρ
end Ref

section Ker
open Cert.Kernel2Ideal Cert.Kernel2Ideal.Gen
variable (m : (ℓ : Loc nD τ sig) → Buf (Elt Ideal) ℓ) (ρ : Dev nD → PrngReg)

theorem ker_run (v0 : (c : Dev nD) → Buf (Elt Ideal) ((c.tc : Thread nD τ).loc main_v8)) (v1 : (c : Dev nD) → Buf (Elt Ideal) ((c.tc : Thread nD τ).loc main_v12))
    (v2 : (c : Dev nD) → Buf (Elt Ideal) ((c.tc : Thread nD τ).loc main_v11)) (v3 : (c : Dev nD) → Buf (Elt Ideal) ((c.tc : Thread nD τ).loc main_v9))
    (k0 : ∀ c, V7 m ρ c main_v8 = v0 c) (k1 : ∀ c, V7 m ρ c main_v12 = v1 c) (k2 : ∀ c, V7 m ρ c main_v11 = v2 c) (k3 : ∀ c, V7 m ρ c main_v9 = v3 c) :
    θ_run (defs (F := Ideal)) (onTc (τ := τ) (main (F := Ideal))) ⟨m, fun _ => 0, ρ⟩ fun r => ∀ c : Dev nD,
      r.2.mem ((c.tc : Thread nD τ).loc main_v8) = v0 c
      ∧ r.2.mem ((c.tc : Thread nD τ).loc main_v12) = v1 c
      ∧ r.2.mem ((c.tc : Thread nD τ).loc main_v11) = v2 c
      ∧ r.2.mem ((c.tc : Thread nD τ).loc main_v9) = v3 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c _ (mem_uc main_v8 (by decide))).trans (k0 c), (h c _ (mem_uc main_v12 (by decide))).trans (k1 c),
      (h c _ (mem_uc main_v11 (by decide))).trans (k2 c), (h c _ (mem_uc main_v9 (by decide))).trans (k3 c),
      (h c _ (mem_uc main_arg0 (by decide))).trans (W7_main_arg0 m ρ c), (h c _ (mem_uc main_arg1 (by decide))).trans (W7_main_arg1 m ρ c),
      (h c _ (mem_uc main_arg2 (by decide))).trans (W7_main_arg2 m ρ c), (h c _ (mem_uc main_arg3 (by decide))).trans (W7_main_arg3 m ρ c)⟩) (run m ρ)

/-- What the program leaves are the reference's lines at its arguments. -/
theorem ker_eq (c : Dev nD) (x : Vf Cert.Reference2Ideal.S4224x1024) (a : Vf Cert.Reference2Ideal.S1024x4096) (b : Vf Cert.Reference2Ideal.S4096x1024) (k : Vf Cert.Reference2Ideal.S4224x1024)
    (a0 : m ((c.tc : Thread nD τ).loc main_arg0) = x) (a1 : m ((c.tc : Thread nD τ).loc main_arg1) = a) (a2 : m ((c.tc : Thread nD τ).loc main_arg2) = b) (a3 : m ((c.tc : Thread nD τ).loc main_arg3) = k) :
    V7 m ρ c main_v8 = outV (sqV (rA x a)) b ∧ V7 m ρ c main_v12 = dinV (gA x a b k) a ∧ V7 m ρ c main_v11 = dupV (gA x a b k) x ∧ V7 m ρ c main_v9 = ddownV k (sqV (rA x a)) := by
  obtain ⟨X, rfl⟩ := eN_of x
  obtain ⟨A, rfl⟩ := eN_of a
  obtain ⟨B, rfl⟩ := eN_of b
  obtain ⟨C, rfl⟩ := eN_of k
  rw [gA_eq, rA_eq, sqV_eq]
  exact ⟨(f8 m ρ c X A B a0 a1 a2).trans (outV_eq B _).symm, (f12 m ρ c X A B C a0 a1 a2 a3).trans (dinV_eq A _).symm,
    (f11 m ρ c X A B C a0 a1 a2 a3).trans (dupV_eq X _).symm, (f9 m ρ c X A C a0 a1 a3).trans (ddownV_eq C _).symm⟩
end Ker

end Cert.Mlp

end

end
-- ==== Proof.Rg.Arr.lean ====
/- What each of the eight regions leaves in its array, at any contents it is entered with. -/
module

public import proofs.«01_k».proof.Proof.Gen.Kernel3Ideal.Frame
public import proofs.«01_k».proof.Proof.Mat.Basic

@[expose] public section

set_option maxRecDepth 16384

noncomputable section

namespace Cert.Rg

open Cert.Kernel3Ideal Cert.Kernel3Ideal.Gen Cert.Mat
open Idealize.ShloMosaic Idealize.ShloMosaic.TcCoe Idealize.ShloMosaic.Pipeline

/-! ## One block's product -/

theorem p0 (A B : ℕ → ℕ → EReal) (y : S4224x256.Idx) : k0_pay1 (F := Ideal) (eN A : S4224x1024.Idx → EReal) (eN B : S1024x256.Idx → EReal) y = nn 1024 A B (y 0).val (y 1).val := by
  pointwise [k0_pay1]
  rfl
theorem p1 (A B : ℕ → ℕ → EReal) (y : S4224x256.Idx) : k1_pay1 (F := Ideal) (eN A : S4224x1024.Idx → EReal) (eN B : S1024x256.Idx → EReal) y = nn 1024 A B (y 0).val (y 1).val := p0 A B y
theorem p2 (A B : ℕ → ℕ → EReal) (y : S2112x512.Idx) : k2_pay1 (F := Ideal) (eN A : S2112x1280.Idx → EReal) (eN B : S1280x512.Idx → EReal) y = nn 1280 A B (y 0).val (y 1).val := by
  pointwise [k2_pay1]
  rfl
theorem p3 (A B : ℕ → ℕ → EReal) (y : S256x512.Idx) : k3_pay1 (F := Ideal) (eN A : S4224x256.Idx → EReal) (eN B : S4224x512.Idx → EReal) y = tn 4224 A B (y 0).val (y 1).val := by
  pointwise [k3_pay1]
  rfl
theorem p4 (A B : ℕ → ℕ → EReal) (y : S4224x256.Idx) : k4_pay1 (F := Ideal) (eN A : S4224x1024.Idx → EReal) (eN B : S256x1024.Idx → EReal) y = nt 1024 A B (y 0).val (y 1).val := by
  pointwise [k4_pay1]
  rfl
theorem p5 (A B : ℕ → ℕ → EReal) (y : S1024x640.Idx) : k5_pay1 (F := Ideal) (eN A : S4224x1024.Idx → EReal) (eN B : S4224x640.Idx → EReal) y = tn 4224 A B (y 0).val (y 1).val := by
  pointwise [k5_pay1]
  rfl
theorem p6 (A B : ℕ → ℕ → EReal) (y : S1024x640.Idx) : k6_pay1 (F := Ideal) (eN A : S4224x1024.Idx → EReal) (eN B : S4224x640.Idx → EReal) y = tn 4224 A B (y 0).val (y 1).val := p5 A B y
theorem p7 (A B C D : ℕ → ℕ → EReal) (y : S1056x512.Idx) : k7_pay1 (F := Ideal) (eN A : S1056x1280.Idx → EReal) (eN B : S512x1280.Idx → EReal) (eN C : S1056x1280.Idx → EReal) (eN D : S512x1280.Idx → EReal) y
    = nt 1280 A B (y 0).val (y 1).val + nt 1280 C D (y 0).val (y 1).val := by
  pointwise [k7_pay1]
  rfl

/-! ## Which block a grid point takes -/

theorem i0_0 : ∀ t : Fin cfg0.N, win0_0.index t = ![0, 0] := (by decide +kernel : ∀ t : Fin grid0.N, _)
theorem i0_1 : ∀ t : Fin cfg0.N, win0_1.index t = ![0, t.val] := (by decide +kernel : ∀ t : Fin grid0.N, _)
theorem i0_2 : ∀ t : Fin cfg0.N, win0_2.index t = ![0, t.val] := (by decide +kernel : ∀ t : Fin grid0.N, _)
theorem i1_0 : ∀ t : Fin cfg1.N, win1_0.index t = ![0, 0] := (by decide +kernel : ∀ t : Fin grid1.N, _)
theorem i1_1 : ∀ t : Fin cfg1.N, win1_1.index t = ![0, t.val] := (by decide +kernel : ∀ t : Fin grid1.N, _)
theorem i1_2 : ∀ t : Fin cfg1.N, win1_2.index t = ![0, t.val] := (by decide +kernel : ∀ t : Fin grid1.N, _)
theorem i2_0 : ∀ t : Fin cfg2.N, win2_0.index t = ![t.val / 2, 0] := (by decide +kernel : ∀ t : Fin grid2.N, _)
theorem i2_1 : ∀ t : Fin cfg2.N, win2_1.index t = ![0, t.val % 2] := (by decide +kernel : ∀ t : Fin grid2.N, _)
theorem i2_2 : ∀ t : Fin cfg2.N, win2_2.index t = ![t.val / 2, t.val % 2] := (by decide +kernel : ∀ t : Fin grid2.N, _)
theorem i3_0 : ∀ t : Fin cfg3.N, win3_0.index t = ![0, t.val / 2] := (by decide +kernel : ∀ t : Fin grid3.N, _)
theorem i3_1 : ∀ t : Fin cfg3.N, win3_1.index t = ![0, t.val % 2] := (by decide +kernel : ∀ t : Fin grid3.N, _)
theorem i3_2 : ∀ t : Fin cfg3.N, win3_2.index t = ![t.val / 2, t.val % 2] := (by decide +kernel : ∀ t : Fin grid3.N, _)
theorem i4_0 : ∀ t : Fin cfg4.N, win4_0.index t = ![0, 0] := (by decide +kernel : ∀ t : Fin grid4.N, _)
theorem i4_1 : ∀ t : Fin cfg4.N, win4_1.index t = ![t.val, 0] := (by decide +kernel : ∀ t : Fin grid4.N, _)
theorem i4_2 : ∀ t : Fin cfg4.N, win4_2.index t = ![0, t.val] := (by decide +kernel : ∀ t : Fin grid4.N, _)
theorem i5_0 : ∀ t : Fin cfg5.N, win5_0.index t = ![0, 0] := (by decide +kernel : ∀ t : Fin grid5.N, _)
theorem i5_1 : ∀ t : Fin cfg5.N, win5_1.index t = ![0, t.val] := (by decide +kernel : ∀ t : Fin grid5.N, _)
theorem i5_2 : ∀ t : Fin cfg5.N, win5_2.index t = ![0, t.val] := (by decide +kernel : ∀ t : Fin grid5.N, _)
theorem i6_0 : ∀ t : Fin cfg6.N, win6_0.index t = ![0, 0] := (by decide +kernel : ∀ t : Fin grid6.N, _)
theorem i6_1 : ∀ t : Fin cfg6.N, win6_1.index t = ![0, t.val] := (by decide +kernel : ∀ t : Fin grid6.N, _)
theorem i6_2 : ∀ t : Fin cfg6.N, win6_2.index t = ![0, t.val] := (by decide +kernel : ∀ t : Fin grid6.N, _)
theorem i7_0 : ∀ t : Fin cfg7.N, win7_0.index t = ![t.val / 2, 0] := (by decide +kernel : ∀ t : Fin grid7.N, _)
theorem i7_1 : ∀ t : Fin cfg7.N, win7_1.index t = ![t.val % 2, 0] := (by decide +kernel : ∀ t : Fin grid7.N, _)
theorem i7_2 : ∀ t : Fin cfg7.N, win7_2.index t = ![t.val / 2, 0] := (by decide +kernel : ∀ t : Fin grid7.N, _)
theorem i7_3 : ∀ t : Fin cfg7.N, win7_3.index t = ![t.val % 2, 0] := (by decide +kernel : ∀ t : Fin grid7.N, _)
theorem i7_4 : ∀ t : Fin cfg7.N, win7_4.index t = ![t.val / 2, t.val % 2] := (by decide +kernel : ∀ t : Fin grid7.N, _)

section
variable (V : (c : Dev nD) → (b : Ref sig .tc) → Buf (Elt Ideal) ((c : Thread nD τ).loc b)) (c : Dev nD)
variable (A B C D : ℕ → ℕ → EReal)

theorem arr0 (a : V c main_v0 = (eN A : S4224x1024.Idx → EReal)) (b : V c main_v1 = (eN B : S1024x1280.Idx → EReal)) : (dat0 V c).arrAt 2 cfg0.N = (eN (nn 1024 A B) : S4224x1280.Idx → EReal) :=
  (dat0 V c).arrAt_eq_of_covers 2 _ (by decide +kernel) fun t hf y => by
    blk_simp
    rw [after0_2]
    frame_out
    rw [show iblk0 V c 0 t = (eN _ : S4224x1024.Idx → EReal) from blk a 0 0 ((cfg0.win 0).blk t).view.emb (fun y => by blk_simp [i0_0] <;> simp) (fun y => by blk_simp [i0_0] <;> simp),
      show iblk0 V c 1 t = (eN _ : S1024x256.Idx → EReal) from blk b 0 (256 * t.val) ((cfg0.win 1).blk t).view.emb (fun y => by blk_simp [i0_1] <;> simp) (fun y => by blk_simp [i0_1] <;> simp <;> omega), p0]
    show nn 1024 A B (y 0).val ((y 1).val + 256 * t.val) = nn 1024 A B ((win0_2.blk t).view.emb y 0).val ((win0_2.blk t).view.emb y 1).val
    congr 1 <;> blk_simp [i0_2] <;> simp <;> omega

theorem arr1 (a : V c main_v0 = (eN A : S4224x1024.Idx → EReal)) (b : V c main_v2 = (eN B : S1024x1280.Idx → EReal)) : (dat1 V c).arrAt 2 cfg1.N = (eN (nn 1024 A B) : S4224x1280.Idx → EReal) :=
  (dat1 V c).arrAt_eq_of_covers 2 _ (by decide +kernel) fun t hf y => by
    blk_simp
    rw [after1_2]
    frame_out
    rw [show iblk1 V c 0 t = (eN _ : S4224x1024.Idx → EReal) from blk a 0 0 ((cfg1.win 0).blk t).view.emb (fun y => by blk_simp [i1_0] <;> simp) (fun y => by blk_simp [i1_0] <;> simp),
      show iblk1 V c 1 t = (eN _ : S1024x256.Idx → EReal) from blk b 0 (256 * t.val) ((cfg1.win 1).blk t).view.emb (fun y => by blk_simp [i1_1] <;> simp) (fun y => by blk_simp [i1_1] <;> simp <;> omega), p1]
    show nn 1024 A B (y 0).val ((y 1).val + 256 * t.val) = nn 1024 A B ((win1_2.blk t).view.emb y 0).val ((win1_2.blk t).view.emb y 1).val
    congr 1 <;> blk_simp [i1_2] <;> simp <;> omega

theorem arr2 (a : V c main_v3 = (eN A : S4224x1280.Idx → EReal)) (b : V c main_v4 = (eN B : S1280x1024.Idx → EReal)) : (dat2 V c).arrAt 2 cfg2.N = (eN (nn 1280 A B) : S4224x1024.Idx → EReal) :=
  (dat2 V c).arrAt_eq_of_covers 2 _ (by decide +kernel) fun t hf y => by
    blk_simp
    rw [after2_2]
    frame_out
    rw [show iblk2 V c 0 t = (eN _ : S2112x1280.Idx → EReal) from blk a (2112 * (t.val / 2)) 0 ((cfg2.win 0).blk t).view.emb (fun y => by blk_simp [i2_0] <;> simp <;> omega) (fun y => by blk_simp [i2_0] <;> simp),
      show iblk2 V c 1 t = (eN _ : S1280x512.Idx → EReal) from blk b 0 (512 * (t.val % 2)) ((cfg2.win 1).blk t).view.emb (fun y => by blk_simp [i2_1] <;> simp) (fun y => by blk_simp [i2_1] <;> simp <;> omega), p2]
    show nn 1280 A B ((y 0).val + 2112 * (t.val / 2)) ((y 1).val + 512 * (t.val % 2)) = nn 1280 A B ((win2_2.blk t).view.emb y 0).val ((win2_2.blk t).view.emb y 1).val
    congr 1 <;> blk_simp [i2_2] <;> simp <;> omega

theorem arr3 (a : V c main_v3 = (eN A : S4224x1280.Idx → EReal)) (b : V c main_v7 = (eN B : S4224x1024.Idx → EReal)) : (dat3 V c).arrAt 2 cfg3.N = (eN (tn 4224 A B) : S1280x1024.Idx → EReal) :=
  (dat3 V c).arrAt_eq_of_covers 2 _ (by decide +kernel) fun t hf y => by
    blk_simp
    rw [after3_2]
    frame_out
    rw [show iblk3 V c 0 t = (eN _ : S4224x256.Idx → EReal) from blk a 0 (256 * (t.val / 2)) ((cfg3.win 0).blk t).view.emb (fun y => by blk_simp [i3_0] <;> simp) (fun y => by blk_simp [i3_0] <;> simp <;> omega),
      show iblk3 V c 1 t = (eN _ : S4224x512.Idx → EReal) from blk b 0 (512 * (t.val % 2)) ((cfg3.win 1).blk t).view.emb (fun y => by blk_simp [i3_1] <;> simp) (fun y => by blk_simp [i3_1] <;> simp <;> omega), p3]
    show tn 4224 A B ((y 0).val + 256 * (t.val / 2)) ((y 1).val + 512 * (t.val % 2)) = tn 4224 A B ((win3_2.blk t).view.emb y 0).val ((win3_2.blk t).view.emb y 1).val
    congr 1 <;> blk_simp [i3_2] <;> simp <;> omega

theorem arr4 (a : V c main_v7 = (eN A : S4224x1024.Idx → EReal)) (b : V c main_v4 = (eN B : S1280x1024.Idx → EReal)) : (dat4 V c).arrAt 2 cfg4.N = (eN (nt 1024 A B) : S4224x1280.Idx → EReal) :=
  (dat4 V c).arrAt_eq_of_covers 2 _ (by decide +kernel) fun t hf y => by
    blk_simp
    rw [after4_2]
    frame_out
    rw [show iblk4 V c 0 t = (eN _ : S4224x1024.Idx → EReal) from blk a 0 0 ((cfg4.win 0).blk t).view.emb (fun y => by blk_simp [i4_0] <;> simp) (fun y => by blk_simp [i4_0] <;> simp),
      show iblk4 V c 1 t = (eN _ : S256x1024.Idx → EReal) from blk b (256 * t.val) 0 ((cfg4.win 1).blk t).view.emb (fun y => by blk_simp [i4_1] <;> simp <;> omega) (fun y => by blk_simp [i4_1] <;> simp), p4]
    show nt 1024 A B (y 0).val ((y 1).val + 256 * t.val) = nt 1024 A B ((win4_2.blk t).view.emb y 0).val ((win4_2.blk t).view.emb y 1).val
    congr 1 <;> blk_simp [i4_2] <;> simp <;> omega

theorem arr5 (a : V c main_v0 = (eN A : S4224x1024.Idx → EReal)) (b : V c main_v5 = (eN B : S4224x1280.Idx → EReal)) : (dat5 V c).arrAt 2 cfg5.N = (eN (tn 4224 A B) : S1024x1280.Idx → EReal) :=
  (dat5 V c).arrAt_eq_of_covers 2 _ (by decide +kernel) fun t hf y => by
    blk_simp
    rw [after5_2]
    frame_out
    rw [show iblk5 V c 0 t = (eN _ : S4224x1024.Idx → EReal) from blk a 0 0 ((cfg5.win 0).blk t).view.emb (fun y => by blk_simp [i5_0] <;> simp) (fun y => by blk_simp [i5_0] <;> simp),
      show iblk5 V c 1 t = (eN _ : S4224x640.Idx → EReal) from blk b 0 (640 * t.val) ((cfg5.win 1).blk t).view.emb (fun y => by blk_simp [i5_1] <;> simp) (fun y => by blk_simp [i5_1] <;> simp <;> omega), p5]
    show tn 4224 A B (y 0).val ((y 1).val + 640 * t.val) = tn 4224 A B ((win5_2.blk t).view.emb y 0).val ((win5_2.blk t).view.emb y 1).val
    congr 1 <;> blk_simp [i5_2] <;> simp <;> omega

theorem arr6 (a : V c main_v0 = (eN A : S4224x1024.Idx → EReal)) (b : V c main_v6 = (eN B : S4224x1280.Idx → EReal)) : (dat6 V c).arrAt 2 cfg6.N = (eN (tn 4224 A B) : S1024x1280.Idx → EReal) :=
  (dat6 V c).arrAt_eq_of_covers 2 _ (by decide +kernel) fun t hf y => by
    blk_simp
    rw [after6_2]
    frame_out
    rw [show iblk6 V c 0 t = (eN _ : S4224x1024.Idx → EReal) from blk a 0 0 ((cfg6.win 0).blk t).view.emb (fun y => by blk_simp [i6_0] <;> simp) (fun y => by blk_simp [i6_0] <;> simp),
      show iblk6 V c 1 t = (eN _ : S4224x640.Idx → EReal) from blk b 0 (640 * t.val) ((cfg6.win 1).blk t).view.emb (fun y => by blk_simp [i6_1] <;> simp) (fun y => by blk_simp [i6_1] <;> simp <;> omega), p6]
    show tn 4224 A B (y 0).val ((y 1).val + 640 * t.val) = tn 4224 A B ((win6_2.blk t).view.emb y 0).val ((win6_2.blk t).view.emb y 1).val
    congr 1 <;> blk_simp [i6_2] <;> simp <;> omega

theorem arr7 (a : V c main_v5 = (eN A : S4224x1280.Idx → EReal)) (b : V c main_v1 = (eN B : S1024x1280.Idx → EReal)) (c' : V c main_v6 = (eN C : S4224x1280.Idx → EReal)) (d : V c main_v2 = (eN D : S1024x1280.Idx → EReal)) :
    (dat7 V c).arrAt 4 cfg7.N = (eN (fun i j => nt 1280 A B i j + nt 1280 C D i j) : S4224x1024.Idx → EReal) :=
  (dat7 V c).arrAt_eq_of_covers 4 _ (by decide +kernel) fun t hf y => by
    blk_simp
    rw [after7_4]
    frame_out
    rw [show iblk7 V c 0 t = (eN _ : S1056x1280.Idx → EReal) from blk a (1056 * (t.val / 2)) 0 ((cfg7.win 0).blk t).view.emb (fun y => by blk_simp [i7_0] <;> simp <;> omega) (fun y => by blk_simp [i7_0] <;> simp),
      show iblk7 V c 1 t = (eN _ : S512x1280.Idx → EReal) from blk b (512 * (t.val % 2)) 0 ((cfg7.win 1).blk t).view.emb (fun y => by blk_simp [i7_1] <;> simp <;> omega) (fun y => by blk_simp [i7_1] <;> simp),
      show iblk7 V c 2 t = (eN _ : S1056x1280.Idx → EReal) from blk c' (1056 * (t.val / 2)) 0 ((cfg7.win 2).blk t).view.emb (fun y => by blk_simp [i7_2] <;> simp <;> omega) (fun y => by blk_simp [i7_2] <;> simp),
      show iblk7 V c 3 t = (eN _ : S512x1280.Idx → EReal) from blk d (512 * (t.val % 2)) 0 ((cfg7.win 3).blk t).view.emb (fun y => by blk_simp [i7_3] <;> simp <;> omega) (fun y => by blk_simp [i7_3] <;> simp), p7]
    show nt 1280 A B ((y 0).val + 1056 * (t.val / 2)) ((y 1).val + 512 * (t.val % 2)) + nt 1280 C D ((y 0).val + 1056 * (t.val / 2)) ((y 1).val + 512 * (t.val % 2))
      = (fun i j => nt 1280 A B i j + nt 1280 C D i j) ((win7_4.blk t).view.emb y 0).val ((win7_4.blk t).view.emb y 1).val
    refine congrArg₂ (fun i j => nt 1280 A B i j + nt 1280 C D i j) ?_ ?_ <;> blk_simp [i7_4] <;> simp <;> omega
end

end Cert.Rg

end

end
-- ==== Proof.Rg.Run.lean ====
/- The run of the eight products: at the end every buffer of the program holds its last contents. -/
module

public import proofs.«01_k».proof.Proof.Gen.Kernel3Ideal.Frame

@[expose] public section

set_option maxRecDepth 16384

noncomputable section

namespace Cert.Rg

open Cert.Kernel3Ideal Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ fun r => ∀ c : Dev nD,
    ∀ b ∈ Pipeline.ucRefs τ sig, r.2.mem (((c : Thread nD τ)).1, b) = W9 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h hz => h)

end Cert.Rg

end

end
-- ==== Proof.Rg.Host.lean ====
/- The contents between the eight regions: what each is entered with, and what the program's results hold at the end. -/
module

public import proofs.«01_k».proof.Proof.Rg.Arr
public import proofs.«01_k».proof.Proof.Rg.Run
public import Idealize.ShloMosaic.Lib.StableHlo.Run

@[expose] public section

set_option maxRecDepth 16384

noncomputable section

namespace Cert.Rg

open Cert.Kernel3Ideal Cert.Kernel3Ideal.Gen Cert.Mat
open Idealize.ShloMosaic Idealize.ShloMosaic.TcCoe Idealize.ShloMosaic.StableHlo

variable (m : (ℓ : Loc nD τ sig) → Buf (Elt Ideal) ℓ) (ρ : Dev nD → PrngReg) (c : Dev nD)

theorem cut {a b : ℕ} (x : FVec Ideal (⟨2, ![a, b]⟩ : Shape) .f32) : truncf .bf16 x bitsLt_bf16_f32 = x := by
  funext j
  pointwise

/-! ## The operands are what they were, before every region -/

theorem k2 : ∀ r ∈ hostOps0_W, V2 m ρ c r = V1 m ρ c r := fun r hr => W2_of m ρ c r ((by decide +kernel : ∀ r ∈ hostOps0_W, ∀ w : Fin cfg0.W, Pipeline.arrRef spec0 w = r → (cfg0.win w).isOut = false) r hr)
theorem k3 : ∀ r ∈ hostOps0_W, V3 m ρ c r = V1 m ρ c r := fun r hr => (W3_of m ρ c r ((by decide +kernel : ∀ r ∈ hostOps0_W, ∀ w : Fin cfg1.W, Pipeline.arrRef spec1 w = r → (cfg1.win w).isOut = false) r hr)).trans (k2 m ρ c r hr)
theorem k4 : ∀ r ∈ hostOps0_W, V4 m ρ c r = V1 m ρ c r := fun r hr => (W4_of m ρ c r ((by decide +kernel : ∀ r ∈ hostOps0_W, ∀ w : Fin cfg2.W, Pipeline.arrRef spec2 w = r → (cfg2.win w).isOut = false) r hr)).trans (k3 m ρ c r hr)
theorem k5 : ∀ r ∈ hostOps0_W, V5 m ρ c r = V1 m ρ c r := fun r hr => (W5_of m ρ c r ((by decide +kernel : ∀ r ∈ hostOps0_W, ∀ w : Fin cfg3.W, Pipeline.arrRef spec3 w = r → (cfg3.win w).isOut = false) r hr)).trans (k4 m ρ c r hr)
theorem k6 : ∀ r ∈ hostOps0_W, V6 m ρ c r = V1 m ρ c r := fun r hr => (W6_of m ρ c r ((by decide +kernel : ∀ r ∈ hostOps0_W, ∀ w : Fin cfg4.W, Pipeline.arrRef spec4 w = r → (cfg4.win w).isOut = false) r hr)).trans (k5 m ρ c r hr)
theorem k7 : ∀ r ∈ hostOps0_W, V7 m ρ c r = V1 m ρ c r := fun r hr => (W7_of m ρ c r ((by decide +kernel : ∀ r ∈ hostOps0_W, ∀ w : Fin cfg5.W, Pipeline.arrRef spec5 w = r → (cfg5.win w).isOut = false) r hr)).trans (k6 m ρ c r hr)
theorem k8 : ∀ r ∈ hostOps0_W, V8 m ρ c r = V1 m ρ c r := fun r hr => (W8_of m ρ c r ((by decide +kernel : ∀ r ∈ hostOps0_W, ∀ w : Fin cfg6.W, Pipeline.arrRef spec6 w = r → (cfg6.win w).isOut = false) r hr)).trans (k7 m ρ c r hr)

theorem h0 (X : ℕ → ℕ → EReal) (a : m ((c.tc : Thread nD τ).loc main_arg0) = (eN X : S4224x1024.Idx → EReal)) : V1 m ρ c main_v0 = (eN X : S4224x1024.Idx → EReal) := by
  refine Eq.trans (b := (truncf .bf16 (m ((c.tc : Thread nD τ).loc main_arg0)) bitsLt_bf16_f32 : FVec Ideal S4224x1024 .bf16)) ?_ ((cut _).trans a)
  simp only [V1, W1, hostOps0]
  after_results_simp <;> rfl
theorem h1 (A : ℕ → ℕ → EReal) (a : m ((c.tc : Thread nD τ).loc main_arg1) = (eN A : S1024x1280.Idx → EReal)) : V1 m ρ c main_v1 = (eN A : S1024x1280.Idx → EReal) := by
  refine Eq.trans (b := (truncf .bf16 (m ((c.tc : Thread nD τ).loc main_arg1)) bitsLt_bf16_f32 : FVec Ideal S1024x1280 .bf16)) ?_ ((cut _).trans a)
  simp only [V1, W1, hostOps0]
  after_results_simp <;> rfl
theorem h2 (B : ℕ → ℕ → EReal) (a : m ((c.tc : Thread nD τ).loc main_arg2) = (eN B : S1024x1280.Idx → EReal)) : V1 m ρ c main_v2 = (eN B : S1024x1280.Idx → EReal) := by
  refine Eq.trans (b := (truncf .bf16 (m ((c.tc : Thread nD τ).loc main_arg2)) bitsLt_bf16_f32 : FVec Ideal S1024x1280 .bf16)) ?_ ((cut _).trans a)
  simp only [V1, W1, hostOps0]
  after_results_simp <;> rfl
theorem h3 (H : ℕ → ℕ → EReal) (a : m ((c.tc : Thread nD τ).loc main_arg3) = (eN H : S4224x1280.Idx → EReal)) : V1 m ρ c main_v3 = (eN H : S4224x1280.Idx → EReal) := by
  refine Eq.trans (b := (truncf .bf16 (m ((c.tc : Thread nD τ).loc main_arg3)) bitsLt_bf16_f32 : FVec Ideal S4224x1280 .bf16)) ?_ ((cut _).trans a)
  simp only [V1, W1, hostOps0]
  after_results_simp <;> rfl
theorem h4 (O : ℕ → ℕ → EReal) (a : m ((c.tc : Thread nD τ).loc main_arg4) = (eN O : S1280x1024.Idx → EReal)) : V1 m ρ c main_v4 = (eN O : S1280x1024.Idx → EReal) := by
  refine Eq.trans (b := (truncf .bf16 (m ((c.tc : Thread nD τ).loc main_arg4)) bitsLt_bf16_f32 : FVec Ideal S1280x1024 .bf16)) ?_ ((cut _).trans a)
  simp only [V1, W1, hostOps0]
  after_results_simp <;> rfl
theorem h5 (C : ℕ → ℕ → EReal) (a : m ((c.tc : Thread nD τ).loc main_arg5) = (eN C : S4224x1280.Idx → EReal)) : V1 m ρ c main_v5 = (eN C : S4224x1280.Idx → EReal) := by
  refine Eq.trans (b := (truncf .bf16 (m ((c.tc : Thread nD τ).loc main_arg5)) bitsLt_bf16_f32 : FVec Ideal S4224x1280 .bf16)) ?_ ((cut _).trans a)
  simp only [V1, W1, hostOps0]
  after_results_simp <;> rfl
theorem h6 (D : ℕ → ℕ → EReal) (a : m ((c.tc : Thread nD τ).loc main_arg6) = (eN D : S4224x1280.Idx → EReal)) : V1 m ρ c main_v6 = (eN D : S4224x1280.Idx → EReal) := by
  refine Eq.trans (b := (truncf .bf16 (m ((c.tc : Thread nD τ).loc main_arg6)) bitsLt_bf16_f32 : FVec Ideal S4224x1280 .bf16)) ?_ ((cut _).trans a)
  simp only [V1, W1, hostOps0]
  after_results_simp <;> rfl
theorem h7 (M : ℕ → ℕ → EReal) (a : m ((c.tc : Thread nD τ).loc main_arg7) = (eN M : S4224x1024.Idx → EReal)) : V1 m ρ c main_v7 = (eN M : S4224x1024.Idx → EReal) := by
  refine Eq.trans (b := (truncf .bf16 (m ((c.tc : Thread nD τ).loc main_arg7)) bitsLt_bf16_f32 : FVec Ideal S4224x1024 .bf16)) ?_ ((cut _).trans a)
  simp only [V1, W1, hostOps0]
  after_results_simp <;> rfl

/-! ## The results -/

section
variable (X A B H O C D M : ℕ → ℕ → EReal)
variable (a0 : m ((c.tc : Thread nD τ).loc main_arg0) = (eN X : S4224x1024.Idx → EReal))
variable (a1 : m ((c.tc : Thread nD τ).loc main_arg1) = (eN A : S1024x1280.Idx → EReal))
variable (a2 : m ((c.tc : Thread nD τ).loc main_arg2) = (eN B : S1024x1280.Idx → EReal))
variable (a3 : m ((c.tc : Thread nD τ).loc main_arg3) = (eN H : S4224x1280.Idx → EReal))
variable (a4 : m ((c.tc : Thread nD τ).loc main_arg4) = (eN O : S1280x1024.Idx → EReal))
variable (a5 : m ((c.tc : Thread nD τ).loc main_arg5) = (eN C : S4224x1280.Idx → EReal))
variable (a6 : m ((c.tc : Thread nD τ).loc main_arg6) = (eN D : S4224x1280.Idx → EReal))
variable (a7 : m ((c.tc : Thread nD τ).loc main_arg7) = (eN M : S4224x1024.Idx → EReal))
include a0 a1 in
theorem f0 : V9 m ρ c main_v8 = (eN (nn 1024 X A) : S4224x1280.Idx → EReal) :=
  (W9_of m ρ c main_v8 (by decide +kernel)).trans <| (W8_of m ρ c main_v8 (by decide +kernel)).trans <| (W7_of m ρ c main_v8 (by decide +kernel)).trans <| (W6_of m ρ c main_v8 (by decide +kernel)).trans <| (W5_of m ρ c main_v8 (by decide +kernel)).trans <| (W4_of m ρ c main_v8 (by decide +kernel)).trans <| (W3_of m ρ c main_v8 (by decide +kernel)).trans <|
    (W2_arr m ρ c 2).trans (arr0 (V1 m ρ) c X A (h0 m ρ c X a0) (h1 m ρ c A a1))
include a0 a2 in
theorem f1 : V9 m ρ c main_v9 = (eN (nn 1024 X B) : S4224x1280.Idx → EReal) :=
  (W9_of m ρ c main_v9 (by decide +kernel)).trans <| (W8_of m ρ c main_v9 (by decide +kernel)).trans <| (W7_of m ρ c main_v9 (by decide +kernel)).trans <| (W6_of m ρ c main_v9 (by decide +kernel)).trans <| (W5_of m ρ c main_v9 (by decide +kernel)).trans <| (W4_of m ρ c main_v9 (by decide +kernel)).trans <|
    (W3_arr m ρ c 2).trans (arr1 (V2 m ρ) c X B ((k2 m ρ c main_v0 (by decide)).trans (h0 m ρ c X a0)) ((k2 m ρ c main_v2 (by decide)).trans (h2 m ρ c B a2)))
include a3 a4 in
theorem f2 : V9 m ρ c main_v10 = (eN (nn 1280 H O) : S4224x1024.Idx → EReal) :=
  (W9_of m ρ c main_v10 (by decide +kernel)).trans <| (W8_of m ρ c main_v10 (by decide +kernel)).trans <| (W7_of m ρ c main_v10 (by decide +kernel)).trans <| (W6_of m ρ c main_v10 (by decide +kernel)).trans <| (W5_of m ρ c main_v10 (by decide +kernel)).trans <|
    (W4_arr m ρ c 2).trans (arr2 (V3 m ρ) c H O ((k3 m ρ c main_v3 (by decide)).trans (h3 m ρ c H a3)) ((k3 m ρ c main_v4 (by decide)).trans (h4 m ρ c O a4)))
include a3 a7 in
theorem f3 : V9 m ρ c main_v11 = (eN (tn 4224 H M) : S1280x1024.Idx → EReal) :=
  (W9_of m ρ c main_v11 (by decide +kernel)).trans <| (W8_of m ρ c main_v11 (by decide +kernel)).trans <| (W7_of m ρ c main_v11 (by decide +kernel)).trans <| (W6_of m ρ c main_v11 (by decide +kernel)).trans <|
    (W5_arr m ρ c 2).trans (arr3 (V4 m ρ) c H M ((k4 m ρ c main_v3 (by decide)).trans (h3 m ρ c H a3)) ((k4 m ρ c main_v7 (by decide)).trans (h7 m ρ c M a7)))
include a4 a7 in
theorem f4 : V9 m ρ c main_v12 = (eN (nt 1024 M O) : S4224x1280.Idx → EReal) :=
  (W9_of m ρ c main_v12 (by decide +kernel)).trans <| (W8_of m ρ c main_v12 (by decide +kernel)).trans <| (W7_of m ρ c main_v12 (by decide +kernel)).trans <|
    (W6_arr m ρ c 2).trans (arr4 (V5 m ρ) c M O ((k5 m ρ c main_v7 (by decide)).trans (h7 m ρ c M a7)) ((k5 m ρ c main_v4 (by decide)).trans (h4 m ρ c O a4)))
include a0 a5 in
theorem f5 : V9 m ρ c main_v13 = (eN (tn 4224 X C) : S1024x1280.Idx → EReal) :=
  (W9_of m ρ c main_v13 (by decide +kernel)).trans <| (W8_of m ρ c main_v13 (by decide +kernel)).trans <|
    (W7_arr m ρ c 2).trans (arr5 (V6 m ρ) c X C ((k6 m ρ c main_v0 (by decide)).trans (h0 m ρ c X a0)) ((k6 m ρ c main_v5 (by decide)).trans (h5 m ρ c C a5)))
include a0 a6 in
theorem f6 : V9 m ρ c main_v14 = (eN (tn 4224 X D) : S1024x1280.Idx → EReal) :=
  (W9_of m ρ c main_v14 (by decide +kernel)).trans <|
    (W8_arr m ρ c 2).trans (arr6 (V7 m ρ) c X D ((k7 m ρ c main_v0 (by decide)).trans (h0 m ρ c X a0)) ((k7 m ρ c main_v6 (by decide)).trans (h6 m ρ c D a6)))
include a1 a2 a5 a6 in
theorem f7 : V9 m ρ c main_v15 = (eN (fun i j => nt 1280 C A i j + nt 1280 D B i j) : S4224x1024.Idx → EReal) :=
  (W9_arr m ρ c 4).trans (arr7 (V8 m ρ) c C A D B ((k8 m ρ c main_v5 (by decide)).trans (h5 m ρ c C a5)) ((k8 m ρ c main_v1 (by decide)).trans (h1 m ρ c A a1)) ((k8 m ρ c main_v6 (by decide)).trans (h6 m ρ c D a6)) ((k8 m ρ c main_v2 (by decide)).trans (h2 m ρ c B a2)))
end

end Cert.Rg

end

end
-- ==== Proof.Rg.Ref.lean ====
/- The reference's results, as the same products. -/
module

public import proofs.«01_k».proof.Proof.Gen.Reference3Ideal.Run
public import proofs.«01_k».proof.Proof.Mat.Basic

@[expose] public section

set_option maxRecDepth 16384

noncomputable section

namespace Cert.Rg

open Cert.Reference3Ideal Cert.Reference3Ideal.Gen Cert.Mat
open Idealize.ShloMosaic Idealize.ShloMosaic.TcCoe Idealize.SL.Sem

abbrev Vf (S : Shape) : Type := FVec Ideal S .f32

/-! ## The reference's lines -/

def inV (x : Vf S4224x1024) (a : Vf S1024x1280) : Vf S4224x1280 := Host.dotGeneral dot_S4224x1024_S1024x1280_S4224x1280_1_0_0_1_n_n none x a
def outV (h : Vf S4224x1280) (o : Vf S1280x1024) : Vf S4224x1024 := Host.dotGeneral dot_S4224x1280_S1280x1024_S4224x1024_1_0_0_1_n_n none h o
def doutV (h : Vf S4224x1280) (k : Vf S4224x1024) : Vf S1280x1024 := transpose S1280x1024 [1, 0] (Host.dotGeneral dot_S4224x1024_S4224x1280_S1024x1280_0_0_1_1_n_n none k h) transposes_S1024x1280_S1280x1024_1_0
def dhV (k : Vf S4224x1024) (o : Vf S1280x1024) : Vf S4224x1280 := Host.dotGeneral dot_S4224x1024_S1280x1024_S4224x1280_1_1_0_0_n_n none k o
def dinV (x : Vf S4224x1024) (d : Vf S4224x1280) : Vf S1024x1280 := transpose S1024x1280 [1, 0] (Host.dotGeneral dot_S4224x1280_S4224x1024_S1280x1024_0_0_1_1_n_n none d x) transposes_S1280x1024_S1024x1280_1_0
def backV (d : Vf S4224x1280) (a : Vf S1024x1280) : Vf S4224x1024 := Host.dotGeneral dot_S4224x1280_S1024x1280_S4224x1024_1_1_0_0_n_n none d a
def dxV (c d : Vf S4224x1280) (a b : Vf S1024x1280) : Vf S4224x1024 := addf (backV d b) (backV c a)

/-! ## Their values -/

variable (X A B H O C D M : ℕ → ℕ → EReal)

theorem inV_eq : inV (eN X) (eN A) = (eN (nn 1024 X A) : S4224x1280.Idx → EReal) := by
  funext j
  pointwise [inV]
  rfl
theorem outV_eq : outV (eN H) (eN O) = (eN (nn 1280 H O) : S4224x1024.Idx → EReal) := by
  funext j
  pointwise [outV]
  rfl
theorem doutV_eq : doutV (eN H) (eN M) = (eN (tn 4224 H M) : S1280x1024.Idx → EReal) := by
  funext j
  pointwise [doutV]
  exact Finset.sum_congr rfl fun t _ => mul_comm _ _
theorem dhV_eq : dhV (eN M) (eN O) = (eN (nt 1024 M O) : S4224x1280.Idx → EReal) := by
  funext j
  pointwise [dhV]
  rfl
theorem dinV_eq : dinV (eN X) (eN C) = (eN (tn 4224 X C) : S1024x1280.Idx → EReal) := by
  funext j
  pointwise [dinV]
  exact Finset.sum_congr rfl fun t _ => mul_comm _ _
/-- The input's gradient: its two parts in either order. -/
theorem dxV_eq : dxV (eN C) (eN D) (eN A) (eN B) = (eN (fun i j => nt 1280 C A i j + nt 1280 D B i j) : S4224x1024.Idx → EReal) := by
  funext j
  pointwise [dxV, backV]
  exact add_comm _ _

/-! ## The run, in these lines -/

section
variable (m : (ℓ : Loc nD τ sig) → Buf (Elt Ideal) ℓ) (ρ : Dev nD → PrngReg)

theorem ref_run : θ_run (defs (F := Ideal)) (onTc (τ := τ) (main (F := Ideal))) ⟨m, fun _ => 0, ρ⟩ fun r => ∀ c : Dev nD,
    r.2.mem ((c.tc : Thread nD τ).loc main_v0) = inV (m ((c.tc : Thread nD τ).loc main_arg0)) (m ((c.tc : Thread nD τ).loc main_arg1))
    ∧ r.2.mem ((c.tc : Thread nD τ).loc main_v1) = inV (m ((c.tc : Thread nD τ).loc main_arg0)) (m ((c.tc : Thread nD τ).loc main_arg2))
    ∧ r.2.mem ((c.tc : Thread nD τ).loc main_v2) = outV (m ((c.tc : Thread nD τ).loc main_arg3)) (m ((c.tc : Thread nD τ).loc main_arg4))
    ∧ r.2.mem ((c.tc : Thread nD τ).loc main_v4) = doutV (m ((c.tc : Thread nD τ).loc main_arg3)) (m ((c.tc : Thread nD τ).loc main_arg7))
    ∧ r.2.mem ((c.tc : Thread nD τ).loc main_v5) = dhV (m ((c.tc : Thread nD τ).loc main_arg7)) (m ((c.tc : Thread nD τ).loc main_arg4))
    ∧ r.2.mem ((c.tc : Thread nD τ).loc main_v10) = dinV (m ((c.tc : Thread nD τ).loc main_arg0)) (m ((c.tc : Thread nD τ).loc main_arg5))
    ∧ r.2.mem ((c.tc : Thread nD τ).loc main_v7) = dinV (m ((c.tc : Thread nD τ).loc main_arg0)) (m ((c.tc : Thread nD τ).loc main_arg6))
    ∧ r.2.mem ((c.tc : Thread nD τ).loc main_v12) = dxV (m ((c.tc : Thread nD τ).loc main_arg5)) (m ((c.tc : Thread nD τ).loc main_arg6)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  Cert.Reference3Ideal.Value.run (F := Ideal) m ρ
end

end Cert.Rg

end

end
-- ==== Proof.Rg.Final.lean ====
/- The two runs end with equal results. -/
module

public import proofs.«01_k».proof.Proof.Rg.Host
public import proofs.«01_k».proof.Proof.Rg.Ref

@[expose] public section

set_option maxRecDepth 16384

noncomputable section

namespace Cert.Rg

open Idealize.ShloMosaic Idealize.ShloMosaic.TcCoe Idealize.SL.Sem
open Cert.Kernel3Ideal Cert.Kernel3Ideal.Gen Cert.Mat

variable (m : (ℓ : Loc nD τ sig) → Buf (Elt Ideal) ℓ) (ρ : Dev nD → PrngReg)

theorem ker_run (v0 : (c : Dev nD) → Buf (Elt Ideal) ((c.tc : Thread nD τ).loc main_v8)) (v1 : (c : Dev nD) → Buf (Elt Ideal) ((c.tc : Thread nD τ).loc main_v9)) (v2 : (c : Dev nD) → Buf (Elt Ideal) ((c.tc : Thread nD τ).loc main_v10)) (v3 : (c : Dev nD) → Buf (Elt Ideal) ((c.tc : Thread nD τ).loc main_v11)) (v4 : (c : Dev nD) → Buf (Elt Ideal) ((c.tc : Thread nD τ).loc main_v12)) (v5 : (c : Dev nD) → Buf (Elt Ideal) ((c.tc : Thread nD τ).loc main_v13)) (v6 : (c : Dev nD) → Buf (Elt Ideal) ((c.tc : Thread nD τ).loc main_v14)) (v7 : (c : Dev nD) → Buf (Elt Ideal) ((c.tc : Thread nD τ).loc main_v15))
    (k : ∀ c, V9 m ρ c main_v8 = v0 c ∧ V9 m ρ c main_v9 = v1 c ∧ V9 m ρ c main_v10 = v2 c ∧ V9 m ρ c main_v11 = v3 c ∧ V9 m ρ c main_v12 = v4 c ∧ V9 m ρ c main_v13 = v5 c ∧ V9 m ρ c main_v14 = v6 c ∧ V9 m ρ c main_v15 = v7 c) :
    θ_run (defs (F := Ideal)) (onTc (τ := τ) (main (F := Ideal))) ⟨m, fun _ => 0, ρ⟩ fun r => ∀ c : Dev nD,
      r.2.mem ((c.tc : Thread nD τ).loc main_v8) = v0 c
      ∧ r.2.mem ((c.tc : Thread nD τ).loc main_v9) = v1 c
      ∧ r.2.mem ((c.tc : Thread nD τ).loc main_v10) = v2 c
      ∧ r.2.mem ((c.tc : Thread nD τ).loc main_v11) = v3 c
      ∧ r.2.mem ((c.tc : Thread nD τ).loc main_v12) = v4 c
      ∧ r.2.mem ((c.tc : Thread nD τ).loc main_v13) = v5 c
      ∧ r.2.mem ((c.tc : Thread nD τ).loc main_v14) = v6 c
      ∧ r.2.mem ((c.tc : Thread nD τ).loc main_v15) = v7 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c _ (mem_uc main_v8 (by decide))).trans (k c).1, (h c _ (mem_uc main_v9 (by decide))).trans (k c).2.1, (h c _ (mem_uc main_v10 (by decide))).trans (k c).2.2.1, (h c _ (mem_uc main_v11 (by decide))).trans (k c).2.2.2.1, (h c _ (mem_uc main_v12 (by decide))).trans (k c).2.2.2.2.1, (h c _ (mem_uc main_v13 (by decide))).trans (k c).2.2.2.2.2.1, (h c _ (mem_uc main_v14 (by decide))).trans (k c).2.2.2.2.2.2.1, (h c _ (mem_uc main_v15 (by decide))).trans (k c).2.2.2.2.2.2.2,
      (h c _ (mem_uc main_arg0 (by decide))).trans (W9_main_arg0 m ρ c), (h c _ (mem_uc main_arg1 (by decide))).trans (W9_main_arg1 m ρ c), (h c _ (mem_uc main_arg2 (by decide))).trans (W9_main_arg2 m ρ c), (h c _ (mem_uc main_arg3 (by decide))).trans (W9_main_arg3 m ρ c), (h c _ (mem_uc main_arg4 (by decide))).trans (W9_main_arg4 m ρ c), (h c _ (mem_uc main_arg5 (by decide))).trans (W9_main_arg5 m ρ c), (h c _ (mem_uc main_arg6 (by decide))).trans (W9_main_arg6 m ρ c), (h c _ (mem_uc main_arg7 (by decide))).trans (W9_main_arg7 m ρ c)⟩) (run m ρ)

/-- What the program leaves are the reference's lines at its arguments. -/
theorem ker_eq (c : Dev nD) (x : Vf Cert.Reference3Ideal.S4224x1024) (a : Vf Cert.Reference3Ideal.S1024x1280) (b : Vf Cert.Reference3Ideal.S1024x1280) (h : Vf Cert.Reference3Ideal.S4224x1280) (o : Vf Cert.Reference3Ideal.S1280x1024) (e : Vf Cert.Reference3Ideal.S4224x1280) (d : Vf Cert.Reference3Ideal.S4224x1280) (k : Vf Cert.Reference3Ideal.S4224x1024)
    (a0 : m ((c.tc : Thread nD τ).loc main_arg0) = x) (a1 : m ((c.tc : Thread nD τ).loc main_arg1) = a) (a2 : m ((c.tc : Thread nD τ).loc main_arg2) = b) (a3 : m ((c.tc : Thread nD τ).loc main_arg3) = h) (a4 : m ((c.tc : Thread nD τ).loc main_arg4) = o) (a5 : m ((c.tc : Thread nD τ).loc main_arg5) = e) (a6 : m ((c.tc : Thread nD τ).loc main_arg6) = d) (a7 : m ((c.tc : Thread nD τ).loc main_arg7) = k) :
    V9 m ρ c main_v8 = inV x a ∧ V9 m ρ c main_v9 = inV x b ∧ V9 m ρ c main_v10 = outV h o ∧ V9 m ρ c main_v11 = doutV h k ∧ V9 m ρ c main_v12 = dhV k o ∧ V9 m ρ c main_v13 = dinV x e ∧ V9 m ρ c main_v14 = dinV x d ∧ V9 m ρ c main_v15 = dxV e d a b := by
  obtain ⟨X, rfl⟩ := eN_of x
  obtain ⟨A, rfl⟩ := eN_of a
  obtain ⟨B, rfl⟩ := eN_of b
  obtain ⟨H, rfl⟩ := eN_of h
  obtain ⟨O, rfl⟩ := eN_of o
  obtain ⟨C, rfl⟩ := eN_of e
  obtain ⟨D, rfl⟩ := eN_of d
  obtain ⟨M, rfl⟩ := eN_of k
  exact ⟨(f0 m ρ c X A a0 a1).trans (inV_eq X A).symm, (f1 m ρ c X B a0 a2).trans (inV_eq X B).symm, (f2 m ρ c H O a3 a4).trans (outV_eq H O).symm, (f3 m ρ c H M a3 a7).trans (doutV_eq H M).symm, (f4 m ρ c O M a4 a7).trans (dhV_eq O M).symm, (f5 m ρ c X C a0 a5).trans (dinV_eq X C).symm, (f6 m ρ c X D a0 a6).trans (dinV_eq X D).symm, (f7 m ρ c A B C D a1 a2 a5 a6).trans (dxV_eq A B C D).symm⟩

end Cert.Rg

end

end
-- ==== Proof.Sm.Arr.lean ====
/- What each of the regions of the state-space layer's products leaves in its array, at any contents it is entered with. -/
module

public import proofs.«01_k».proof.Proof.Gen.Kernel4Ideal.Frame
public import proofs.«01_k».proof.Proof.Mat.Basic

@[expose] public section

set_option maxRecDepth 16384

noncomputable section

namespace Cert.Sm

open Cert.Kernel4Ideal Cert.Kernel4Ideal.Gen Cert.Mat
open Idealize.ShloMosaic Idealize.ShloMosaic.TcCoe Idealize.ShloMosaic.Pipeline

/-! ## One block's product -/

theorem p0 (A B : ℕ → ℕ → EReal) (y : S4224x256.Idx) : k0_pay1 (F := Ideal) (eN A : S4224x384.Idx → EReal) (eN B : S384x256.Idx → EReal) y = nn 384 A B (y 0).val (y 1).val := by
  pointwise [k0_pay1]
  rfl
theorem p1 (A B : ℕ → ℕ → EReal) (y : S4224x256.Idx) : k1_pay1 (F := Ideal) (eN A : S4224x256.Idx → EReal) (eN B : S256x256.Idx → EReal) y = nn 256 A B (y 0).val (y 1).val := by
  pointwise [k1_pay1]
  rfl
theorem p2 (A B C D : ℕ → ℕ → EReal) (y : S1056x512.Idx) : k2_pay1 (F := Ideal) (eN A : S1056x1024.Idx → EReal) (eN B : S1024x512.Idx → EReal) (eN C : S1056x1024.Idx → EReal) (eN D : S1024x512.Idx → EReal) y
    = nn 1024 A B (y 0).val (y 1).val + nn 1024 C D (y 0).val (y 1).val := by
  pointwise [k2_pay1]
  rfl
theorem p3 (A B : ℕ → ℕ → EReal) (y : S1024x512.Idx) : k3_pay1 (F := Ideal) (eN A : S4224x1024.Idx → EReal) (eN B : S4224x512.Idx → EReal) y = tn 4224 A B (y 0).val (y 1).val := by
  pointwise [k3_pay1]
  rfl
theorem p4 (A B : ℕ → ℕ → EReal) (y : S1024x512.Idx) : k4_pay1 (F := Ideal) (eN A : S4224x1024.Idx → EReal) (eN B : S4224x512.Idx → EReal) y = tn 4224 A B (y 0).val (y 1).val := p3 A B y
theorem p5 (A B : ℕ → ℕ → EReal) (y : S4224x256.Idx) : k5_pay1 (F := Ideal) (eN A : S4224x1024.Idx → EReal) (eN B : S256x1024.Idx → EReal) y = nt 1024 A B (y 0).val (y 1).val := by
  pointwise [k5_pay1]
  rfl
theorem p6 (A B : ℕ → ℕ → EReal) (y : S256x512.Idx) : k6_pay1 (F := Ideal) (eN A : S4224x256.Idx → EReal) (eN B : S4224x512.Idx → EReal) y = tn 4224 A B (y 0).val (y 1).val := by
  pointwise [k6_pay1]
  rfl
theorem p7 (A B : ℕ → ℕ → EReal) (y : S256x512.Idx) : k7_pay1 (F := Ideal) (eN A : S4224x256.Idx → EReal) (eN B : S4224x512.Idx → EReal) y = tn 4224 A B (y 0).val (y 1).val := by
  pointwise [k7_pay1]
  rfl
theorem p8 (A B : ℕ → ℕ → EReal) (y : S384x512.Idx) : k8_pay1 (F := Ideal) (eN A : S4224x384.Idx → EReal) (eN B : S4224x512.Idx → EReal) y = tn 4224 A B (y 0).val (y 1).val := by
  pointwise [k8_pay1]
  rfl
theorem p9 (A B : ℕ → ℕ → EReal) (y : S1056x384.Idx) : k9_pay1 (F := Ideal) (eN A : S1056x2048.Idx → EReal) (eN B : S384x2048.Idx → EReal) y = nt 2048 A B (y 0).val (y 1).val := by
  pointwise [k9_pay1]
  rfl

/-! ## Which block a grid point takes -/

theorem i0_0 : ∀ t : Fin cfg0.N, win0_0.index t = ![0, 0] := (by decide +kernel : ∀ t : Fin grid0.N, _)
theorem i0_1 : ∀ t : Fin cfg0.N, win0_1.index t = ![0, t.val] := (by decide +kernel : ∀ t : Fin grid0.N, _)
theorem i0_2 : ∀ t : Fin cfg0.N, win0_2.index t = ![0, t.val] := (by decide +kernel : ∀ t : Fin grid0.N, _)
theorem i1_0 : ∀ t : Fin cfg1.N, win1_0.index t = ![0, 0] := (by decide +kernel : ∀ t : Fin grid1.N, _)
theorem i1_1 : ∀ t : Fin cfg1.N, win1_1.index t = ![0, t.val] := (by decide +kernel : ∀ t : Fin grid1.N, _)
theorem i1_2 : ∀ t : Fin cfg1.N, win1_2.index t = ![0, t.val] := (by decide +kernel : ∀ t : Fin grid1.N, _)
theorem i2_0 : ∀ t : Fin cfg2.N, win2_0.index t = ![t.val / 2, 0] := (by decide +kernel : ∀ t : Fin grid2.N, _)
theorem i2_1 : ∀ t : Fin cfg2.N, win2_1.index t = ![0, t.val % 2] := (by decide +kernel : ∀ t : Fin grid2.N, _)
theorem i2_2 : ∀ t : Fin cfg2.N, win2_2.index t = ![t.val / 2, 0] := (by decide +kernel : ∀ t : Fin grid2.N, _)
theorem i2_3 : ∀ t : Fin cfg2.N, win2_3.index t = ![1, t.val % 2] := (by decide +kernel : ∀ t : Fin grid2.N, _)
theorem i2_4 : ∀ t : Fin cfg2.N, win2_4.index t = ![t.val / 2, t.val % 2] := (by decide +kernel : ∀ t : Fin grid2.N, _)
theorem i3_0 : ∀ t : Fin cfg3.N, win3_0.index t = ![0, 0] := (by decide +kernel : ∀ t : Fin grid3.N, _)
theorem i3_1 : ∀ t : Fin cfg3.N, win3_1.index t = ![0, t.val] := (by decide +kernel : ∀ t : Fin grid3.N, _)
theorem i3_2 : ∀ t : Fin cfg3.N, win3_2.index t = ![0, t.val] := (by decide +kernel : ∀ t : Fin grid3.N, _)
theorem i4_0 : ∀ t : Fin cfg4.N, win4_0.index t = ![0, 0] := (by decide +kernel : ∀ t : Fin grid4.N, _)
theorem i4_1 : ∀ t : Fin cfg4.N, win4_1.index t = ![0, t.val] := (by decide +kernel : ∀ t : Fin grid4.N, _)
theorem i4_2 : ∀ t : Fin cfg4.N, win4_2.index t = ![0, t.val] := (by decide +kernel : ∀ t : Fin grid4.N, _)
theorem i5_0 : ∀ t : Fin cfg5.N, win5_0.index t = ![0, 0] := (by decide +kernel : ∀ t : Fin grid5.N, _)
theorem i5_1 : ∀ t : Fin cfg5.N, win5_1.index t = ![t.val, 0] := (by decide +kernel : ∀ t : Fin grid5.N, _)
theorem i5_2 : ∀ t : Fin cfg5.N, win5_2.index t = ![0, t.val] := (by decide +kernel : ∀ t : Fin grid5.N, _)
theorem i6_0 : ∀ t : Fin cfg6.N, win6_0.index t = ![0, 0] := (by decide +kernel : ∀ t : Fin grid6.N, _)
theorem i6_1 : ∀ t : Fin cfg6.N, win6_1.index t = ![0, t.val] := (by decide +kernel : ∀ t : Fin grid6.N, _)
theorem i6_2 : ∀ t : Fin cfg6.N, win6_2.index t = ![0, t.val] := (by decide +kernel : ∀ t : Fin grid6.N, _)
theorem i7_0 : ∀ t : Fin cfg7.N, win7_0.index t = ![0, 0] := (by decide +kernel : ∀ t : Fin grid7.N, _)
theorem i7_1 : ∀ t : Fin cfg7.N, win7_1.index t = ![0, t.val] := (by decide +kernel : ∀ t : Fin grid7.N, _)
theorem i7_2 : ∀ t : Fin cfg7.N, win7_2.index t = ![0, t.val] := (by decide +kernel : ∀ t : Fin grid7.N, _)
theorem i8_0 : ∀ t : Fin cfg8.N, win8_0.index t = ![0, 0] := (by decide +kernel : ∀ t : Fin grid8.N, _)
theorem i8_1 : ∀ t : Fin cfg8.N, win8_1.index t = ![0, t.val] := (by decide +kernel : ∀ t : Fin grid8.N, _)
theorem i8_2 : ∀ t : Fin cfg8.N, win8_2.index t = ![0, t.val] := (by decide +kernel : ∀ t : Fin grid8.N, _)
theorem i9_0 : ∀ t : Fin cfg9.N, win9_0.index t = ![t.val, 0] := (by decide +kernel : ∀ t : Fin grid9.N, _)
theorem i9_1 : ∀ t : Fin cfg9.N, win9_1.index t = ![0, 0] := (by decide +kernel : ∀ t : Fin grid9.N, _)
theorem i9_2 : ∀ t : Fin cfg9.N, win9_2.index t = ![t.val, 0] := (by decide +kernel : ∀ t : Fin grid9.N, _)

section
variable (V : (c : Dev nD) → (b : Ref sig .tc) → Buf (Elt Ideal) ((c : Thread nD τ).loc b)) (c : Dev nD)
variable (A B C : ℕ → ℕ → EReal)

theorem arr0 (a : V c main_v4 = (eN A : S4224x384.Idx → EReal)) (b : V c main_v5 = (eN B : S384x2048.Idx → EReal)) : (dat0 V c).arrAt 2 cfg0.N = (eN (nn 384 A B) : S4224x2048.Idx → EReal) :=
  (dat0 V c).arrAt_eq_of_covers 2 _ (by decide +kernel) fun t hf y => by
    blk_simp
    rw [after0_2]
    frame_out
    rw [show iblk0 V c 0 t = (eN _ : S4224x384.Idx → EReal) from blk a 0 0 ((cfg0.win 0).blk t).view.emb (fun y => by blk_simp [i0_0] <;> simp) (fun y => by blk_simp [i0_0] <;> simp),
      show iblk0 V c 1 t = (eN _ : S384x256.Idx → EReal) from blk b 0 (256 * t.val) ((cfg0.win 1).blk t).view.emb (fun y => by blk_simp [i0_1] <;> simp) (fun y => by blk_simp [i0_1] <;> simp <;> omega), p0]
    show nn 384 A B (y 0).val ((y 1).val + 256 * t.val) = nn 384 A B ((win0_2.blk t).view.emb y 0).val ((win0_2.blk t).view.emb y 1).val
    congr 1 <;> blk_simp [i0_2] <;> simp <;> omega

theorem arr1 (a : V c main_v7 = (eN A : S4224x256.Idx → EReal)) (b : V c main_v8 = (eN B : S256x3072.Idx → EReal)) : (dat1 V c).arrAt 2 cfg1.N = (eN (nn 256 A B) : S4224x3072.Idx → EReal) :=
  (dat1 V c).arrAt_eq_of_covers 2 _ (by decide +kernel) fun t hf y => by
    blk_simp
    rw [after1_2]
    frame_out
    rw [show iblk1 V c 0 t = (eN _ : S4224x256.Idx → EReal) from blk a 0 0 ((cfg1.win 0).blk t).view.emb (fun y => by blk_simp [i1_0] <;> simp) (fun y => by blk_simp [i1_0] <;> simp),
      show iblk1 V c 1 t = (eN _ : S256x256.Idx → EReal) from blk b 0 (256 * t.val) ((cfg1.win 1).blk t).view.emb (fun y => by blk_simp [i1_1] <;> simp) (fun y => by blk_simp [i1_1] <;> simp <;> omega), p1]
    show nn 256 A B (y 0).val ((y 1).val + 256 * t.val) = nn 256 A B ((win1_2.blk t).view.emb y 0).val ((win1_2.blk t).view.emb y 1).val
    congr 1 <;> blk_simp [i1_2] <;> simp <;> omega

theorem arr2 (a : V c main_v0 = (eN A : S4224x1024.Idx → EReal)) (b : V c main_v2 = (eN B : S2048x1024.Idx → EReal)) (c' : V c main_v1 = (eN C : S4224x1024.Idx → EReal)) :
    (dat2 V c).arrAt 4 cfg2.N = (eN (fun i j => nn 1024 A B i j + nn 1024 C (fun k j => B (k + 1024) j) i j) : S4224x1024.Idx → EReal) :=
  (dat2 V c).arrAt_eq_of_covers 4 _ (by decide +kernel) fun t hf y => by
    blk_simp
    rw [after2_4]
    frame_out
    rw [show iblk2 V c 0 t = (eN _ : S1056x1024.Idx → EReal) from blk a (1056 * (t.val / 2)) 0 ((cfg2.win 0).blk t).view.emb (fun y => by blk_simp [i2_0] <;> simp <;> omega) (fun y => by blk_simp [i2_0] <;> simp),
      show iblk2 V c 1 t = (eN _ : S1024x512.Idx → EReal) from blk b 0 (512 * (t.val % 2)) ((cfg2.win 1).blk t).view.emb (fun y => by blk_simp [i2_1] <;> simp) (fun y => by blk_simp [i2_1] <;> simp <;> omega),
      show iblk2 V c 2 t = (eN _ : S1056x1024.Idx → EReal) from blk c' (1056 * (t.val / 2)) 0 ((cfg2.win 2).blk t).view.emb (fun y => by blk_simp [i2_2] <;> simp <;> omega) (fun y => by blk_simp [i2_2] <;> simp),
      show iblk2 V c 3 t = (eN _ : S1024x512.Idx → EReal) from blk b 1024 (512 * (t.val % 2)) ((cfg2.win 3).blk t).view.emb (fun y => by blk_simp [i2_3] <;> simp <;> omega) (fun y => by blk_simp [i2_3] <;> simp <;> omega), p2]
    show nn 1024 A B ((y 0).val + 1056 * (t.val / 2)) ((y 1).val + 512 * (t.val % 2)) + nn 1024 C (fun k j => B (k + 1024) j) ((y 0).val + 1056 * (t.val / 2)) ((y 1).val + 512 * (t.val % 2))
      = (fun i j => nn 1024 A B i j + nn 1024 C (fun k j => B (k + 1024) j) i j) ((win2_4.blk t).view.emb y 0).val ((win2_4.blk t).view.emb y 1).val
    refine congrArg₂ (fun i j => nn 1024 A B i j + nn 1024 C (fun k j => B (k + 1024) j) i j) ?_ ?_ <;> blk_simp [i2_4] <;> simp <;> omega

theorem arr3 (a : V c main_v0 = (eN A : S4224x1024.Idx → EReal)) (b : V c main_v3 = (eN B : S4224x1024.Idx → EReal)) : (dat3 V c).arrAt 2 cfg3.N = (eN (tn 4224 A B) : S1024x1024.Idx → EReal) :=
  (dat3 V c).arrAt_eq_of_covers 2 _ (by decide +kernel) fun t hf y => by
    blk_simp
    rw [after3_2]
    frame_out
    rw [show iblk3 V c 0 t = (eN _ : S4224x1024.Idx → EReal) from blk a 0 0 ((cfg3.win 0).blk t).view.emb (fun y => by blk_simp [i3_0] <;> simp) (fun y => by blk_simp [i3_0] <;> simp),
      show iblk3 V c 1 t = (eN _ : S4224x512.Idx → EReal) from blk b 0 (512 * t.val) ((cfg3.win 1).blk t).view.emb (fun y => by blk_simp [i3_1] <;> simp) (fun y => by blk_simp [i3_1] <;> simp <;> omega), p3]
    show tn 4224 A B (y 0).val ((y 1).val + 512 * t.val) = tn 4224 A B ((win3_2.blk t).view.emb y 0).val ((win3_2.blk t).view.emb y 1).val
    congr 1 <;> blk_simp [i3_2] <;> simp <;> omega

theorem arr4 (a : V c main_v1 = (eN A : S4224x1024.Idx → EReal)) (b : V c main_v3 = (eN B : S4224x1024.Idx → EReal)) : (dat4 V c).arrAt 2 cfg4.N = (eN (tn 4224 A B) : S1024x1024.Idx → EReal) :=
  (dat4 V c).arrAt_eq_of_covers 2 _ (by decide +kernel) fun t hf y => by
    blk_simp
    rw [after4_2]
    frame_out
    rw [show iblk4 V c 0 t = (eN _ : S4224x1024.Idx → EReal) from blk a 0 0 ((cfg4.win 0).blk t).view.emb (fun y => by blk_simp [i4_0] <;> simp) (fun y => by blk_simp [i4_0] <;> simp),
      show iblk4 V c 1 t = (eN _ : S4224x512.Idx → EReal) from blk b 0 (512 * t.val) ((cfg4.win 1).blk t).view.emb (fun y => by blk_simp [i4_1] <;> simp) (fun y => by blk_simp [i4_1] <;> simp <;> omega), p4]
    show tn 4224 A B (y 0).val ((y 1).val + 512 * t.val) = tn 4224 A B ((win4_2.blk t).view.emb y 0).val ((win4_2.blk t).view.emb y 1).val
    congr 1 <;> blk_simp [i4_2] <;> simp <;> omega

theorem arr5 (a : V c main_v3 = (eN A : S4224x1024.Idx → EReal)) (b : V c main_v2 = (eN B : S2048x1024.Idx → EReal)) : (dat5 V c).arrAt 2 cfg5.N = (eN (nt 1024 A B) : S4224x2048.Idx → EReal) :=
  (dat5 V c).arrAt_eq_of_covers 2 _ (by decide +kernel) fun t hf y => by
    blk_simp
    rw [after5_2]
    frame_out
    rw [show iblk5 V c 0 t = (eN _ : S4224x1024.Idx → EReal) from blk a 0 0 ((cfg5.win 0).blk t).view.emb (fun y => by blk_simp [i5_0] <;> simp) (fun y => by blk_simp [i5_0] <;> simp),
      show iblk5 V c 1 t = (eN _ : S256x1024.Idx → EReal) from blk b (256 * t.val) 0 ((cfg5.win 1).blk t).view.emb (fun y => by blk_simp [i5_1] <;> simp <;> omega) (fun y => by blk_simp [i5_1] <;> simp), p5]
    show nt 1024 A B (y 0).val ((y 1).val + 256 * t.val) = nt 1024 A B ((win5_2.blk t).view.emb y 0).val ((win5_2.blk t).view.emb y 1).val
    congr 1 <;> blk_simp [i5_2] <;> simp <;> omega

theorem arr6 (a : V c main_v7 = (eN A : S4224x256.Idx → EReal)) (b : V c main_arg9 = (eN B : S4224x2048.Idx → EReal)) : (dat6 V c).arrAt 2 cfg6.N = (eN (tn 4224 A B) : S256x2048.Idx → EReal) :=
  (dat6 V c).arrAt_eq_of_covers 2 _ (by decide +kernel) fun t hf y => by
    blk_simp
    rw [after6_2]
    frame_out
    rw [show iblk6 V c 0 t = (eN _ : S4224x256.Idx → EReal) from blk a 0 0 ((cfg6.win 0).blk t).view.emb (fun y => by blk_simp [i6_0] <;> simp) (fun y => by blk_simp [i6_0] <;> simp),
      show iblk6 V c 1 t = (eN _ : S4224x512.Idx → EReal) from blk b 0 (512 * t.val) ((cfg6.win 1).blk t).view.emb (fun y => by blk_simp [i6_1] <;> simp) (fun y => by blk_simp [i6_1] <;> simp <;> omega), p6]
    show tn 4224 A B (y 0).val ((y 1).val + 512 * t.val) = tn 4224 A B ((win6_2.blk t).view.emb y 0).val ((win6_2.blk t).view.emb y 1).val
    congr 1 <;> blk_simp [i6_2] <;> simp <;> omega

theorem arr7 (a : V c main_v7 = (eN A : S4224x256.Idx → EReal)) (b : V c main_v9 = (eN B : S4224x1024.Idx → EReal)) : (dat7 V c).arrAt 2 cfg7.N = (eN (tn 4224 A B) : S256x1024.Idx → EReal) :=
  (dat7 V c).arrAt_eq_of_covers 2 _ (by decide +kernel) fun t hf y => by
    blk_simp
    rw [after7_2]
    frame_out
    rw [show iblk7 V c 0 t = (eN _ : S4224x256.Idx → EReal) from blk a 0 0 ((cfg7.win 0).blk t).view.emb (fun y => by blk_simp [i7_0] <;> simp) (fun y => by blk_simp [i7_0] <;> simp),
      show iblk7 V c 1 t = (eN _ : S4224x512.Idx → EReal) from blk b 0 (512 * t.val) ((cfg7.win 1).blk t).view.emb (fun y => by blk_simp [i7_1] <;> simp) (fun y => by blk_simp [i7_1] <;> simp <;> omega), p7]
    show tn 4224 A B (y 0).val ((y 1).val + 512 * t.val) = tn 4224 A B ((win7_2.blk t).view.emb y 0).val ((win7_2.blk t).view.emb y 1).val
    congr 1 <;> blk_simp [i7_2] <;> simp <;> omega

theorem arr8 (a : V c main_v4 = (eN A : S4224x384.Idx → EReal)) (b : V c main_v6 = (eN B : S4224x2048.Idx → EReal)) : (dat8 V c).arrAt 2 cfg8.N = (eN (tn 4224 A B) : S384x2048.Idx → EReal) :=
  (dat8 V c).arrAt_eq_of_covers 2 _ (by decide +kernel) fun t hf y => by
    blk_simp
    rw [after8_2]
    frame_out
    rw [show iblk8 V c 0 t = (eN _ : S4224x384.Idx → EReal) from blk a 0 0 ((cfg8.win 0).blk t).view.emb (fun y => by blk_simp [i8_0] <;> simp) (fun y => by blk_simp [i8_0] <;> simp),
      show iblk8 V c 1 t = (eN _ : S4224x512.Idx → EReal) from blk b 0 (512 * t.val) ((cfg8.win 1).blk t).view.emb (fun y => by blk_simp [i8_1] <;> simp) (fun y => by blk_simp [i8_1] <;> simp <;> omega), p8]
    show tn 4224 A B (y 0).val ((y 1).val + 512 * t.val) = tn 4224 A B ((win8_2.blk t).view.emb y 0).val ((win8_2.blk t).view.emb y 1).val
    congr 1 <;> blk_simp [i8_2] <;> simp <;> omega

theorem arr9 (a : V c main_v6 = (eN A : S4224x2048.Idx → EReal)) (b : V c main_v5 = (eN B : S384x2048.Idx → EReal)) : (dat9 V c).arrAt 2 cfg9.N = (eN (nt 2048 A B) : S4224x384.Idx → EReal) :=
  (dat9 V c).arrAt_eq_of_covers 2 _ (by decide +kernel) fun t hf y => by
    blk_simp
    rw [after9_2]
    frame_out
    rw [show iblk9 V c 0 t = (eN _ : S1056x2048.Idx → EReal) from blk a (1056 * t.val) 0 ((cfg9.win 0).blk t).view.emb (fun y => by blk_simp [i9_0] <;> simp <;> omega) (fun y => by blk_simp [i9_0] <;> simp),
      show iblk9 V c 1 t = (eN _ : S384x2048.Idx → EReal) from blk b 0 0 ((cfg9.win 1).blk t).view.emb (fun y => by blk_simp [i9_1] <;> simp) (fun y => by blk_simp [i9_1] <;> simp), p9]
    show nt 2048 A B ((y 0).val + 1056 * t.val) (y 1).val = nt 2048 A B ((win9_2.blk t).view.emb y 0).val ((win9_2.blk t).view.emb y 1).val
    congr 1 <;> blk_simp [i9_2] <;> simp <;> omega

end

end Cert.Sm

end

end
-- ==== Proof.Sm.Run.lean ====
/- The run of the state-space layer's products: at the end every buffer of the program holds its last contents. -/
module

public import proofs.«01_k».proof.Proof.Gen.Kernel4Ideal.Frame

@[expose] public section

set_option maxRecDepth 16384

noncomputable section

namespace Cert.Sm

open Cert.Kernel4Ideal Cert.Kernel4Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ fun r => ∀ c : Dev nD,
    ∀ b ∈ Pipeline.ucRefs τ sig, r.2.mem (((c : Thread nD τ)).1, b) = W11 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W11 m ρ c b)
    (hfin := fun c s' => by
      iintro ⟨⟨Hh, -⟩, HSI⟩
      unfold StableHlo.held
      imodintro
      iapply (pointsTo_read_all (Pipeline.ucRefs τ sig) (fun b => (((c : Thread nD τ)).1, b)) (W11 m ρ c) s')
      isplitl [Hh] <;> iassumption)
    (hQ := fun s h hz => h)

end Cert.Sm

end

end
-- ==== Proof.Sm.Host.lean ====
/- The contents between the regions of the state-space layer's products: what each is entered with, and what the results hold at the end. -/
module

public import proofs.«01_k».proof.Proof.Sm.Arr
public import proofs.«01_k».proof.Proof.Sm.Run
public import Idealize.ShloMosaic.Lib.StableHlo.Run

@[expose] public section

set_option maxRecDepth 16384

noncomputable section

namespace Cert.Sm

open Cert.Kernel4Ideal Cert.Kernel4Ideal.Gen Cert.Mat
open Idealize.ShloMosaic Idealize.ShloMosaic.TcCoe Idealize.ShloMosaic.StableHlo

variable (m : (ℓ : Loc nD τ sig) → Buf (Elt Ideal) ℓ) (ρ : Dev nD → PrngReg) (c : Dev nD)

theorem cut {a b : ℕ} (x : FVec Ideal (⟨2, ![a, b]⟩ : Shape) .f32) : truncf .bf16 x bitsLt_bf16_f32 = x := by
  funext j
  pointwise

/-! ## The operands are what they were, before every region -/

/-- The buffers a region may read. -/
abbrev ins : List (Ref sig .tc) := main_arg9 :: hostOps0_W
theorem k2 : ∀ r ∈ ins, V2 m ρ c r = V1 m ρ c r := fun r hr => W2_of m ρ c r ((by decide +kernel : ∀ r ∈ ins, ∀ w : Fin cfg0.W, Pipeline.arrRef spec0 w = r → (cfg0.win w).isOut = false) r hr)
theorem k3 : ∀ r ∈ ins, V3 m ρ c r = V1 m ρ c r := fun r hr => (W3_of m ρ c r ((by decide +kernel : ∀ r ∈ ins, ∀ w : Fin cfg1.W, Pipeline.arrRef spec1 w = r → (cfg1.win w).isOut = false) r hr)).trans (k2 m ρ c r hr)
theorem k4 : ∀ r ∈ ins, V4 m ρ c r = V1 m ρ c r := fun r hr => (W4_of m ρ c r ((by decide +kernel : ∀ r ∈ ins, ∀ w : Fin cfg2.W, Pipeline.arrRef spec2 w = r → (cfg2.win w).isOut = false) r hr)).trans (k3 m ρ c r hr)
theorem k5 : ∀ r ∈ ins, V5 m ρ c r = V1 m ρ c r := fun r hr => (W5_of m ρ c r ((by decide +kernel : ∀ r ∈ ins, ∀ w : Fin cfg3.W, Pipeline.arrRef spec3 w = r → (cfg3.win w).isOut = false) r hr)).trans (k4 m ρ c r hr)
theorem k6 : ∀ r ∈ ins, V6 m ρ c r = V1 m ρ c r := fun r hr => (W6_of m ρ c r ((by decide +kernel : ∀ r ∈ ins, ∀ w : Fin cfg4.W, Pipeline.arrRef spec4 w = r → (cfg4.win w).isOut = false) r hr)).trans (k5 m ρ c r hr)
theorem k7 : ∀ r ∈ ins, V7 m ρ c r = V1 m ρ c r := fun r hr => (W7_of m ρ c r ((by decide +kernel : ∀ r ∈ ins, ∀ w : Fin cfg5.W, Pipeline.arrRef spec5 w = r → (cfg5.win w).isOut = false) r hr)).trans (k6 m ρ c r hr)
theorem k8 : ∀ r ∈ ins, V8 m ρ c r = V1 m ρ c r := fun r hr => (W8_of m ρ c r ((by decide +kernel : ∀ r ∈ ins, ∀ w : Fin cfg6.W, Pipeline.arrRef spec6 w = r → (cfg6.win w).isOut = false) r hr)).trans (k7 m ρ c r hr)
theorem k9 : ∀ r ∈ ins, V9 m ρ c r = V1 m ρ c r := fun r hr => (W9_of m ρ c r ((by decide +kernel : ∀ r ∈ ins, ∀ w : Fin cfg7.W, Pipeline.arrRef spec7 w = r → (cfg7.win w).isOut = false) r hr)).trans (k8 m ρ c r hr)
theorem k10 : ∀ r ∈ ins, V10 m ρ c r = V1 m ρ c r := fun r hr => (W10_of m ρ c r ((by decide +kernel : ∀ r ∈ ins, ∀ w : Fin cfg8.W, Pipeline.arrRef spec8 w = r → (cfg8.win w).isOut = false) r hr)).trans (k9 m ρ c r hr)

theorem h0 (Y : ℕ → ℕ → EReal) (a : m ((c.tc : Thread nD τ).loc main_arg0) = (eN Y : S4224x1024.Idx → EReal)) : V1 m ρ c main_v0 = (eN Y : S4224x1024.Idx → EReal) := by
  refine Eq.trans (b := (truncf .bf16 (m ((c.tc : Thread nD τ).loc main_arg0)) bitsLt_bf16_f32 : FVec Ideal S4224x1024 .bf16)) ?_ ((cut _).trans a)
  simp only [V1, W1, hostOps0]
  after_results_simp <;> rfl
theorem h1 (O : ℕ → ℕ → EReal) (a : m ((c.tc : Thread nD τ).loc main_arg1) = (eN O : S4224x1024.Idx → EReal)) : V1 m ρ c main_v1 = (eN O : S4224x1024.Idx → EReal) := by
  refine Eq.trans (b := (truncf .bf16 (m ((c.tc : Thread nD τ).loc main_arg1)) bitsLt_bf16_f32 : FVec Ideal S4224x1024 .bf16)) ?_ ((cut _).trans a)
  simp only [V1, W1, hostOps0]
  after_results_simp <;> rfl
theorem h2 (W : ℕ → ℕ → EReal) (a : m ((c.tc : Thread nD τ).loc main_arg2) = (eN W : S2048x1024.Idx → EReal)) : V1 m ρ c main_v2 = (eN W : S2048x1024.Idx → EReal) := by
  refine Eq.trans (b := (truncf .bf16 (m ((c.tc : Thread nD τ).loc main_arg2)) bitsLt_bf16_f32 : FVec Ideal S2048x1024 .bf16)) ?_ ((cut _).trans a)
  simp only [V1, W1, hostOps0]
  after_results_simp <;> rfl
theorem h3 (M : ℕ → ℕ → EReal) (a : m ((c.tc : Thread nD τ).loc main_arg3) = (eN M : S4224x1024.Idx → EReal)) : V1 m ρ c main_v3 = (eN M : S4224x1024.Idx → EReal) := by
  refine Eq.trans (b := (truncf .bf16 (m ((c.tc : Thread nD τ).loc main_arg3)) bitsLt_bf16_f32 : FVec Ideal S4224x1024 .bf16)) ?_ ((cut _).trans a)
  simp only [V1, W1, hostOps0]
  after_results_simp <;> rfl
theorem h4 (C : ℕ → ℕ → EReal) (a : m ((c.tc : Thread nD τ).loc main_arg4) = (eN C : S4224x384.Idx → EReal)) : V1 m ρ c main_v4 = (eN C : S4224x384.Idx → EReal) := by
  refine Eq.trans (b := (truncf .bf16 (m ((c.tc : Thread nD τ).loc main_arg4)) bitsLt_bf16_f32 : FVec Ideal S4224x384 .bf16)) ?_ ((cut _).trans a)
  simp only [V1, W1, hostOps0]
  after_results_simp <;> rfl
theorem h5 (Q : ℕ → ℕ → EReal) (a : m ((c.tc : Thread nD τ).loc main_arg5) = (eN Q : S384x2048.Idx → EReal)) : V1 m ρ c main_v5 = (eN Q : S384x2048.Idx → EReal) := by
  refine Eq.trans (b := (truncf .bf16 (m ((c.tc : Thread nD τ).loc main_arg5)) bitsLt_bf16_f32 : FVec Ideal S384x2048 .bf16)) ?_ ((cut _).trans a)
  simp only [V1, W1, hostOps0]
  after_results_simp <;> rfl
theorem h6 (D : ℕ → ℕ → EReal) (a : m ((c.tc : Thread nD τ).loc main_arg6) = (eN D : S4224x2048.Idx → EReal)) : V1 m ρ c main_v6 = (eN D : S4224x2048.Idx → EReal) := by
  refine Eq.trans (b := (truncf .bf16 (m ((c.tc : Thread nD τ).loc main_arg6)) bitsLt_bf16_f32 : FVec Ideal S4224x2048 .bf16)) ?_ ((cut _).trans a)
  simp only [V1, W1, hostOps0]
  after_results_simp <;> rfl
theorem h7 (K : ℕ → ℕ → EReal) (a : m ((c.tc : Thread nD τ).loc main_arg7) = (eN K : S4224x256.Idx → EReal)) : V1 m ρ c main_v7 = (eN K : S4224x256.Idx → EReal) := by
  refine Eq.trans (b := (truncf .bf16 (m ((c.tc : Thread nD τ).loc main_arg7)) bitsLt_bf16_f32 : FVec Ideal S4224x256 .bf16)) ?_ ((cut _).trans a)
  simp only [V1, W1, hostOps0]
  after_results_simp <;> rfl
theorem h8 (U : ℕ → ℕ → EReal) (a : m ((c.tc : Thread nD τ).loc main_arg8) = (eN U : S256x3072.Idx → EReal)) : V1 m ρ c main_v8 = (eN U : S256x3072.Idx → EReal) := by
  refine Eq.trans (b := (truncf .bf16 (m ((c.tc : Thread nD τ).loc main_arg8)) bitsLt_bf16_f32 : FVec Ideal S256x3072 .bf16)) ?_ ((cut _).trans a)
  simp only [V1, W1, hostOps0]
  after_results_simp <;> rfl
theorem h9 (E : ℕ → ℕ → EReal) (a : m ((c.tc : Thread nD τ).loc main_arg9) = (eN E : S4224x2048.Idx → EReal)) : V1 m ρ c main_arg9 = (eN E : S4224x2048.Idx → EReal) :=
  (W1_of m ρ c main_arg9 (by decide +kernel)).trans a
theorem h10 (G : ℕ → ℕ → EReal) (a : m ((c.tc : Thread nD τ).loc main_arg10) = (eN G : S4224x1024.Idx → EReal)) : V1 m ρ c main_v9 = (eN G : S4224x1024.Idx → EReal) := by
  refine Eq.trans (b := (truncf .bf16 (m ((c.tc : Thread nD τ).loc main_arg10)) bitsLt_bf16_f32 : FVec Ideal S4224x1024 .bf16)) ?_ ((cut _).trans a)
  simp only [V1, W1, hostOps0]
  after_results_simp <;> rfl

/-! ## The results -/

section
variable (Y O W M C Q D K U E G : ℕ → ℕ → EReal)
variable (a0 : m ((c.tc : Thread nD τ).loc main_arg0) = (eN Y : S4224x1024.Idx → EReal))
variable (a1 : m ((c.tc : Thread nD τ).loc main_arg1) = (eN O : S4224x1024.Idx → EReal))
variable (a2 : m ((c.tc : Thread nD τ).loc main_arg2) = (eN W : S2048x1024.Idx → EReal))
variable (a3 : m ((c.tc : Thread nD τ).loc main_arg3) = (eN M : S4224x1024.Idx → EReal))
variable (a4 : m ((c.tc : Thread nD τ).loc main_arg4) = (eN C : S4224x384.Idx → EReal))
variable (a5 : m ((c.tc : Thread nD τ).loc main_arg5) = (eN Q : S384x2048.Idx → EReal))
variable (a6 : m ((c.tc : Thread nD τ).loc main_arg6) = (eN D : S4224x2048.Idx → EReal))
variable (a7 : m ((c.tc : Thread nD τ).loc main_arg7) = (eN K : S4224x256.Idx → EReal))
variable (a8 : m ((c.tc : Thread nD τ).loc main_arg8) = (eN U : S256x3072.Idx → EReal))
variable (a9 : m ((c.tc : Thread nD τ).loc main_arg9) = (eN E : S4224x2048.Idx → EReal))
variable (a10 : m ((c.tc : Thread nD τ).loc main_arg10) = (eN G : S4224x1024.Idx → EReal))
include a4 a5 in
theorem f0 : V11 m ρ c main_v10 = (eN (nn 384 C Q) : S4224x2048.Idx → EReal) :=
  (W11_of m ρ c main_v10 (by decide +kernel)).trans <| (W10_of m ρ c main_v10 (by decide +kernel)).trans <| (W9_of m ρ c main_v10 (by decide +kernel)).trans <| (W8_of m ρ c main_v10 (by decide +kernel)).trans <| (W7_of m ρ c main_v10 (by decide +kernel)).trans <| (W6_of m ρ c main_v10 (by decide +kernel)).trans <| (W5_of m ρ c main_v10 (by decide +kernel)).trans <| (W4_of m ρ c main_v10 (by decide +kernel)).trans <| (W3_of m ρ c main_v10 (by decide +kernel)).trans <|
    (W2_arr m ρ c 2).trans (arr0 (V1 m ρ) c C Q (h4 m ρ c C a4) (h5 m ρ c Q a5))
include a7 a8 in
theorem f1 : V11 m ρ c main_v11 = (eN (nn 256 K U) : S4224x3072.Idx → EReal) :=
  (W11_of m ρ c main_v11 (by decide +kernel)).trans <| (W10_of m ρ c main_v11 (by decide +kernel)).trans <| (W9_of m ρ c main_v11 (by decide +kernel)).trans <| (W8_of m ρ c main_v11 (by decide +kernel)).trans <| (W7_of m ρ c main_v11 (by decide +kernel)).trans <| (W6_of m ρ c main_v11 (by decide +kernel)).trans <| (W5_of m ρ c main_v11 (by decide +kernel)).trans <| (W4_of m ρ c main_v11 (by decide +kernel)).trans <|
    (W3_arr m ρ c 2).trans (arr1 (V2 m ρ) c K U ((k2 m ρ c main_v7 (by decide)).trans (h7 m ρ c K a7)) ((k2 m ρ c main_v8 (by decide)).trans (h8 m ρ c U a8)))
include a0 a1 a2 in
theorem f2 : V11 m ρ c main_v12 = (eN (fun i j => nn 1024 Y W i j + nn 1024 O (fun k j => W (k + 1024) j) i j) : S4224x1024.Idx → EReal) :=
  (W11_of m ρ c main_v12 (by decide +kernel)).trans <| (W10_of m ρ c main_v12 (by decide +kernel)).trans <| (W9_of m ρ c main_v12 (by decide +kernel)).trans <| (W8_of m ρ c main_v12 (by decide +kernel)).trans <| (W7_of m ρ c main_v12 (by decide +kernel)).trans <| (W6_of m ρ c main_v12 (by decide +kernel)).trans <| (W5_of m ρ c main_v12 (by decide +kernel)).trans <|
    (W4_arr m ρ c 4).trans (arr2 (V3 m ρ) c Y W O ((k3 m ρ c main_v0 (by decide)).trans (h0 m ρ c Y a0)) ((k3 m ρ c main_v2 (by decide)).trans (h2 m ρ c W a2)) ((k3 m ρ c main_v1 (by decide)).trans (h1 m ρ c O a1)))
include a0 a3 in
theorem f3 : V11 m ρ c main_v13 = (eN (tn 4224 Y M) : S1024x1024.Idx → EReal) :=
  (W11_of m ρ c main_v13 (by decide +kernel)).trans <| (W10_of m ρ c main_v13 (by decide +kernel)).trans <| (W9_of m ρ c main_v13 (by decide +kernel)).trans <| (W8_of m ρ c main_v13 (by decide +kernel)).trans <| (W7_of m ρ c main_v13 (by decide +kernel)).trans <| (W6_of m ρ c main_v13 (by decide +kernel)).trans <|
    (W5_arr m ρ c 2).trans (arr3 (V4 m ρ) c Y M ((k4 m ρ c main_v0 (by decide)).trans (h0 m ρ c Y a0)) ((k4 m ρ c main_v3 (by decide)).trans (h3 m ρ c M a3)))
include a1 a3 in
theorem f4 : V11 m ρ c main_v14 = (eN (tn 4224 O M) : S1024x1024.Idx → EReal) :=
  (W11_of m ρ c main_v14 (by decide +kernel)).trans <| (W10_of m ρ c main_v14 (by decide +kernel)).trans <| (W9_of m ρ c main_v14 (by decide +kernel)).trans <| (W8_of m ρ c main_v14 (by decide +kernel)).trans <| (W7_of m ρ c main_v14 (by decide +kernel)).trans <|
    (W6_arr m ρ c 2).trans (arr4 (V5 m ρ) c O M ((k5 m ρ c main_v1 (by decide)).trans (h1 m ρ c O a1)) ((k5 m ρ c main_v3 (by decide)).trans (h3 m ρ c M a3)))
include a2 a3 in
theorem f5 : V11 m ρ c main_v15 = (eN (nt 1024 M W) : S4224x2048.Idx → EReal) :=
  (W11_of m ρ c main_v15 (by decide +kernel)).trans <| (W10_of m ρ c main_v15 (by decide +kernel)).trans <| (W9_of m ρ c main_v15 (by decide +kernel)).trans <| (W8_of m ρ c main_v15 (by decide +kernel)).trans <|
    (W7_arr m ρ c 2).trans (arr5 (V6 m ρ) c M W ((k6 m ρ c main_v3 (by decide)).trans (h3 m ρ c M a3)) ((k6 m ρ c main_v2 (by decide)).trans (h2 m ρ c W a2)))
include a7 a9 in
theorem f6 : V11 m ρ c main_v16 = (eN (tn 4224 K E) : S256x2048.Idx → EReal) :=
  (W11_of m ρ c main_v16 (by decide +kernel)).trans <| (W10_of m ρ c main_v16 (by decide +kernel)).trans <| (W9_of m ρ c main_v16 (by decide +kernel)).trans <|
    (W8_arr m ρ c 2).trans (arr6 (V7 m ρ) c K E ((k7 m ρ c main_v7 (by decide)).trans (h7 m ρ c K a7)) ((k7 m ρ c main_arg9 (by decide)).trans (h9 m ρ c E a9)))
include a7 a10 in
theorem f7 : V11 m ρ c main_v17 = (eN (tn 4224 K G) : S256x1024.Idx → EReal) :=
  (W11_of m ρ c main_v17 (by decide +kernel)).trans <| (W10_of m ρ c main_v17 (by decide +kernel)).trans <|
    (W9_arr m ρ c 2).trans (arr7 (V8 m ρ) c K G ((k8 m ρ c main_v7 (by decide)).trans (h7 m ρ c K a7)) ((k8 m ρ c main_v9 (by decide)).trans (h10 m ρ c G a10)))
include a4 a6 in
theorem f8 : V11 m ρ c main_v18 = (eN (tn 4224 C D) : S384x2048.Idx → EReal) :=
  (W11_of m ρ c main_v18 (by decide +kernel)).trans <|
    (W10_arr m ρ c 2).trans (arr8 (V9 m ρ) c C D ((k9 m ρ c main_v4 (by decide)).trans (h4 m ρ c C a4)) ((k9 m ρ c main_v6 (by decide)).trans (h6 m ρ c D a6)))
include a5 a6 in
theorem f9 : V11 m ρ c main_v19 = (eN (nt 2048 D Q) : S4224x384.Idx → EReal) :=
  (W11_arr m ρ c 2).trans (arr9 (V10 m ρ) c D Q ((k10 m ρ c main_v6 (by decide)).trans (h6 m ρ c D a6)) ((k10 m ρ c main_v5 (by decide)).trans (h5 m ρ c Q a5)))
end

end Cert.Sm

end

end
-- ==== Proof.Sm.Ref.lean ====
/- The reference's results, as the same products. -/
module

public import proofs.«01_k».proof.Proof.Gen.Reference4Ideal.Run
public import proofs.«01_k».proof.Proof.Mat.Basic

@[expose] public section

set_option maxRecDepth 16384

noncomputable section

namespace Cert.Sm

open Cert.Reference4Ideal Cert.Reference4Ideal.Gen Cert.Mat
open Idealize.ShloMosaic Idealize.ShloMosaic.TcCoe Idealize.SL.Sem

abbrev Vf (S : Shape) : Type := FVec Ideal S .f32

/-! ## The reference's lines -/

def qV (x : Vf S4224x384) (w : Vf S384x2048) : Vf S4224x2048 := Host.dotGeneral dot_S4224x384_S384x2048_S4224x2048_1_0_0_1_n_n none x w
def kvV (x : Vf S4224x256) (w : Vf S256x3072) : Vf S4224x3072 := Host.dotGeneral dot_S4224x256_S256x3072_S4224x3072_1_0_0_1_n_n none x w
def yoV (y o : Vf S4224x1024) : Vf S4224x2048 := concatenate S4224x2048 1 [⟨S4224x1024, y⟩, ⟨S4224x1024, o⟩] concatenates_S4224x1024_S4224x1024_S4224x2048_d1
def mV (y o : Vf S4224x1024) (w : Vf S2048x1024) : Vf S4224x1024 := Host.dotGeneral dot_S4224x2048_S2048x1024_S4224x1024_1_0_0_1_n_n none (yoV y o) w
def dwV (y o k : Vf S4224x1024) : Vf S2048x1024 := transpose S2048x1024 [1, 0] (Host.dotGeneral dot_S4224x1024_S4224x2048_S1024x2048_0_0_1_1_n_n none k (yoV y o)) transposes_S1024x2048_S2048x1024_1_0
def dw0V (y o k : Vf S4224x1024) : Vf S1024x1024 := extractStridedSlice S1024x1024 ![0, 0] (dwV y o k) slices_S2048x1024_S1024x1024_0_0
def dw1V (y o k : Vf S4224x1024) : Vf S1024x1024 := extractStridedSlice S1024x1024 ![1024, 0] (dwV y o k) slices_S2048x1024_S1024x1024_1024_0
def backV (k : Vf S4224x1024) (w : Vf S2048x1024) : Vf S4224x2048 := Host.dotGeneral dot_S4224x1024_S2048x1024_S4224x2048_1_1_0_0_n_n none k w
def dabV (k : Vf S4224x1024) (w : Vf S2048x1024) : Vf S4224x2048 :=
  yoV (extractStridedSlice S4224x1024 ![0, 0] (backV k w) slices_S4224x2048_S4224x1024_0_0) (extractStridedSlice S4224x1024 ![0, 1024] (backV k w) slices_S4224x2048_S4224x1024_0_1024)
def dwkV (x : Vf S4224x256) (e : Vf S4224x2048) (g : Vf S4224x1024) : Vf S256x3072 :=
  transpose S256x3072 [1, 0] (Host.dotGeneral dot_S4224x3072_S4224x256_S3072x256_0_0_1_1_n_n none
    (concatenate S4224x3072 1 [⟨S4224x2048, e⟩, ⟨S4224x1024, g⟩] concatenates_S4224x2048_S4224x1024_S4224x3072_d1) x) transposes_S3072x256_S256x3072_1_0
def dkV (x : Vf S4224x256) (e : Vf S4224x2048) (g : Vf S4224x1024) : Vf S256x2048 := extractStridedSlice S256x2048 ![0, 0] (dwkV x e g) slices_S256x3072_S256x2048_0_0
def dvV (x : Vf S4224x256) (e : Vf S4224x2048) (g : Vf S4224x1024) : Vf S256x1024 := extractStridedSlice S256x1024 ![0, 2048] (dwkV x e g) slices_S256x3072_S256x1024_0_2048
def dqV (x : Vf S4224x384) (d : Vf S4224x2048) : Vf S384x2048 := transpose S384x2048 [1, 0] (Host.dotGeneral dot_S4224x2048_S4224x384_S2048x384_0_0_1_1_n_n none d x) transposes_S2048x384_S384x2048_1_0
def dcV (d : Vf S4224x2048) (w : Vf S384x2048) : Vf S4224x384 := Host.dotGeneral dot_S4224x2048_S384x2048_S4224x384_1_1_0_0_n_n none d w

/-! ## Their values -/

variable (Y O W M C Q D K U E G : ℕ → ℕ → EReal)

theorem qV_eq : qV (eN C) (eN Q) = (eN (nn 384 C Q) : S4224x2048.Idx → EReal) := by
  funext j
  pointwise [qV]
  rfl
theorem kvV_eq : kvV (eN K) (eN U) = (eN (nn 256 K U) : S4224x3072.Idx → EReal) := by
  funext j
  pointwise [kvV]
  rfl
theorem yoV_eq : yoV (eN Y) (eN O) = (eN (cat 1024 Y O) : S4224x2048.Idx → EReal) := by
  funext j
  pointwise [yoV]
  rfl
theorem mV_eq : mV (eN Y) (eN O) (eN W) = (eN (fun i j => nn 1024 Y W i j + nn 1024 O (fun k j => W (k + 1024) j) i j) : S4224x1024.Idx → EReal) := by
  unfold mV
  rw [yoV_eq]
  funext j
  pointwise
  exact nn_cat 1024 1024 Y O W _ _
theorem dwV_eq : dwV (eN Y) (eN O) (eN M) = (eN (tn 4224 (cat 1024 Y O) M) : S2048x1024.Idx → EReal) := by
  unfold dwV
  rw [yoV_eq]
  funext j
  pointwise
  exact Finset.sum_congr rfl fun t _ => mul_comm _ _
theorem dw0V_eq : dw0V (eN Y) (eN O) (eN M) = (eN (tn 4224 Y M) : S1024x1024.Idx → EReal) := by
  unfold dw0V
  rw [dwV_eq]
  funext j
  pointwise
  show tn 4224 (cat 1024 Y O) M (j 0).val (j 1).val = tn 4224 Y M (j 0).val (j 1).val
  exact tn_congr_left fun t => cat_lt (j 0).isLt
theorem dw1V_eq : dw1V (eN Y) (eN O) (eN M) = (eN (tn 4224 O M) : S1024x1024.Idx → EReal) := by
  unfold dw1V
  rw [dwV_eq]
  funext j
  pointwise
  show tn 4224 (cat 1024 Y O) M (1024 + (j 0).val) (j 1).val = tn 4224 O M (j 0).val (j 1).val
  exact tn_congr_left fun t => by rw [Nat.add_comm, cat_add]
theorem backV_eq : backV (eN M) (eN W) = (eN (nt 1024 M W) : S4224x2048.Idx → EReal) := by
  funext j
  pointwise [backV]
  rfl
/-- The cotangent of the two halves, put side by side again. -/
theorem dabV_eq : dabV (eN M) (eN W) = (eN (nt 1024 M W) : S4224x2048.Idx → EReal) := by
  unfold dabV
  rw [backV_eq]
  funext j
  pointwise [yoV]
  split
  · rfl
  · rename_i h
    exact congrArg (nt 1024 M W (j 0).val) (Nat.add_sub_cancel' (Nat.le_of_not_lt h))
theorem dwkV_eq : dwkV (eN K) (eN E) (eN G) = (eN (tn 4224 K (cat 2048 E G)) : S256x3072.Idx → EReal) := by
  unfold dwkV
  rw [show concatenate S4224x3072 1 [⟨S4224x2048, (eN E : S4224x2048.Idx → EReal)⟩, ⟨S4224x1024, (eN G : S4224x1024.Idx → EReal)⟩] concatenates_S4224x2048_S4224x1024_S4224x3072_d1
    = (eN (cat 2048 E G) : S4224x3072.Idx → EReal) from by funext j; pointwise; rfl]
  funext j
  pointwise
  exact Finset.sum_congr rfl fun t _ => mul_comm _ _
theorem dkV_eq : dkV (eN K) (eN E) (eN G) = (eN (tn 4224 K E) : S256x2048.Idx → EReal) := by
  unfold dkV
  rw [dwkV_eq]
  funext j
  pointwise
  show tn 4224 K (cat 2048 E G) (j 0).val (j 1).val = tn 4224 K E (j 0).val (j 1).val
  exact tn_congr fun t => cat_lt (j 1).isLt
theorem dvV_eq : dvV (eN K) (eN E) (eN G) = (eN (tn 4224 K G) : S256x1024.Idx → EReal) := by
  unfold dvV
  rw [dwkV_eq]
  funext j
  pointwise
  show tn 4224 K (cat 2048 E G) (j 0).val (2048 + (j 1).val) = tn 4224 K G (j 0).val (j 1).val
  exact tn_congr fun t => by rw [Nat.add_comm, cat_add]
theorem dqV_eq : dqV (eN C) (eN D) = (eN (tn 4224 C D) : S384x2048.Idx → EReal) := by
  funext j
  pointwise [dqV]
  exact Finset.sum_congr rfl fun t _ => mul_comm _ _
theorem dcV_eq : dcV (eN D) (eN Q) = (eN (nt 2048 D Q) : S4224x384.Idx → EReal) := by
  funext j
  pointwise [dcV]
  rfl

/-! ## The run, in these lines -/

section
variable (m : (ℓ : Loc nD τ sig) → Buf (Elt Ideal) ℓ) (ρ : Dev nD → PrngReg)

theorem ref_run : θ_run (defs (F := Ideal)) (onTc (τ := τ) (main (F := Ideal))) ⟨m, fun _ => 0, ρ⟩ fun r => ∀ c : Dev nD,
    r.2.mem ((c.tc : Thread nD τ).loc main_v0) = qV (m ((c.tc : Thread nD τ).loc main_arg4)) (m ((c.tc : Thread nD τ).loc main_arg5))
    ∧ r.2.mem ((c.tc : Thread nD τ).loc main_v1) = kvV (m ((c.tc : Thread nD τ).loc main_arg7)) (m ((c.tc : Thread nD τ).loc main_arg8))
    ∧ r.2.mem ((c.tc : Thread nD τ).loc main_v3) = mV (m ((c.tc : Thread nD τ).loc main_arg0)) (m ((c.tc : Thread nD τ).loc main_arg1)) (m ((c.tc : Thread nD τ).loc main_arg2))
    ∧ r.2.mem ((c.tc : Thread nD τ).loc main_v15) = dw0V (m ((c.tc : Thread nD τ).loc main_arg0)) (m ((c.tc : Thread nD τ).loc main_arg1)) (m ((c.tc : Thread nD τ).loc main_arg3))
    ∧ r.2.mem ((c.tc : Thread nD τ).loc main_v16) = dw1V (m ((c.tc : Thread nD τ).loc main_arg0)) (m ((c.tc : Thread nD τ).loc main_arg1)) (m ((c.tc : Thread nD τ).loc main_arg3))
    ∧ r.2.mem ((c.tc : Thread nD τ).loc main_v17) = dabV (m ((c.tc : Thread nD τ).loc main_arg3)) (m ((c.tc : Thread nD τ).loc main_arg2))
    ∧ r.2.mem ((c.tc : Thread nD τ).loc main_v18) = dkV (m ((c.tc : Thread nD τ).loc main_arg7)) (m ((c.tc : Thread nD τ).loc main_arg9)) (m ((c.tc : Thread nD τ).loc main_arg10))
    ∧ r.2.mem ((c.tc : Thread nD τ).loc main_v19) = dvV (m ((c.tc : Thread nD τ).loc main_arg7)) (m ((c.tc : Thread nD τ).loc main_arg9)) (m ((c.tc : Thread nD τ).loc main_arg10))
    ∧ r.2.mem ((c.tc : Thread nD τ).loc main_v13) = dqV (m ((c.tc : Thread nD τ).loc main_arg4)) (m ((c.tc : Thread nD τ).loc main_arg6))
    ∧ r.2.mem ((c.tc : Thread nD τ).loc main_v14) = dcV (m ((c.tc : Thread nD τ).loc main_arg6)) (m ((c.tc : Thread nD τ).loc main_arg5))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7)
    ∧ r.2.mem ((c.tc : Thread nD τ).loc main_arg8) = m ((c.tc : Thread nD τ).loc main_arg8)
    ∧ r.2.mem ((c.tc : Thread nD τ).loc main_arg9) = m ((c.tc : Thread nD τ).loc main_arg9)
    ∧ r.2.mem ((c.tc : Thread nD τ).loc main_arg10) = m ((c.tc : Thread nD τ).loc main_arg10) :=
  Cert.Reference4Ideal.Value.run (F := Ideal) m ρ
end

end Cert.Sm

end

end
-- ==== Proof.Sm.Final.lean ====
/- The two runs end with equal results. -/
module

public import proofs.«01_k».proof.Proof.Sm.Host
public import proofs.«01_k».proof.Proof.Sm.Ref

@[expose] public section

set_option maxRecDepth 16384

noncomputable section

namespace Cert.Sm

open Idealize.ShloMosaic Idealize.ShloMosaic.TcCoe Idealize.SL.Sem
open Cert.Kernel4Ideal Cert.Kernel4Ideal.Gen Cert.Mat

variable (m : (ℓ : Loc nD τ sig) → Buf (Elt Ideal) ℓ) (ρ : Dev nD → PrngReg)

theorem ker_run (v0 : (c : Dev nD) → Buf (Elt Ideal) ((c.tc : Thread nD τ).loc main_v10)) (v1 : (c : Dev nD) → Buf (Elt Ideal) ((c.tc : Thread nD τ).loc main_v11)) (v2 : (c : Dev nD) → Buf (Elt Ideal) ((c.tc : Thread nD τ).loc main_v12)) (v3 : (c : Dev nD) → Buf (Elt Ideal) ((c.tc : Thread nD τ).loc main_v13)) (v4 : (c : Dev nD) → Buf (Elt Ideal) ((c.tc : Thread nD τ).loc main_v14)) (v5 : (c : Dev nD) → Buf (Elt Ideal) ((c.tc : Thread nD τ).loc main_v15)) (v6 : (c : Dev nD) → Buf (Elt Ideal) ((c.tc : Thread nD τ).loc main_v16)) (v7 : (c : Dev nD) → Buf (Elt Ideal) ((c.tc : Thread nD τ).loc main_v17)) (v8 : (c : Dev nD) → Buf (Elt Ideal) ((c.tc : Thread nD τ).loc main_v18)) (v9 : (c : Dev nD) → Buf (Elt Ideal) ((c.tc : Thread nD τ).loc main_v19))
    (k : ∀ c, V11 m ρ c main_v10 = v0 c ∧ V11 m ρ c main_v11 = v1 c ∧ V11 m ρ c main_v12 = v2 c ∧ V11 m ρ c main_v13 = v3 c ∧ V11 m ρ c main_v14 = v4 c ∧ V11 m ρ c main_v15 = v5 c ∧ V11 m ρ c main_v16 = v6 c ∧ V11 m ρ c main_v17 = v7 c ∧ V11 m ρ c main_v18 = v8 c ∧ V11 m ρ c main_v19 = v9 c) :
    θ_run (defs (F := Ideal)) (onTc (τ := τ) (main (F := Ideal))) ⟨m, fun _ => 0, ρ⟩ fun r => ∀ c : Dev nD,
      r.2.mem ((c.tc : Thread nD τ).loc main_v10) = v0 c
      ∧ r.2.mem ((c.tc : Thread nD τ).loc main_v11) = v1 c
      ∧ r.2.mem ((c.tc : Thread nD τ).loc main_v12) = v2 c
      ∧ r.2.mem ((c.tc : Thread nD τ).loc main_v13) = v3 c
      ∧ r.2.mem ((c.tc : Thread nD τ).loc main_v14) = v4 c
      ∧ r.2.mem ((c.tc : Thread nD τ).loc main_v15) = v5 c
      ∧ r.2.mem ((c.tc : Thread nD τ).loc main_v16) = v6 c
      ∧ r.2.mem ((c.tc : Thread nD τ).loc main_v17) = v7 c
      ∧ r.2.mem ((c.tc : Thread nD τ).loc main_v18) = v8 c
      ∧ r.2.mem ((c.tc : Thread nD τ).loc main_v19) = v9 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun _ h c => ⟨(h c _ (mem_uc main_v10 (by decide))).trans (k c).1, (h c _ (mem_uc main_v11 (by decide))).trans (k c).2.1, (h c _ (mem_uc main_v12 (by decide))).trans (k c).2.2.1, (h c _ (mem_uc main_v13 (by decide))).trans (k c).2.2.2.1, (h c _ (mem_uc main_v14 (by decide))).trans (k c).2.2.2.2.1, (h c _ (mem_uc main_v15 (by decide))).trans (k c).2.2.2.2.2.1, (h c _ (mem_uc main_v16 (by decide))).trans (k c).2.2.2.2.2.2.1, (h c _ (mem_uc main_v17 (by decide))).trans (k c).2.2.2.2.2.2.2.1, (h c _ (mem_uc main_v18 (by decide))).trans (k c).2.2.2.2.2.2.2.2.1, (h c _ (mem_uc main_v19 (by decide))).trans (k c).2.2.2.2.2.2.2.2.2,
      (h c _ (mem_uc main_arg0 (by decide))).trans (W11_main_arg0 m ρ c), (h c _ (mem_uc main_arg1 (by decide))).trans (W11_main_arg1 m ρ c), (h c _ (mem_uc main_arg2 (by decide))).trans (W11_main_arg2 m ρ c), (h c _ (mem_uc main_arg3 (by decide))).trans (W11_main_arg3 m ρ c), (h c _ (mem_uc main_arg4 (by decide))).trans (W11_main_arg4 m ρ c), (h c _ (mem_uc main_arg5 (by decide))).trans (W11_main_arg5 m ρ c), (h c _ (mem_uc main_arg6 (by decide))).trans (W11_main_arg6 m ρ c), (h c _ (mem_uc main_arg7 (by decide))).trans (W11_main_arg7 m ρ c), (h c _ (mem_uc main_arg8 (by decide))).trans (W11_main_arg8 m ρ c), (h c _ (mem_uc main_arg9 (by decide))).trans (W11_main_arg9 m ρ c), (h c _ (mem_uc main_arg10 (by decide))).trans (W11_main_arg10 m ρ c)⟩) (run m ρ)

/-- What the program leaves are the reference's lines at its arguments. -/
theorem ker_eq (c : Dev nD) (x0 : Vf Cert.Reference4Ideal.S4224x1024) (x1 : Vf Cert.Reference4Ideal.S4224x1024) (x2 : Vf Cert.Reference4Ideal.S2048x1024) (x3 : Vf Cert.Reference4Ideal.S4224x1024) (x4 : Vf Cert.Reference4Ideal.S4224x384) (x5 : Vf Cert.Reference4Ideal.S384x2048) (x6 : Vf Cert.Reference4Ideal.S4224x2048) (x7 : Vf Cert.Reference4Ideal.S4224x256) (x8 : Vf Cert.Reference4Ideal.S256x3072) (x9 : Vf Cert.Reference4Ideal.S4224x2048) (x10 : Vf Cert.Reference4Ideal.S4224x1024)
    (a0 : m ((c.tc : Thread nD τ).loc main_arg0) = x0) (a1 : m ((c.tc : Thread nD τ).loc main_arg1) = x1) (a2 : m ((c.tc : Thread nD τ).loc main_arg2) = x2) (a3 : m ((c.tc : Thread nD τ).loc main_arg3) = x3) (a4 : m ((c.tc : Thread nD τ).loc main_arg4) = x4) (a5 : m ((c.tc : Thread nD τ).loc main_arg5) = x5) (a6 : m ((c.tc : Thread nD τ).loc main_arg6) = x6) (a7 : m ((c.tc : Thread nD τ).loc main_arg7) = x7) (a8 : m ((c.tc : Thread nD τ).loc main_arg8) = x8) (a9 : m ((c.tc : Thread nD τ).loc main_arg9) = x9) (a10 : m ((c.tc : Thread nD τ).loc main_arg10) = x10) :
    V11 m ρ c main_v10 = qV x4 x5 ∧ V11 m ρ c main_v11 = kvV x7 x8 ∧ V11 m ρ c main_v12 = mV x0 x1 x2 ∧ V11 m ρ c main_v13 = dw0V x0 x1 x3 ∧ V11 m ρ c main_v14 = dw1V x0 x1 x3 ∧ V11 m ρ c main_v15 = dabV x3 x2 ∧ V11 m ρ c main_v16 = dkV x7 x9 x10 ∧ V11 m ρ c main_v17 = dvV x7 x9 x10 ∧ V11 m ρ c main_v18 = dqV x4 x6 ∧ V11 m ρ c main_v19 = dcV x6 x5 := by
  obtain ⟨Y, rfl⟩ := eN_of x0
  obtain ⟨O, rfl⟩ := eN_of x1
  obtain ⟨W, rfl⟩ := eN_of x2
  obtain ⟨M, rfl⟩ := eN_of x3
  obtain ⟨C, rfl⟩ := eN_of x4
  obtain ⟨Q, rfl⟩ := eN_of x5
  obtain ⟨D, rfl⟩ := eN_of x6
  obtain ⟨K, rfl⟩ := eN_of x7
  obtain ⟨U, rfl⟩ := eN_of x8
  obtain ⟨E, rfl⟩ := eN_of x9
  obtain ⟨G, rfl⟩ := eN_of x10
  exact ⟨(f0 m ρ c C Q a4 a5).trans (qV_eq C Q).symm,
    (f1 m ρ c K U a7 a8).trans (kvV_eq K U).symm,
    (f2 m ρ c Y O W a0 a1 a2).trans (mV_eq Y O W).symm,
    (f3 m ρ c Y M a0 a3).trans (dw0V_eq Y O M).symm,
    (f4 m ρ c O M a1 a3).trans (dw1V_eq Y O M).symm,
    (f5 m ρ c W M a2 a3).trans (dabV_eq W M).symm,
    (f6 m ρ c K E a7 a9).trans (dkV_eq K E G).symm,
    (f7 m ρ c K G a7 a10).trans (dvV_eq K E G).symm,
    (f8 m ρ c C D a4 a6).trans (dqV_eq C D).symm,
    (f9 m ρ c Q D a5 a6).trans (dcV_eq Q D).symm⟩

end Cert.Sm

end

end
-- ==== Proof.Win.Arr.lean ====
/- What each of the regions of the input projection leaves in its array, at any contents it is entered with. -/
module

public import proofs.«01_k».proof.Proof.Gen.Kernel5Ideal.Frame
public import proofs.«01_k».proof.Proof.Mat.Basic

@[expose] public section

set_option maxRecDepth 16384

noncomputable section

namespace Cert.Win

open Cert.Kernel5Ideal Cert.Kernel5Ideal.Gen Cert.Mat
open Idealize.ShloMosaic Idealize.ShloMosaic.TcCoe Idealize.ShloMosaic.Pipeline

/-! ## One block's product -/

theorem p0 (A B : ℕ → ℕ → EReal) (y : S2112x384.Idx) : k0_pay1 (F := Ideal) (eN A : S2112x1024.Idx → EReal) (eN B : S1024x384.Idx → EReal) y = nn 1024 A B (y 0).val (y 1).val := by
  pointwise [k0_pay1]
  rfl
theorem p1 (A B : ℕ → ℕ → EReal) (y : S1024x512.Idx) : k1_pay1 (F := Ideal) (eN A : S4224x1024.Idx → EReal) (eN B : S4224x512.Idx → EReal) y = tn 4224 A B (y 0).val (y 1).val := by
  pointwise [k1_pay1]
  rfl
theorem p2 (A B : ℕ → ℕ → EReal) (y : S1024x512.Idx) : k2_pay1 (F := Ideal) (eN A : S4224x1024.Idx → EReal) (eN B : S4224x512.Idx → EReal) y = tn 4224 A B (y 0).val (y 1).val := p1 A B y
theorem p3 (A B : ℕ → ℕ → EReal) (y : S1024x256.Idx) : k3_pay1 (F := Ideal) (eN A : S4224x1024.Idx → EReal) (eN B : S4224x256.Idx → EReal) y = tn 4224 A B (y 0).val (y 1).val := by
  pointwise [k3_pay1]
  rfl
theorem p4 (A B : ℕ → ℕ → EReal) (y : S1024x128.Idx) : k4_pay1 (F := Ideal) (eN A : S4224x1024.Idx → EReal) (eN B : S4224x128.Idx → EReal) y = tn 4224 A B (y 0).val (y 1).val := by
  pointwise [k4_pay1]
  rfl
theorem p5 (A B : ℕ → ℕ → EReal) (y : S1024x128.Idx) : k5_pay1 (F := Ideal) (eN A : S4224x1024.Idx → EReal) (eN B : S4224x128.Idx → EReal) y = tn 4224 A B (y 0).val (y 1).val := p4 A B y
theorem p6 (A B : ℕ → ℕ → EReal) (y : S1024x384.Idx) : k6_pay1 (F := Ideal) (eN A : S4224x1024.Idx → EReal) (eN B : S4224x384.Idx → EReal) y = tn 4224 A B (y 0).val (y 1).val := by
  pointwise [k6_pay1]
  rfl

/-! ## Which block a grid point takes -/

theorem i0_0 : ∀ t : Fin cfg0.N, win0_0.index t = ![t.val / 9, 0] := (by decide +kernel : ∀ t : Fin grid0.N, _)
theorem i0_1 : ∀ t : Fin cfg0.N, win0_1.index t = ![0, t.val % 9] := (by decide +kernel : ∀ t : Fin grid0.N, _)
theorem i0_2 : ∀ t : Fin cfg0.N, win0_2.index t = ![t.val / 9, t.val % 9] := (by decide +kernel : ∀ t : Fin grid0.N, _)
theorem i1_0 : ∀ t : Fin cfg1.N, win1_0.index t = ![0, 0] := (by decide +kernel : ∀ t : Fin grid1.N, _)
theorem i1_1 : ∀ t : Fin cfg1.N, win1_1.index t = ![0, t.val] := (by decide +kernel : ∀ t : Fin grid1.N, _)
theorem i1_2 : ∀ t : Fin cfg1.N, win1_2.index t = ![0, t.val] := (by decide +kernel : ∀ t : Fin grid1.N, _)
theorem i2_0 : ∀ t : Fin cfg2.N, win2_0.index t = ![0, 0] := (by decide +kernel : ∀ t : Fin grid2.N, _)
theorem i2_1 : ∀ t : Fin cfg2.N, win2_1.index t = ![0, t.val] := (by decide +kernel : ∀ t : Fin grid2.N, _)
theorem i2_2 : ∀ t : Fin cfg2.N, win2_2.index t = ![0, t.val] := (by decide +kernel : ∀ t : Fin grid2.N, _)
theorem i3_0 : ∀ t : Fin cfg3.N, win3_0.index t = ![0, 0] := (by decide +kernel : ∀ t : Fin grid3.N, _)
theorem i3_1 : ∀ t : Fin cfg3.N, win3_1.index t = ![0, 0] := (by decide +kernel : ∀ t : Fin grid3.N, _)
theorem i3_2 : ∀ t : Fin cfg3.N, win3_2.index t = ![0, 0] := (by decide +kernel : ∀ t : Fin grid3.N, _)
theorem i4_0 : ∀ t : Fin cfg4.N, win4_0.index t = ![0, 0] := (by decide +kernel : ∀ t : Fin grid4.N, _)
theorem i4_1 : ∀ t : Fin cfg4.N, win4_1.index t = ![0, 0] := (by decide +kernel : ∀ t : Fin grid4.N, _)
theorem i4_2 : ∀ t : Fin cfg4.N, win4_2.index t = ![0, 0] := (by decide +kernel : ∀ t : Fin grid4.N, _)
theorem i5_0 : ∀ t : Fin cfg5.N, win5_0.index t = ![0, 0] := (by decide +kernel : ∀ t : Fin grid5.N, _)
theorem i5_1 : ∀ t : Fin cfg5.N, win5_1.index t = ![0, 0] := (by decide +kernel : ∀ t : Fin grid5.N, _)
theorem i5_2 : ∀ t : Fin cfg5.N, win5_2.index t = ![0, 0] := (by decide +kernel : ∀ t : Fin grid5.N, _)
theorem i6_0 : ∀ t : Fin cfg6.N, win6_0.index t = ![0, 0] := (by decide +kernel : ∀ t : Fin grid6.N, _)
theorem i6_1 : ∀ t : Fin cfg6.N, win6_1.index t = ![0, 0] := (by decide +kernel : ∀ t : Fin grid6.N, _)
theorem i6_2 : ∀ t : Fin cfg6.N, win6_2.index t = ![0, 0] := (by decide +kernel : ∀ t : Fin grid6.N, _)

section
variable (V : (c : Dev nD) → (b : Ref sig .tc) → Buf (Elt Ideal) ((c : Thread nD τ).loc b)) (c : Dev nD)
variable (A B C : ℕ → ℕ → EReal)

theorem arr0 (a : V c main_v0 = (eN A : S4224x1024.Idx → EReal)) (b : V c main_v1 = (eN B : S1024x3456.Idx → EReal)) : (dat0 V c).arrAt 2 cfg0.N = (eN (nn 1024 A B) : S4224x3456.Idx → EReal) :=
  (dat0 V c).arrAt_eq_of_covers 2 _ (by decide +kernel) fun t hf y => by
    blk_simp
    rw [after0_2]
    frame_out
    rw [show iblk0 V c 0 t = (eN _ : S2112x1024.Idx → EReal) from blk a (2112 * (t.val / 9)) 0 ((cfg0.win 0).blk t).view.emb (fun y => by blk_simp [i0_0] <;> simp <;> omega) (fun y => by blk_simp [i0_0] <;> simp),
      show iblk0 V c 1 t = (eN _ : S1024x384.Idx → EReal) from blk b 0 (384 * (t.val % 9)) ((cfg0.win 1).blk t).view.emb (fun y => by blk_simp [i0_1] <;> simp) (fun y => by blk_simp [i0_1] <;> simp <;> omega), p0]
    show nn 1024 A B ((y 0).val + 2112 * (t.val / 9)) ((y 1).val + 384 * (t.val % 9)) = nn 1024 A B ((win0_2.blk t).view.emb y 0).val ((win0_2.blk t).view.emb y 1).val
    congr 1 <;> blk_simp [i0_2] <;> simp <;> omega

theorem arr1 (a : V c main_v0 = (eN A : S4224x1024.Idx → EReal)) (b : V c main_v2 = (eN B : S4224x1024.Idx → EReal)) : (dat1 V c).arrAt 2 cfg1.N = (eN (tn 4224 A B) : S1024x1024.Idx → EReal) :=
  (dat1 V c).arrAt_eq_of_covers 2 _ (by decide +kernel) fun t hf y => by
    blk_simp
    rw [after1_2]
    frame_out
    rw [show iblk1 V c 0 t = (eN _ : S4224x1024.Idx → EReal) from blk a 0 0 ((cfg1.win 0).blk t).view.emb (fun y => by blk_simp [i1_0] <;> simp) (fun y => by blk_simp [i1_0] <;> simp),
      show iblk1 V c 1 t = (eN _ : S4224x512.Idx → EReal) from blk b 0 (512 * t.val) ((cfg1.win 1).blk t).view.emb (fun y => by blk_simp [i1_1] <;> simp) (fun y => by blk_simp [i1_1] <;> simp <;> omega), p1]
    show tn 4224 A B (y 0).val ((y 1).val + 512 * t.val) = tn 4224 A B ((win1_2.blk t).view.emb y 0).val ((win1_2.blk t).view.emb y 1).val
    congr 1 <;> blk_simp [i1_2] <;> simp <;> omega

theorem arr2 (a : V c main_v0 = (eN A : S4224x1024.Idx → EReal)) (b : V c main_v3 = (eN B : S4224x1536.Idx → EReal)) : (dat2 V c).arrAt 2 cfg2.N = (eN (tn 4224 A B) : S1024x1536.Idx → EReal) :=
  (dat2 V c).arrAt_eq_of_covers 2 _ (by decide +kernel) fun t hf y => by
    blk_simp
    rw [after2_2]
    frame_out
    rw [show iblk2 V c 0 t = (eN _ : S4224x1024.Idx → EReal) from blk a 0 0 ((cfg2.win 0).blk t).view.emb (fun y => by blk_simp [i2_0] <;> simp) (fun y => by blk_simp [i2_0] <;> simp),
      show iblk2 V c 1 t = (eN _ : S4224x512.Idx → EReal) from blk b 0 (512 * t.val) ((cfg2.win 1).blk t).view.emb (fun y => by blk_simp [i2_1] <;> simp) (fun y => by blk_simp [i2_1] <;> simp <;> omega), p2]
    show tn 4224 A B (y 0).val ((y 1).val + 512 * t.val) = tn 4224 A B ((win2_2.blk t).view.emb y 0).val ((win2_2.blk t).view.emb y 1).val
    congr 1 <;> blk_simp [i2_2] <;> simp <;> omega

theorem arr3 (a : V c main_v0 = (eN A : S4224x1024.Idx → EReal)) (b : V c main_v4 = (eN B : S4224x256.Idx → EReal)) : (dat3 V c).arrAt 2 cfg3.N = (eN (tn 4224 A B) : S1024x256.Idx → EReal) :=
  (dat3 V c).arrAt_eq_of_covers 2 _ (by decide +kernel) fun t hf y => by
    blk_simp
    rw [after3_2]
    frame_out
    rw [show iblk3 V c 0 t = (eN _ : S4224x1024.Idx → EReal) from blk a 0 0 ((cfg3.win 0).blk t).view.emb (fun y => by blk_simp [i3_0] <;> simp) (fun y => by blk_simp [i3_0] <;> simp),
      show iblk3 V c 1 t = (eN _ : S4224x256.Idx → EReal) from blk b 0 0 ((cfg3.win 1).blk t).view.emb (fun y => by blk_simp [i3_1] <;> simp) (fun y => by blk_simp [i3_1] <;> simp), p3]
    show tn 4224 A B (y 0).val (y 1).val = tn 4224 A B ((win3_2.blk t).view.emb y 0).val ((win3_2.blk t).view.emb y 1).val
    congr 1 <;> blk_simp [i3_2] <;> simp

theorem arr4 (a : V c main_v0 = (eN A : S4224x1024.Idx → EReal)) (b : V c main_arg5 = (eN B : S4224x128.Idx → EReal)) : (dat4 V c).arrAt 2 cfg4.N = (eN (tn 4224 A B) : S1024x128.Idx → EReal) :=
  (dat4 V c).arrAt_eq_of_covers 2 _ (by decide +kernel) fun t hf y => by
    blk_simp
    rw [after4_2]
    frame_out
    rw [show iblk4 V c 0 t = (eN _ : S4224x1024.Idx → EReal) from blk a 0 0 ((cfg4.win 0).blk t).view.emb (fun y => by blk_simp [i4_0] <;> simp) (fun y => by blk_simp [i4_0] <;> simp),
      show iblk4 V c 1 t = (eN _ : S4224x128.Idx → EReal) from blk b 0 0 ((cfg4.win 1).blk t).view.emb (fun y => by blk_simp [i4_1] <;> simp) (fun y => by blk_simp [i4_1] <;> simp), p4]
    show tn 4224 A B (y 0).val (y 1).val = tn 4224 A B ((win4_2.blk t).view.emb y 0).val ((win4_2.blk t).view.emb y 1).val
    congr 1 <;> blk_simp [i4_2] <;> simp

theorem arr5 (a : V c main_v0 = (eN A : S4224x1024.Idx → EReal)) (b : V c main_arg6 = (eN B : S4224x128.Idx → EReal)) : (dat5 V c).arrAt 2 cfg5.N = (eN (tn 4224 A B) : S1024x128.Idx → EReal) :=
  (dat5 V c).arrAt_eq_of_covers 2 _ (by decide +kernel) fun t hf y => by
    blk_simp
    rw [after5_2]
    frame_out
    rw [show iblk5 V c 0 t = (eN _ : S4224x1024.Idx → EReal) from blk a 0 0 ((cfg5.win 0).blk t).view.emb (fun y => by blk_simp [i5_0] <;> simp) (fun y => by blk_simp [i5_0] <;> simp),
      show iblk5 V c 1 t = (eN _ : S4224x128.Idx → EReal) from blk b 0 0 ((cfg5.win 1).blk t).view.emb (fun y => by blk_simp [i5_1] <;> simp) (fun y => by blk_simp [i5_1] <;> simp), p5]
    show tn 4224 A B (y 0).val (y 1).val = tn 4224 A B ((win5_2.blk t).view.emb y 0).val ((win5_2.blk t).view.emb y 1).val
    congr 1 <;> blk_simp [i5_2] <;> simp

theorem arr6 (a : V c main_v0 = (eN A : S4224x1024.Idx → EReal)) (b : V c main_v5 = (eN B : S4224x384.Idx → EReal)) : (dat6 V c).arrAt 2 cfg6.N = (eN (tn 4224 A B) : S1024x384.Idx → EReal) :=
  (dat6 V c).arrAt_eq_of_covers 2 _ (by decide +kernel) fun t hf y => by
    blk_simp
    rw [after6_2]
    frame_out
    rw [show iblk6 V c 0 t = (eN _ : S4224x1024.Idx → EReal) from blk a 0 0 ((cfg6.win 0).blk t).view.emb (fun y => by blk_simp [i6_0] <;> simp) (fun y => by blk_simp [i6_0] <;> simp),
      show iblk6 V c 1 t = (eN _ : S4224x384.Idx → EReal) from blk b 0 0 ((cfg6.win 1).blk t).view.emb (fun y => by blk_simp [i6_1] <;> simp) (fun y => by blk_simp [i6_1] <;> simp), p6]
    show tn 4224 A B (y 0).val (y 1).val = tn 4224 A B ((win6_2.blk t).view.emb y 0).val ((win6_2.blk t).view.emb y 1).val
    congr 1 <;> blk_simp [i6_2] <;> simp

end

end Cert.Win

end

end
-- ==== Proof.Win.Run.lean ====
/- The run of the input projection: at the end every buffer of the program holds its last contents. -/
module

public import proofs.«01_k».proof.Proof.Gen.Kernel5Ideal.Frame

@[expose] public section

set_option maxRecDepth 16384

noncomputable section

namespace Cert.Win

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]
variable (m : (ℓ : Loc nD τ sig) → Buf (Elt F) ℓ) (ρ : Dev nD → PrngReg)

set_option backward.isDefEq.respectTransparency.types false in
theorem run : θ_run defs (onTc (τ := τ) (main (F := F))) ⟨m, fun _ => 0, ρ⟩ fun r => ∀ c : Dev nD,
    ∀ b ∈ Pipeline.ucRefs τ sig, r.2.mem (((c : Thread nD τ)).1, b) = W8 m ρ c b :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp (MT nD τ sig Unit (Elt F) ℕ (UR sig nD τ) ℕ))
            ⊢ BI.own (emb₁ (initOf (Pipeline.cells cfgs cellOf_inj) (Pipeline.launchToks cfgs cellOf_inj))) from .rfl)
        iexact Hu
      iapply (show (BI.emp : sProp (MT nD τ sig Unit (Elt F) ℕ (UR sig nD τ) ℕ)) ⊢ bigSep Finset.univ (fun _ : Dev nD => (BI.emp : sProp (MT nD τ sig Unit (Elt F) ℕ (UR sig nD τ) ℕ))) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => h)

end Cert.Win

end

end
-- ==== Proof.Win.Host.lean ====
/- The contents between the regions of the input projection: what each is entered with, and what the results hold at the end. -/
module

public import proofs.«01_k».proof.Proof.Win.Arr
public import proofs.«01_k».proof.Proof.Win.Run
public import Idealize.ShloMosaic.Lib.StableHlo.Run

@[expose] public section

set_option maxRecDepth 16384

noncomputable section

namespace Cert.Win

open Cert.Kernel5Ideal Cert.Kernel5Ideal.Gen Cert.Mat
open Idealize.ShloMosaic Idealize.ShloMosaic.TcCoe Idealize.ShloMosaic.StableHlo

variable (m : (ℓ : Loc nD τ sig) → Buf (Elt Ideal) ℓ) (ρ : Dev nD → PrngReg) (c : Dev nD)

theorem cut {a b : ℕ} (x : FVec Ideal (⟨2, ![a, b]⟩ : Shape) .f32) : truncf .bf16 x bitsLt_bf16_f32 = x := by
  funext j
  pointwise

/-! ## The operands are what they were, before every region -/

/-- The buffers a region may read. -/
abbrev ins : List (Ref sig .tc) := main_arg5 :: main_arg6 :: hostOps0_W
theorem k2 : ∀ r ∈ ins, V2 m ρ c r = V1 m ρ c r := fun r hr => W2_of m ρ c r ((by decide +kernel : ∀ r ∈ ins, ∀ w : Fin cfg0.W, Pipeline.arrRef spec0 w = r → (cfg0.win w).isOut = false) r hr)
theorem k3 : ∀ r ∈ ins, V3 m ρ c r = V1 m ρ c r := fun r hr => (W3_of m ρ c r ((by decide +kernel : ∀ r ∈ ins, ∀ w : Fin cfg1.W, Pipeline.arrRef spec1 w = r → (cfg1.win w).isOut = false) r hr)).trans (k2 m ρ c r hr)
theorem k4 : ∀ r ∈ ins, V4 m ρ c r = V1 m ρ c r := fun r hr => (W4_of m ρ c r ((by decide +kernel : ∀ r ∈ ins, ∀ w : Fin cfg2.W, Pipeline.arrRef spec2 w = r → (cfg2.win w).isOut = false) r hr)).trans (k3 m ρ c r hr)
theorem k5 : ∀ r ∈ ins, V5 m ρ c r = V1 m ρ c r := fun r hr => (W5_of m ρ c r ((by decide +kernel : ∀ r ∈ ins, ∀ w : Fin cfg3.W, Pipeline.arrRef spec3 w = r → (cfg3.win w).isOut = false) r hr)).trans (k4 m ρ c r hr)
theorem k6 : ∀ r ∈ ins, V6 m ρ c r = V1 m ρ c r := fun r hr => (W6_of m ρ c r ((by decide +kernel : ∀ r ∈ ins, ∀ w : Fin cfg4.W, Pipeline.arrRef spec4 w = r → (cfg4.win w).isOut = false) r hr)).trans (k5 m ρ c r hr)
theorem k7 : ∀ r ∈ ins, V7 m ρ c r = V1 m ρ c r := fun r hr => (W7_of m ρ c r ((by decide +kernel : ∀ r ∈ ins, ∀ w : Fin cfg5.W, Pipeline.arrRef spec5 w = r → (cfg5.win w).isOut = false) r hr)).trans (k6 m ρ c r hr)

theorem h0 (X : ℕ → ℕ → EReal) (a : m ((c.tc : Thread nD τ).loc main_arg0) = (eN X : S4224x1024.Idx → EReal)) : V1 m ρ c main_v0 = (eN X : S4224x1024.Idx → EReal) := by
  refine Eq.trans (b := (truncf .bf16 (m ((c.tc : Thread nD τ).loc main_arg0)) bitsLt_bf16_f32 : FVec Ideal S4224x1024 .bf16)) ?_ ((cut _).trans a)
  simp only [V1, W1, hostOps0]
  after_results_simp <;> rfl
theorem h1 (W : ℕ → ℕ → EReal) (a : m ((c.tc : Thread nD τ).loc main_arg1) = (eN W : S1024x3456.Idx → EReal)) : V1 m ρ c main_v1 = (eN W : S1024x3456.Idx → EReal) := by
  refine Eq.trans (b := (truncf .bf16 (m ((c.tc : Thread nD τ).loc main_arg1)) bitsLt_bf16_f32 : FVec Ideal S1024x3456 .bf16)) ?_ ((cut _).trans a)
  simp only [V1, W1, hostOps0]
  after_results_simp <;> rfl
theorem h2 (Z : ℕ → ℕ → EReal) (a : m ((c.tc : Thread nD τ).loc main_arg2) = (eN Z : S4224x1024.Idx → EReal)) : V1 m ρ c main_v2 = (eN Z : S4224x1024.Idx → EReal) := by
  refine Eq.trans (b := (truncf .bf16 (m ((c.tc : Thread nD τ).loc main_arg2)) bitsLt_bf16_f32 : FVec Ideal S4224x1024 .bf16)) ?_ ((cut _).trans a)
  simp only [V1, W1, hostOps0]
  after_results_simp <;> rfl
theorem h3 (B : ℕ → ℕ → EReal) (a : m ((c.tc : Thread nD τ).loc main_arg3) = (eN B : S4224x1536.Idx → EReal)) : V1 m ρ c main_v3 = (eN B : S4224x1536.Idx → EReal) := by
  refine Eq.trans (b := (truncf .bf16 (m ((c.tc : Thread nD τ).loc main_arg3)) bitsLt_bf16_f32 : FVec Ideal S4224x1536 .bf16)) ?_ ((cut _).trans a)
  simp only [V1, W1, hostOps0]
  after_results_simp <;> rfl
theorem h4 (C : ℕ → ℕ → EReal) (a : m ((c.tc : Thread nD τ).loc main_arg4) = (eN C : S4224x256.Idx → EReal)) : V1 m ρ c main_v4 = (eN C : S4224x256.Idx → EReal) := by
  refine Eq.trans (b := (truncf .bf16 (m ((c.tc : Thread nD τ).loc main_arg4)) bitsLt_bf16_f32 : FVec Ideal S4224x256 .bf16)) ?_ ((cut _).trans a)
  simp only [V1, W1, hostOps0]
  after_results_simp <;> rfl
theorem h5 (D : ℕ → ℕ → EReal) (a : m ((c.tc : Thread nD τ).loc main_arg5) = (eN D : S4224x128.Idx → EReal)) : V1 m ρ c main_arg5 = (eN D : S4224x128.Idx → EReal) :=
  (W1_of m ρ c main_arg5 (by decide +kernel)).trans a
theorem h6 (K : ℕ → ℕ → EReal) (a : m ((c.tc : Thread nD τ).loc main_arg6) = (eN K : S4224x128.Idx → EReal)) : V1 m ρ c main_arg6 = (eN K : S4224x128.Idx → EReal) :=
  (W1_of m ρ c main_arg6 (by decide +kernel)).trans a
theorem h7 (Q : ℕ → ℕ → EReal) (a : m ((c.tc : Thread nD τ).loc main_arg7) = (eN Q : S4224x384.Idx → EReal)) : V1 m ρ c main_v5 = (eN Q : S4224x384.Idx → EReal) := by
  refine Eq.trans (b := (truncf .bf16 (m ((c.tc : Thread nD τ).loc main_arg7)) bitsLt_bf16_f32 : FVec Ideal S4224x384 .bf16)) ?_ ((cut _).trans a)
  simp only [V1, W1, hostOps0]
  after_results_simp <;> rfl

/-! ## The results -/

section
variable (X W Z B C D K Q : ℕ → ℕ → EReal)
variable (a0 : m ((c.tc : Thread nD τ).loc main_arg0) = (eN X : S4224x1024.Idx → EReal))
variable (a1 : m ((c.tc : Thread nD τ).loc main_arg1) = (eN W : S1024x3456.Idx → EReal))
variable (a2 : m ((c.tc : Thread nD τ).loc main_arg2) = (eN Z : S4224x1024.Idx → EReal))
variable (a3 : m ((c.tc : Thread nD τ).loc main_arg3) = (eN B : S4224x1536.Idx → EReal))
variable (a4 : m ((c.tc : Thread nD τ).loc main_arg4) = (eN C : S4224x256.Idx → EReal))
variable (a5 : m ((c.tc : Thread nD τ).loc main_arg5) = (eN D : S4224x128.Idx → EReal))
variable (a6 : m ((c.tc : Thread nD τ).loc main_arg6) = (eN K : S4224x128.Idx → EReal))
variable (a7 : m ((c.tc : Thread nD τ).loc main_arg7) = (eN Q : S4224x384.Idx → EReal))
include a0 a1 in
theorem f0 : V8 m ρ c main_v6 = (eN (nn 1024 X W) : S4224x3456.Idx → EReal) :=
  (W8_of m ρ c main_v6 (by decide +kernel)).trans <| (W7_of m ρ c main_v6 (by decide +kernel)).trans <| (W6_of m ρ c main_v6 (by decide +kernel)).trans <| (W5_of m ρ c main_v6 (by decide +kernel)).trans <| (W4_of m ρ c main_v6 (by decide +kernel)).trans <| (W3_of m ρ c main_v6 (by decide +kernel)).trans <|
    (W2_arr m ρ c 2).trans (arr0 (V1 m ρ) c X W (h0 m ρ c X a0) (h1 m ρ c W a1))
include a0 a2 in
theorem f1 : V8 m ρ c main_v7 = (eN (tn 4224 X Z) : S1024x1024.Idx → EReal) :=
  (W8_of m ρ c main_v7 (by decide +kernel)).trans <| (W7_of m ρ c main_v7 (by decide +kernel)).trans <| (W6_of m ρ c main_v7 (by decide +kernel)).trans <| (W5_of m ρ c main_v7 (by decide +kernel)).trans <| (W4_of m ρ c main_v7 (by decide +kernel)).trans <|
    (W3_arr m ρ c 2).trans (arr1 (V2 m ρ) c X Z ((k2 m ρ c main_v0 (by decide)).trans (h0 m ρ c X a0)) ((k2 m ρ c main_v2 (by decide)).trans (h2 m ρ c Z a2)))
include a0 a3 in
theorem f2 : V8 m ρ c main_v8 = (eN (tn 4224 X B) : S1024x1536.Idx → EReal) :=
  (W8_of m ρ c main_v8 (by decide +kernel)).trans <| (W7_of m ρ c main_v8 (by decide +kernel)).trans <| (W6_of m ρ c main_v8 (by decide +kernel)).trans <| (W5_of m ρ c main_v8 (by decide +kernel)).trans <|
    (W4_arr m ρ c 2).trans (arr2 (V3 m ρ) c X B ((k3 m ρ c main_v0 (by decide)).trans (h0 m ρ c X a0)) ((k3 m ρ c main_v3 (by decide)).trans (h3 m ρ c B a3)))
include a0 a4 in
theorem f3 : V8 m ρ c main_v9 = (eN (tn 4224 X C) : S1024x256.Idx → EReal) :=
  (W8_of m ρ c main_v9 (by decide +kernel)).trans <| (W7_of m ρ c main_v9 (by decide +kernel)).trans <| (W6_of m ρ c main_v9 (by decide +kernel)).trans <|
    (W5_arr m ρ c 2).trans (arr3 (V4 m ρ) c X C ((k4 m ρ c main_v0 (by decide)).trans (h0 m ρ c X a0)) ((k4 m ρ c main_v4 (by decide)).trans (h4 m ρ c C a4)))
include a0 a5 in
theorem f4 : V8 m ρ c main_v10 = (eN (tn 4224 X D) : S1024x128.Idx → EReal) :=
  (W8_of m ρ c main_v10 (by decide +kernel)).trans <| (W7_of m ρ c main_v10 (by decide +kernel)).trans <|
    (W6_arr m ρ c 2).trans (arr4 (V5 m ρ) c X D ((k5 m ρ c main_v0 (by decide)).trans (h0 m ρ c X a0)) ((k5 m ρ c main_arg5 (by decide)).trans (h5 m ρ c D a5)))
include a0 a6 in
theorem f5 : V8 m ρ c main_v11 = (eN (tn 4224 X K) : S1024x128.Idx → EReal) :=
  (W8_of m ρ c main_v11 (by decide +kernel)).trans <|
    (W7_arr m ρ c 2).trans (arr5 (V6 m ρ) c X K ((k6 m ρ c main_v0 (by decide)).trans (h0 m ρ c X a0)) ((k6 m ρ c main_arg6 (by decide)).trans (h6 m ρ c K a6)))
include a0 a7 in
theorem f6 : V8 m ρ c main_v12 = (eN (tn 4224 X Q) : S1024x384.Idx → EReal) :=
  (W8_arr m ρ c 2).trans (arr6 (V7 m ρ) c X Q ((k7 m ρ c main_v0 (by decide)).trans (h0 m ρ c X a0)) ((k7 m ρ c main_v5 (by decide)).trans (h7 m ρ c Q a7)))
end

end Cert.Win

end

end
-- ==== Proof.Win.Ref.lean ====
/- The reference's results, as the same products. -/
module

public import proofs.«01_k».proof.Proof.Gen.Reference5Ideal.Run
public import proofs.«01_k».proof.Proof.Mat.Basic

@[expose] public section

set_option maxRecDepth 16384

noncomputable section

namespace Cert.Win

open Cert.Reference5Ideal Cert.Reference5Ideal.Gen Cert.Mat
open Idealize.ShloMosaic Idealize.ShloMosaic.TcCoe Idealize.SL.Sem

abbrev Vf (S : Shape) : Type := FVec Ideal S .f32

/-! ## The reference's lines -/

def pV (x : Vf S4224x1024) (w : Vf S1024x3456) : Vf S4224x3456 := Host.dotGeneral dot_S4224x1024_S1024x3456_S4224x3456_1_0_0_1_n_n none x w
def cV (z : Vf S4224x1024) (b : Vf S4224x1536) (c : Vf S4224x256) (d : Vf S4224x128) (k : Vf S4224x128) (q : Vf S4224x384) : Vf S4224x3456 :=
  concatenate S4224x3456 1 [⟨S4224x1024, z⟩, ⟨S4224x1536, b⟩, ⟨S4224x256, c⟩, ⟨S4224x128, d⟩, ⟨S4224x128, k⟩, ⟨S4224x384, q⟩] concatenates_S4224x1024_S4224x1536_S4224x256_S4224x128_S4224x128_S4224x384_S4224x3456_d1
def dV (x : Vf S4224x1024) (z : Vf S4224x1024) (b : Vf S4224x1536) (c : Vf S4224x256) (d : Vf S4224x128) (k : Vf S4224x128) (q : Vf S4224x384) : Vf S1024x3456 :=
  transpose S1024x3456 [1, 0] (Host.dotGeneral dot_S4224x3456_S4224x1024_S3456x1024_0_0_1_1_n_n none (cV z b c d k q) x) transposes_S3456x1024_S1024x3456_1_0
def d0V (x : Vf S4224x1024) (z : Vf S4224x1024) (b : Vf S4224x1536) (c : Vf S4224x256) (d : Vf S4224x128) (k : Vf S4224x128) (q : Vf S4224x384) : FVec Ideal S1024x1024 .bf16 := truncf .bf16 (extractStridedSlice S1024x1024 ![0, 0] (dV x z b c d k q) slices_S1024x3456_S1024x1024_0_0) bitsLt_bf16_f32
def d1V (x : Vf S4224x1024) (z : Vf S4224x1024) (b : Vf S4224x1536) (c : Vf S4224x256) (d : Vf S4224x128) (k : Vf S4224x128) (q : Vf S4224x384) : FVec Ideal S1024x1536 .bf16 := truncf .bf16 (extractStridedSlice S1024x1536 ![0, 1024] (dV x z b c d k q) slices_S1024x3456_S1024x1536_0_1024) bitsLt_bf16_f32
def d2V (x : Vf S4224x1024) (z : Vf S4224x1024) (b : Vf S4224x1536) (c : Vf S4224x256) (d : Vf S4224x128) (k : Vf S4224x128) (q : Vf S4224x384) : FVec Ideal S1024x256 .bf16 := truncf .bf16 (extractStridedSlice S1024x256 ![0, 2560] (dV x z b c d k q) slices_S1024x3456_S1024x256_0_2560) bitsLt_bf16_f32
def d3V (x : Vf S4224x1024) (z : Vf S4224x1024) (b : Vf S4224x1536) (c : Vf S4224x256) (d : Vf S4224x128) (k : Vf S4224x128) (q : Vf S4224x384) : FVec Ideal S1024x128 .bf16 := truncf .bf16 (extractStridedSlice S1024x128 ![0, 2816] (dV x z b c d k q) slices_S1024x3456_S1024x128_0_2816) bitsLt_bf16_f32
def d4V (x : Vf S4224x1024) (z : Vf S4224x1024) (b : Vf S4224x1536) (c : Vf S4224x256) (d : Vf S4224x128) (k : Vf S4224x128) (q : Vf S4224x384) : FVec Ideal S1024x128 .bf16 := truncf .bf16 (extractStridedSlice S1024x128 ![0, 2944] (dV x z b c d k q) slices_S1024x3456_S1024x128_0_2944) bitsLt_bf16_f32
def d5V (x : Vf S4224x1024) (z : Vf S4224x1024) (b : Vf S4224x1536) (c : Vf S4224x256) (d : Vf S4224x128) (k : Vf S4224x128) (q : Vf S4224x384) : FVec Ideal S1024x384 .bf16 := truncf .bf16 (extractStridedSlice S1024x384 ![0, 3072] (dV x z b c d k q) slices_S1024x3456_S1024x384_0_3072) bitsLt_bf16_f32

/-! ## Their values -/

variable (X W Z B C D K Q : ℕ → ℕ → EReal)

theorem pV_eq : pV (eN X) (eN W) = (eN (nn 1024 X W) : S4224x3456.Idx → EReal) := by
  funext j
  pointwise [pV]
  rfl
/-- The six cotangents side by side. -/
theorem cV_eq : cV (eN Z) (eN B) (eN C) (eN D) (eN K) (eN Q) = (eN (cat 1024 Z (cat 1536 B (cat 256 C (cat 128 D (cat 128 K Q))))) : S4224x3456.Idx → EReal) := by
  funext j
  pointwise [cV]
  rfl
theorem dV_eq : dV (eN X) (eN Z) (eN B) (eN C) (eN D) (eN K) (eN Q) = (eN (tn 4224 X (cat 1024 Z (cat 1536 B (cat 256 C (cat 128 D (cat 128 K Q)))))) : S1024x3456.Idx → EReal) := by
  unfold dV
  rw [cV_eq]
  funext j
  pointwise
  exact Finset.sum_congr rfl fun t _ => mul_comm _ _
theorem d0V_eq : d0V (eN X) (eN Z) (eN B) (eN C) (eN D) (eN K) (eN Q) = (eN (tn 4224 X Z) : S1024x1024.Idx → EReal) := by
  unfold d0V
  rw [dV_eq]
  funext j
  pointwise
  show tn 4224 X (cat 1024 Z (cat 1536 B (cat 256 C (cat 128 D (cat 128 K Q))))) (j 0).val (j 1).val = tn 4224 X Z (j 0).val (j 1).val
  refine tn_congr fun t => ?_
  have h : (j 1).val < 1024 := (j 1).isLt
  rw [cat_lt (by omega)]
theorem d1V_eq : d1V (eN X) (eN Z) (eN B) (eN C) (eN D) (eN K) (eN Q) = (eN (tn 4224 X B) : S1024x1536.Idx → EReal) := by
  unfold d1V
  rw [dV_eq]
  funext j
  pointwise
  show tn 4224 X (cat 1024 Z (cat 1536 B (cat 256 C (cat 128 D (cat 128 K Q))))) (j 0).val (1024 + (j 1).val) = tn 4224 X B (j 0).val (j 1).val
  refine tn_congr fun t => ?_
  have h : (j 1).val < 1536 := (j 1).isLt
  rw [cat_ge (by omega), cat_lt (by omega)]
  exact congrArg _ (by omega)
theorem d2V_eq : d2V (eN X) (eN Z) (eN B) (eN C) (eN D) (eN K) (eN Q) = (eN (tn 4224 X C) : S1024x256.Idx → EReal) := by
  unfold d2V
  rw [dV_eq]
  funext j
  pointwise
  show tn 4224 X (cat 1024 Z (cat 1536 B (cat 256 C (cat 128 D (cat 128 K Q))))) (j 0).val (2560 + (j 1).val) = tn 4224 X C (j 0).val (j 1).val
  refine tn_congr fun t => ?_
  have h : (j 1).val < 256 := (j 1).isLt
  rw [cat_ge (by omega), cat_ge (by omega), cat_lt (by omega)]
  exact congrArg _ (by omega)
theorem d3V_eq : d3V (eN X) (eN Z) (eN B) (eN C) (eN D) (eN K) (eN Q) = (eN (tn 4224 X D) : S1024x128.Idx → EReal) := by
  unfold d3V
  rw [dV_eq]
  funext j
  pointwise
  show tn 4224 X (cat 1024 Z (cat 1536 B (cat 256 C (cat 128 D (cat 128 K Q))))) (j 0).val (2816 + (j 1).val) = tn 4224 X D (j 0).val (j 1).val
  refine tn_congr fun t => ?_
  have h : (j 1).val < 128 := (j 1).isLt
  rw [cat_ge (by omega), cat_ge (by omega), cat_ge (by omega), cat_lt (by omega)]
  exact congrArg _ (by omega)
theorem d4V_eq : d4V (eN X) (eN Z) (eN B) (eN C) (eN D) (eN K) (eN Q) = (eN (tn 4224 X K) : S1024x128.Idx → EReal) := by
  unfold d4V
  rw [dV_eq]
  funext j
  pointwise
  show tn 4224 X (cat 1024 Z (cat 1536 B (cat 256 C (cat 128 D (cat 128 K Q))))) (j 0).val (2944 + (j 1).val) = tn 4224 X K (j 0).val (j 1).val
  refine tn_congr fun t => ?_
  have h : (j 1).val < 128 := (j 1).isLt
  rw [cat_ge (by omega), cat_ge (by omega), cat_ge (by omega), cat_ge (by omega), cat_lt (by omega)]
  exact congrArg _ (by omega)
theorem d5V_eq : d5V (eN X) (eN Z) (eN B) (eN C) (eN D) (eN K) (eN Q) = (eN (tn 4224 X Q) : S1024x384.Idx → EReal) := by
  unfold d5V
  rw [dV_eq]
  funext j
  pointwise
  show tn 4224 X (cat 1024 Z (cat 1536 B (cat 256 C (cat 128 D (cat 128 K Q))))) (j 0).val (3072 + (j 1).val) = tn 4224 X Q (j 0).val (j 1).val
  refine tn_congr fun t => ?_
  have h : (j 1).val < 384 := (j 1).isLt
  rw [cat_ge (by omega), cat_ge (by omega), cat_ge (by omega), cat_ge (by omega), cat_ge (by omega)]
  exact congrArg _ (by omega)

/-! ## The run, in these lines -/

section
variable (m : (ℓ : Loc nD τ sig) → Buf (Elt Ideal) ℓ) (ρ : Dev nD → PrngReg)

theorem ref_run : θ_run (defs (F := Ideal)) (onTc (τ := τ) (main (F := Ideal))) ⟨m, fun _ => 0, ρ⟩ fun r => ∀ c : Dev nD,
    r.2.mem ((c.tc : Thread nD τ).loc main_v0) = pV (m ((c.tc : Thread nD τ).loc main_arg0)) (m ((c.tc : Thread nD τ).loc main_arg1))
    ∧ r.2.mem ((c.tc : Thread nD τ).loc main_v10) = d0V (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v11) = d1V (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v12) = d2V (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v13) = d3V (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v14) = d4V (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_v15) = d5V (m ((c.tc : Thread nD τ).loc main_arg0)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6)
    ∧ r.2.mem ((c.tc : Thread nD τ).loc main_arg7) = m ((c.tc : Thread nD τ).loc main_arg7) :=
  Cert.Reference5Ideal.Value.run (F := Ideal) m ρ
end

end Cert.Win

end

end
-- ==== Proof.Win.Final.lean ====
/- The two runs end with equal results. -/
module

public import proofs.«01_k».proof.Proof.Win.Host
public import proofs.«01_k».proof.Proof.Win.Ref

@[expose] public section

set_option maxRecDepth 16384

noncomputable section

namespace Cert.Win

open Idealize.ShloMosaic Idealize.ShloMosaic.TcCoe Idealize.SL.Sem
open Cert.Kernel5Ideal Cert.Kernel5Ideal.Gen Cert.Mat

variable (m : (ℓ : Loc nD τ sig) → Buf (Elt Ideal) ℓ) (ρ : Dev nD → PrngReg)

theorem ker_run (v0 : (c : Dev nD) → Buf (Elt Ideal) ((c.tc : Thread nD τ).loc main_v6)) (v1 : (c : Dev nD) → Buf (Elt Ideal) ((c.tc : Thread nD τ).loc main_v7)) (v2 : (c : Dev nD) → Buf (Elt Ideal) ((c.tc : Thread nD τ).loc main_v8)) (v3 : (c : Dev nD) → Buf (Elt Ideal) ((c.tc : Thread nD τ).loc main_v9)) (v4 : (c : Dev nD) → Buf (Elt Ideal) ((c.tc : Thread nD τ).loc main_v10)) (v5 : (c : Dev nD) → Buf (Elt Ideal) ((c.tc : Thread nD τ).loc main_v11)) (v6 : (c : Dev nD) → Buf (Elt Ideal) ((c.tc : Thread nD τ).loc main_v12))
    (k : ∀ c, V8 m ρ c main_v6 = v0 c ∧ V8 m ρ c main_v7 = v1 c ∧ V8 m ρ c main_v8 = v2 c ∧ V8 m ρ c main_v9 = v3 c ∧ V8 m ρ c main_v10 = v4 c ∧ V8 m ρ c main_v11 = v5 c ∧ V8 m ρ c main_v12 = v6 c) :
    θ_run (defs (F := Ideal)) (onTc (τ := τ) (main (F := Ideal))) ⟨m, fun _ => 0, ρ⟩ fun r => ∀ c : Dev nD,
      r.2.mem ((c.tc : Thread nD τ).loc main_v6) = v0 c
      ∧ r.2.mem ((c.tc : Thread nD τ).loc main_v7) = v1 c
      ∧ r.2.mem ((c.tc : Thread nD τ).loc main_v8) = v2 c
      ∧ r.2.mem ((c.tc : Thread nD τ).loc main_v9) = v3 c
      ∧ r.2.mem ((c.tc : Thread nD τ).loc main_v10) = v4 c
      ∧ r.2.mem ((c.tc : Thread nD τ).loc main_v11) = v5 c
      ∧ r.2.mem ((c.tc : Thread nD τ).loc main_v12) = v6 c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c _ (mem_uc main_v6 (by decide))).trans (k c).1, (h c _ (mem_uc main_v7 (by decide))).trans (k c).2.1, (h c _ (mem_uc main_v8 (by decide))).trans (k c).2.2.1, (h c _ (mem_uc main_v9 (by decide))).trans (k c).2.2.2.1, (h c _ (mem_uc main_v10 (by decide))).trans (k c).2.2.2.2.1, (h c _ (mem_uc main_v11 (by decide))).trans (k c).2.2.2.2.2.1, (h c _ (mem_uc main_v12 (by decide))).trans (k c).2.2.2.2.2.2,
      (h c _ (mem_uc main_arg0 (by decide))).trans (W8_main_arg0 m ρ c), (h c _ (mem_uc main_arg1 (by decide))).trans (W8_main_arg1 m ρ c), (h c _ (mem_uc main_arg2 (by decide))).trans (W8_main_arg2 m ρ c), (h c _ (mem_uc main_arg3 (by decide))).trans (W8_main_arg3 m ρ c), (h c _ (mem_uc main_arg4 (by decide))).trans (W8_main_arg4 m ρ c), (h c _ (mem_uc main_arg5 (by decide))).trans (W8_main_arg5 m ρ c), (h c _ (mem_uc main_arg6 (by decide))).trans (W8_main_arg6 m ρ c), (h c _ (mem_uc main_arg7 (by decide))).trans (W8_main_arg7 m ρ c)⟩) (run m ρ)

/-- What the program leaves are the reference's lines at its arguments. -/
theorem ker_eq (c : Dev nD) (x0 : Vf Cert.Reference5Ideal.S4224x1024) (x1 : Vf Cert.Reference5Ideal.S1024x3456) (x2 : Vf Cert.Reference5Ideal.S4224x1024) (x3 : Vf Cert.Reference5Ideal.S4224x1536) (x4 : Vf Cert.Reference5Ideal.S4224x256) (x5 : Vf Cert.Reference5Ideal.S4224x128) (x6 : Vf Cert.Reference5Ideal.S4224x128) (x7 : Vf Cert.Reference5Ideal.S4224x384)
    (a0 : m ((c.tc : Thread nD τ).loc main_arg0) = x0) (a1 : m ((c.tc : Thread nD τ).loc main_arg1) = x1) (a2 : m ((c.tc : Thread nD τ).loc main_arg2) = x2) (a3 : m ((c.tc : Thread nD τ).loc main_arg3) = x3) (a4 : m ((c.tc : Thread nD τ).loc main_arg4) = x4) (a5 : m ((c.tc : Thread nD τ).loc main_arg5) = x5) (a6 : m ((c.tc : Thread nD τ).loc main_arg6) = x6) (a7 : m ((c.tc : Thread nD τ).loc main_arg7) = x7) :
    V8 m ρ c main_v6 = pV x0 x1 ∧ V8 m ρ c main_v7 = d0V x0 x2 x3 x4 x5 x6 x7 ∧ V8 m ρ c main_v8 = d1V x0 x2 x3 x4 x5 x6 x7 ∧ V8 m ρ c main_v9 = d2V x0 x2 x3 x4 x5 x6 x7 ∧ V8 m ρ c main_v10 = d3V x0 x2 x3 x4 x5 x6 x7 ∧ V8 m ρ c main_v11 = d4V x0 x2 x3 x4 x5 x6 x7 ∧ V8 m ρ c main_v12 = d5V x0 x2 x3 x4 x5 x6 x7 := by
  obtain ⟨X, rfl⟩ := eN_of x0
  obtain ⟨W, rfl⟩ := eN_of x1
  obtain ⟨Z, rfl⟩ := eN_of x2
  obtain ⟨B, rfl⟩ := eN_of x3
  obtain ⟨C, rfl⟩ := eN_of x4
  obtain ⟨D, rfl⟩ := eN_of x5
  obtain ⟨K, rfl⟩ := eN_of x6
  obtain ⟨Q, rfl⟩ := eN_of x7
  exact ⟨(f0 m ρ c X W a0 a1).trans (pV_eq X W).symm,
    (f1 m ρ c X Z a0 a2).trans (d0V_eq X Z B C D K Q).symm,
    (f2 m ρ c X B a0 a3).trans (d1V_eq X Z B C D K Q).symm,
    (f3 m ρ c X C a0 a4).trans (d2V_eq X Z B C D K Q).symm,
    (f4 m ρ c X D a0 a5).trans (d3V_eq X Z B C D K Q).symm,
    (f5 m ρ c X K a0 a6).trans (d4V_eq X Z B C D K Q).symm,
    (f6 m ρ c X Q a0 a7).trans (d5V_eq X Z B C D K Q).symm⟩

end Cert.Win

end

end
-- ==== Proof.Mat.Cat.lean ====
/- Products over the columns of matrices side by side, the second matrix turned. -/
module

public import proofs.«01_k».proof.Proof.Mat.Basic

@[expose] public section

noncomputable section

namespace Cert.Mat

/-- The columns of a matrix from `p` on. -/
def from_ (p : ℕ) (W : ℕ → ℕ → EReal) (i j : ℕ) : EReal := W i (j + p)

theorem nt_cat (p q : ℕ) (A B W : ℕ → ℕ → EReal) (i j : ℕ) : nt (p + q) (cat p A B) W i j = nt p A W i j + nt q B (from_ p W) i j := by
  refine (Fin.sum_univ_add _).trans (congrArg₂ (· + ·) (Finset.sum_congr rfl fun k _ => congrArg (· * _) (cat_lt k.isLt)) (Finset.sum_congr rfl fun k _ => ?_))
  show cat p A B i (p + k.val) * W j (p + k.val) = B i k.val * W j (k.val + p)
  rw [Nat.add_comm p k.val, cat_add]

/-- A product over the columns, taken in two parts. -/
theorem nt_add (p q : ℕ) (A W : ℕ → ℕ → EReal) (i j : ℕ) : nt (p + q) A W i j = nt p A W i j + nt q (from_ p A) (from_ p W) i j := by
  refine (Fin.sum_univ_add _).trans (congrArg₂ (· + ·) rfl (Finset.sum_congr rfl fun k _ => ?_))
  show A i (p + k.val) * W j (p + k.val) = A i (k.val + p) * W j (k.val + p)
  rw [Nat.add_comm p k.val]

theorem from_from (p q : ℕ) (W : ℕ → ℕ → EReal) : from_ p (from_ q W) = from_ (p + q) W := by
  funext i j
  exact congrArg (W i) (Nat.add_assoc j p q)

end Cert.Mat

end

end
-- ==== Proof.Dhn.Arr.lean ====
/- The input product turned back: what the program leaves, at any arguments. -/
module

public import proofs.«01_k».proof.Proof.Gen.Kernel6Ideal.Frame
public import proofs.«01_k».proof.Proof.Mat.Cat

@[expose] public section

set_option maxRecDepth 16384

noncomputable section

namespace Cert.Dhn

open Cert.Kernel6Ideal Cert.Kernel6Ideal.Gen Cert.Mat
open Idealize.ShloMosaic Idealize.ShloMosaic.TcCoe

/-- One block's eight products. -/
theorem p (A0 B0 A1 B1 A2 B2 A3 B3 A4 B4 A5 B5 A6 B6 A7 B7 : ℕ → ℕ → EReal) (y : S1056x512.Idx) :
    k0_pay1 (F := Ideal) (k0_pay2 (eN A0 : S1056x1024.Idx → EReal) (eN B0 : S512x1024.Idx → EReal)
        (eN A1 : S1056x512.Idx → EReal) (eN B1 : S512x512.Idx → EReal)
        (eN A2 : S1056x512.Idx → EReal) (eN B2 : S512x512.Idx → EReal)
        (eN A3 : S1056x512.Idx → EReal) (eN B3 : S512x512.Idx → EReal)
        (eN A4 : S1056x256.Idx → EReal) (eN B4 : S512x256.Idx → EReal))
      (k0_pay3 (eN A5 : S1056x128.Idx → EReal)) (eN B5 : S512x128.Idx → EReal)
      (eN A6 : S1056x128.Idx → EReal) (eN B6 : S512x128.Idx → EReal)
      (eN A7 : S1056x384.Idx → EReal) (eN B7 : S512x384.Idx → EReal) y
    = nt 1024 A0 B0 (y 0).val (y 1).val + nt 512 A1 B1 (y 0).val (y 1).val + nt 512 A2 B2 (y 0).val (y 1).val + nt 512 A3 B3 (y 0).val (y 1).val + nt 256 A4 B4 (y 0).val (y 1).val + nt 128 A5 B5 (y 0).val (y 1).val + nt 128 A6 B6 (y 0).val (y 1).val + nt 384 A7 B7 (y 0).val (y 1).val := by
  pointwise [k0_pay1, k0_pay2, k0_pay3]
  rfl

/-! ## Which block a grid point takes -/

theorem i0 : ∀ t : Fin cfg0.N, win0_0.index t = ![t.val / 2, 0] := (by decide +kernel : ∀ t : Fin grid0.N, _)
theorem i1 : ∀ t : Fin cfg0.N, win0_1.index t = ![t.val % 2, 0] := (by decide +kernel : ∀ t : Fin grid0.N, _)
theorem i2 : ∀ t : Fin cfg0.N, win0_2.index t = ![t.val / 2, 0] := (by decide +kernel : ∀ t : Fin grid0.N, _)
theorem i3 : ∀ t : Fin cfg0.N, win0_3.index t = ![t.val % 2, 2] := (by decide +kernel : ∀ t : Fin grid0.N, _)
theorem i4 : ∀ t : Fin cfg0.N, win0_4.index t = ![t.val / 2, 1] := (by decide +kernel : ∀ t : Fin grid0.N, _)
theorem i5 : ∀ t : Fin cfg0.N, win0_5.index t = ![t.val % 2, 3] := (by decide +kernel : ∀ t : Fin grid0.N, _)
theorem i6 : ∀ t : Fin cfg0.N, win0_6.index t = ![t.val / 2, 2] := (by decide +kernel : ∀ t : Fin grid0.N, _)
theorem i7 : ∀ t : Fin cfg0.N, win0_7.index t = ![t.val % 2, 4] := (by decide +kernel : ∀ t : Fin grid0.N, _)
theorem i8 : ∀ t : Fin cfg0.N, win0_8.index t = ![t.val / 2, 0] := (by decide +kernel : ∀ t : Fin grid0.N, _)
theorem i9 : ∀ t : Fin cfg0.N, win0_9.index t = ![t.val % 2, 10] := (by decide +kernel : ∀ t : Fin grid0.N, _)
theorem i10 : ∀ t : Fin cfg0.N, win0_10.index t = ![t.val / 2, 0] := (by decide +kernel : ∀ t : Fin grid0.N, _)
theorem i11 : ∀ t : Fin cfg0.N, win0_11.index t = ![t.val % 2, 22] := (by decide +kernel : ∀ t : Fin grid0.N, _)
theorem i12 : ∀ t : Fin cfg0.N, win0_12.index t = ![t.val / 2, 0] := (by decide +kernel : ∀ t : Fin grid0.N, _)
theorem i13 : ∀ t : Fin cfg0.N, win0_13.index t = ![t.val % 2, 23] := (by decide +kernel : ∀ t : Fin grid0.N, _)
theorem i14 : ∀ t : Fin cfg0.N, win0_14.index t = ![t.val / 2, 0] := (by decide +kernel : ∀ t : Fin grid0.N, _)
theorem i15 : ∀ t : Fin cfg0.N, win0_15.index t = ![t.val % 2, 8] := (by decide +kernel : ∀ t : Fin grid0.N, _)
theorem i16 : ∀ t : Fin cfg0.N, win0_16.index t = ![t.val / 2, t.val % 2] := (by decide +kernel : ∀ t : Fin grid0.N, _)

/-- The eight products: of the cotangents, one of them in three parts, each with the columns of the weight that are its own. -/
def total (W Z B C D E Q : ℕ → ℕ → EReal) (i j : ℕ) : EReal :=
  nt 1024 Z W i j + nt 512 B (from_ 1024 W) i j + nt 512 (from_ 512 B) (from_ 1536 W) i j + nt 512 (from_ 1024 B) (from_ 2048 W) i j + nt 256 C (from_ 2560 W) i j + nt 128 D (from_ 2816 W) i j + nt 128 E (from_ 2944 W) i j + nt 384 Q (from_ 3072 W) i j

variable (m : (ℓ : Loc nD τ sig) → Buf (Elt Ideal) ℓ) (c : Dev nD)
variable (W Z B C D E Q : ℕ → ℕ → EReal)

/-! ## The windows of the weight that are stated whole: nothing of them is cut -/

theorem cutW (w : V m c main_v0 = (eN W : S1024x3456.Idx → EReal)) (z : S1024x3456.Idx) (p q : ℕ) (h0 : (z 0).val = p) (h1 : (z 1).val = q) : V m c main_v0 z = W p q :=
  (congrFun w z).trans (congrArg₂ W h0 h1)
theorem x1 (w : V m c main_v0 = (eN W : S1024x3456.Idx → EReal)) (t : Fin cfg0.N) : X0_1 m c t = (eN fun i j => W (i + 512 * (t.val % 2)) (j + 0) : S512x1024.Idx → EReal) := by
  funext y
  unfold X0_1 Pipeline.Window.fill
  rw [dif_pos (moved0_1 t y)]
  exact cutW m c W w _ _ _ (by blk_simp [i1] <;> simp <;> omega) (by blk_simp [i1] <;> simp <;> omega)
theorem x3 (w : V m c main_v0 = (eN W : S1024x3456.Idx → EReal)) (t : Fin cfg0.N) : X0_3 m c t = (eN fun i j => W (i + 512 * (t.val % 2)) (j + 1024) : S512x512.Idx → EReal) := by
  funext y
  unfold X0_3 Pipeline.Window.fill
  rw [dif_pos (moved0_3 t y)]
  exact cutW m c W w _ _ _ (by blk_simp [i3] <;> simp <;> omega) (by blk_simp [i3] <;> simp <;> omega)
theorem x5 (w : V m c main_v0 = (eN W : S1024x3456.Idx → EReal)) (t : Fin cfg0.N) : X0_5 m c t = (eN fun i j => W (i + 512 * (t.val % 2)) (j + 1536) : S512x512.Idx → EReal) := by
  funext y
  unfold X0_5 Pipeline.Window.fill
  rw [dif_pos (moved0_5 t y)]
  exact cutW m c W w _ _ _ (by blk_simp [i5] <;> simp <;> omega) (by blk_simp [i5] <;> simp <;> omega)
theorem x7 (w : V m c main_v0 = (eN W : S1024x3456.Idx → EReal)) (t : Fin cfg0.N) : X0_7 m c t = (eN fun i j => W (i + 512 * (t.val % 2)) (j + 2048) : S512x512.Idx → EReal) := by
  funext y
  unfold X0_7 Pipeline.Window.fill
  rw [dif_pos (moved0_7 t y)]
  exact cutW m c W w _ _ _ (by blk_simp [i7] <;> simp <;> omega) (by blk_simp [i7] <;> simp <;> omega)
theorem x9 (w : V m c main_v0 = (eN W : S1024x3456.Idx → EReal)) (t : Fin cfg0.N) : X0_9 m c t = (eN fun i j => W (i + 512 * (t.val % 2)) (j + 2560) : S512x256.Idx → EReal) := by
  funext y
  unfold X0_9 Pipeline.Window.fill
  rw [dif_pos (moved0_9 t y)]
  exact cutW m c W w _ _ _ (by blk_simp [i9] <;> simp <;> omega) (by blk_simp [i9] <;> simp <;> omega)

theorem arr (w : V m c main_v0 = (eN W : S1024x3456.Idx → EReal)) (z : V m c main_v1 = (eN Z : S4224x1024.Idx → EReal)) (b : V m c main_v2 = (eN B : S4224x1536.Idx → EReal)) (u : V m c main_v3 = (eN C : S4224x256.Idx → EReal)) (d : V m c main_arg4 = (eN D : S4224x128.Idx → EReal)) (e : V m c main_arg5 = (eN E : S4224x128.Idx → EReal)) (q : V m c main_v4 = (eN Q : S4224x384.Idx → EReal)) :
    (dats m 0 c).arrAt 16 cfg0.N = (eN (total W Z B C D E Q) : S4224x1024.Idx → EReal) :=
  (dats m 0 c).arrAt_eq_of_covers 16 _ (by decide +kernel) fun t hf y => by
    blk_simp
    rw [after0_16]
    unfold outsAt0
    frame_out
    rw [show iblk m c 0 t = (eN _ : S1056x1024.Idx → EReal) from blk z (1056 * (t.val / 2)) 0 ((cfg0.win 0).blk t).view.emb (fun y => by blk_simp [i0] <;> simp <;> omega) (fun y => by blk_simp [i0] <;> simp),
      x1 m c W w t,
      show iblk m c 2 t = (eN _ : S1056x512.Idx → EReal) from blk b (1056 * (t.val / 2)) 0 ((cfg0.win 2).blk t).view.emb (fun y => by blk_simp [i2] <;> simp <;> omega) (fun y => by blk_simp [i2] <;> simp),
      x3 m c W w t,
      show iblk m c 4 t = (eN _ : S1056x512.Idx → EReal) from blk b (1056 * (t.val / 2)) 512 ((cfg0.win 4).blk t).view.emb (fun y => by blk_simp [i4] <;> simp <;> omega) (fun y => by blk_simp [i4] <;> simp <;> omega),
      x5 m c W w t,
      show iblk m c 6 t = (eN _ : S1056x512.Idx → EReal) from blk b (1056 * (t.val / 2)) 1024 ((cfg0.win 6).blk t).view.emb (fun y => by blk_simp [i6] <;> simp <;> omega) (fun y => by blk_simp [i6] <;> simp <;> omega),
      x7 m c W w t,
      show iblk m c 8 t = (eN _ : S1056x256.Idx → EReal) from blk u (1056 * (t.val / 2)) 0 ((cfg0.win 8).blk t).view.emb (fun y => by blk_simp [i8] <;> simp <;> omega) (fun y => by blk_simp [i8] <;> simp),
      x9 m c W w t,
      show iblk m c 10 t = (eN _ : S1056x128.Idx → EReal) from blk d (1056 * (t.val / 2)) 0 ((cfg0.win 10).blk t).view.emb (fun y => by blk_simp [i10] <;> simp <;> omega) (fun y => by blk_simp [i10] <;> simp),
      show iblk m c 11 t = (eN _ : S512x128.Idx → EReal) from blk w (512 * (t.val % 2)) 2816 ((cfg0.win 11).blk t).view.emb (fun y => by blk_simp [i11] <;> simp <;> omega) (fun y => by blk_simp [i11] <;> simp <;> omega),
      show iblk m c 12 t = (eN _ : S1056x128.Idx → EReal) from blk e (1056 * (t.val / 2)) 0 ((cfg0.win 12).blk t).view.emb (fun y => by blk_simp [i12] <;> simp <;> omega) (fun y => by blk_simp [i12] <;> simp),
      show iblk m c 13 t = (eN _ : S512x128.Idx → EReal) from blk w (512 * (t.val % 2)) 2944 ((cfg0.win 13).blk t).view.emb (fun y => by blk_simp [i13] <;> simp <;> omega) (fun y => by blk_simp [i13] <;> simp <;> omega),
      show iblk m c 14 t = (eN _ : S1056x384.Idx → EReal) from blk q (1056 * (t.val / 2)) 0 ((cfg0.win 14).blk t).view.emb (fun y => by blk_simp [i14] <;> simp <;> omega) (fun y => by blk_simp [i14] <;> simp),
      show iblk m c 15 t = (eN _ : S512x384.Idx → EReal) from blk w (512 * (t.val % 2)) 3072 ((cfg0.win 15).blk t).view.emb (fun y => by blk_simp [i15] <;> simp <;> omega) (fun y => by blk_simp [i15] <;> simp <;> omega), p]
    show total W Z B C D E Q ((y 0).val + 1056 * (t.val / 2)) ((y 1).val + 512 * (t.val % 2)) = total W Z B C D E Q ((win0_16.blk t).view.emb y 0).val ((win0_16.blk t).view.emb y 1).val
    congr 1 <;> blk_simp [i16] <;> simp <;> omega

end Cert.Dhn

end

end
-- ==== Proof.Dhn.Final.lean ====
/- The input product turned back: the two runs end with equal results. -/
module

public import proofs.«01_k».proof.Proof.Dhn.Arr
public import proofs.«01_k».proof.Proof.Gen.Reference6Ideal.Run
public import Idealize.ShloMosaic.Lib.StableHlo.Run

@[expose] public section

set_option maxRecDepth 16384

noncomputable section

namespace Cert.Dhn

open Idealize.ShloMosaic Idealize.ShloMosaic.TcCoe Idealize.ShloMosaic.StableHlo Idealize.SL.Sem
open Cert.Mat

abbrev Vf (S : Shape) : Type := FVec Ideal S .f32

section
open Cert.Reference6Ideal Cert.Reference6Ideal.Gen

/-- The six cotangents side by side. -/
def cV (z : Vf S4224x1024) (b : Vf S4224x1536) (c : Vf S4224x256) (d : Vf S4224x128) (e : Vf S4224x128) (q : Vf S4224x384) : Vf S4224x3456 :=
  concatenate S4224x3456 1 [⟨S4224x1024, z⟩, ⟨S4224x1536, b⟩, ⟨S4224x256, c⟩, ⟨S4224x128, d⟩, ⟨S4224x128, e⟩, ⟨S4224x384, q⟩] concatenates_S4224x1024_S4224x1536_S4224x256_S4224x128_S4224x128_S4224x384_S4224x3456_d1
/-- The product of their row with the weight's. -/
def dV (x : Vf S4224x3456) (w : Vf S1024x3456) : Vf S4224x1024 := Host.dotGeneral dot_S4224x3456_S1024x3456_S4224x1024_1_1_0_0_n_n none x w
/-- The reference's line. -/
def xV (w : Vf S1024x3456) (z : Vf S4224x1024) (b : Vf S4224x1536) (c : Vf S4224x256) (d : Vf S4224x128) (e : Vf S4224x128) (q : Vf S4224x384) : Vf S4224x1024 :=
  dV (cV z b c d e q) w

theorem cV_eq (Z B C D E Q : ℕ → ℕ → EReal) : cV (eN Z) (eN B) (eN C) (eN D) (eN E) (eN Q) = (eN (cat 1024 Z (cat 1536 B (cat 256 C (cat 128 D (cat 128 E Q))))) : S4224x3456.Idx → EReal) := by
  funext j
  pointwise [cV]
  rfl

theorem total_eq (W Z B C D E Q : ℕ → ℕ → EReal) (i j : ℕ) : nt 3456 (cat 1024 Z (cat 1536 B (cat 256 C (cat 128 D (cat 128 E Q))))) W i j = total W Z B C D E Q i j := by
  rw [nt_cat 1024 2432, nt_cat 1536 896, nt_cat 256 640, nt_cat 128 512, nt_cat 128 384, nt_add 512 1024 B, nt_add 512 512 (from_ 512 B)]
  simp only [from_from, total, add_assoc, Nat.reduceAdd]

theorem dV_eq (X W : ℕ → ℕ → EReal) : dV (eN X) (eN W) = (eN (nt 3456 X W) : S4224x1024.Idx → EReal) := by
  funext j
  pointwise [dV]
  rfl

theorem xV_eq (W Z B C D E Q : ℕ → ℕ → EReal) : xV (eN W) (eN Z) (eN B) (eN C) (eN D) (eN E) (eN Q) = (eN (total W Z B C D E Q) : S4224x1024.Idx → EReal) := by
  unfold xV
  rw [cV_eq, dV_eq]
  exact congrArg eN (funext fun i => funext fun j => total_eq W Z B C D E Q i j)

theorem ref_run (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
    r.2.mem ((c.tc : Thread nD τ).loc main_v1) = xV (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  Cert.Reference6Ideal.Value.run (F := Ideal) m ρ
end

open Cert.Kernel6Ideal Cert.Kernel6Ideal.Gen

variable (m : (ℓ : Loc nD τ sig) → Buf (Elt Ideal) ℓ) (ρ : Dev nD → PrngReg)

theorem cut {a b : ℕ} (x : FVec Ideal (⟨2, ![a, b]⟩ : Shape) .f32) : truncf .bf16 x bitsLt_bf16_f32 = x := by
  funext j
  pointwise

theorem ker_run (v : (c : Dev nD) → Buf (Elt Ideal) ((c.tc : Thread nD τ).loc main_v5)) (k : ∀ c, (dats m 0 c).arrAt 16 cfg0.N = v c) :
    θ_run (defs (F := Ideal)) (onTc (τ := τ) (main (F := Ideal))) ⟨m, fun _ => 0, ρ⟩ fun r => ∀ c : Dev nD,
    r.2.mem ((c.tc : Thread nD τ).loc main_v5) = v c
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2)
    ∧ r.2.mem ((c.tc : Thread nD τ).loc main_arg3) = m ((c.tc : Thread nD τ).loc main_arg3)
    ∧ r.2.mem ((c.tc : Thread nD τ).loc main_arg4) = m ((c.tc : Thread nD τ).loc main_arg4)
    ∧ r.2.mem ((c.tc : Thread nD τ).loc main_arg5) = m ((c.tc : Thread nD τ).loc main_arg5)
    ∧ r.2.mem ((c.tc : Thread nD τ).loc main_arg6) = m ((c.tc : Thread nD τ).loc main_arg6) :=
  (θ_run defs _ _).mono (fun _ h c => ⟨(Pipeline.FramePost.out_eq h.1 c 16).trans (k c), h.2 c⟩) (θ_run_and (run_main m ρ) (unchanged m ρ))

/-- What the program leaves is the reference's line at its arguments. -/
theorem ker_eq (c : Dev nD) (x0 : Vf S1024x3456) (x1 : Vf S4224x1024) (x2 : Vf S4224x1536) (x3 : Vf S4224x256) (x4 : Vf S4224x128) (x5 : Vf S4224x128) (x6 : Vf S4224x384)
    (a0 : m ((c.tc : Thread nD τ).loc main_arg0) = x0) (a1 : m ((c.tc : Thread nD τ).loc main_arg1) = x1) (a2 : m ((c.tc : Thread nD τ).loc main_arg2) = x2) (a3 : m ((c.tc : Thread nD τ).loc main_arg3) = x3) (a4 : m ((c.tc : Thread nD τ).loc main_arg4) = x4) (a5 : m ((c.tc : Thread nD τ).loc main_arg5) = x5) (a6 : m ((c.tc : Thread nD τ).loc main_arg6) = x6) :
    (dats m 0 c).arrAt 16 cfg0.N = xV x0 x1 x2 x3 x4 x5 x6 := by
  obtain ⟨W, rfl⟩ := eN_of x0
  obtain ⟨Z, rfl⟩ := eN_of x1
  obtain ⟨B, rfl⟩ := eN_of x2
  obtain ⟨C, rfl⟩ := eN_of x3
  obtain ⟨D, rfl⟩ := eN_of x4
  obtain ⟨E, rfl⟩ := eN_of x5
  obtain ⟨Q, rfl⟩ := eN_of x6
  refine (arr m c W Z B C D E Q ?_ ?_ ?_ ?_ ((V_main_arg4 m c).trans a4) ((V_main_arg5 m c).trans a5) ?_).trans (xV_eq W Z B C D E Q).symm
  · refine Eq.trans (b := (truncf .bf16 (m ((c.tc : Thread nD τ).loc main_arg0)) bitsLt_bf16_f32 : FVec Ideal S1024x3456 .bf16)) ?_ ((cut _).trans a0)
    simp only [V, hostOps0]
    after_results_simp <;> rfl
  · refine Eq.trans (b := (truncf .bf16 (m ((c.tc : Thread nD τ).loc main_arg1)) bitsLt_bf16_f32 : FVec Ideal S4224x1024 .bf16)) ?_ ((cut _).trans a1)
    simp only [V, hostOps0]
    after_results_simp <;> rfl
  · refine Eq.trans (b := (truncf .bf16 (m ((c.tc : Thread nD τ).loc main_arg2)) bitsLt_bf16_f32 : FVec Ideal S4224x1536 .bf16)) ?_ ((cut _).trans a2)
    simp only [V, hostOps0]
    after_results_simp <;> rfl
  · refine Eq.trans (b := (truncf .bf16 (m ((c.tc : Thread nD τ).loc main_arg3)) bitsLt_bf16_f32 : FVec Ideal S4224x256 .bf16)) ?_ ((cut _).trans a3)
    simp only [V, hostOps0]
    after_results_simp <;> rfl
  · refine Eq.trans (b := (truncf .bf16 (m ((c.tc : Thread nD τ).loc main_arg6)) bitsLt_bf16_f32 : FVec Ideal S4224x384 .bf16)) ?_ ((cut _).trans a6)
    simp only [V, hostOps0]
    after_results_simp <;> rfl

end Cert.Dhn

end

end
-- ==== Proof.Kvx.Arr.lean ====
/- The keys' and values' product turned back: what the program leaves, at any arguments. -/
module

public import proofs.«01_k».proof.Proof.Gen.Kernel7Ideal.Frame
public import proofs.«01_k».proof.Proof.Mat.Cat
public import Idealize.ShloMosaic.Lib.StableHlo.Run

@[expose] public section

set_option maxRecDepth 16384

noncomputable section

namespace Cert.Kvx

open Cert.Kernel7Ideal Cert.Kernel7Ideal.Gen Cert.Mat
open Idealize.ShloMosaic Idealize.ShloMosaic.TcCoe Idealize.ShloMosaic.StableHlo

/-- One block's two products. -/
theorem p (A B C D : ℕ → ℕ → EReal) (y : S1056x256.Idx) : k0_pay1 (F := Ideal) (eN A : S1056x2048.Idx → EReal) (eN B : S256x2048.Idx → EReal) (eN C : S1056x1024.Idx → EReal) (eN D : S256x1024.Idx → EReal) y
    = nt 2048 A B (y 0).val (y 1).val + nt 1024 C D (y 0).val (y 1).val := by
  pointwise [k0_pay1]
  rfl

theorem i0 : ∀ t : Fin cfg0.N, win0_0.index t = ![t.val, 0] := (by decide +kernel : ∀ t : Fin grid0.N, _)
theorem i1 : ∀ t : Fin cfg0.N, win0_1.index t = ![0, 0] := (by decide +kernel : ∀ t : Fin grid0.N, _)
theorem i2 : ∀ t : Fin cfg0.N, win0_2.index t = ![t.val, 0] := (by decide +kernel : ∀ t : Fin grid0.N, _)
theorem i3 : ∀ t : Fin cfg0.N, win0_3.index t = ![0, 2] := (by decide +kernel : ∀ t : Fin grid0.N, _)
theorem i4 : ∀ t : Fin cfg0.N, win0_4.index t = ![t.val, 0] := (by decide +kernel : ∀ t : Fin grid0.N, _)

variable (m : (ℓ : Loc nD τ sig) → Buf (Elt Ideal) ℓ) (ρ : Dev nD → PrngReg) (c : Dev nD)
variable (W A C : ℕ → ℕ → EReal)

/-- The first window of the weight is stated whole: nothing of it is cut. -/
theorem x1 (w : V m c main_v0 = (eN W : S256x3072.Idx → EReal)) (t : Fin cfg0.N) : X0_1 m c t = (eN W : S256x2048.Idx → EReal) := by
  funext y
  unfold X0_1 Pipeline.Window.fill
  rw [dif_pos (moved0_1 t y)]
  refine (congrFun w _).trans ?_
  show W _ _ = W _ _
  congr 1 <;> blk_simp [i1] <;> simp

theorem arr (w : V m c main_v0 = (eN W : S256x3072.Idx → EReal)) (a : V m c main_arg1 = (eN A : S4224x2048.Idx → EReal)) (b : V m c main_v1 = (eN C : S4224x1024.Idx → EReal)) :
    (dats m 0 c).arrAt 4 cfg0.N = (eN (fun i j => nt 2048 A W i j + nt 1024 C (from_ 2048 W) i j) : S4224x256.Idx → EReal) :=
  (dats m 0 c).arrAt_eq_of_covers 4 _ (by decide +kernel) fun t hf y => by
    blk_simp
    rw [after0_4]
    unfold outsAt0
    frame_out
    rw [show iblk m c 0 t = (eN _ : S1056x2048.Idx → EReal) from blk a (1056 * t.val) 0 ((cfg0.win 0).blk t).view.emb (fun y => by blk_simp [i0] <;> simp <;> omega) (fun y => by blk_simp [i0] <;> simp),
      x1 m c W w t,
      show iblk m c 2 t = (eN _ : S1056x1024.Idx → EReal) from blk b (1056 * t.val) 0 ((cfg0.win 2).blk t).view.emb (fun y => by blk_simp [i2] <;> simp <;> omega) (fun y => by blk_simp [i2] <;> simp),
      show iblk m c 3 t = (eN _ : S256x1024.Idx → EReal) from blk w 0 2048 ((cfg0.win 3).blk t).view.emb (fun y => by blk_simp [i3] <;> simp) (fun y => by blk_simp [i3] <;> simp <;> omega), p]
    show nt 2048 A W ((y 0).val + 1056 * t.val) (y 1).val + nt 1024 C (from_ 2048 W) ((y 0).val + 1056 * t.val) (y 1).val
      = (fun i j => nt 2048 A W i j + nt 1024 C (from_ 2048 W) i j) ((win0_4.blk t).view.emb y 0).val ((win0_4.blk t).view.emb y 1).val
    refine congrArg₂ (fun i j => nt 2048 A W i j + nt 1024 C (from_ 2048 W) i j) ?_ ?_ <;> blk_simp [i4] <;> simp <;> omega

end Cert.Kvx

end

end
-- ==== Proof.Kvx.Final.lean ====
/- The keys' and values' product turned back: the two runs end with equal results. -/
module

public import proofs.«01_k».proof.Proof.Kvx.Arr
public import proofs.«01_k».proof.Proof.Gen.Reference7Ideal.Run

@[expose] public section

set_option maxRecDepth 16384

noncomputable section

namespace Cert.Kvx

open Idealize.ShloMosaic Idealize.ShloMosaic.TcCoe Idealize.ShloMosaic.StableHlo Idealize.SL.Sem
open Cert.Mat

abbrev Vf (S : Shape) : Type := FVec Ideal S .f32

section
open Cert.Reference7Ideal Cert.Reference7Ideal.Gen

/-- The reference's line. -/
def xV (w : Vf S256x3072) (a : Vf S4224x2048) (b : Vf S4224x1024) : Vf S4224x256 :=
  Host.dotGeneral dot_S4224x3072_S256x3072_S4224x256_1_1_0_0_n_n none (concatenate S4224x3072 1 [⟨S4224x2048, a⟩, ⟨S4224x1024, b⟩] concatenates_S4224x2048_S4224x1024_S4224x3072_d1) w

theorem xV_eq (W A C : ℕ → ℕ → EReal) : xV (eN W) (eN A) (eN C) = (eN (fun i j => nt 2048 A W i j + nt 1024 C (from_ 2048 W) i j) : S4224x256.Idx → EReal) := by
  unfold xV
  rw [show concatenate S4224x3072 1 [⟨S4224x2048, (eN A : S4224x2048.Idx → EReal)⟩, ⟨S4224x1024, (eN C : S4224x1024.Idx → EReal)⟩] concatenates_S4224x2048_S4224x1024_S4224x3072_d1
    = (eN (cat 2048 A C) : S4224x3072.Idx → EReal) from by funext j; pointwise; rfl]
  funext j
  pointwise
  exact nt_cat 2048 1024 A C W _ _

theorem ref_run (m : (ℓ : Loc nD τ sig) → Buf (Elt Ideal) ℓ) (ρ : Dev nD → PrngReg) : θ_run (defs (F := Ideal)) (onTc (τ := τ) (main (F := Ideal))) ⟨m, fun _ => 0, ρ⟩ fun r => ∀ c : Dev nD,
    r.2.mem ((c.tc : Thread nD τ).loc main_v1) = xV (m ((c.tc : Thread nD τ).loc main_arg0)) (m ((c.tc : Thread nD τ).loc main_arg1)) (m ((c.tc : Thread nD τ).loc main_arg2))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) :=
  Cert.Reference7Ideal.Value.run (F := Ideal) m ρ
end

open Cert.Kernel7Ideal Cert.Kernel7Ideal.Gen

variable (m : (ℓ : Loc nD τ sig) → Buf (Elt Ideal) ℓ) (ρ : Dev nD → PrngReg)

theorem cut {a b : ℕ} (x : FVec Ideal (⟨2, ![a, b]⟩ : Shape) .f32) : truncf .bf16 x bitsLt_bf16_f32 = x := by
  funext j
  pointwise

theorem ker_run (v : (c : Dev nD) → Buf (Elt Ideal) ((c.tc : Thread nD τ).loc main_v2)) (k : ∀ c, (dats m 0 c).arrAt 4 cfg0.N = v c) :
    θ_run (defs (F := Ideal)) (onTc (τ := τ) (main (F := Ideal))) ⟨m, fun _ => 0, ρ⟩ fun r => ∀ c : Dev nD,
      r.2.mem ((c.tc : Thread nD τ).loc main_v2) = v c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun _ h c => ⟨(Pipeline.FramePost.out_eq h.1 c 4).trans (k c), h.2 c⟩) (θ_run_and (run_main m ρ) (unchanged m ρ))

/-- What the program leaves is the reference's line at its arguments. -/
theorem ker_eq (c : Dev nD) (x0 : Vf S256x3072) (x1 : Vf S4224x2048) (x2 : Vf S4224x1024)
    (a0 : m ((c.tc : Thread nD τ).loc main_arg0) = x0) (a1 : m ((c.tc : Thread nD τ).loc main_arg1) = x1) (a2 : m ((c.tc : Thread nD τ).loc main_arg2) = x2) :
    (dats m 0 c).arrAt 4 cfg0.N = xV x0 x1 x2 := by
  obtain ⟨W, rfl⟩ := eN_of x0
  obtain ⟨A, rfl⟩ := eN_of x1
  obtain ⟨C, rfl⟩ := eN_of x2
  refine (arr m c W A C ?_ ((V_main_arg1 m c).trans a1) ?_).trans (xV_eq W A C).symm
  · refine Eq.trans (b := (truncf .bf16 (m ((c.tc : Thread nD τ).loc main_arg0)) bitsLt_bf16_f32 : FVec Ideal S256x3072 .bf16)) ?_ ((cut _).trans a0)
    simp only [V, hostOps0]
    after_results_simp <;> rfl
  · refine Eq.trans (b := (truncf .bf16 (m ((c.tc : Thread nD τ).loc main_arg2)) bitsLt_bf16_f32 : FVec Ideal S4224x1024 .bf16)) ?_ ((cut _).trans a2)
    simp only [V, hostOps0]
    after_results_simp <;> rfl

end Cert.Kvx

end

end
-- ==== Proof.Fwd.Step.lean ====
/- The attention forward's body as a function: what one key block does to the running maxima, sums and values of the
   four heads, the three kinds of step, and the offsets of the loop in closed form. -/
module

public import proofs.«01_k».proof.Proof.Gen.Kernel8Ideal.Skeleton
public import proofs.«01_k».proof.Proof.Gen.Kernel8Ideal.Loops
public import proofs.«01_k».proof.Proof.Gen.Kernel8Ideal.Frame
public import Idealize.ShloMosaic.Lib.VecWindow
public import Idealize.ShloMosaic.Lib.Tactic

@[expose] public section

set_option maxRecDepth 16384

noncomputable section

namespace Cert.Kernel8Ideal.Fwd

open Cert.Kernel8Ideal Cert.Kernel8Ideal.Gen
open Idealize.ShloMosaic Idealize.ShloMosaic.TcCoe Idealize.ShloMosaic.Tactic

/-- The loop goes through the key blocks strictly between the first and the queries' own. -/
theorem trips1_eq : ∀ i : grid0.Coords, (k0_t1_loop i).trips = (i 1).val - 1 := by decide +kernel
/-- The second loop makes no trip. -/
theorem trips2_eq : ∀ i : grid0.Coords, (k0_t2_loop i).trips = 0 := by decide +kernel
theorem off1_eq : ∀ (i : grid0.Coords) (k : Fin (k0_t1_loop i).trips), k0_off1 i k = ![384 * (k.val + 1), 0] := by decide +kernel
theorem off2_eq : ∀ (i : grid0.Coords) (k : Fin (k0_t1_loop i).trips), k0_off2 i k = ![384 * (k.val + 1), 128] := by decide +kernel
theorem off3_eq : ∀ (i : grid0.Coords) (k : Fin (k0_t1_loop i).trips), k0_off3 i k = ![384 * (k.val + 1), 256] := by decide +kernel
theorem off4_eq : ∀ (i : grid0.Coords) (k : Fin (k0_t1_loop i).trips), k0_off4 i k = ![384 * (k.val + 1), 384] := by decide +kernel
theorem off5_eq : ∀ (i : grid0.Coords) (k : Fin (k0_t1_loop i).trips), k0_off5 i k = ![384 * (k.val + 1), 0] := by decide +kernel
theorem off6_eq : ∀ (i : grid0.Coords) (k : Fin (k0_t1_loop i).trips), k0_off6 i k = ![384 * (k.val + 1), 128] := by decide +kernel
/-- A point is past the first row block exactly when it takes the last, masked step. -/
theorem cond1_iff : ∀ i : grid0.Coords, k0_cond1 i = 1#1 ↔ (i 1).val ≠ 0 := by decide +kernel

variable {F : FTy → Type} [FloatOps F] [Named F]

/-- A column of one number per query. -/
abbrev Cv (F : FTy → Type) : Type := FVec F S384x1 .f32
/-- Two heads' running values side by side. -/
abbrev Av (F : FTy → Type) : Type := FVec F S384x128 .f32
/-- A tile of scores. -/
abbrev Sv (F : FTy → Type) : Type := FVec F S384x384 .f32
/-- A loaded tile. -/
abbrev Bv (F : FTy → Type) [FloatOps F] : Type := Vec F S384x128 .bf16
/-- The four maxima, the four sums, the two pairs' values. -/
abbrev St (F : FTy → Type) : Type := Cv F × Cv F × Cv F × Cv F × Cv F × Cv F × Cv F × Cv F × Av F × Av F

/-- The running maximum after a tile of scores. -/
def mx (m : Cv F) (s : Sv F) : Cv F :=
  maximumf m (shapeCast S384x1 (multiReduction .maximumf [1] S384 s 0xFF800000#32 reduces_S384x384_S384 (.inl rfl) rfl) shapeCasts_S384_S384x1)
/-- The powers of two of the scores, taken from the maximum. -/
def ex (s : Sv F) (m : Cv F) : Sv F := exp2 (subf s (broadcastTo S384x384 m broadcasts_S384x1_S384x384))
/-- What the old sums are scaled by. -/
def al (m m' : Cv F) : Cv F := exp2 (subf m m')
/-- The running sum after a tile. -/
def sm (a l : Cv F) (p : Sv F) : Cv F :=
  addf (mulf a l) (shapeCast S384x1 (multiReduction .add [1] S384 p 0x00000000#32 reduces_S384x384_S384 (.inl rfl) rfl) shapeCasts_S384_S384x1)
/-- A pair's two columns, each over its head's half of the lanes. -/
def two (a b : Cv F) : Av F :=
  select k0_pay78 (broadcastTo S384x128 (shapeCast S384x1 a shapeCasts_S384x1_S384x1) broadcasts_S384x1_S384x128)
    (broadcastTo S384x128 (shapeCast S384x1 b shapeCasts_S384x1_S384x1) broadcasts_S384x1_S384x128)
/-- A tile of weights times the values of one half of the lanes. -/
def pv (p : Sv F) (v : Bv F) (w : IVec S384x128 1) : Av F :=
  matmul dot_S384x384_S384x128_S384x128_1_0_0_1_n_n none (truncf .bf16 p bitsLt_bf16_f32)
    (select w (shapeCast S384x128 v shapeCasts_S384x128_S384x128 : FVec F S384x128 .bf16) (broadcast S384x128 (Scalar.ofBits .bf16 0x0000#16 : F .bf16))) (constant S384x128 .f32 0x00000000#32)
/-- A pair's running values after a tile. -/
def ac (acc : Av F) (a b : Cv F) (p q : Sv F) (v : Bv F) : Av F :=
  addf (addf (mulf acc (two a b)) (pv p v k0_pay79)) (pv q v k0_pay80)

/-- One key block: from its four tiles of scores and two tiles of values. -/
def step (s0 s1 s2 s3 : Sv F) (v0 v1 : Bv F) (t : St F) : St F :=
  match t with
  | (m0, m1, m2, m3, l0, l1, l2, l3, a0, a1) =>
    (mx m0 s0, mx m1 s1, mx m2 s2, mx m3 s3,
     sm (al m0 (mx m0 s0)) l0 (ex s0 (mx m0 s0)), sm (al m1 (mx m1 s1)) l1 (ex s1 (mx m1 s1)),
     sm (al m2 (mx m2 s2)) l2 (ex s2 (mx m2 s2)), sm (al m3 (mx m3 s3)) l3 (ex s3 (mx m3 s3)),
     ac a0 (al m0 (mx m0 s0)) (al m1 (mx m1 s1)) (ex s0 (mx m0 s0)) (ex s1 (mx m1 s1)) v0,
     ac a1 (al m2 (mx m2 s2)) (al m3 (mx m3 s3)) (ex s2 (mx m2 s2)) (ex s3 (mx m3 s3)) v1)

/-- A tile of scores with the named value where the mask is off. -/
def cut (w : IVec S384x384 1) (s : Sv F) : Sv F := select w s (broadcast S384x384 (Named.named κ "mask" 0xF149F2CA#32))

variable (i : grid0.Coords) (x2 : Vec F S384x512 .bf16) (x3 : Vec F S4224x512 .bf16) (x4 : Vec F S4224x256 .bf16)

abbrev q0 : Bv F := VecWindow.window x2 ![0, 0] S384x128.size inb_S384x512_S384x128_0_0
abbrev q1 : Bv F := VecWindow.window x2 ![0, 128] S384x128.size inb_S384x512_S384x128_0_128
abbrev q2 : Bv F := VecWindow.window x2 ![0, 256] S384x128.size inb_S384x512_S384x128_0_256
abbrev q3 : Bv F := VecWindow.window x2 ![0, 384] S384x128.size inb_S384x512_S384x128_0_384

/-- The word of the point's row block. -/
abbrev qw : BitVec 32 := BitVec.ofNat 32 (i 1).val

/-- Before the first key block. -/
def init : St F := (k0_pay81, k0_pay81, k0_pay81, k0_pay81, k0_pay82, k0_pay82, k0_pay82, k0_pay82, k0_pay83, k0_pay83)

/-- The first key block, masked. -/
def stF : St F :=
  step (cut (k0_pay88 (qw i) 384#32) (k0_pay2 (q0 x2) (VecWindow.window x3 ![0, 0] S384x128.size inb_S4224x512_S384x128_0_0)))
    (cut (k0_pay88 (qw i) 384#32) (k0_pay2 (q1 x2) (VecWindow.window x3 ![0, 128] S384x128.size inb_S4224x512_S384x128_0_128)))
    (cut (k0_pay88 (qw i) 384#32) (k0_pay2 (q2 x2) (VecWindow.window x3 ![0, 256] S384x128.size inb_S4224x512_S384x128_0_256)))
    (cut (k0_pay88 (qw i) 384#32) (k0_pay2 (q3 x2) (VecWindow.window x3 ![0, 384] S384x128.size inb_S4224x512_S384x128_0_384)))
    (VecWindow.window x4 ![0, 0] S384x128.size inb_S4224x256_S384x128_0_0)
    (VecWindow.window x4 ![0, 128] S384x128.size inb_S4224x256_S384x128_0_128) init

/-- A key block between, unmasked. -/
def stU (k : Fin (k0_t1_loop i).trips) (t : St F) : St F :=
  step (k0_pay2 (q0 x2) (VecWindow.window x3 (k0_off1 i k) S384x128.size (k0_off1_inb i k)))
    (k0_pay2 (q1 x2) (VecWindow.window x3 (k0_off2 i k) S384x128.size (k0_off2_inb i k)))
    (k0_pay2 (q2 x2) (VecWindow.window x3 (k0_off3 i k) S384x128.size (k0_off3_inb i k)))
    (k0_pay2 (q3 x2) (VecWindow.window x3 (k0_off4 i k) S384x128.size (k0_off4_inb i k)))
    (VecWindow.window x4 (k0_off5 i k) S384x128.size (k0_off5_inb i k))
    (VecWindow.window x4 (k0_off6 i k) S384x128.size (k0_off6_inb i k)) t

/-- The queries' own key block, masked. -/
def stD (h : k0_cond1 i = 1#1) (t : St F) : St F :=
  step (cut (k0_pay56 (qw i)) (k0_pay2 (q0 x2) (VecWindow.window x3 (k0_off13 i) S384x128.size (k0_off13_inb i h))))
    (cut (k0_pay56 (qw i)) (k0_pay2 (q1 x2) (VecWindow.window x3 (k0_off14 i) S384x128.size (k0_off14_inb i h))))
    (cut (k0_pay56 (qw i)) (k0_pay2 (q2 x2) (VecWindow.window x3 (k0_off15 i) S384x128.size (k0_off15_inb i h))))
    (cut (k0_pay56 (qw i)) (k0_pay2 (q3 x2) (VecWindow.window x3 (k0_off16 i) S384x128.size (k0_off16_inb i h))))
    (VecWindow.window x4 (k0_off17 i) S384x128.size (k0_off17_inb i h))
    (VecWindow.window x4 (k0_off18 i) S384x128.size (k0_off18_inb i h)) t

/-- Before trip `k` of the loop. -/
def stL : ℕ → St F
  | 0 => stF i x2 x3 x4
  | k + 1 => if h : k < (k0_t1_loop i).trips then stU i x2 x3 x4 ⟨k, h⟩ (stL k) else stL k

/-- At the body's end. -/
def stE : St F :=
  if h : k0_cond1 i = 1#1 then stD i x2 x3 x4 h (stL i x2 x3 x4 (k0_t1_loop i).trips) else stL i x2 x3 x4 (k0_t1_loop i).trips

/-- What the body leaves of the output, from its end state. -/
def outO (t : St F) : Vec F S384x256 .bf16 :=
  match t with
  | (m0, m1, m2, m3, l0, l1, l2, l3, a0, a1) =>
    VecWindow.put (VecWindow.put (broadcast S384x256 (Scalar.ofBits .bf16 0x0000#16 : F .bf16)) ![0, 0] S384x128.size (k0_pay125 k0_pay78 l0 l1 a0)) ![0, 128] S384x128.size (k0_pay128 k0_pay78 l2 l3 a1)
/-- And of the logarithms of the sums. -/
def outL (t : St F) : Vec F S384x256 .f32 :=
  match t with
  | (m0, m1, m2, m3, l0, l1, l2, l3, a0, a1) =>
    VecWindow.put (VecWindow.put (constant S384x256 .f32 0x00000000#32) ![0, 0] S384x128.size (k0_pay126 k0_pay78 m0 m1 l0 l1)) ![0, 128] S384x128.size (k0_pay1 k0_pay78 m2 m3 (k0_pay127 k0_pay78 l2 l3))

end Cert.Kernel8Ideal.Fwd
-- ==== Proof.Fwd.Run.lean ====
/- The body's run: the loop's trips, and what the body leaves in the two results' buffers. -/
module

public import proofs.«01_k».proof.Proof.Fwd.Step

@[expose] public section

set_option maxRecDepth 16384

noncomputable section

namespace Cert.Kernel8Ideal.Fwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

section Trip
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .f32) (harg6 : arg6.IsWhole) (arg1 : BitVec 32) (v10 : FVec F S384x128 .f32) (v52 : FVec F S384x1 .f32) (v55 : FVec F S384x1 .f32) (v58 : FVec F S384x1 .f32) (v61 : FVec F S384x1 .f32) (v79 : FVec F S384x1 .f32) (v81 : FVec F S384x1 .f32) (v85 : FVec F S384x1 .f32) (v89 : FVec F S384x1 .f32) (v93 : FVec F S384x1 .f32) (v97 : FVec F S384x1 .f32) (v115 : FVec F S384x128 .f32) (v121 : FVec F S384x128 .f32) (v122 : FVec F S384x384 .bf16) (v124 : FVec F S384x128 .bf16) (cst_43 : FVec F S384x128 .f32) (X_arg2 : BufTy.Contents (Elt F) arg2.view.ty) (X_arg3 : BufTy.Contents (Elt F) arg3.view.ty) (X_arg4 : BufTy.Contents (Elt F) arg4.view.ty) (k : Fin (k0_t1_loop i).trips)

set_option maxHeartbeats 4000000 in
/-- One trip's result. -/
theorem trip_eq (acc : St F) : tripR_k0_t1 Variants.none c none i arg2 harg2 arg3 harg3 arg4 harg4 arg5 harg5 arg6 harg6 arg1 k0_pay78 k0_pay79 k0_pay80 v10 v52 v55 v58 v61 v79 v81 v85 v89 v93 v97 v115 v121 v122 v124 cst_43 X_arg2 X_arg3 X_arg4 k acc = stU i (arg2.view.read (Elt F) X_arg2) (arg3.view.read (Elt F) X_arg3) (arg4.view.read (Elt F) X_arg4) k acc := by
  obtain ⟨m0, m1, m2, m3, l0, l1, l2, l3, a0, a1⟩ := acc
  unfold tripR_k0_t1 trip_k0_t1
  rfl

/-- The loop's carried state before trip `n`, from a state of the first block. -/
theorem loop_eq (s : St F) (hs : s = stF i (arg2.view.read (Elt F) X_arg2) (arg3.view.read (Elt F) X_arg3) (arg4.view.read (Elt F) X_arg4)) (n : ℕ) :
    st_k0_t1 Variants.none c none i arg2 harg2 arg3 harg3 arg4 harg4 arg5 harg5 arg6 harg6 arg1 k0_pay78 k0_pay79 k0_pay80 v10 v52 v55 v58 v61 v79 v81 v85 v89 v93 v97 v115 v121 v122 v124 cst_43 X_arg2 X_arg3 X_arg4 s n = stL i (arg2.view.read (Elt F) X_arg2) (arg3.view.read (Elt F) X_arg3) (arg4.view.read (Elt F) X_arg4) n := by
  induction n with
  | zero => rw [st_k0_t1_zero]; exact hs
  | succ n ih =>
    unfold st_k0_t1 st_k0_t1Step stL
    by_cases h : n < (k0_t1_loop i).trips
    · rw [dif_pos h, dif_pos h, trip_eq, ih]
    · rw [dif_neg h, dif_neg h, ih]
/-- And after the last. -/
theorem loop1_eq (s : St F) (hs : s = stF i (arg2.view.read (Elt F) X_arg2) (arg3.view.read (Elt F) X_arg3) (arg4.view.read (Elt F) X_arg4)) :
    st_k0_t1 Variants.none c none i arg2 harg2 arg3 harg3 arg4 harg4 arg5 harg5 arg6 harg6 arg1 k0_pay78 k0_pay79 k0_pay80 v10 v52 v55 v58 v61 v79 v81 v85 v89 v93 v97 v115 v121 v122 v124 cst_43 X_arg2 X_arg3 X_arg4 s (Scf.trips (k0_t1_loop i).lb (k0_t1_loop i).ub (k0_t1_loop i).st) = stL i (arg2.view.read (Elt F) X_arg2) (arg3.view.read (Elt F) X_arg3) (arg4.view.read (Elt F) X_arg4) (k0_t1_loop i).trips :=
  loop_eq c i arg2 harg2 arg3 harg3 arg4 harg4 arg5 harg5 arg6 harg6 arg1 v10 v52 v55 v58 v61 v79 v81 v85 v89 v93 v97 v115 v121 v122 v124 cst_43 X_arg2 X_arg3 X_arg4 s hs _
end Trip

/-- The second loop carries its entry's state through. -/
theorem loop2_eq (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .f32) (harg6 : arg6.IsWhole) (arg1 : BitVec 32) (v2 : IVec S384x128 1) (v5 : IVec S384x128 1) (v7 : IVec S384x128 1) (v10 : FVec F S384x128 .f32) (v52 : FVec F S384x1 .f32) (v55 : FVec F S384x1 .f32) (v58 : FVec F S384x1 .f32) (v61 : FVec F S384x1 .f32) (v79 : FVec F S384x1 .f32) (v81 : FVec F S384x1 .f32) (v85 : FVec F S384x1 .f32) (v89 : FVec F S384x1 .f32) (v93 : FVec F S384x1 .f32) (v97 : FVec F S384x1 .f32) (v115 : FVec F S384x128 .f32) (v121 : FVec F S384x128 .f32) (v122 : FVec F S384x384 .bf16) (v124 : FVec F S384x128 .bf16) (cst_43 : FVec F S384x128 .f32) (v138 : BitVec 32) (X_arg2 : BufTy.Contents (Elt F) arg2.view.ty) (X_arg3 : BufTy.Contents (Elt F) arg3.view.ty) (X_arg4 : BufTy.Contents (Elt F) arg4.view.ty) (s : St F) : st_k0_t2 Variants.none c none i arg2 harg2 arg3 harg3 arg4 harg4 arg5 harg5 arg6 harg6 arg1 v2 v5 v7 v10 v52 v55 v58 v61 v79 v81 v85 v89 v93 v97 v115 v121 v122 v124 cst_43 v138 X_arg2 X_arg3 X_arg4 s (Scf.trips (k0_t2_loop i).lb (k0_t2_loop i).ub (k0_t2_loop i).st) = s := by
  rw [show Scf.trips (k0_t2_loop i).lb (k0_t2_loop i).ub (k0_t2_loop i).st = 0 from trips2_eq i, st_k0_t2_zero]

/-- Two halves put over a block leave nothing of what was there. -/
theorem put_halves {α : Type} (x y : S384x256.Idx → α) (u w : S384x128.Idx → α) :
    VecWindow.put (VecWindow.put x ![0, 0] S384x128.size u) ![0, 128] S384x128.size w
      = VecWindow.put (VecWindow.put y ![0, 0] S384x128.size u) ![0, 128] S384x128.size w := by
  funext p
  unfold VecWindow.put
  by_cases h : ∀ a, (![0, 128] : Fin 2 → ℕ) a ≤ (p a).val ∧ (p a).val < (![0, 128] : Fin 2 → ℕ) a + S384x128.size a
  · rw [dif_pos h, dif_pos h]
  · rw [dif_neg h, dif_neg h]
    have h0 : ∀ a, (![0, 0] : Fin 2 → ℕ) a ≤ (p a).val ∧ (p a).val < (![0, 0] : Fin 2 → ℕ) a + S384x128.size a := by
      intro a
      have hp : (p 1).val < 256 := (p 1).isLt
      have hp0 : (p 0).val < 384 := (p 0).isLt
      match a with
      | ⟨0, _⟩ => exact ⟨Nat.zero_le _, by show (p 0).val < 0 + 384; omega⟩
      | ⟨1, _⟩ =>
        refine ⟨Nat.zero_le _, ?_⟩
        show (p 1).val < 0 + 128
        by_contra hn
        refine h fun a => ?_
        match a with
        | ⟨0, _⟩ => exact ⟨Nat.zero_le _, by show (p 0).val < 0 + 384; omega⟩
        | ⟨1, _⟩ => exact ⟨by show 128 ≤ (p 1).val; omega, by show (p 1).val < 128 + 128; omega⟩
    rw [dif_pos h0, dif_pos h0]

section Run
variable (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .f32) (harg6 : arg6.IsWhole)
  (f2 : Buf (Elt F) (arg2.view.loc (c : Thread nD τ))) (f3 : Buf (Elt F) (arg3.view.loc (c : Thread nD τ))) (f4 : Buf (Elt F) (arg4.view.loc (c : Thread nD τ)))
  (f5 : Buf (Elt F) (arg5.view.loc (c : Thread nD τ))) (f6 : Buf (Elt F) (arg6.view.loc (c : Thread nD τ)))

/-- The three operands at their contents. -/
abbrev insP : sProp 𝕄 :=
  iprop((arg2.view.loc (c : Thread nD τ) ↦[arg2.view.set]{fullShare} f2) ∗ (arg3.view.loc (c : Thread nD τ) ↦[arg3.view.set]{fullShare} f3)
    ∗ (arg4.view.loc (c : Thread nD τ) ↦[arg4.view.set]{fullShare} f4))

abbrev startP : sProp 𝕄 :=
  iprop(insP c arg2 arg3 arg4 f2 f3 f4 ∗ (arg5.view.loc (c : Thread nD τ) ↦[arg5.view.set]{fullShare} f5) ∗ (arg6.view.loc (c : Thread nD τ) ↦[arg6.view.set]{fullShare} f6))

abbrev endSt : St F := stE i (arg2.view.read (Elt F) f2) (arg3.view.read (Elt F) f3) (arg4.view.read (Elt F) f4)

abbrev endP : sProp 𝕄 :=
  iprop(insP c arg2 arg3 arg4 f2 f3 f4
    ∗ (∃ f, (arg5.view.loc (c : Thread nD τ) ↦[arg5.view.set]{fullShare} f) ∗ ⌜arg5.view.read (Elt F) f = outO (endSt c i arg2 arg3 arg4 f2 f3 f4)⌝)
    ∗ (∃ f, (arg6.view.loc (c : Thread nD τ) ↦[arg6.view.set]{fullShare} f) ∗ ⌜arg6.view.read (Elt F) f = outL (endSt c i arg2 arg3 arg4 f2 f3 f4)⌝))

set_option maxHeartbeats 8000000 in
/-- The body at a point of the first row block. -/
theorem body_first (h0 : ¬ k0_cond1 i = 1#1) :
    startP c arg2 arg3 arg4 arg5 arg6 f2 f3 f4 f5 f6
      ⊢ wp Idealize.ShloMosaic.frame (wpE defs₀ Variants.none (c : Thread nD τ) none) Set.univ (cc0_attn_fwd i arg2 harg2 arg3 harg3 arg4 harg4 arg5 harg5 arg6 harg6)
        fun _ => endP c i arg2 arg3 arg4 arg5 arg6 f2 f3 f4 := by
  rw [cc0_attn_fwd_eq_skeleton]
  iintro ⟨⟨H2, H3, H4⟩, H5, H6⟩
  sl_exec_parts
  sl_step
  unfold body_first.sl.r_16 body_first.sl.r_17 body_first.sl.r_18 body_first.sl.r_19
  rw [loop2_eq, loop1_eq]
  rotate_left
  · rfl
  unfold endP
  rw [show endSt c i arg2 arg3 arg4 f2 f3 f4 = stL i (arg2.view.read (Elt F) f2) (arg3.view.read (Elt F) f3) (arg4.view.read (Elt F) f4) (k0_t1_loop i).trips from dif_neg h0]
  generalize stL i (arg2.view.read (Elt F) f2) (arg3.view.read (Elt F) f3) (arg4.view.read (Elt F) f4) (k0_t1_loop i).trips = T
  obtain ⟨m0, m1, m2, m3, l0, l1, l2, l3, a0, a1⟩ := T
  isplitl [H2 H3 H4]
  · isplitl [H2]; · iexact H2
    isplitl [H3]; · iexact H3
    iexact H4
  isplitl [H5]
  · iexists _
    isplitl [H5]; · iexact H5
    ipureintro
    rw [View.read_writes_cons_put _ _ _ _ _ rfl, View.read_writes_cons_put _ _ _ _ _ rfl]
    exact put_halves _ _ _ _
  · iexists _
    isplitl [H6]; · iexact H6
    ipureintro
    rw [View.read_writes_cons_put _ _ _ _ _ rfl, View.read_writes_cons_put _ _ _ _ _ rfl]
    exact put_halves _ _ _ _

set_option maxHeartbeats 8000000 in
/-- The body at a point of a later row block. -/
theorem body_rest (h0 : k0_cond1 i = 1#1) :
    startP c arg2 arg3 arg4 arg5 arg6 f2 f3 f4 f5 f6
      ⊢ wp Idealize.ShloMosaic.frame (wpE defs₀ Variants.none (c : Thread nD τ) none) Set.univ (cc0_attn_fwd i arg2 harg2 arg3 harg3 arg4 harg4 arg5 harg5 arg6 harg6)
        fun _ => endP c i arg2 arg3 arg4 arg5 arg6 f2 f3 f4 := by
  rw [cc0_attn_fwd_eq_skeleton]
  iintro ⟨⟨H2, H3, H4⟩, H5, H6⟩
  sl_exec_parts
  sl_step
  unfold body_rest.sl.r_38 body_rest.sl.r_37 body_rest.sl.r_36 body_rest.sl.r_35 body_rest.sl.r_34 body_rest.sl.r_33 body_rest.sl.r_32 body_rest.sl.r_31 body_rest.sl.r_30 body_rest.sl.r_29 body_rest.sl.r_28 body_rest.sl.r_27 body_rest.sl.r_26 body_rest.sl.r_25 body_rest.sl.r_24 body_rest.sl.r_23 body_rest.sl.r_22 body_rest.sl.r_21
  rw [loop2_eq, loop1_eq]
  rotate_left
  · rfl
  unfold endP
  rw [show endSt c i arg2 arg3 arg4 f2 f3 f4 = stD i (arg2.view.read (Elt F) f2) (arg3.view.read (Elt F) f3) (arg4.view.read (Elt F) f4) h0 (stL i (arg2.view.read (Elt F) f2) (arg3.view.read (Elt F) f3) (arg4.view.read (Elt F) f4) (k0_t1_loop i).trips) from dif_pos h0]
  generalize stL i (arg2.view.read (Elt F) f2) (arg3.view.read (Elt F) f3) (arg4.view.read (Elt F) f4) (k0_t1_loop i).trips = T
  obtain ⟨m0, m1, m2, m3, l0, l1, l2, l3, a0, a1⟩ := T
  isplitl [H2 H3 H4]
  · isplitl [H2]; · iexact H2
    isplitl [H3]; · iexact H3
    iexact H4
  isplitl [H5]
  · iexists _
    isplitl [H5]; · iexact H5
    ipureintro
    rw [View.read_writes_cons_put _ _ _ _ _ rfl, View.read_writes_cons_put _ _ _ _ _ rfl]
    exact put_halves _ _ _ _
  · iexists _
    isplitl [H6]; · iexact H6
    ipureintro
    rw [View.read_writes_cons_put _ _ _ _ _ rfl, View.read_writes_cons_put _ _ _ _ _ rfl]
    exact put_halves _ _ _ _

end Run

end Cert.Kernel8Ideal.Fwd
-- ==== Proof.Fwd.Frame.lean ====
/- The run of the attention forward's program: what each window's buffer holds after each grid point, the body's
   obligation there, and the frame claim. -/
module

public import proofs.«01_k».proof.Proof.Fwd.Run
public import Idealize.ShloMosaic.Lib.Claim

@[expose] public section

set_option maxRecDepth 16384

noncomputable section

namespace Cert.Kernel8Ideal.Fwd

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)

variable {F : FTy → Type} [FloatOps F] [Named F]

local notation "𝕄" => MT nD τ sig Unit (Elt F) ℕ (UR sig nD τ) ℕ

/-- The body on whole buffers: the operands' kept, the two results' at what the end state says. -/
theorem body_owns (c : Dev nD) (i : grid0.Coords) (arg2 : Memref sig .tc .vmem S384x512 .bf16) (harg2 : arg2.IsWhole) (arg3 : Memref sig .tc .vmem S4224x512 .bf16) (harg3 : arg3.IsWhole) (arg4 : Memref sig .tc .vmem S4224x256 .bf16) (harg4 : arg4.IsWhole) (arg5 : Memref sig .tc .vmem S384x256 .bf16) (harg5 : arg5.IsWhole) (arg6 : Memref sig .tc .vmem S384x256 .f32) (harg6 : arg6.IsWhole)
    (x2 : Vec F S384x512 .bf16) (x3 : Vec F S4224x512 .bf16) (x4 : Vec F S4224x256 .bf16) (K : PUnit → sProp 𝕄) :
    iprop(owns (c : Thread nD τ) arg2 fullShare x2
        ∗ owns (c : Thread nD τ) arg3 fullShare x3
        ∗ owns (c : Thread nD τ) arg4 fullShare x4
        ∗ (∃ d, owns (c : Thread nD τ) arg5 fullShare d) ∗ (∃ d, owns (c : Thread nD τ) arg6 fullShare d)
        ∗ (iprop(owns (c : Thread nD τ) arg2 fullShare x2
        ∗ owns (c : Thread nD τ) arg3 fullShare x3
        ∗ owns (c : Thread nD τ) arg4 fullShare x4
            ∗ owns (c : Thread nD τ) arg5 fullShare (outO (stE i x2 x3 x4))
            ∗ owns (c : Thread nD τ) arg6 fullShare (outL (stE i x2 x3 x4))) -∗ K ⟨⟩))
      ⊢ wp Idealize.ShloMosaic.frame (wpE (defs₀ (F := F)) Variants.none (c : Thread nD τ) none) Set.univ (cc0_attn_fwd i arg2 harg2 arg3 harg3 arg4 harg4 arg5 harg5 arg6 harg6) K := by
  unfold owns
  iintro ⟨⟨%f2, %h2, H2⟩, ⟨%f3, %h3, H3⟩, ⟨%f4, %h4, H4⟩, ⟨%d5, %f5, -, H5⟩, ⟨%d6, %f6, -, H6⟩, Hk⟩
  subst h2 h3 h4
  have hrun : startP c arg2 arg3 arg4 arg5 arg6 f2 f3 f4 f5 f6
      ⊢ wp Idealize.ShloMosaic.frame (wpE (defs₀ (F := F)) Variants.none (c : Thread nD τ) none) Set.univ (cc0_attn_fwd i arg2 harg2 arg3 harg3 arg4 harg4 arg5 harg5 arg6 harg6)
        fun _ => endP c i arg2 arg3 arg4 arg5 arg6 f2 f3 f4 := by
    by_cases h0 : k0_cond1 i = 1#1
    · exact body_rest c i arg2 harg2 arg3 harg3 arg4 harg4 arg5 harg5 arg6 harg6 f2 f3 f4 f5 f6 h0
    · exact body_first c i arg2 harg2 arg3 harg3 arg4 harg4 arg5 harg5 arg6 harg6 f2 f3 f4 f5 f6 h0
  iapply (wp_wand_r Idealize.ShloMosaic.frame (wpE (defs₀ (F := F)) Variants.none (c : Thread nD τ) none) Set.univ)
  isplitl [H2 H3 H4 H5 H6]
  · iapply hrun
    isplitl [H2 H3 H4]
    · isplitl [H2]; · iexact H2
      isplitl [H3]; · iexact H3
      iexact H4
    isplitl [H5]; · iexact H5
    iexact H6
  iintro %u ⟨⟨H2, H3, H4⟩, ⟨%g5, H5, %hg5⟩, ⟨%g6, H6, %hg6⟩⟩
  iapply Hk
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists g5; isplitr; · ipureintro; exact hg5
    iexact H5
  iexists g6; isplitr; · ipureintro; exact hg6
  iexact H6

/-! ## The pipeline's data -/

variable (m : (ℓ : Loc nD τ sig) → Buf (Elt F) ℓ) (ρ : Dev nD → PrngReg)

/-- The end state of point `t`. -/
abbrev ptSt (c : Dev nD) (t : Fin cfg0.N) : St F := stE (grid0.coords t) (iblk m c 0 t) (iblk m c 1 t) (iblk m c 2 t)

/-- The row block of point `t`. -/
theorem coords_1 (t : Fin cfg0.N) : ((grid0.coords t) 1).val = t.val % 11 :=
  (by decide +kernel : ∀ t : Fin grid0.N, ((grid0.coords t) 1).val = t.val % 11) t

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => outO (ptSt m c t)
    | ⟨4, _⟩ => outL (ptSt m c t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = outO (ptSt m c t) := by dsimp only [dats]
theorem after4 (c : Dev nD) (t : Fin cfg0.N) : (dats m 0 c).after 4 t = outL (ptSt m c t) := by dsimp only [dats]
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

/-- The body's obligation at a point. -/
theorem sound_body (c : Dev nD) (t : Fin cfg0.N) :
    bodyPre m c t ⊢ wp Idealize.ShloMosaic.frame (wpE (defs₀ (F := F)) Variants.none (c : Thread nD τ) none) Set.univ (bodyAt0 t) (fun _ => bodyPost m c t) := by
  unfold bodyPre bodyPost bodyAt0
  simp only [before0, before1, before2]
  rw [show (dats m 0 c).Φ t.succ = (dats m 0 c).Φ t.castSucc from rfl,
    show (dats m 0 c).owesAt () t.succ = (dats m 0 c).owesAt () t.castSucc from rfl,
    after0, after1, after2, after3, after4]
  iintro ⟨HΦ, Ho, ⟨%d0, H0⟩, ⟨%d1, H1⟩, ⟨%d2, H2⟩, ⟨%d3, H3⟩, ⟨%d4, H4⟩⟩
  iapply (body_owns c _ _ _ _ _ _ _ _ _ _ _ (iblk m c 0 t) (iblk m c 1 t) (iblk m c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

/-- What the memory holds after the host's last line. -/
abbrev VT (c : Dev nD) (b : Ref sig .tc) := Pipeline.afterTail₀ cfgs (dats (F := F) m) 0 (V0 m) [hostOps1] c b

set_option backward.isDefEq.respectTransparency.types false in
/-- Every fair run ends with the arrays at what the pipeline's data says and every counter at zero. -/
theorem run_zero : θ_run defs (onTc (τ := τ) (main (F := F))) (s₀ m ρ) (fun r => (Pipeline.FramePost cfgs (dats m) 0 (VT m)) r ∧ r.2.sem = fun _ => 0) :=
  Pipeline.θ_run_frame_around (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) sfx_sub sfx_fresh sfx_keeps (hmain := hmain m Variants.none) (hA := A_eq m) (hΦ := fun _ _ => rfl)

/-- The same without the counters. -/
theorem run_arrays : θ_run defs (onTc (τ := τ) (main (F := F))) (s₀ m ρ) (Pipeline.FramePost cfgs (dats m) 0 (VT m)) :=
  (θ_run defs _ _).mono (fun _ h => h.1) (run_zero m ρ)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_arrays m ρ)) ((θ_run defs _ _).mono (fun _ h => h.2) (run_zero m ρ))

end Cert.Kernel8Ideal.Fwd
-- ==== Proof.Fwd.Row.lean ====
/- One key block of the attention forward at real operands: what it does to a row's running sums. -/
module

public import proofs.«01_k».proof.Proof.Fwd.Step
public import proofs.«01_k».proof.Proof.Value.Real
public import Idealize.ShloMosaic.Lib.Pointwise

@[expose] public section

set_option maxRecDepth 16384

noncomputable section

namespace Cert.Kernel8Ideal.Fwd

open Cert.Kernel8Ideal Cert.Kernel8Ideal.Gen
open Idealize.ShloMosaic
open Cert.KernelIdeal.Attn (cN cM bM blk win coe_sum ntV lo hi lo_bit hi_bit sel p_eq exp2_eq le_bit ge_bit and_bit pos_bit seen va Blk Sq dom_eq)

theorem mask_bot' : (Named.named (F := Ideal) (φ := .f32) κ "mask" 0xF149F2CA#32 : EReal) = ⊥ := IdealRules.named_const.ideal_named_scalar _ _ _ _ rfl

/-- A matrix whose entries may be infinite, its block at row `a` and column `b`, and a window onto it. -/
def eN {a b : ℕ} (f : ℕ → ℕ → EReal) : (⟨2, ![a, b]⟩ : Shape).Idx → EReal := fun j => f (j 0).val (j 1).val
def eM {a b : ℕ} (f : Fin a → Fin b → EReal) : (⟨2, ![a, b]⟩ : Shape).Idx → EReal := fun j => f (j 0) (j 1)
abbrev BlkE : Type := Fin 384 → Fin 128 → EReal
def blkE (f : ℕ → ℕ → EReal) (a b : ℕ) : BlkE := fun r d => f (a + r.val) (b + d.val)
theorem winE {n m : ℕ} (f : ℕ → ℕ → EReal) (off : Fin (⟨2, ![n, m]⟩ : Shape).rank → ℕ) (inb : ∀ a, off a + S384x128.size a ≤ (⟨2, ![n, m]⟩ : Shape).size a) (a b : ℕ) (e : off = ![a, b]) :
    VecWindow.window (eN f : (⟨2, ![n, m]⟩ : Shape).Idx → EReal) off S384x128.size inb = eM (blkE f a b) := by
  subst e
  funext y
  show f (a + 1 * (y 0).val) (b + 1 * (y 1).val) = f (a + (y 0).val) (b + (y 1).val)
  rw [one_mul, one_mul]

theorem mul_sumE (c : ℝ) (hc : 0 ≤ c) (n : ℕ) (f : ℕ → EReal) : (c : EReal) * ∑ k ∈ Finset.range n, f k = ∑ k ∈ Finset.range n, (c : EReal) * f k := by
  induction n with
  | zero => simp
  | succ n ih =>
    rw [Finset.sum_range_succ, Finset.sum_range_succ, EReal.left_distrib_of_nonneg_of_ne_top (EReal.coe_nonneg.mpr hc) (EReal.coe_ne_top c), ih]

/-- A key's weight: the power of two of its score taken from `m`, where it is seen. -/
def wt (q : ℕ) (s : ℕ → ℝ) (m : EReal) (k : ℕ) : ℝ := if seen q k then Real.rpow 2 (s k - m.toReal) else 0

/-- The sum over the first `n` keys of `f`, weighted. -/
def T (q : ℕ) (s : ℕ → ℝ) (f : ℕ → EReal) (n : ℕ) (m : EReal) : EReal := ∑ k ∈ Finset.range n, ((wt q s m k : ℝ) : EReal) * f k

/-- A score where the key is seen. -/
def sc (q : ℕ) (s : ℕ → ℝ) (k : ℕ) : EReal := if seen q k then (s k : EReal) else ⊥

theorem sc_exp (q : ℕ) (s : ℕ → ℝ) (k : ℕ) (M : ℝ) : Ideal.exp2 (sc q s k - (M : EReal)) = ((if seen q k then Real.rpow 2 (s k - M) else 0 : ℝ) : EReal) := by
  have := p_eq (decide (seen q k)) (s k) M
  simp only [decide_eq_true_eq] at this
  exact this

/-- A row's sum after one more key block. -/
theorem row (q : ℕ) (s : ℕ → ℝ) (f : ℕ → EReal) (n : ℕ) (m : EReal) (M : ℝ) (x : EReal) (ht : m ≠ ⊤) (h0 : m = ⊥ → n = 0) (hx : x = T q s f n m) :
    Ideal.exp2 (m - (M : EReal)) * x + ∑ c : Fin 384, Ideal.exp2 (sc q s (n + c.val) - (M : EReal)) * f (n + c.val) = T q s f (n + 384) (M : EReal) := by
  have e1 : Ideal.exp2 (m - (M : EReal)) * x = T q s f n (M : EReal) := by
    rcases eq_or_ne m ⊥ with hb | hb
    · subst hb
      rw [EReal.bot_sub, Ideal.exp2_bot, zero_mul, h0 rfl]
      simp [T]
    · lift m to ℝ using ⟨ht, hb⟩
      rw [← EReal.coe_sub, Ideal.exp2_coe, hx]
      unfold T
      rw [mul_sumE (Real.rpow 2 (m - M)) (Real.rpow_pos_of_pos two_pos _).le]
      refine Finset.sum_congr rfl fun k _ => ?_
      rw [← mul_assoc, ← EReal.coe_mul]
      congr 2
      unfold wt
      rw [EReal.toReal_coe, EReal.toReal_coe]
      split
      · show (2 : ℝ) ^ (m - M) * (2 : ℝ) ^ (s k - m) = (2 : ℝ) ^ (s k - M)
        rw [← Real.rpow_add two_pos]
        congr 1; ring
      · rw [mul_zero]
  rw [e1]
  simp only [sc_exp]
  unfold T
  rw [← Finset.sum_range_add_sum_Ico _ (Nat.le_add_right n 384), Finset.sum_Ico_eq_sum_range, Nat.add_sub_cancel_left, Finset.sum_range (n := 384)]
  congr 1

theorem mx_at (m : Cv Ideal) (s : Sv Ideal) (j : S384x1.Idx) : mx m s j = max (m j) (Finset.fold max (⊥ : EReal) (fun c : Fin 384 => s (ix2 (j 0) c)) Finset.univ) := by
  pointwise [mx]
  rfl
theorem sm_at (a l : Cv Ideal) (p : Sv Ideal) (j : S384x1.Idx) : sm a l p j = a j * l j + ∑ c : Fin 384, p (ix2 (j 0) c) := by
  pointwise [sm]
theorem ex_at (s : Sv Ideal) (m : Cv Ideal) (r : Fin 384) (c : Fin 384) : ex s m (ix2 r c) = Ideal.exp2 (s (ix2 r c) - m (ix2 r 0)) := by
  pointwise [ex]
  rfl
theorem al_at (m m' : Cv Ideal) (j : S384x1.Idx) : al m m' j = Ideal.exp2 (m j - m' j) := by
  pointwise [al]
  rfl
theorem k78 : k0_pay78 = bM fun _ j => lo j := by
  funext j
  pointwise [k0_pay78, bM]
  exact lo_bit (j 1)
theorem k79 : k0_pay79 = bM fun _ j => lo j := by
  funext j
  pointwise [k0_pay79, bM]
  exact lo_bit (j 1)
theorem k80 : k0_pay80 = bM fun _ j => hi j := by
  funext j
  pointwise [k0_pay80, bM]
  exact hi_bit (j 1)
theorem two_at (a b : Cv Ideal) (r : Fin 384) (j : Fin 128) : two a b (ix2 r j) = if lo j then a (ix2 r 0) else b (ix2 r 0) := by
  pointwise [two, k78, bM]
theorem pv_at (h : Fin 128 → Bool) (p : Sv Ideal) (v : BlkE) (r : Fin 384) (j : Fin 128) : pv (F := Ideal) p (eM v) (bM fun _ j => h j) (ix2 r j) = ∑ c : Fin 384, p (ix2 r c) * (if h j then v c j else 0) := by
  pointwise [pv, bM, eM]
theorem k2 (Q K : Blk) : k0_pay2 (F := Ideal) (cM Q) (cM K) = cM (ntV Q K) := by
  funext j
  pointwise [k0_pay2, cM]
  simp only [ntV, coe_sum, EReal.coe_mul]

/-! ## A head's running values -/

/-- Over the first `n` keys: the maximum is real once there are any, the sums are taken from it. -/
def Hd (b : Fin 128 → Bool) (q0 n : ℕ) (s : ℕ → ℕ → ℝ) (v : ℕ → ℕ → EReal) (m l : Cv Ideal) (a : Av Ideal) : Prop :=
  ∀ r : Fin 384, 112 ≤ q0 + r.val → m (ix2 r 0) ≠ ⊤ ∧ (m (ix2 r 0) = ⊥ → n = 0)
    ∧ l (ix2 r 0) = T (q0 + r.val) (s (q0 + r.val)) (fun _ => 1) n (m (ix2 r 0))
    ∧ ∀ j : Fin 128, b j = true → a (ix2 r j) = T (q0 + r.val) (s (q0 + r.val)) (fun k => v k j.val) n (m (ix2 r 0))

/-- A tile of the scores. -/
def Tile (q0 n : ℕ) (s : ℕ → ℕ → ℝ) (S : Sv Ideal) : Prop :=
  ∀ r : Fin 384, 112 ≤ q0 + r.val → ∀ c : Fin 384, S (ix2 r c) = sc (q0 + r.val) (s (q0 + r.val)) (n + c.val)

variable (q0 n : ℕ) (s : ℕ → ℕ → ℝ) (v : ℕ → ℕ → EReal)

theorem mx_real (hn : n = 0 ∨ 384 ≤ n) (hq : n ≤ q0) (m : Cv Ideal) (S : Sv Ideal) (hS : Tile q0 n s S) (r : Fin 384) (hr : 112 ≤ q0 + r.val) (ht : m (ix2 r 0) ≠ ⊤) :
    ∃ M : ℝ, mx m S (ix2 r 0) = (M : EReal) := by
  have hx : ∃ c : Fin 384, seen (q0 + r.val) (n + c.val) := by
    rcases hn with h | h
    · exact ⟨⟨112, by omega⟩, show n + 112 ≤ _ by omega, show 112 ≤ n + 112 by omega⟩
    · exact ⟨⟨0, by omega⟩, show n + 0 ≤ _ by omega, show 112 ≤ n + 0 by omega⟩
  obtain ⟨c, hc⟩ := hx
  have hf := Cert.Attn.fold_real (fun c : Fin 384 => S (ix2 r c)) c
    (by show ⊥ < S (ix2 r c)
        rw [hS r hr c, sc, if_pos hc]; exact EReal.bot_lt_coe _)
    (fun x => by
      show S (ix2 r x) < ⊤
      rw [hS r hr x, sc]
      split
      · exact EReal.coe_lt_top _
      · exact bot_lt_top)
  refine ⟨(mx m S (ix2 r 0)).toReal, (EReal.coe_toReal ?_ ?_).symm⟩
  · rw [mx_at]
    exact ne_of_lt (max_lt (lt_top_iff_ne_top.mpr ht) (lt_top_iff_ne_top.mpr hf.2))
  · rw [mx_at]
    exact ne_of_gt (lt_of_lt_of_le (bot_lt_iff_ne_bot.mpr hf.1) (le_max_right _ _))

theorem Hd_step (b : Fin 128 → Bool) (hn : n = 0 ∨ 384 ≤ n) (hq : n ≤ q0) (m l : Cv Ideal) (a a' : Av Ideal) (S : Sv Ideal) (hS : Tile q0 n s S) (h : Hd b q0 n s v m l a)
    (ha : ∀ (r : Fin 384) (j : Fin 128), b j = true → a' (ix2 r j) = a (ix2 r j) * al m (mx m S) (ix2 r 0) + ∑ c : Fin 384, ex S (mx m S) (ix2 r c) * v (n + c.val) j.val) :
    Hd b q0 (n + 384) s v (mx m S) (sm (al m (mx m S)) l (ex S (mx m S))) a' := by
  intro r hr
  obtain ⟨h1, h2, h3, h4⟩ := h r hr
  obtain ⟨M, hM⟩ := mx_real q0 n s hn hq m S hS r hr h1
  refine ⟨?_, ?_, ?_, fun j hj => ?_⟩
  · rw [hM]; exact EReal.coe_ne_top M
  · rw [hM]; exact fun h => absurd h (EReal.coe_ne_bot M)
  · rw [sm_at, al_at, hM, ← row (q0 + r.val) (s (q0 + r.val)) (fun _ => 1) n (m (ix2 r 0)) M (l (ix2 r 0)) h1 h2 h3]
    congr 1
    refine Finset.sum_congr rfl fun c _ => ?_
    rw [mul_one]
    refine (ex_at S (mx m S) r c).trans ?_
    rw [hM, hS r hr c]
  · rw [ha r j hj, al_at, hM, ← row (q0 + r.val) (s (q0 + r.val)) (fun k => v k j.val) n (m (ix2 r 0)) M (a (ix2 r j)) h1 h2 (h4 j hj), mul_comm]
    congr 1
    refine Finset.sum_congr rfl fun c _ => ?_
    rw [ex_at, hM, hS r hr c]

theorem lo_hi (j : Fin 128) (h : lo j = true) : hi j = false := by
  revert j; decide +kernel
theorem hi_lo (j : Fin 128) (h : hi j = true) : lo j = false := by
  revert j; decide +kernel

theorem ac_at (acc : Av Ideal) (a b : Cv Ideal) (p q : Sv Ideal) (V : BlkE) (r : Fin 384) (j : Fin 128) :
    ac (F := Ideal) acc a b p q (eM V) (ix2 r j) = acc (ix2 r j) * (if lo j then a (ix2 r 0) else b (ix2 r 0)) + (∑ c : Fin 384, p (ix2 r c) * (if lo j then V c j else 0))
      + ∑ c : Fin 384, q (ix2 r c) * (if hi j then V c j else 0) := by
  rw [← two_at, ← pv_at lo, ← pv_at hi, ← k79, ← k80]
  rfl

theorem ac_lo (acc : Av Ideal) (a b : Cv Ideal) (p q : Sv Ideal) (V : BlkE) (r : Fin 384) (j : Fin 128) (h : lo j = true) :
    ac (F := Ideal) acc a b p q (eM V) (ix2 r j) = acc (ix2 r j) * a (ix2 r 0) + ∑ c : Fin 384, p (ix2 r c) * V c j := by
  rw [ac_at, h, lo_hi j h]
  simp
theorem ac_hi (acc : Av Ideal) (a b : Cv Ideal) (p q : Sv Ideal) (V : BlkE) (r : Fin 384) (j : Fin 128) (h : hi j = true) :
    ac (F := Ideal) acc a b p q (eM V) (ix2 r j) = acc (ix2 r j) * b (ix2 r 0) + ∑ c : Fin 384, q (ix2 r c) * V c j := by
  rw [ac_at, h, hi_lo j h]
  simp

/-! ## The four heads -/

/-- A head's scores and a pair's values, from the group's operands. -/
def sG (Q K : ℕ → ℕ → ℝ) (h q k : ℕ) : ℝ := ∑ d : Fin 128, Q q (128 * h + d.val) * K k (128 * h + d.val)
def vG (V : ℕ → ℕ → EReal) (e k j : ℕ) : EReal := V k (128 * e + j)

def Good (Q K : ℕ → ℕ → ℝ) (V : ℕ → ℕ → EReal) (t : St Ideal) : Prop :=
  match t with
  | (m0, m1, m2, m3, l0, l1, l2, l3, a0, a1) =>
    Hd lo q0 n (sG Q K 0) (vG V 0) m0 l0 a0 ∧ Hd hi q0 n (sG Q K 1) (vG V 0) m1 l1 a0
      ∧ Hd lo q0 n (sG Q K 2) (vG V 1) m2 l2 a1 ∧ Hd hi q0 n (sG Q K 3) (vG V 1) m3 l3 a1

theorem good_step (Q K : ℕ → ℕ → ℝ) (V : ℕ → ℕ → EReal) (hn : n = 0 ∨ 384 ≤ n) (hq : n ≤ q0) (S0 S1 S2 S3 : Sv Ideal) (h0 : Tile q0 n (sG Q K 0) S0) (h1 : Tile q0 n (sG Q K 1) S1)
    (h2 : Tile q0 n (sG Q K 2) S2) (h3 : Tile q0 n (sG Q K 3) S3) (t : St Ideal) (h : Good q0 n Q K V t) :
    Good q0 (n + 384) Q K V (step (F := Ideal) S0 S1 S2 S3 (eM (blkE V n 0)) (eM (blkE V n 128)) t) := by
  obtain ⟨m0, m1, m2, m3, l0, l1, l2, l3, a0, a1⟩ := t
  obtain ⟨g0, g1, g2, g3⟩ := h
  have e0 : ∀ (c : Fin 384) (j : Fin 128), blkE V n 0 c j = vG V 0 (n + c.val) j.val := fun c j => rfl
  have e1 : ∀ (c : Fin 384) (j : Fin 128), blkE V n 128 c j = vG V 1 (n + c.val) j.val := fun c j => rfl
  refine ⟨Hd_step q0 n _ _ lo hn hq _ _ _ _ S0 h0 g0 fun r j hj => ?_, Hd_step q0 n _ _ hi hn hq _ _ _ _ S1 h1 g1 fun r j hj => ?_,
    Hd_step q0 n _ _ lo hn hq _ _ _ _ S2 h2 g2 fun r j hj => ?_, Hd_step q0 n _ _ hi hn hq _ _ _ _ S3 h3 g3 fun r j hj => ?_⟩
  · rw [ac_lo _ _ _ _ _ _ _ _ hj]; simp only [e0]
  · rw [ac_hi _ _ _ _ _ _ _ _ hj]; simp only [e0]
  · rw [ac_lo _ _ _ _ _ _ _ _ hj]; simp only [e1]
  · rw [ac_hi _ _ _ _ _ _ _ _ hj]; simp only [e1]

theorem tile_all (Q K : ℕ → ℕ → ℝ) (h d : ℕ) (hd : d = 128 * h) (hn : 384 ≤ n) (hq : n + 384 ≤ q0) : Tile q0 n (sG Q K h) (k0_pay2 (F := Ideal) (cM fun r c => Q (q0 + r.val) (d + c.val)) (cM (blk K n d))) := by
  subst hd
  intro r hr c
  have hc := c.isLt
  rw [k2, sc, if_pos (show seen _ _ from ⟨by omega, by omega⟩)]
  rfl

theorem tile_cut (Q K : ℕ → ℕ → ℝ) (h d : ℕ) (hd : d = 128 * h) (w : IVec S384x384 1) (hw : w = bM (va q0 n)) :
    Tile q0 n (sG Q K h) (cut (F := Ideal) w (k0_pay2 (F := Ideal) (cM fun r c => Q (q0 + r.val) (d + c.val)) (cM (blk K n d)))) := by
  subst hd hw
  intro r hr c
  rw [k2]
  show Scalar.select (BitVec.ofBool (decide (seen (q0 + r.val) (n + c.val)))) _ (Named.named (F := Ideal) (φ := .f32) κ "mask" 0xF149F2CA#32) = _
  rw [sel, mask_bot', sc]
  simp only [decide_eq_true_eq]
  rfl

theorem good_init (Q K : ℕ → ℕ → ℝ) (V : ℕ → ℕ → EReal) : Good q0 0 Q K V (init (F := Ideal)) := by
  have key : ∀ (b : Fin 128 → Bool) (s : ℕ → ℕ → ℝ) (v : ℕ → ℕ → EReal), Hd b q0 0 s v (k0_pay81 (F := Ideal)) (k0_pay82 (F := Ideal)) (k0_pay83 (F := Ideal)) := by
    intro b s v r hr
    refine ⟨?_, fun _ => rfl, ?_, fun j _ => ?_⟩
    · show (Named.named (F := Ideal) (φ := .f32) κ "mask" 0xF149F2CA#32 : EReal) ≠ ⊤
      rw [mask_bot']; exact bot_ne_top
    · pointwise [k0_pay82]
      simp [T]
    · pointwise [k0_pay83]
      simp [T]
  exact ⟨key _ _ _, key _ _ _, key _ _ _, key _ _ _⟩

theorem mask88 (qb : ℕ) (h : qb < 11) : k0_pay88 (BitVec.ofNat 32 qb) 384#32 = bM (va (384 * qb) 0) := by
  funext j
  have h0 : (j 0).val < 384 := (j 0).isLt
  have h1 : (j 1).val < 384 := (j 1).isLt
  pointwise [k0_pay88, bM]
  have e : IntOp.addi 0#32 (BitVec.ofNat 32 (j 1).val) = BitVec.ofNat 32 (0 + (j 1).val) := by
    show BitVec.ofNat 32 0 + BitVec.ofNat 32 (j 1).val = _
    rw [← BitVec.ofNat_add]
  rw [e, pos_bit, le_bit _ _ (by omega) (by omega), ge_bit _ 112 (by omega) (by omega), and_bit]
  congr 1
  unfold va seen
  exact (Bool.decide_and _ _).symm
theorem mask56 (qb : ℕ) (h : qb < 11) : k0_pay56 (BitVec.ofNat 32 qb) = bM (va (384 * qb) (384 * qb)) := by
  funext j
  have h0 : (j 0).val < 384 := (j 0).isLt
  have h1 : (j 1).val < 384 := (j 1).isLt
  pointwise [k0_pay56, bM]
  rw [pos_bit, pos_bit, le_bit _ _ (by omega) (by omega), ge_bit _ 112 (by omega) (by omega), and_bit]
  congr 1
  unfold va seen
  exact (Bool.decide_and _ _).symm

end Cert.Kernel8Ideal.Fwd
-- ==== Proof.Fwd.Point.lean ====
/- What the body leaves of the output at a grid point whose queries and keys are real. -/
module

public import proofs.«01_k».proof.Proof.Fwd.Row

@[expose] public section

set_option maxRecDepth 16384

noncomputable section

namespace Cert.Kernel8Ideal.Fwd

open Cert.Kernel8Ideal Cert.Kernel8Ideal.Gen
open Idealize.ShloMosaic
open Cert.KernelIdeal.Attn (cN cM bM blk win coe_sum lo hi lo_bit hi_bit seen va)

theorem off13_eq : ∀ i : grid0.Coords, k0_off13 i = ![384 * (i 1).val, 0] := by decide +kernel
theorem off14_eq : ∀ i : grid0.Coords, k0_off14 i = ![384 * (i 1).val, 128] := by decide +kernel
theorem off15_eq : ∀ i : grid0.Coords, k0_off15 i = ![384 * (i 1).val, 256] := by decide +kernel
theorem off16_eq : ∀ i : grid0.Coords, k0_off16 i = ![384 * (i 1).val, 384] := by decide +kernel
theorem off17_eq : ∀ i : grid0.Coords, k0_off17 i = ![384 * (i 1).val, 0] := by decide +kernel
theorem off18_eq : ∀ i : grid0.Coords, k0_off18 i = ![384 * (i 1).val, 128] := by decide +kernel

theorem winQ (q0 d : ℕ) (Q : ℕ → ℕ → ℝ) (inb : ∀ a, (![0, d] : Fin 2 → ℕ) a + S384x128.size a ≤ S384x512.size a) :
    VecWindow.window (cN (fun r c => Q (q0 + r) c) : S384x512.Idx → EReal) ![0, d] S384x128.size inb = cM fun r c => Q (q0 + r.val) (d + c.val) := by
  rw [win _ _ _ 0 d rfl]
  unfold blk
  simp only [Nat.zero_add]

variable (i : grid0.Coords) (Q K : ℕ → ℕ → ℝ) (V : ℕ → ℕ → EReal)

/-- The point's operands. -/
abbrev X2 : Vec Ideal S384x512 .bf16 := (cN fun r c => Q (384 * (i 1).val + r) c : S384x512.Idx → EReal)
abbrev X3 : Vec Ideal S4224x512 .bf16 := (cN K : S4224x512.Idx → EReal)
abbrev X4 : Vec Ideal S4224x256 .bf16 := (eN V : S4224x256.Idx → EReal)

theorem qb_lt : (i 1).val < 11 := (i 1).isLt

theorem good_first : Good (384 * (i 1).val) 384 Q K V (stF (F := Ideal) i (X2 i Q) (X3 K) (X4 V)) := by
  unfold stF
  unfold q0 q1 q2 q3
  rw [winQ _ 0, winQ _ 128, winQ _ 256, winQ _ 384, win K _ _ 0 0 rfl, win K _ _ 0 128 rfl, win K _ _ 0 256 rfl, win K _ _ 0 384 rfl, winE V _ _ 0 0 rfl, winE V _ _ 0 128 rfl]
  have hw := mask88 (i 1).val (qb_lt i)
  have := good_step (384 * (i 1).val) 0 Q K V (Or.inl rfl) (Nat.zero_le _) _ _ _ _ (tile_cut _ 0 Q K 0 0 rfl _ hw) (tile_cut _ 0 Q K 1 128 rfl _ hw) (tile_cut _ 0 Q K 2 256 rfl _ hw) (tile_cut _ 0 Q K 3 384 rfl _ hw) _ (good_init _ Q K V)
  exact this

theorem good_loop (k : ℕ) (hk : k ≤ (k0_t1_loop i).trips) : Good (384 * (i 1).val) (384 * (k + 1)) Q K V (stL (F := Ideal) i (X2 i Q) (X3 K) (X4 V) k) := by
  induction k with
  | zero => exact good_first i Q K V
  | succ k ih =>
    have ht := trips1_eq i
    have h : k < (k0_t1_loop i).trips := hk
    unfold stL
    rw [dif_pos h]
    unfold stU
    unfold q0 q1 q2 q3
    rw [winQ _ 0, winQ _ 128, winQ _ 256, winQ _ 384, win K _ _ _ _ (off1_eq i ⟨k, h⟩), win K _ _ _ _ (off2_eq i ⟨k, h⟩), win K _ _ _ _ (off3_eq i ⟨k, h⟩), win K _ _ _ _ (off4_eq i ⟨k, h⟩),
      winE V _ _ _ _ (off5_eq i ⟨k, h⟩), winE V _ _ _ _ (off6_eq i ⟨k, h⟩)]
    have h1 : 384 ≤ 384 * (k + 1) := by omega
    have h2 : 384 * (k + 1) + 384 ≤ 384 * (i 1).val := by omega
    exact good_step (384 * (i 1).val) (384 * (k + 1)) Q K V (Or.inr h1) (by omega) _ _ _ _ (tile_all _ _ Q K 0 0 rfl h1 h2) (tile_all _ _ Q K 1 128 rfl h1 h2) (tile_all _ _ Q K 2 256 rfl h1 h2)
      (tile_all _ _ Q K 3 384 rfl h1 h2) _ (ih h.le)

theorem good_end : Good (384 * (i 1).val) (384 * (i 1).val + 384) Q K V (stE (F := Ideal) i (X2 i Q) (X3 K) (X4 V)) := by
  have hl := good_loop i Q K V _ le_rfl
  have ht := trips1_eq i
  unfold stE
  by_cases h : k0_cond1 i = 1#1
  · have h1 := (cond1_iff i).mp h
    rw [dif_pos h]
    rw [show 384 * ((k0_t1_loop i).trips + 1) = 384 * (i 1).val by omega] at hl
    generalize stL (F := Ideal) i (X2 i Q) (X3 K) (X4 V) (k0_t1_loop i).trips = t at hl ⊢
    unfold stD
    unfold q0 q1 q2 q3
    rw [winQ _ 0, winQ _ 128, winQ _ 256, winQ _ 384, win K _ _ _ _ (off13_eq i), win K _ _ _ _ (off14_eq i), win K _ _ _ _ (off15_eq i), win K _ _ _ _ (off16_eq i),
      winE V _ _ _ _ (off17_eq i), winE V _ _ _ _ (off18_eq i)]
    have hw := mask56 (i 1).val (qb_lt i)
    exact good_step (384 * (i 1).val) (384 * (i 1).val) Q K V (Or.inr (by omega)) le_rfl _ _ _ _ (tile_cut _ _ Q K 0 0 rfl _ hw) (tile_cut _ _ Q K 1 128 rfl _ hw) (tile_cut _ _ Q K 2 256 rfl _ hw)
      (tile_cut _ _ Q K 3 384 rfl _ hw) _ hl
  · have h1 : (i 1).val = 0 := not_not.mp fun hn => h ((cond1_iff i).mpr hn)
    rw [dif_neg h]
    rw [show 384 * ((k0_t1_loop i).trips + 1) = 384 * (i 1).val + 384 by omega] at hl
    exact hl

/-! ## The output -/

/-- A seen key's weight, and a row's output over its head's keys: the values by their shares of the weights. -/
def uG (q : ℕ) (s : ℕ → ℝ) (k : ℕ) : ℝ := if seen q k then Real.rpow 2 (s k) else 0
def oG (q n : ℕ) (s : ℕ → ℝ) (v : ℕ → EReal) : EReal := ∑ k ∈ Finset.range n, ((uG q s k / ∑ x ∈ Finset.range n, uG q s x : ℝ) : EReal) * v k

theorem wt_uG (q : ℕ) (s : ℕ → ℝ) (m : EReal) (k : ℕ) : wt q s m k = Real.rpow 2 (-m.toReal) * uG q s k := by
  unfold wt uG
  split
  · show (2 : ℝ) ^ (s k - m.toReal) = (2 : ℝ) ^ (-m.toReal) * (2 : ℝ) ^ s k
    rw [← Real.rpow_add two_pos]
    congr 1; ring
  · rw [mul_zero]

theorem T_one (q n : ℕ) (s : ℕ → ℝ) (m : EReal) : T q s (fun _ => 1) n m = ((∑ k ∈ Finset.range n, wt q s m k : ℝ) : EReal) := by
  unfold T
  rw [Finset.sum_range, Finset.sum_range, coe_sum]
  exact Finset.sum_congr rfl fun k _ => mul_one _

theorem wt_pos (q n : ℕ) (s : ℕ → ℝ) (m : EReal) (h1 : 112 ≤ q) (h2 : q < n) : 0 < ∑ k ∈ Finset.range n, wt q s m k := by
  refine Finset.sum_pos' (fun k _ => ?_) ⟨q, Finset.mem_range.mpr h2, ?_⟩
  · unfold wt
    split
    · exact (Real.rpow_pos_of_pos two_pos _).le
    · exact le_rfl
  · unfold wt
    rw [if_pos (show seen q q from ⟨le_rfl, h1⟩)]
    exact Real.rpow_pos_of_pos two_pos _

theorem oG_T (q n : ℕ) (s : ℕ → ℝ) (v : ℕ → EReal) (m : EReal) (h1 : 112 ≤ q) (h2 : q < n) : Ideal.div (T q s v n m) (T q s (fun _ => 1) n m) = oG q n s v := by
  have hp := wt_pos q n s m h1 h2
  rw [T_one, Ideal.div_coe hp.ne', mul_comm]
  unfold T oG
  rw [mul_sumE _ (one_div_pos.mpr hp).le]
  refine Finset.sum_congr rfl fun k _ => ?_
  rw [← mul_assoc, ← EReal.coe_mul]
  congr 2
  simp only [wt_uG]
  rw [← Finset.mul_sum, one_div_mul_eq_div, mul_div_mul_left _ _ (show Real.rpow 2 (-m.toReal) ≠ 0 from (Real.rpow_pos_of_pos two_pos _).ne')]

theorem Hd_out (b : Fin 128 → Bool) (q0 : ℕ) (s : ℕ → ℕ → ℝ) (v : ℕ → ℕ → EReal) (m l : Cv Ideal) (a : Av Ideal) (h : Hd b q0 (q0 + 384) s v m l a) (r : Fin 384) (hr : 112 ≤ q0 + r.val) (j : Fin 128) (hj : b j = true) :
    Ideal.div (a (ix2 r j)) (l (ix2 r 0)) = oG (q0 + r.val) (q0 + 384) (s (q0 + r.val)) (fun k => v k j.val) := by
  obtain ⟨h1, h2, h3, h4⟩ := h r hr
  have := r.isLt
  rw [h3, h4 j hj, oG_T _ _ _ _ _ hr (by omega)]

theorem lo_or (j : Fin 128) : lo j = true ∨ hi j = true := by
  revert j; decide +kernel

/-- A pair's tile of the output. -/
theorem pair_out (q0 : ℕ) (s s' : ℕ → ℕ → ℝ) (v : ℕ → ℕ → EReal) (m m' l l' : Cv Ideal) (a : Av Ideal) (h : Hd lo q0 (q0 + 384) s v m l a) (h' : Hd hi q0 (q0 + 384) s' v m' l' a) (r : Fin 384) (hr : 112 ≤ q0 + r.val) (j : Fin 128) :
    k0_pay125 (F := Ideal) k0_pay78 l l' a (ix2 r j) = oG (q0 + r.val) (q0 + 384) (if j.val < 64 then s (q0 + r.val) else s' (q0 + r.val)) (fun k => v k j.val) := by
  have e : k0_pay125 (F := Ideal) k0_pay78 l l' a (ix2 r j) = Ideal.div (a (ix2 r j)) (if lo j then l (ix2 r 0) else l' (ix2 r 0)) := by
    rw [← two_at]; rfl
  rw [e]
  rcases lo_or j with hj | hj
  · rw [if_pos hj, Hd_out lo q0 s v m l a h r hr j hj, if_pos (of_decide_eq_true hj)]
  · rw [if_neg (by rw [hi_lo j hj]; decide), Hd_out hi q0 s' v m' l' a h' r hr j hj, if_neg (Nat.not_lt.mpr (of_decide_eq_true hj))]

/-- The point's block of the output. -/
theorem out_real (y : S384x256.Idx) (hr : 112 ≤ 384 * (i 1).val + (y 0).val) :
    outO (stE (F := Ideal) i (X2 i Q) (X3 K) (X4 V)) y
      = oG (384 * (i 1).val + (y 0).val) (384 * (i 1).val + 384) (sG Q K ((y 1).val / 64) (384 * (i 1).val + (y 0).val)) (fun k => V k (y 1).val) := by
  have hg := good_end i Q K V
  generalize stE (F := Ideal) i (X2 i Q) (X3 K) (X4 V) = t at hg ⊢
  obtain ⟨m0, m1, m2, m3, l0, l1, l2, l3, a0, a1⟩ := t
  obtain ⟨g0, g1, g2, g3⟩ := hg
  have hd : (y 1).val < 256 := (y 1).isLt
  have hy : (y 0).val < 384 := (y 0).isLt
  unfold outO VecWindow.put
  by_cases h : ∀ x, (![0, 128] : Fin 2 → ℕ) x ≤ (y x).val ∧ (y x).val < (![0, 128] : Fin 2 → ℕ) x + S384x128.size x
  · have h1 : 128 ≤ (y 1).val := (h 1).1
    refine Eq.trans (dif_pos h) (Eq.trans ?_ ((pair_out (384 * (i 1).val) _ _ _ _ _ _ _ _ g2 g3 ⟨(y 0).val, hy⟩ hr ⟨(y 1).val - 128, by omega⟩).trans ?_))
    · show k0_pay125 (F := Ideal) k0_pay78 l2 l3 a1 _ = _
      congr 1
      funext x
      match x with
      | ⟨0, _⟩ => rfl
      | ⟨1, _⟩ => rfl
    · congr 1
      · show (if (y 1).val - 128 < 64 then sG Q K 2 _ else sG Q K 3 _) = _
        split
        · rw [show (y 1).val / 64 = 2 by omega]
        · rw [show (y 1).val / 64 = 3 by omega]
      · funext k
        show V k (128 * 1 + ((y 1).val - 128)) = _
        congr 1; omega
  · have h1 : (y 1).val < 128 := by
      by_contra hn
      refine h fun x => ?_
      match x with
      | ⟨0, _⟩ => exact ⟨Nat.zero_le _, by show (y 0).val < 0 + 384; omega⟩
      | ⟨1, _⟩ => exact ⟨by show 128 ≤ (y 1).val; omega, by show (y 1).val < 128 + 128; omega⟩
    have h0 : ∀ x, (![0, 0] : Fin 2 → ℕ) x ≤ (y x).val ∧ (y x).val < (![0, 0] : Fin 2 → ℕ) x + S384x128.size x := fun x =>
      match x with
      | ⟨0, _⟩ => ⟨Nat.zero_le _, by show (y 0).val < 0 + 384; omega⟩
      | ⟨1, _⟩ => ⟨Nat.zero_le _, by show (y 1).val < 0 + 128; omega⟩
    refine Eq.trans ((dif_neg h).trans (dif_pos h0)) (Eq.trans ?_ ((pair_out (384 * (i 1).val) _ _ _ _ _ _ _ _ g0 g1 ⟨(y 0).val, hy⟩ hr ⟨(y 1).val, h1⟩).trans ?_))
    · congr 1
      funext x
      match x with
      | ⟨0, _⟩ => rfl
      | ⟨1, _⟩ => rfl
    · congr 1
      · show (if (y 1).val < 64 then sG Q K 0 _ else sG Q K 1 _) = _
        split
        · rw [show (y 1).val / 64 = 0 by omega]
        · rw [show (y 1).val / 64 = 1 by omega]
      · funext k
        show V k (128 * 0 + (y 1).val) = _
        congr 1; omega

end Cert.Kernel8Ideal.Fwd
-- ==== Proof.Fwd.Arr.lean ====
/- The call's result is the reference's where the arguments are real. -/
module

public import proofs.«01_k».proof.Proof.Fwd.Frame
public import proofs.«01_k».proof.Proof.Fwd.Point
public import proofs.«01_k».proof.Proof.Value.Final
public import proofs.«01_k».proof.Proof.Gen.Reference8Ideal.Run
public import proofs.«01_k».proof.Pre_finite8
public import Idealize.ShloMosaic.Lib.Pipeline.ValueKit.Geometry

@[expose] public section

set_option maxRecDepth 16384

noncomputable section

namespace Cert.Kernel8Ideal.Fwd

open Cert.Kernel8Ideal Cert.Kernel8Ideal.Gen
open Idealize.ShloMosaic Idealize.ShloMosaic.TcCoe Idealize.ShloMosaic.Pipeline Idealize.ShloMosaic.StableHlo
open Cert.KernelIdeal.Attn (cN coe_sum seen cols sH q2V q2V_real)
open Cert.Attn (v3 sV mV lV oV sA pV cB c3 EE LL PP Qk mk)

/-! ## The rows' outputs are the reference's -/

theorem weight (Q K M : ℕ → ℕ → ℝ) (h q k : ℕ) : Real.rpow 2 (sH (Qk Q) K h q k) = Real.exp (M h q) * Real.exp (sH Q K h q k - M h q) := by
  rw [← Real.exp_add, Cert.Attn.sH_Qk]
  show (2 : ℝ) ^ (_ : ℝ) = _
  rw [Real.rpow_def_of_pos two_pos, mul_div_cancel₀ _ Cert.Attn.ln2_pos.ne']
  congr 1; ring

theorem mk_iff (q k : ℕ) (hq : 112 ≤ q) : mk q k ↔ seen q k := by
  unfold mk seen
  omega

theorem uG_eq (Q K M : ℕ → ℕ → ℝ) (h q k : ℕ) (hq : 112 ≤ q) : uG q (sH (Qk Q) K h q) k = Real.exp (M h q) * EE Q K M h q k := by
  show _ = Real.exp (M h q) * if mk q k then Real.exp (sH Q K h q k - M h q) else 0
  unfold uG
  by_cases hs : seen q k
  · rw [if_pos hs, if_pos ((mk_iff q k hq).mpr hs), weight Q K M]
  · rw [if_neg hs, if_neg fun hm => hs ((mk_iff q k hq).mp hm), mul_zero]

theorem uG_past (q n : ℕ) (s : ℕ → ℝ) (h1 : q < n) (k : ℕ) (hk : k ∉ Finset.range n) : uG q s k = 0 :=
  if_neg fun hs => hk (Finset.mem_range.mpr (by have := hs.1; omega))

theorem oG_real (Q K M : ℕ → ℕ → ℝ) (f : ℕ → EReal) (h q n : ℕ) (hq : 112 ≤ q) (h1 : q < n) (h2 : n ≤ 4224) :
    oG q n (sH (Qk Q) K h q) f = ∑ k : Fin 4224, f k.val * ((PP Q K M h q k.val : ℝ) : EReal) := by
  have hs : ∑ k ∈ Finset.range n, uG q (sH (Qk Q) K h q) k = Real.exp (M h q) * LL Q K M h q := by
    rw [show LL Q K M h q = ∑ k : Fin 4224, EE Q K M h q k.val from rfl, Finset.mul_sum, Fin.sum_univ_eq_sum_range (fun k => Real.exp (M h q) * EE Q K M h q k) 4224]
    exact (Finset.sum_subset (Finset.range_mono h2) fun k _ hk => uG_past q n _ h1 k hk).trans (Finset.sum_congr rfl fun k _ => uG_eq Q K M h q k hq)
  unfold oG
  rw [hs, Fin.sum_univ_eq_sum_range (fun k => f k * ((PP Q K M h q k : ℝ) : EReal)) 4224]
  refine (Finset.sum_subset (Finset.range_mono h2) fun k _ hk => ?_).trans (Finset.sum_congr rfl fun k _ => ?_)
  · rw [uG_past q n _ h1 k hk, zero_div, EReal.coe_zero, zero_mul]
  · rw [uG_eq Q K M h q k hq, mul_div_mul_left _ _ (Real.exp_ne_zero _), mul_comm]
    rfl

theorem oV_eN (V : ℕ → ℕ → EReal) (p : ℕ → ℕ → ℕ → ℝ) : oV (eN V) (c3 p) = eN fun q j => ∑ k : Fin 4224, V k.val j * ((p (j / 64) q k.val : ℝ) : EReal) := by
  funext j
  pointwise [oV, v3]
  rfl

/-- Every array is a matrix of extended reals. -/
theorem exists_eN {a b : ℕ} (x : (⟨2, ![a, b]⟩ : Shape).Idx → EReal) : ∃ W : ℕ → ℕ → EReal, x = eN W := by
  refine ⟨fun r c => if h : r < a ∧ c < b then x (ix2 ⟨r, h.1⟩ ⟨c, h.2⟩) else 0, funext fun j => ?_⟩
  have h0 : (j 0).val < a := (j 0).isLt
  have h1 : (j 1).val < b := (j 1).isLt
  refine Eq.trans ?_ (dif_pos (⟨h0, h1⟩ : (j 0).val < a ∧ (j 1).val < b)).symm
  congr 1
  funext x
  match x with
  | ⟨0, _⟩ => rfl
  | ⟨1, _⟩ => rfl

/-! ## The operands -/

variable (m : (ℓ : Loc nD τ sig) → Buf (Elt Ideal) ℓ) (c : Dev nD)

theorem V3 : V m c main_v3 = q2V (m (c, main_arg0)) := by
  simp only [V, V0, hostOps0, List.flatten, List.append]
  after_results_simp <;> rfl
theorem V4 : V m c main_v4 = (truncf .bf16 (m (c, main_arg1)) bitsLt_bf16_f32 : FVec Ideal S4224x2048 .bf16) := by
  simp only [V, V0, hostOps0, List.flatten, List.append]
  after_results_simp <;> rfl
theorem V5 : V m c main_v5 = (truncf .bf16 (m (c, main_arg2)) bitsLt_bf16_f32 : FVec Ideal S4224x1024 .bf16) := by
  simp only [V, V0, hostOps0, List.flatten, List.append]
  after_results_simp <;> rfl

theorem ix0 : ∀ t : Fin cfg0.N, win0_0.index t = ![t.val % 11, t.val / 11] := (by decide +kernel : ∀ t : Fin grid0.N, _)
theorem ix1 : ∀ t : Fin cfg0.N, win0_1.index t = ![0, t.val / 11] := (by decide +kernel : ∀ t : Fin grid0.N, _)
theorem ix2' : ∀ t : Fin cfg0.N, win0_2.index t = ![0, t.val / 11] := (by decide +kernel : ∀ t : Fin grid0.N, _)
theorem ix3 : ∀ t : Fin cfg0.N, win0_3.index t = ![t.val % 11, t.val / 11] := (by decide +kernel : ∀ t : Fin grid0.N, _)

theorem iblk0 (Q : ℕ → ℕ → ℝ) (h : V m c main_v3 = (cN Q : S4224x2048.Idx → EReal)) (t : Fin cfg0.N) : iblk m c 0 t = X2 (grid0.coords t) (cols Q (512 * (t.val / 11))) := by
  funext y
  blk_simp [iblk]
  rw [h]
  show ((Q ((win0_0.blk t).view.emb y 0).val ((win0_0.blk t).view.emb y 1).val : ℝ) : EReal) = ((Q (384 * ((grid0.coords t) 1).val + (y 0).val) (512 * (t.val / 11) + (y 1).val) : ℝ) : EReal)
  rw [coords_1]
  congr 2 <;> blk_simp [ix0] <;> simp <;> omega

theorem iblk1 (K : ℕ → ℕ → ℝ) (h : V m c main_v4 = (cN K : S4224x2048.Idx → EReal)) (t : Fin cfg0.N) : iblk m c 1 t = X3 (cols K (512 * (t.val / 11))) := by
  funext y
  blk_simp [iblk]
  rw [h]
  show ((K ((win0_1.blk t).view.emb y 0).val ((win0_1.blk t).view.emb y 1).val : ℝ) : EReal) = ((K ((y 0).val) (512 * (t.val / 11) + (y 1).val) : ℝ) : EReal)
  congr 2 <;> blk_simp [ix1] <;> simp <;> omega

theorem iblk2 (W : ℕ → ℕ → EReal) (h : V m c main_v5 = (eN W : S4224x1024.Idx → EReal)) (t : Fin cfg0.N) : iblk m c 2 t = X4 (fun k d => W k (256 * (t.val / 11) + d)) := by
  funext y
  blk_simp [iblk]
  rw [h]
  show W ((win0_2.blk t).view.emb y 0).val ((win0_2.blk t).view.emb y 1).val = W ((y 0).val) (256 * (t.val / 11) + (y 1).val)
  congr 1 <;> blk_simp [ix2'] <;> simp <;> omega

/-! ## The array -/

variable (Q K : ℕ → ℕ → ℝ) (W : ℕ → ℕ → EReal) (M : ℕ → ℕ → ℝ)

/-- The reference's output by row and column. -/
def oR (q j : ℕ) : EReal := ∑ k : Fin 4224, W k.val j * ((PP Q K M (j / 64) q k.val : ℝ) : EReal)

variable (h0 : V m c main_v3 = (cN (Qk Q) : S4224x2048.Idx → EReal)) (h1 : V m c main_v4 = (cN K : S4224x2048.Idx → EReal)) (h2 : V m c main_v5 = (eN W : S4224x1024.Idx → EReal))
include h0 h1 h2

theorem point_out (t : Fin cfg0.N) (y : S384x256.Idx) (hr : 112 ≤ 384 * (t.val % 11) + (y 0).val) :
    outO (ptSt m c t) y = oR Q K W M (384 * (t.val % 11) + (y 0).val) (256 * (t.val / 11) + (y 1).val) := by
  have hy0 : (y 0).val < 384 := (y 0).isLt
  have hy1 : (y 1).val < 256 := (y 1).isLt
  unfold ptSt
  rw [iblk0 m c _ h0, iblk1 m c _ h1, iblk2 m c _ h2, out_real _ _ _ _ y (by rw [coords_1]; exact hr), coords_1]
  have e : sG (cols (Qk Q) (512 * (t.val / 11))) (cols K (512 * (t.val / 11))) ((y 1).val / 64) (384 * (t.val % 11) + (y 0).val)
      = sH (Qk Q) K ((256 * (t.val / 11) + (y 1).val) / 64) (384 * (t.val % 11) + (y 0).val) := by
    funext k
    unfold sG sH cols
    refine Finset.sum_congr rfl fun d _ => ?_
    rw [show 512 * (t.val / 11) + (128 * ((y 1).val / 64) + d.val) = 128 * ((256 * (t.val / 11) + (y 1).val) / 64) + d.val by omega]
  rw [e, oG_real Q K M _ _ _ _ hr (by omega) (by have := t.val.mod_lt (show 11 > 0 by decide); omega)]
  rfl

theorem arr3 (j : S4224x1024.Idx) (hj : 112 ≤ (j 0).val) : (dats m 0 c).arrAt 3 cfg0.N j = oR Q K W M (j 0).val (j 1).val := by
  refine (dats m 0 c).arrAt_forall_of_covers 3 (fun i v => 112 ≤ (i 0).val → v = oR Q K W M (i 0).val (i 1).val) (by decide +kernel) (fun t _ y => ?_) j (Memref.isWhole_whole _) hj
  have e0 : ((win0_3.blk t).view.emb y 0).val = 384 * (t.val % 11) + (y 0).val := by blk_simp [ix3]; simp; omega
  have e1 : ((win0_3.blk t).view.emb y 1).val = 256 * (t.val / 11) + (y 1).val := by blk_simp [ix3]; simp; omega
  intro hr
  have hr' : 112 ≤ 384 * (t.val % 11) + (y 0).val := e0 ▸ hr
  refine Eq.trans ?_ ((point_out m c Q K W M h0 h1 h2 t y hr').trans (by rw [← e0, ← e1]))
  blk_simp
  rw [after3]

/-! ## The result -/

omit h0 h1 h2 in
theorem VT7 : VT m c main_v7 = (extractStridedSlice S4112x1024 ![112, 0] ((dats m 0 c).arrAt 3 cfg0.N) slices_S4224x1024_S4112x1024_112_0 : FVec Ideal S4112x1024 .bf16) := by
  unfold VT Pipeline.afterTail₀
  simp only [hostOps1, List.flatten, List.append]
  after_results_simp
  have e : Pipeline.withArrays spec0 c (V0 m c) (fun w => (dats m 0 c).arrAt w cfg0.N) (Proc.devRef .tc main_v6_0) = (dats m 0 c).arrAt 3 cfg0.N :=
    Pipeline.withArrays_arr spec0 (by decide) c (V0 m c) (fun w => (dats m 0 c).arrAt w cfg0.N) 3
  rw [← e]

omit h0 h1 h2 in
/-- The reference's result, a stage at a time. -/
theorem ref_o (m' : (ℓ : Loc Reference8Ideal.nD Reference8Ideal.τ Reference8Ideal.sig) → Buf (Elt Ideal) ℓ) (c : Dev Reference8Ideal.nD) : Reference8Ideal.Value.res_main_v36 m' c
    = (truncf .bf16 (extractStridedSlice S4112x1024 ![112, 0] (oV (m' ((c.tc : Thread Reference8Ideal.nD Reference8Ideal.τ).loc Reference8Ideal.main_arg2))
        (pV (sA (m' ((c.tc : Thread Reference8Ideal.nD Reference8Ideal.τ).loc Reference8Ideal.main_arg0)) (m' ((c.tc : Thread Reference8Ideal.nD Reference8Ideal.τ).loc Reference8Ideal.main_arg1)))
          (lV (sA (m' ((c.tc : Thread Reference8Ideal.nD Reference8Ideal.τ).loc Reference8Ideal.main_arg0)) (m' ((c.tc : Thread Reference8Ideal.nD Reference8Ideal.τ).loc Reference8Ideal.main_arg1))))))
        slices_S4224x1024_S4112x1024_112_0) bitsLt_bf16_f32 : FVec Ideal S4112x1024 .bf16) := rfl

omit h0 h1 h2 in
/-- The call's result is the reference's. -/
theorem res (m' : (ℓ : Loc Reference8Ideal.nD Reference8Ideal.τ Reference8Ideal.sig) → Buf (Elt Ideal) ℓ) (Q K : ℕ → ℕ → ℝ) (W : ℕ → ℕ → EReal)
    (a0 : m ((c.tc : Thread nD τ).loc main_arg0) = (cN Q : S4224x2048.Idx → EReal)) (a1 : m ((c.tc : Thread nD τ).loc main_arg1) = (cN K : S4224x2048.Idx → EReal))
    (a2 : m ((c.tc : Thread nD τ).loc main_arg2) = (eN W : S4224x1024.Idx → EReal))
    (b0 : m' ((c.tc : Thread Reference8Ideal.nD Reference8Ideal.τ).loc Reference8Ideal.main_arg0) = (cN Q : S4224x2048.Idx → EReal))
    (b1 : m' ((c.tc : Thread Reference8Ideal.nD Reference8Ideal.τ).loc Reference8Ideal.main_arg1) = (cN K : S4224x2048.Idx → EReal))
    (b2 : m' ((c.tc : Thread Reference8Ideal.nD Reference8Ideal.τ).loc Reference8Ideal.main_arg2) = (eN W : S4224x1024.Idx → EReal)) :
    VT m c main_v7 = Reference8Ideal.Value.res_main_v36 m' c := by
  obtain ⟨M, hM⟩ := Cert.Attn.mV_real (sH Q K)
  rw [ref_o, b0, b1, b2, Cert.KernelIdeal.Attn.sA_real Q K M hM, Cert.KernelIdeal.Attn.lA_real, Cert.Attn.pV_real _ _ (Cert.KernelIdeal.Attn.LL_ne Q K M), oV_eN, VT7]
  have e0 : V m c main_v3 = (cN (Qk Q) : S4224x2048.Idx → EReal) := (V3 m c).trans ((congrArg q2V a0).trans (q2V_real Q))
  have e1 : V m c main_v4 = (cN K : S4224x2048.Idx → EReal) := (V4 m c).trans a1
  have e2 : V m c main_v5 = (eN W : S4224x1024.Idx → EReal) := (V5 m c).trans a2
  funext j
  have hj : (j 0).val < 4112 := (j 0).isLt
  have hj1 : (j 1).val < 1024 := (j 1).isLt
  have key := arr3 m c Q K W M e0 e1 e2 (ix2 ⟨112 + (j 0).val, by omega⟩ (j 1)) (Nat.le_add_right 112 _)
  pointwise
  exact key

end Cert.Kernel8Ideal.Fwd
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Kernel2
public import proofs.«01_k».proof.Proof.Gen.Kernel2Ideal
public import proofs.«01_k».proof.Proof.Gen.Kernel2Ideal.Frame
public import proofs.«01_k».proof.Proof.Gen.Kernel2.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3Ideal
public import proofs.«01_k».proof.Proof.Gen.Kernel3Ideal.Frame
public import proofs.«01_k».proof.Proof.Gen.Kernel3.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4Ideal
public import proofs.«01_k».proof.Proof.Gen.Kernel4Ideal.Frame
public import proofs.«01_k».proof.Proof.Gen.Kernel4.Frame
public import proofs.«01_k».proof.Proof.Gen.Reference4Ideal
public import proofs.«01_k».proof.Proof.Gen.Reference4Ideal.Run
public import proofs.«01_k».proof.Proof.Gen.Kernel5
public import proofs.«01_k».proof.Proof.Gen.Kernel5Ideal
public import proofs.«01_k».proof.Proof.Gen.Kernel5Ideal.Frame
public import proofs.«01_k».proof.Proof.Gen.Kernel5.Frame
public import proofs.«01_k».proof.Proof.Gen.Reference5Ideal
public import proofs.«01_k».proof.Proof.Gen.Reference5Ideal.Run
public import proofs.«01_k».proof.Proof.Gen.Kernel6
public import proofs.«01_k».proof.Proof.Gen.Kernel6Ideal
public import proofs.«01_k».proof.Proof.Gen.Kernel6Ideal.Frame
public import proofs.«01_k».proof.Proof.Gen.Kernel6.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7Ideal
public import proofs.«01_k».proof.Proof.Gen.Kernel7Ideal.Frame
public import proofs.«01_k».proof.Proof.Gen.Kernel7.Frame
public import proofs.«01_k».proof.Proof.Gen.Reference7Ideal
public import proofs.«01_k».proof.Proof.Gen.Reference7Ideal.Run
public import proofs.«01_k».proof.Proof.Gen.Kernel8
public import proofs.«01_k».proof.Proof.Gen.Kernel8Ideal
public import proofs.«01_k».proof.Proof.Gen.Kernel8Ideal.Frame
public import proofs.«01_k».proof.Proof.Gen.Kernel8Ideal.Skeleton
public import proofs.«01_k».proof.Proof.Gen.Kernel8Ideal.Loops
public import proofs.«01_k».proof.Proof.Gen.Kernel8.Skeleton
public import proofs.«01_k».proof.Proof.Gen.Kernel8.Loops
public import proofs.«01_k».proof.Proof.Gen.Kernel8.Frame
public import proofs.«01_k».proof.Proof.Gen.Reference8Ideal
public import proofs.«01_k».proof.Proof.Gen.Reference8Ideal.Run
public import proofs.«01_k».proof.Proof.Kernel.Frame
public import proofs.«01_k».proof.Proof.KernelIdeal.Frame
public import proofs.«01_k».proof.Proof.Value.Final
public import proofs.«01_k».proof.Proof.Mlp.Final
public import proofs.«01_k».proof.Proof.Rg.Final
public import proofs.«01_k».proof.Proof.Sm.Final
public import proofs.«01_k».proof.Proof.Win.Final
public import proofs.«01_k».proof.Proof.Dhn.Final
public import proofs.«01_k».proof.Proof.Kvx.Final
public import proofs.«01_k».proof.Proof.FwdK.Frame
public import proofs.«01_k».proof.Proof.Fwd.Arr
public import Idealize.ShloMosaic.Lib.Quiescent

@[expose] public section

namespace Cert.Proof

open Idealize.ShloMosaic Idealize.SL.Sem

theorem frame_ri : Cert.quiescent_ReferenceIdeal := fun m ρ _ =>
  (θ_run Cert.ReferenceIdeal.defs _ _).mono (fun r h => ⟨fun c => (h c).2.2.2,
      Idealize.ShloMosaic.sem_eq_zero_of_no_sems (by decide) r.2⟩)
    (Cert.ReferenceIdeal.Value.run (F := Ideal) m ρ)

theorem preserves : Cert.preserves_Kernel_KernelIdeal :=
  ⟨IdealRules.named_const.statement Cert.KernelIdeal.κ "mask" .f32 0xF149F2CA#32 ⊥ rfl,
    IdealRules.named_const.statement Cert.KernelIdeal.κ "ln2" .f32 0x3F317218#32 ((Real.log 2 : ℝ) : EReal) rfl⟩

open Cert.KernelIdeal Cert.KernelIdeal.Attn in
/-- The kernel leaves the arrays `v0`, `v1` and `v2` where its three windows end at them. -/
theorem kernel_run (m : (ℓ : Loc nD τ sig) → Buf (Elt Ideal) ℓ) (g : Dev nD → PrngReg)
    (v0 : (c : Dev nD) → Buf (Elt Ideal) ((c.tc : Thread nD τ).loc main_v50_0)) (v1 : (c : Dev nD) → Buf (Elt Ideal) ((c.tc : Thread nD τ).loc main_v50_1))
    (v2 : (c : Dev nD) → Buf (Elt Ideal) ((c.tc : Thread nD τ).loc main_v50_2))
    (k0 : ∀ c, (dats m 0 c).arrAt 6 cfg0.N = v0 c) (k1 : ∀ c, (dats m 0 c).arrAt 7 cfg0.N = v1 c) (k2 : ∀ c, (dats m 0 c).arrAt 8 cfg0.N = v2 c) :
    θ_run (defs (F := Ideal)) (onTc (τ := τ) (main (F := Ideal))) ⟨m, fun _ => 0, g⟩ (fun r => ∀ c : Dev nD,
          r.2.mem ((c.tc : Thread nD τ).loc main_v50_0) = v0 c
          ∧ r.2.mem ((c.tc : Thread nD τ).loc main_v50_1) = v1 c
          ∧ r.2.mem ((c.tc : Thread nD τ).loc main_v50_2) = v2 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) :=
  (θ_run defs _ _).mono (fun _ h c => ⟨(Pipeline.FramePost.out_eq h.1 c 6).trans (k0 c),
      (Pipeline.FramePost.out_eq h.1 c 7).trans (k1 c), (Pipeline.FramePost.out_eq h.1 c 8).trans (k2 c), h.2.1 c⟩)
    (θ_run_and (run_arrays m g) (frame m g))

open Cert.KernelIdeal.Attn in
/-- The kernel's arrays are the reference's results where the arguments are real. -/
theorem arrays (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (Q K W C : ℕ → ℕ → ℝ)
    (h0 : m ((c.tc : Thread Cert.KernelIdeal.nD Cert.KernelIdeal.τ).loc Cert.KernelIdeal.main_arg0) = (cN Q : Cert.KernelIdeal.S4224x2048.Idx → EReal)) (h1 : m ((c.tc : Thread Cert.KernelIdeal.nD Cert.KernelIdeal.τ).loc Cert.KernelIdeal.main_arg1) = (cN K : Cert.KernelIdeal.S4224x2048.Idx → EReal))
    (h2 : m ((c.tc : Thread Cert.KernelIdeal.nD Cert.KernelIdeal.τ).loc Cert.KernelIdeal.main_arg2) = (cN W : Cert.KernelIdeal.S4224x1024.Idx → EReal)) (h3 : m ((c.tc : Thread Cert.KernelIdeal.nD Cert.KernelIdeal.τ).loc Cert.KernelIdeal.main_arg3) = (cN C : Cert.KernelIdeal.S4112x1024.Idx → EReal))
    (a0 : m' ((c.tc : Thread Cert.ReferenceIdeal.nD Cert.ReferenceIdeal.τ).loc Cert.ReferenceIdeal.main_arg0) = (cN Q : Cert.KernelIdeal.S4224x2048.Idx → EReal))
    (a1 : m' ((c.tc : Thread Cert.ReferenceIdeal.nD Cert.ReferenceIdeal.τ).loc Cert.ReferenceIdeal.main_arg1) = (cN K : Cert.KernelIdeal.S4224x2048.Idx → EReal))
    (a2 : m' ((c.tc : Thread Cert.ReferenceIdeal.nD Cert.ReferenceIdeal.τ).loc Cert.ReferenceIdeal.main_arg2) = (cN W : Cert.KernelIdeal.S4224x1024.Idx → EReal))
    (a3 : m' ((c.tc : Thread Cert.ReferenceIdeal.nD Cert.ReferenceIdeal.τ).loc Cert.ReferenceIdeal.main_arg3) = (cN C : Cert.KernelIdeal.S4112x1024.Idx → EReal)) :
    (dats m 0 c).arrAt 6 Cert.KernelIdeal.cfg0.N = Cert.ReferenceIdeal.Value.res_main_v78 m' c
    ∧ (dats m 0 c).arrAt 7 Cert.KernelIdeal.cfg0.N = Cert.ReferenceIdeal.Value.res_main_v77 m' c
    ∧ (dats m 0 c).arrAt 8 Cert.KernelIdeal.cfg0.N = Cert.ReferenceIdeal.Value.res_main_v79 m' c := by
  obtain ⟨M, hM⟩ := Cert.Attn.mV_real (sH Q K)
  rw [Cert.Attn.ref_dq, Cert.Attn.ref_dk, Cert.Attn.ref_dv, a0, a1, a2, a3]
  exact ⟨res6 Q K W C M hM m c h0 h1 h2 h3, res7 Q K W C M hM m c h0 h1 h2 h3, res8 Q K W C M hM m c h0 h1 h2 h3⟩

/-- Where the precondition holds, the kernel's three arrays are the reference's three results. -/
theorem algebraic : Cert.algebraic_KernelIdeal_ReferenceIdeal_pre_finite (hKernelIdeal := Cert.KernelIdeal.Gen.facts)
    (hReferenceIdeal := Cert.ReferenceIdeal.Gen.facts) (hPre_finite := Cert.Pre_finite.facts) := by
  intro m g m' g' hp ha
  have key : ∀ c : Dev Cert.KernelIdeal.nD,
      (Cert.KernelIdeal.Attn.dats m 0 c).arrAt 6 Cert.KernelIdeal.cfg0.N = Cert.ReferenceIdeal.Value.res_main_v78 m' c
      ∧ (Cert.KernelIdeal.Attn.dats m 0 c).arrAt 7 Cert.KernelIdeal.cfg0.N = Cert.ReferenceIdeal.Value.res_main_v77 m' c
      ∧ (Cert.KernelIdeal.Attn.dats m 0 c).arrAt 8 Cert.KernelIdeal.cfg0.N = Cert.ReferenceIdeal.Value.res_main_v79 m' c := by
    intro c
    obtain ⟨p0, p1, p2, p3⟩ := hp c
    obtain ⟨a0, a1, a2, a3⟩ := ha c
    obtain ⟨Q, h0⟩ := Cert.KernelIdeal.Attn.real_of_pre _ _ p0
    obtain ⟨K, h1⟩ := Cert.KernelIdeal.Attn.real_of_pre _ _ p1
    obtain ⟨W, h2⟩ := Cert.KernelIdeal.Attn.real_of_pre _ _ p2
    obtain ⟨C, h3⟩ := Cert.KernelIdeal.Attn.real_of_pre _ _ p3
    exact arrays m m' c Q K W C h0 h1 h2 h3 (a0.trans h0) (a1.trans h1) (a2.trans h2) (a3.trans h3)
  exact ⟨Cert.ReferenceIdeal.Value.res_main_v78 m', Cert.ReferenceIdeal.Value.res_main_v77 m',
    Cert.ReferenceIdeal.Value.res_main_v79 m', kernel_run m g _ _ _ (fun c => (key c).1) (fun c => (key c).2.1) (fun c => (key c).2.2),
    Cert.ReferenceIdeal.Value.run (F := Ideal) m' g'⟩

/-! ## The six products -/

theorem frame_ri2 : Cert.quiescent_Reference2Ideal := fun m ρ _ =>
  (θ_run Cert.Reference2Ideal.defs _ _).mono (fun r h => ⟨fun c => (h c).2.2.2.2,
      Idealize.ShloMosaic.sem_eq_zero_of_no_sems (by decide) r.2⟩)
    (Cert.Mlp.ref_run m ρ)

/-- The program's four results are the reference's, at any arguments. -/
theorem algebraic2 : Cert.algebraic_Kernel2Ideal_Reference2Ideal (hKernel2Ideal := Cert.Kernel2Ideal.Gen.facts) (hReference2Ideal := Cert.Reference2Ideal.Gen.facts) := by
  intro m g m' g' _ ha
  have key := fun c : Dev Cert.Kernel2Ideal.nD => Cert.Mlp.ker_eq m g c _ _ _ _ (ha c).1.symm (ha c).2.1.symm (ha c).2.2.1.symm (ha c).2.2.2.symm
  exact ⟨_, _, _, _, Cert.Mlp.ker_run m g _ _ _ _ (fun c => (key c).1) (fun c => (key c).2.1) (fun c => (key c).2.2.1) (fun c => (key c).2.2.2), Cert.Mlp.ref_run m' g'⟩

/-! ## The eight products of the recurrent mixer -/

theorem frame_ri3 : Cert.quiescent_Reference3Ideal := fun m ρ _ =>
  (θ_run Cert.Reference3Ideal.defs _ _).mono (fun r h => ⟨fun c => (h c).2.2.2.2.2.2.2.2,
      Idealize.ShloMosaic.sem_eq_zero_of_no_sems (by decide) r.2⟩)
    (Cert.Rg.ref_run m ρ)

/-- The program's eight results are the reference's, at any arguments. -/
theorem algebraic3 : Cert.algebraic_Kernel3Ideal_Reference3Ideal (hKernel3Ideal := Cert.Kernel3Ideal.Gen.facts) (hReference3Ideal := Cert.Reference3Ideal.Gen.facts) := by
  intro m g m' g' _ ha
  have key := fun c : Dev Cert.Kernel3Ideal.nD => Cert.Rg.ker_eq m g c _ _ _ _ _ _ _ _ (ha c).1.symm (ha c).2.1.symm (ha c).2.2.1.symm (ha c).2.2.2.1.symm (ha c).2.2.2.2.1.symm (ha c).2.2.2.2.2.1.symm
    (ha c).2.2.2.2.2.2.1.symm (ha c).2.2.2.2.2.2.2.symm
  exact ⟨_, _, _, _, _, _, _, _, Cert.Rg.ker_run m g _ _ _ _ _ _ _ _ key, Cert.Rg.ref_run m' g'⟩

theorem frame_ri4 : Cert.quiescent_Reference4Ideal := fun m ρ _ =>
  (θ_run Cert.Reference4Ideal.defs _ _).mono (fun r h => ⟨fun c => (h c).2.2.2.2.2.2.2.2.2.2,
      Idealize.ShloMosaic.sem_eq_zero_of_no_sems (by decide) r.2⟩)
    (Cert.Sm.ref_run m ρ)

/-- The program's ten results are the reference's, at any arguments. -/
theorem algebraic4 : Cert.algebraic_Kernel4Ideal_Reference4Ideal (hKernel4Ideal := Cert.Kernel4Ideal.Gen.facts) (hReference4Ideal := Cert.Reference4Ideal.Gen.facts) := by
  intro m g m' g' _ ha
  have key := fun c : Dev Cert.Kernel4Ideal.nD => Cert.Sm.ker_eq m g c _ _ _ _ _ _ _ _ _ _ _ (ha c).1.symm (ha c).2.1.symm (ha c).2.2.1.symm (ha c).2.2.2.1.symm (ha c).2.2.2.2.1.symm (ha c).2.2.2.2.2.1.symm (ha c).2.2.2.2.2.2.1.symm (ha c).2.2.2.2.2.2.2.1.symm (ha c).2.2.2.2.2.2.2.2.1.symm (ha c).2.2.2.2.2.2.2.2.2.1.symm (ha c).2.2.2.2.2.2.2.2.2.2.symm
  exact ⟨_, _, _, _, _, _, _, _, _, _, Cert.Sm.ker_run m g _ _ _ _ _ _ _ _ _ _ key, Cert.Sm.ref_run m' g'⟩

theorem frame_ri5 : Cert.quiescent_Reference5Ideal := fun m ρ _ =>
  (θ_run Cert.Reference5Ideal.defs _ _).mono (fun r h => ⟨fun c => (h c).2.2.2.2.2.2.2,
      Idealize.ShloMosaic.sem_eq_zero_of_no_sems (by decide) r.2⟩)
    (Cert.Win.ref_run m ρ)

/-- The program's seven results are the reference's, at any arguments. -/
theorem algebraic5 : Cert.algebraic_Kernel5Ideal_Reference5Ideal (hKernel5Ideal := Cert.Kernel5Ideal.Gen.facts) (hReference5Ideal := Cert.Reference5Ideal.Gen.facts) := by
  intro m g m' g' _ ha
  have key := fun c : Dev Cert.Kernel5Ideal.nD => Cert.Win.ker_eq m g c _ _ _ _ _ _ _ _ (ha c).1.symm (ha c).2.1.symm (ha c).2.2.1.symm (ha c).2.2.2.1.symm (ha c).2.2.2.2.1.symm (ha c).2.2.2.2.2.1.symm (ha c).2.2.2.2.2.2.1.symm (ha c).2.2.2.2.2.2.2.symm
  exact ⟨_, _, _, _, _, _, _, Cert.Win.ker_run m g _ _ _ _ _ _ _ key, Cert.Win.ref_run m' g'⟩

theorem frame_ri6 : Cert.quiescent_Reference6Ideal := fun m ρ _ =>
  (θ_run Cert.Reference6Ideal.defs _ _).mono (fun r h => ⟨fun c => (h c).2,
      Idealize.ShloMosaic.sem_eq_zero_of_no_sems (by decide) r.2⟩)
    (Cert.Dhn.ref_run m ρ)

/-- The program's result is the reference's, at any arguments. -/
theorem algebraic6 : Cert.algebraic_Kernel6Ideal_Reference6Ideal (hKernel6Ideal := Cert.Kernel6Ideal.Gen.facts) (hReference6Ideal := Cert.Reference6Ideal.Gen.facts) := by
  intro m g m' g' _ ha
  have key := fun c : Dev Cert.Kernel6Ideal.nD => Cert.Dhn.ker_eq m c _ _ _ _ _ _ _ (ha c).1.symm (ha c).2.1.symm (ha c).2.2.1.symm (ha c).2.2.2.1.symm (ha c).2.2.2.2.1.symm (ha c).2.2.2.2.2.1.symm (ha c).2.2.2.2.2.2.symm
  exact ⟨_, Cert.Dhn.ker_run m g _ key, Cert.Dhn.ref_run m' g'⟩

theorem frame_ri7 : Cert.quiescent_Reference7Ideal := fun m ρ _ =>
  (θ_run Cert.Reference7Ideal.defs _ _).mono (fun r h => ⟨fun c => (h c).2,
      Idealize.ShloMosaic.sem_eq_zero_of_no_sems (by decide) r.2⟩)
    (Cert.Kvx.ref_run m ρ)

/-- The program's result is the reference's, at any arguments. -/
theorem algebraic7 : Cert.algebraic_Kernel7Ideal_Reference7Ideal (hKernel7Ideal := Cert.Kernel7Ideal.Gen.facts) (hReference7Ideal := Cert.Reference7Ideal.Gen.facts) := by
  intro m g m' g' _ ha
  have key := fun c : Dev Cert.Kernel7Ideal.nD => Cert.Kvx.ker_eq m c _ _ _ (ha c).1.symm (ha c).2.1.symm (ha c).2.2.symm
  exact ⟨_, Cert.Kvx.ker_run m g _ key, Cert.Kvx.ref_run m' g'⟩

/-! ## The attention's forward call -/

theorem frame_ri8 : Cert.quiescent_Reference8Ideal := fun m ρ _ =>
  (θ_run Cert.Reference8Ideal.defs _ _).mono (fun r h => ⟨fun c => (h c).2,
      Idealize.ShloMosaic.sem_eq_zero_of_no_sems (by decide) r.2⟩)
    (Cert.Reference8Ideal.Value.run (F := Ideal) m ρ)

theorem preserves8 : Cert.preserves_Kernel8_Kernel8Ideal :=
  ⟨IdealRules.named_const.statement Cert.Kernel8Ideal.κ "mask" .f32 0xF149F2CA#32 ⊥ rfl,
    IdealRules.named_const.statement Cert.Kernel8Ideal.κ "log2e" .f32 0x3FB8AA3B#32 (((Real.log 2)⁻¹ : ℝ) : EReal) rfl⟩

theorem facts8 : Cert.Pre_finite8.Facts := ⟨by decide⟩

open Cert.Kernel8Ideal Cert.Kernel8Ideal.Fwd in
/-- The program ends with its last line's value. -/
theorem kernel_run8 (m : (ℓ : Loc nD τ sig) → Buf (Elt Ideal) ℓ) (g : Dev nD → PrngReg)
    (v0 : (c : Dev nD) → Buf (Elt Ideal) ((c.tc : Thread nD τ).loc main_v7)) (k0 : ∀ c, VT m c main_v7 = v0 c) :
    θ_run (defs (F := Ideal)) (onTc (τ := τ) (main (F := Ideal))) ⟨m, fun _ => 0, g⟩ (fun r => ∀ c : Dev nD,
          r.2.mem ((c.tc : Thread nD τ).loc main_v7) = v0 c
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)) :=
  (θ_run defs _ _).mono (fun _ h c => ⟨(Pipeline.FramePost.rest_eq h.1 c main_v7 (Pipeline.mem_restRefs_of main_v7 (by decide) (by decide))).trans (k0 c), h.2.1 c⟩)
    (θ_run_and (run_arrays m g) (frame m g))

/-- Where the precondition holds, the call's output is the reference's. -/
theorem algebraic8 : Cert.algebraic_Kernel8Ideal_Reference8Ideal_pre_finite8 (hKernel8Ideal := Cert.Kernel8Ideal.Gen.facts)
    (hReference8Ideal := Cert.Reference8Ideal.Gen.facts) (hPre_finite8 := facts8) := by
  intro m g m' g' hp ha
  have key : ∀ c : Dev Cert.Kernel8Ideal.nD, Cert.Kernel8Ideal.Fwd.VT m c Cert.Kernel8Ideal.main_v7 = Cert.Reference8Ideal.Value.res_main_v36 m' c := by
    intro c
    obtain ⟨p0, p1⟩ := hp c
    obtain ⟨a0, a1, a2⟩ := ha c
    obtain ⟨Q, h0⟩ := Cert.KernelIdeal.Attn.real_of_pre _ _ p0
    obtain ⟨K, h1⟩ := Cert.KernelIdeal.Attn.real_of_pre _ _ p1
    obtain ⟨W, h2⟩ := Cert.Kernel8Ideal.Fwd.exists_eN (a := 4224) (b := 1024) (m ((c.tc : Thread Cert.Kernel8Ideal.nD Cert.Kernel8Ideal.τ).loc Cert.Kernel8Ideal.main_arg2))
    exact Cert.Kernel8Ideal.Fwd.res m c m' Q K W h0 h1 h2 (a0.trans h0) (a1.trans h1) (a2.trans h2)
  exact ⟨Cert.Reference8Ideal.Value.res_main_v36 m', kernel_run8 m g _ key, Cert.Reference8Ideal.Value.run (F := Ideal) m' g'⟩

theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts, Cert.Kernel7.Gen.facts, Cert.Kernel7Ideal.Gen.facts, Cert.Reference7Ideal.Gen.facts,
  Cert.Kernel8.Gen.facts, Cert.Kernel8Ideal.Gen.facts, Cert.Reference8Ideal.Gen.facts, Cert.Pre_finite.facts, facts8,
  fun m ρ _ => Cert.Kernel.Attn.frame m ρ, fun m ρ _ => Cert.KernelIdeal.Attn.frame m ρ, fun m ρ _ => Cert.KernelIdeal.Attn.frame m ρ,
  frame_ri, fun m ρ _ => frame_ri m ρ trivial,
  fun m ρ _ => Cert.Kernel2.Gen.frame m ρ, fun m ρ _ => Cert.Kernel2Ideal.Gen.frame m ρ, frame_ri2,
  fun m ρ _ => Cert.Kernel3.Gen.frame m ρ, fun m ρ _ => Cert.Kernel3Ideal.Gen.frame m ρ, frame_ri3,
  fun m ρ _ => Cert.Kernel4.Gen.frame m ρ, fun m ρ _ => Cert.Kernel4Ideal.Gen.frame m ρ, frame_ri4, fun m ρ _ => Cert.Kernel5.Gen.frame m ρ, fun m ρ _ => Cert.Kernel5Ideal.Gen.frame m ρ, frame_ri5,
  fun m ρ _ => Cert.Kernel6.Gen.frame m ρ, fun m ρ _ => Cert.Kernel6Ideal.Gen.frame m ρ, frame_ri6, fun m ρ _ => Cert.Kernel7.Gen.frame m ρ, fun m ρ _ => Cert.Kernel7Ideal.Gen.frame m ρ, frame_ri7,
  fun m ρ _ => Cert.Kernel8.Fwd.frame m ρ, fun m ρ _ => Cert.Kernel8Ideal.Fwd.frame m ρ, fun m ρ _ => Cert.Kernel8Ideal.Fwd.frame m ρ, frame_ri8, fun m ρ _ => frame_ri8 m ρ trivial,
  preserves, algebraic, trivial, algebraic2, trivial, algebraic3, trivial, algebraic4, trivial, algebraic5, trivial, algebraic6, trivial, algebraic7, preserves8, algebraic8⟩

end Cert.Proof

end
